-- ==== Defs.lean ====
def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvRefIdeal (m : (ℓ : Loc Cert.KvRefIdeal.nD Cert.KvRefIdeal.τ Cert.KvRefIdeal.sig) → Buf (Elt Ideal) ℓ) : Prop :=
  True

def Pre_Exp [hPre_plan_tables : Cert.Pre_plan_tables.Facts] (m : (ℓ : Loc Cert.Exp.nD Cert.Exp.τ Cert.Exp.sig) → Buf (Elt Bits) ℓ) : Prop :=
  ∀ c : Dev Cert.Exp.nD,
    (Cert.Pre_plan_tables.fn (F := Bits) (m ((c.tc : Thread Cert.Exp.nD Cert.Exp.τ).loc Cert.Exp.main_arg0)) (m ((c.tc : Thread Cert.Exp.nD Cert.Exp.τ).loc Cert.Exp.main_arg1)) (m ((c.tc : Thread Cert.Exp.nD Cert.Exp.τ).loc Cert.Exp.main_arg2)) (m ((c.tc : Thread Cert.Exp.nD Cert.Exp.τ).loc Cert.Exp.main_arg3)) (m ((c.tc : Thread Cert.Exp.nD Cert.Exp.τ).loc Cert.Exp.main_arg4)) (m ((c.tc : Thread Cert.Exp.nD Cert.Exp.τ).loc Cert.Exp.main_arg5)) (m ((c.tc : Thread Cert.Exp.nD Cert.Exp.τ).loc Cert.Exp.main_arg6)) (m ((c.tc : Thread Cert.Exp.nD Cert.Exp.τ).loc Cert.Exp.main_arg7)) (m ((c.tc : Thread Cert.Exp.nD Cert.Exp.τ).loc Cert.Exp.main_arg8))).1 = (fun _ => 1#1)
    ∧ (Cert.Pre_plan_tables.fn (F := Bits) (m ((c.tc : Thread Cert.Exp.nD Cert.Exp.τ).loc Cert.Exp.main_arg0)) (m ((c.tc : Thread Cert.Exp.nD Cert.Exp.τ).loc Cert.Exp.main_arg1)) (m ((c.tc : Thread Cert.Exp.nD Cert.Exp.τ).loc Cert.Exp.main_arg2)) (m ((c.tc : Thread Cert.Exp.nD Cert.Exp.τ).loc Cert.Exp.main_arg3)) (m ((c.tc : Thread Cert.Exp.nD Cert.Exp.τ).loc Cert.Exp.main_arg4)) (m ((c.tc : Thread Cert.Exp.nD Cert.Exp.τ).loc Cert.Exp.main_arg5)) (m ((c.tc : Thread Cert.Exp.nD Cert.Exp.τ).loc Cert.Exp.main_arg6)) (m ((c.tc : Thread Cert.Exp.nD Cert.Exp.τ).loc Cert.Exp.main_arg7)) (m ((c.tc : Thread Cert.Exp.nD Cert.Exp.τ).loc Cert.Exp.main_arg8))).2.1 = (fun _ => 1#1)
    ∧ (Cert.Pre_plan_tables.fn (F := Bits) (m ((c.tc : Thread Cert.Exp.nD Cert.Exp.τ).loc Cert.Exp.main_arg0)) (m ((c.tc : Thread Cert.Exp.nD Cert.Exp.τ).loc Cert.Exp.main_arg1)) (m ((c.tc : Thread Cert.Exp.nD Cert.Exp.τ).loc Cert.Exp.main_arg2)) (m ((c.tc : Thread Cert.Exp.nD Cert.Exp.τ).loc Cert.Exp.main_arg3)) (m ((c.tc : Thread Cert.Exp.nD Cert.Exp.τ).loc Cert.Exp.main_arg4)) (m ((c.tc : Thread Cert.Exp.nD Cert.Exp.τ).loc Cert.Exp.main_arg5)) (m ((c.tc : Thread Cert.Exp.nD Cert.Exp.τ).loc Cert.Exp.main_arg6)) (m ((c.tc : Thread Cert.Exp.nD Cert.Exp.τ).loc Cert.Exp.main_arg7)) (m ((c.tc : Thread Cert.Exp.nD Cert.Exp.τ).loc Cert.Exp.main_arg8))).2.2.1 = (fun _ => 1#1)
    ∧ (Cert.Pre_plan_tables.fn (F := Bits) (m ((c.tc : Thread Cert.Exp.nD Cert.Exp.τ).loc Cert.Exp.main_arg0)) (m ((c.tc : Thread Cert.Exp.nD Cert.Exp.τ).loc Cert.Exp.main_arg1)) (m ((c.tc : Thread Cert.Exp.nD Cert.Exp.τ).loc Cert.Exp.main_arg2)) (m ((c.tc : Thread Cert.Exp.nD Cert.Exp.τ).loc Cert.Exp.main_arg3)) (m ((c.tc : Thread Cert.Exp.nD Cert.Exp.τ).loc Cert.Exp.main_arg4)) (m ((c.tc : Thread Cert.Exp.nD Cert.Exp.τ).loc Cert.Exp.main_arg5)) (m ((c.tc : Thread Cert.Exp.nD Cert.Exp.τ).loc Cert.Exp.main_arg6)) (m ((c.tc : Thread Cert.Exp.nD Cert.Exp.τ).loc Cert.Exp.main_arg7)) (m ((c.tc : Thread Cert.Exp.nD Cert.Exp.τ).loc Cert.Exp.main_arg8))).2.2.2 = (fun _ => 1#1)

def Pre_ExpIdeal [hPre_plan_tables : Cert.Pre_plan_tables.Facts] (m : (ℓ : Loc Cert.ExpIdeal.nD Cert.ExpIdeal.τ Cert.ExpIdeal.sig) → Buf (Elt Ideal) ℓ) : Prop :=
  ∀ c : Dev Cert.ExpIdeal.nD,
    (Cert.Pre_plan_tables.fn (F := Ideal) (m ((c.tc : Thread Cert.ExpIdeal.nD Cert.ExpIdeal.τ).loc Cert.ExpIdeal.main_arg0)) (m ((c.tc : Thread Cert.ExpIdeal.nD Cert.ExpIdeal.τ).loc Cert.ExpIdeal.main_arg1)) (m ((c.tc : Thread Cert.ExpIdeal.nD Cert.ExpIdeal.τ).loc Cert.ExpIdeal.main_arg2)) (m ((c.tc : Thread Cert.ExpIdeal.nD Cert.ExpIdeal.τ).loc Cert.ExpIdeal.main_arg3)) (m ((c.tc : Thread Cert.ExpIdeal.nD Cert.ExpIdeal.τ).loc Cert.ExpIdeal.main_arg4)) (m ((c.tc : Thread Cert.ExpIdeal.nD Cert.ExpIdeal.τ).loc Cert.ExpIdeal.main_arg5)) (m ((c.tc : Thread Cert.ExpIdeal.nD Cert.ExpIdeal.τ).loc Cert.ExpIdeal.main_arg6)) (m ((c.tc : Thread Cert.ExpIdeal.nD Cert.ExpIdeal.τ).loc Cert.ExpIdeal.main_arg7)) (m ((c.tc : Thread Cert.ExpIdeal.nD Cert.ExpIdeal.τ).loc Cert.ExpIdeal.main_arg8))).1 = (fun _ => 1#1)
    ∧ (Cert.Pre_plan_tables.fn (F := Ideal) (m ((c.tc : Thread Cert.ExpIdeal.nD Cert.ExpIdeal.τ).loc Cert.ExpIdeal.main_arg0)) (m ((c.tc : Thread Cert.ExpIdeal.nD Cert.ExpIdeal.τ).loc Cert.ExpIdeal.main_arg1)) (m ((c.tc : Thread Cert.ExpIdeal.nD Cert.ExpIdeal.τ).loc Cert.ExpIdeal.main_arg2)) (m ((c.tc : Thread Cert.ExpIdeal.nD Cert.ExpIdeal.τ).loc Cert.ExpIdeal.main_arg3)) (m ((c.tc : Thread Cert.ExpIdeal.nD Cert.ExpIdeal.τ).loc Cert.ExpIdeal.main_arg4)) (m ((c.tc : Thread Cert.ExpIdeal.nD Cert.ExpIdeal.τ).loc Cert.ExpIdeal.main_arg5)) (m ((c.tc : Thread Cert.ExpIdeal.nD Cert.ExpIdeal.τ).loc Cert.ExpIdeal.main_arg6)) (m ((c.tc : Thread Cert.ExpIdeal.nD Cert.ExpIdeal.τ).loc Cert.ExpIdeal.main_arg7)) (m ((c.tc : Thread Cert.ExpIdeal.nD Cert.ExpIdeal.τ).loc Cert.ExpIdeal.main_arg8))).2.1 = (fun _ => 1#1)
    ∧ (Cert.Pre_plan_tables.fn (F := Ideal) (m ((c.tc : Thread Cert.ExpIdeal.nD Cert.ExpIdeal.τ).loc Cert.ExpIdeal.main_arg0)) (m ((c.tc : Thread Cert.ExpIdeal.nD Cert.ExpIdeal.τ).loc Cert.ExpIdeal.main_arg1)) (m ((c.tc : Thread Cert.ExpIdeal.nD Cert.ExpIdeal.τ).loc Cert.ExpIdeal.main_arg2)) (m ((c.tc : Thread Cert.ExpIdeal.nD Cert.ExpIdeal.τ).loc Cert.ExpIdeal.main_arg3)) (m ((c.tc : Thread Cert.ExpIdeal.nD Cert.ExpIdeal.τ).loc Cert.ExpIdeal.main_arg4)) (m ((c.tc : Thread Cert.ExpIdeal.nD Cert.ExpIdeal.τ).loc Cert.ExpIdeal.main_arg5)) (m ((c.tc : Thread Cert.ExpIdeal.nD Cert.ExpIdeal.τ).loc Cert.ExpIdeal.main_arg6)) (m ((c.tc : Thread Cert.ExpIdeal.nD Cert.ExpIdeal.τ).loc Cert.ExpIdeal.main_arg7)) (m ((c.tc : Thread Cert.ExpIdeal.nD Cert.ExpIdeal.τ).loc Cert.ExpIdeal.main_arg8))).2.2.1 = (fun _ => 1#1)
    ∧ (Cert.Pre_plan_tables.fn (F := Ideal) (m ((c.tc : Thread Cert.ExpIdeal.nD Cert.ExpIdeal.τ).loc Cert.ExpIdeal.main_arg0)) (m ((c.tc : Thread Cert.ExpIdeal.nD Cert.ExpIdeal.τ).loc Cert.ExpIdeal.main_arg1)) (m ((c.tc : Thread Cert.ExpIdeal.nD Cert.ExpIdeal.τ).loc Cert.ExpIdeal.main_arg2)) (m ((c.tc : Thread Cert.ExpIdeal.nD Cert.ExpIdeal.τ).loc Cert.ExpIdeal.main_arg3)) (m ((c.tc : Thread Cert.ExpIdeal.nD Cert.ExpIdeal.τ).loc Cert.ExpIdeal.main_arg4)) (m ((c.tc : Thread Cert.ExpIdeal.nD Cert.ExpIdeal.τ).loc Cert.ExpIdeal.main_arg5)) (m ((c.tc : Thread Cert.ExpIdeal.nD Cert.ExpIdeal.τ).loc Cert.ExpIdeal.main_arg6)) (m ((c.tc : Thread Cert.ExpIdeal.nD Cert.ExpIdeal.τ).loc Cert.ExpIdeal.main_arg7)) (m ((c.tc : Thread Cert.ExpIdeal.nD Cert.ExpIdeal.τ).loc Cert.ExpIdeal.main_arg8))).2.2.2 = (fun _ => 1#1)

def Pre_ExpRefIdeal [hPre_plan_tables : Cert.Pre_plan_tables.Facts] (m : (ℓ : Loc Cert.ExpRefIdeal.nD Cert.ExpRefIdeal.τ Cert.ExpRefIdeal.sig) → Buf (Elt Ideal) ℓ) : Prop :=
  ∀ c : Dev Cert.ExpRefIdeal.nD,
    (Cert.Pre_plan_tables.fn (F := Ideal) (m ((c.tc : Thread Cert.ExpRefIdeal.nD Cert.ExpRefIdeal.τ).loc Cert.ExpRefIdeal.main_arg0)) (m ((c.tc : Thread Cert.ExpRefIdeal.nD Cert.ExpRefIdeal.τ).loc Cert.ExpRefIdeal.main_arg1)) (m ((c.tc : Thread Cert.ExpRefIdeal.nD Cert.ExpRefIdeal.τ).loc Cert.ExpRefIdeal.main_arg2)) (m ((c.tc : Thread Cert.ExpRefIdeal.nD Cert.ExpRefIdeal.τ).loc Cert.ExpRefIdeal.main_arg3)) (m ((c.tc : Thread Cert.ExpRefIdeal.nD Cert.ExpRefIdeal.τ).loc Cert.ExpRefIdeal.main_arg4)) (m ((c.tc : Thread Cert.ExpRefIdeal.nD Cert.ExpRefIdeal.τ).loc Cert.ExpRefIdeal.main_arg5)) (m ((c.tc : Thread Cert.ExpRefIdeal.nD Cert.ExpRefIdeal.τ).loc Cert.ExpRefIdeal.main_arg6)) (m ((c.tc : Thread Cert.ExpRefIdeal.nD Cert.ExpRefIdeal.τ).loc Cert.ExpRefIdeal.main_arg7)) (m ((c.tc : Thread Cert.ExpRefIdeal.nD Cert.ExpRefIdeal.τ).loc Cert.ExpRefIdeal.main_arg8))).1 = (fun _ => 1#1)
    ∧ (Cert.Pre_plan_tables.fn (F := Ideal) (m ((c.tc : Thread Cert.ExpRefIdeal.nD Cert.ExpRefIdeal.τ).loc Cert.ExpRefIdeal.main_arg0)) (m ((c.tc : Thread Cert.ExpRefIdeal.nD Cert.ExpRefIdeal.τ).loc Cert.ExpRefIdeal.main_arg1)) (m ((c.tc : Thread Cert.ExpRefIdeal.nD Cert.ExpRefIdeal.τ).loc Cert.ExpRefIdeal.main_arg2)) (m ((c.tc : Thread Cert.ExpRefIdeal.nD Cert.ExpRefIdeal.τ).loc Cert.ExpRefIdeal.main_arg3)) (m ((c.tc : Thread Cert.ExpRefIdeal.nD Cert.ExpRefIdeal.τ).loc Cert.ExpRefIdeal.main_arg4)) (m ((c.tc : Thread Cert.ExpRefIdeal.nD Cert.ExpRefIdeal.τ).loc Cert.ExpRefIdeal.main_arg5)) (m ((c.tc : Thread Cert.ExpRefIdeal.nD Cert.ExpRefIdeal.τ).loc Cert.ExpRefIdeal.main_arg6)) (m ((c.tc : Thread Cert.ExpRefIdeal.nD Cert.ExpRefIdeal.τ).loc Cert.ExpRefIdeal.main_arg7)) (m ((c.tc : Thread Cert.ExpRefIdeal.nD Cert.ExpRefIdeal.τ).loc Cert.ExpRefIdeal.main_arg8))).2.1 = (fun _ => 1#1)
    ∧ (Cert.Pre_plan_tables.fn (F := Ideal) (m ((c.tc : Thread Cert.ExpRefIdeal.nD Cert.ExpRefIdeal.τ).loc Cert.ExpRefIdeal.main_arg0)) (m ((c.tc : Thread Cert.ExpRefIdeal.nD Cert.ExpRefIdeal.τ).loc Cert.ExpRefIdeal.main_arg1)) (m ((c.tc : Thread Cert.ExpRefIdeal.nD Cert.ExpRefIdeal.τ).loc Cert.ExpRefIdeal.main_arg2)) (m ((c.tc : Thread Cert.ExpRefIdeal.nD Cert.ExpRefIdeal.τ).loc Cert.ExpRefIdeal.main_arg3)) (m ((c.tc : Thread Cert.ExpRefIdeal.nD Cert.ExpRefIdeal.τ).loc Cert.ExpRefIdeal.main_arg4)) (m ((c.tc : Thread Cert.ExpRefIdeal.nD Cert.ExpRefIdeal.τ).loc Cert.ExpRefIdeal.main_arg5)) (m ((c.tc : Thread Cert.ExpRefIdeal.nD Cert.ExpRefIdeal.τ).loc Cert.ExpRefIdeal.main_arg6)) (m ((c.tc : Thread Cert.ExpRefIdeal.nD Cert.ExpRefIdeal.τ).loc Cert.ExpRefIdeal.main_arg7)) (m ((c.tc : Thread Cert.ExpRefIdeal.nD Cert.ExpRefIdeal.τ).loc Cert.ExpRefIdeal.main_arg8))).2.2.1 = (fun _ => 1#1)
    ∧ (Cert.Pre_plan_tables.fn (F := Ideal) (m ((c.tc : Thread Cert.ExpRefIdeal.nD Cert.ExpRefIdeal.τ).loc Cert.ExpRefIdeal.main_arg0)) (m ((c.tc : Thread Cert.ExpRefIdeal.nD Cert.ExpRefIdeal.τ).loc Cert.ExpRefIdeal.main_arg1)) (m ((c.tc : Thread Cert.ExpRefIdeal.nD Cert.ExpRefIdeal.τ).loc Cert.ExpRefIdeal.main_arg2)) (m ((c.tc : Thread Cert.ExpRefIdeal.nD Cert.ExpRefIdeal.τ).loc Cert.ExpRefIdeal.main_arg3)) (m ((c.tc : Thread Cert.ExpRefIdeal.nD Cert.ExpRefIdeal.τ).loc Cert.ExpRefIdeal.main_arg4)) (m ((c.tc : Thread Cert.ExpRefIdeal.nD Cert.ExpRefIdeal.τ).loc Cert.ExpRefIdeal.main_arg5)) (m ((c.tc : Thread Cert.ExpRefIdeal.nD Cert.ExpRefIdeal.τ).loc Cert.ExpRefIdeal.main_arg6)) (m ((c.tc : Thread Cert.ExpRefIdeal.nD Cert.ExpRefIdeal.τ).loc Cert.ExpRefIdeal.main_arg7)) (m ((c.tc : Thread Cert.ExpRefIdeal.nD Cert.ExpRefIdeal.τ).loc Cert.ExpRefIdeal.main_arg8))).2.2.2 = (fun _ => 1#1)

def Pre_Last [hPre_plan_tables : Cert.Pre_plan_tables.Facts] (m : (ℓ : Loc Cert.Last.nD Cert.Last.τ Cert.Last.sig) → Buf (Elt Bits) ℓ) : Prop :=
  ∀ c : Dev Cert.Last.nD,
    (Cert.Pre_plan_tables.fn (F := Bits) (m ((c.tc : Thread Cert.Last.nD Cert.Last.τ).loc Cert.Last.main_arg0)) (m ((c.tc : Thread Cert.Last.nD Cert.Last.τ).loc Cert.Last.main_arg1)) (m ((c.tc : Thread Cert.Last.nD Cert.Last.τ).loc Cert.Last.main_arg2)) (m ((c.tc : Thread Cert.Last.nD Cert.Last.τ).loc Cert.Last.main_arg3)) (m ((c.tc : Thread Cert.Last.nD Cert.Last.τ).loc Cert.Last.main_arg4)) (m ((c.tc : Thread Cert.Last.nD Cert.Last.τ).loc Cert.Last.main_arg5)) (m ((c.tc : Thread Cert.Last.nD Cert.Last.τ).loc Cert.Last.main_arg6)) (m ((c.tc : Thread Cert.Last.nD Cert.Last.τ).loc Cert.Last.main_arg7)) (m ((c.tc : Thread Cert.Last.nD Cert.Last.τ).loc Cert.Last.main_arg8))).1 = (fun _ => 1#1)
    ∧ (Cert.Pre_plan_tables.fn (F := Bits) (m ((c.tc : Thread Cert.Last.nD Cert.Last.τ).loc Cert.Last.main_arg0)) (m ((c.tc : Thread Cert.Last.nD Cert.Last.τ).loc Cert.Last.main_arg1)) (m ((c.tc : Thread Cert.Last.nD Cert.Last.τ).loc Cert.Last.main_arg2)) (m ((c.tc : Thread Cert.Last.nD Cert.Last.τ).loc Cert.Last.main_arg3)) (m ((c.tc : Thread Cert.Last.nD Cert.Last.τ).loc Cert.Last.main_arg4)) (m ((c.tc : Thread Cert.Last.nD Cert.Last.τ).loc Cert.Last.main_arg5)) (m ((c.tc : Thread Cert.Last.nD Cert.Last.τ).loc Cert.Last.main_arg6)) (m ((c.tc : Thread Cert.Last.nD Cert.Last.τ).loc Cert.Last.main_arg7)) (m ((c.tc : Thread Cert.Last.nD Cert.Last.τ).loc Cert.Last.main_arg8))).2.1 = (fun _ => 1#1)
    ∧ (Cert.Pre_plan_tables.fn (F := Bits) (m ((c.tc : Thread Cert.Last.nD Cert.Last.τ).loc Cert.Last.main_arg0)) (m ((c.tc : Thread Cert.Last.nD Cert.Last.τ).loc Cert.Last.main_arg1)) (m ((c.tc : Thread Cert.Last.nD Cert.Last.τ).loc Cert.Last.main_arg2)) (m ((c.tc : Thread Cert.Last.nD Cert.Last.τ).loc Cert.Last.main_arg3)) (m ((c.tc : Thread Cert.Last.nD Cert.Last.τ).loc Cert.Last.main_arg4)) (m ((c.tc : Thread Cert.Last.nD Cert.Last.τ).loc Cert.Last.main_arg5)) (m ((c.tc : Thread Cert.Last.nD Cert.Last.τ).loc Cert.Last.main_arg6)) (m ((c.tc : Thread Cert.Last.nD Cert.Last.τ).loc Cert.Last.main_arg7)) (m ((c.tc : Thread Cert.Last.nD Cert.Last.τ).loc Cert.Last.main_arg8))).2.2.1 = (fun _ => 1#1)
    ∧ (Cert.Pre_plan_tables.fn (F := Bits) (m ((c.tc : Thread Cert.Last.nD Cert.Last.τ).loc Cert.Last.main_arg0)) (m ((c.tc : Thread Cert.Last.nD Cert.Last.τ).loc Cert.Last.main_arg1)) (m ((c.tc : Thread Cert.Last.nD Cert.Last.τ).loc Cert.Last.main_arg2)) (m ((c.tc : Thread Cert.Last.nD Cert.Last.τ).loc Cert.Last.main_arg3)) (m ((c.tc : Thread Cert.Last.nD Cert.Last.τ).loc Cert.Last.main_arg4)) (m ((c.tc : Thread Cert.Last.nD Cert.Last.τ).loc Cert.Last.main_arg5)) (m ((c.tc : Thread Cert.Last.nD Cert.Last.τ).loc Cert.Last.main_arg6)) (m ((c.tc : Thread Cert.Last.nD Cert.Last.τ).loc Cert.Last.main_arg7)) (m ((c.tc : Thread Cert.Last.nD Cert.Last.τ).loc Cert.Last.main_arg8))).2.2.2 = (fun _ => 1#1)

def Pre_LastIdeal [hPre_plan_tables : Cert.Pre_plan_tables.Facts] (m : (ℓ : Loc Cert.LastIdeal.nD Cert.LastIdeal.τ Cert.LastIdeal.sig) → Buf (Elt Ideal) ℓ) : Prop :=
  ∀ c : Dev Cert.LastIdeal.nD,
    (Cert.Pre_plan_tables.fn (F := Ideal) (m ((c.tc : Thread Cert.LastIdeal.nD Cert.LastIdeal.τ).loc Cert.LastIdeal.main_arg0)) (m ((c.tc : Thread Cert.LastIdeal.nD Cert.LastIdeal.τ).loc Cert.LastIdeal.main_arg1)) (m ((c.tc : Thread Cert.LastIdeal.nD Cert.LastIdeal.τ).loc Cert.LastIdeal.main_arg2)) (m ((c.tc : Thread Cert.LastIdeal.nD Cert.LastIdeal.τ).loc Cert.LastIdeal.main_arg3)) (m ((c.tc : Thread Cert.LastIdeal.nD Cert.LastIdeal.τ).loc Cert.LastIdeal.main_arg4)) (m ((c.tc : Thread Cert.LastIdeal.nD Cert.LastIdeal.τ).loc Cert.LastIdeal.main_arg5)) (m ((c.tc : Thread Cert.LastIdeal.nD Cert.LastIdeal.τ).loc Cert.LastIdeal.main_arg6)) (m ((c.tc : Thread Cert.LastIdeal.nD Cert.LastIdeal.τ).loc Cert.LastIdeal.main_arg7)) (m ((c.tc : Thread Cert.LastIdeal.nD Cert.LastIdeal.τ).loc Cert.LastIdeal.main_arg8))).1 = (fun _ => 1#1)
    ∧ (Cert.Pre_plan_tables.fn (F := Ideal) (m ((c.tc : Thread Cert.LastIdeal.nD Cert.LastIdeal.τ).loc Cert.LastIdeal.main_arg0)) (m ((c.tc : Thread Cert.LastIdeal.nD Cert.LastIdeal.τ).loc Cert.LastIdeal.main_arg1)) (m ((c.tc : Thread Cert.LastIdeal.nD Cert.LastIdeal.τ).loc Cert.LastIdeal.main_arg2)) (m ((c.tc : Thread Cert.LastIdeal.nD Cert.LastIdeal.τ).loc Cert.LastIdeal.main_arg3)) (m ((c.tc : Thread Cert.LastIdeal.nD Cert.LastIdeal.τ).loc Cert.LastIdeal.main_arg4)) (m ((c.tc : Thread Cert.LastIdeal.nD Cert.LastIdeal.τ).loc Cert.LastIdeal.main_arg5)) (m ((c.tc : Thread Cert.LastIdeal.nD Cert.LastIdeal.τ).loc Cert.LastIdeal.main_arg6)) (m ((c.tc : Thread Cert.LastIdeal.nD Cert.LastIdeal.τ).loc Cert.LastIdeal.main_arg7)) (m ((c.tc : Thread Cert.LastIdeal.nD Cert.LastIdeal.τ).loc Cert.LastIdeal.main_arg8))).2.1 = (fun _ => 1#1)
    ∧ (Cert.Pre_plan_tables.fn (F := Ideal) (m ((c.tc : Thread Cert.LastIdeal.nD Cert.LastIdeal.τ).loc Cert.LastIdeal.main_arg0)) (m ((c.tc : Thread Cert.LastIdeal.nD Cert.LastIdeal.τ).loc Cert.LastIdeal.main_arg1)) (m ((c.tc : Thread Cert.LastIdeal.nD Cert.LastIdeal.τ).loc Cert.LastIdeal.main_arg2)) (m ((c.tc : Thread Cert.LastIdeal.nD Cert.LastIdeal.τ).loc Cert.LastIdeal.main_arg3)) (m ((c.tc : Thread Cert.LastIdeal.nD Cert.LastIdeal.τ).loc Cert.LastIdeal.main_arg4)) (m ((c.tc : Thread Cert.LastIdeal.nD Cert.LastIdeal.τ).loc Cert.LastIdeal.main_arg5)) (m ((c.tc : Thread Cert.LastIdeal.nD Cert.LastIdeal.τ).loc Cert.LastIdeal.main_arg6)) (m ((c.tc : Thread Cert.LastIdeal.nD Cert.LastIdeal.τ).loc Cert.LastIdeal.main_arg7)) (m ((c.tc : Thread Cert.LastIdeal.nD Cert.LastIdeal.τ).loc Cert.LastIdeal.main_arg8))).2.2.1 = (fun _ => 1#1)
    ∧ (Cert.Pre_plan_tables.fn (F := Ideal) (m ((c.tc : Thread Cert.LastIdeal.nD Cert.LastIdeal.τ).loc Cert.LastIdeal.main_arg0)) (m ((c.tc : Thread Cert.LastIdeal.nD Cert.LastIdeal.τ).loc Cert.LastIdeal.main_arg1)) (m ((c.tc : Thread Cert.LastIdeal.nD Cert.LastIdeal.τ).loc Cert.LastIdeal.main_arg2)) (m ((c.tc : Thread Cert.LastIdeal.nD Cert.LastIdeal.τ).loc Cert.LastIdeal.main_arg3)) (m ((c.tc : Thread Cert.LastIdeal.nD Cert.LastIdeal.τ).loc Cert.LastIdeal.main_arg4)) (m ((c.tc : Thread Cert.LastIdeal.nD Cert.LastIdeal.τ).loc Cert.LastIdeal.main_arg5)) (m ((c.tc : Thread Cert.LastIdeal.nD Cert.LastIdeal.τ).loc Cert.LastIdeal.main_arg6)) (m ((c.tc : Thread Cert.LastIdeal.nD Cert.LastIdeal.τ).loc Cert.LastIdeal.main_arg7)) (m ((c.tc : Thread Cert.LastIdeal.nD Cert.LastIdeal.τ).loc Cert.LastIdeal.main_arg8))).2.2.2 = (fun _ => 1#1)

def Pre_LastRefIdeal [hPre_plan_tables : Cert.Pre_plan_tables.Facts] (m : (ℓ : Loc Cert.LastRefIdeal.nD Cert.LastRefIdeal.τ Cert.LastRefIdeal.sig) → Buf (Elt Ideal) ℓ) : Prop :=
  ∀ c : Dev Cert.LastRefIdeal.nD,
    (Cert.Pre_plan_tables.fn (F := Ideal) (m ((c.tc : Thread Cert.LastRefIdeal.nD Cert.LastRefIdeal.τ).loc Cert.LastRefIdeal.main_arg0)) (m ((c.tc : Thread Cert.LastRefIdeal.nD Cert.LastRefIdeal.τ).loc Cert.LastRefIdeal.main_arg1)) (m ((c.tc : Thread Cert.LastRefIdeal.nD Cert.LastRefIdeal.τ).loc Cert.LastRefIdeal.main_arg2)) (m ((c.tc : Thread Cert.LastRefIdeal.nD Cert.LastRefIdeal.τ).loc Cert.LastRefIdeal.main_arg3)) (m ((c.tc : Thread Cert.LastRefIdeal.nD Cert.LastRefIdeal.τ).loc Cert.LastRefIdeal.main_arg4)) (m ((c.tc : Thread Cert.LastRefIdeal.nD Cert.LastRefIdeal.τ).loc Cert.LastRefIdeal.main_arg5)) (m ((c.tc : Thread Cert.LastRefIdeal.nD Cert.LastRefIdeal.τ).loc Cert.LastRefIdeal.main_arg6)) (m ((c.tc : Thread Cert.LastRefIdeal.nD Cert.LastRefIdeal.τ).loc Cert.LastRefIdeal.main_arg7)) (m ((c.tc : Thread Cert.LastRefIdeal.nD Cert.LastRefIdeal.τ).loc Cert.LastRefIdeal.main_arg8))).1 = (fun _ => 1#1)
    ∧ (Cert.Pre_plan_tables.fn (F := Ideal) (m ((c.tc : Thread Cert.LastRefIdeal.nD Cert.LastRefIdeal.τ).loc Cert.LastRefIdeal.main_arg0)) (m ((c.tc : Thread Cert.LastRefIdeal.nD Cert.LastRefIdeal.τ).loc Cert.LastRefIdeal.main_arg1)) (m ((c.tc : Thread Cert.LastRefIdeal.nD Cert.LastRefIdeal.τ).loc Cert.LastRefIdeal.main_arg2)) (m ((c.tc : Thread Cert.LastRefIdeal.nD Cert.LastRefIdeal.τ).loc Cert.LastRefIdeal.main_arg3)) (m ((c.tc : Thread Cert.LastRefIdeal.nD Cert.LastRefIdeal.τ).loc Cert.LastRefIdeal.main_arg4)) (m ((c.tc : Thread Cert.LastRefIdeal.nD Cert.LastRefIdeal.τ).loc Cert.LastRefIdeal.main_arg5)) (m ((c.tc : Thread Cert.LastRefIdeal.nD Cert.LastRefIdeal.τ).loc Cert.LastRefIdeal.main_arg6)) (m ((c.tc : Thread Cert.LastRefIdeal.nD Cert.LastRefIdeal.τ).loc Cert.LastRefIdeal.main_arg7)) (m ((c.tc : Thread Cert.LastRefIdeal.nD Cert.LastRefIdeal.τ).loc Cert.LastRefIdeal.main_arg8))).2.1 = (fun _ => 1#1)
    ∧ (Cert.Pre_plan_tables.fn (F := Ideal) (m ((c.tc : Thread Cert.LastRefIdeal.nD Cert.LastRefIdeal.τ).loc Cert.LastRefIdeal.main_arg0)) (m ((c.tc : Thread Cert.LastRefIdeal.nD Cert.LastRefIdeal.τ).loc Cert.LastRefIdeal.main_arg1)) (m ((c.tc : Thread Cert.LastRefIdeal.nD Cert.LastRefIdeal.τ).loc Cert.LastRefIdeal.main_arg2)) (m ((c.tc : Thread Cert.LastRefIdeal.nD Cert.LastRefIdeal.τ).loc Cert.LastRefIdeal.main_arg3)) (m ((c.tc : Thread Cert.LastRefIdeal.nD Cert.LastRefIdeal.τ).loc Cert.LastRefIdeal.main_arg4)) (m ((c.tc : Thread Cert.LastRefIdeal.nD Cert.LastRefIdeal.τ).loc Cert.LastRefIdeal.main_arg5)) (m ((c.tc : Thread Cert.LastRefIdeal.nD Cert.LastRefIdeal.τ).loc Cert.LastRefIdeal.main_arg6)) (m ((c.tc : Thread Cert.LastRefIdeal.nD Cert.LastRefIdeal.τ).loc Cert.LastRefIdeal.main_arg7)) (m ((c.tc : Thread Cert.LastRefIdeal.nD Cert.LastRefIdeal.τ).loc Cert.LastRefIdeal.main_arg8))).2.2.1 = (fun _ => 1#1)
    ∧ (Cert.Pre_plan_tables.fn (F := Ideal) (m ((c.tc : Thread Cert.LastRefIdeal.nD Cert.LastRefIdeal.τ).loc Cert.LastRefIdeal.main_arg0)) (m ((c.tc : Thread Cert.LastRefIdeal.nD Cert.LastRefIdeal.τ).loc Cert.LastRefIdeal.main_arg1)) (m ((c.tc : Thread Cert.LastRefIdeal.nD Cert.LastRefIdeal.τ).loc Cert.LastRefIdeal.main_arg2)) (m ((c.tc : Thread Cert.LastRefIdeal.nD Cert.LastRefIdeal.τ).loc Cert.LastRefIdeal.main_arg3)) (m ((c.tc : Thread Cert.LastRefIdeal.nD Cert.LastRefIdeal.τ).loc Cert.LastRefIdeal.main_arg4)) (m ((c.tc : Thread Cert.LastRefIdeal.nD Cert.LastRefIdeal.τ).loc Cert.LastRefIdeal.main_arg5)) (m ((c.tc : Thread Cert.LastRefIdeal.nD Cert.LastRefIdeal.τ).loc Cert.LastRefIdeal.main_arg6)) (m ((c.tc : Thread Cert.LastRefIdeal.nD Cert.LastRefIdeal.τ).loc Cert.LastRefIdeal.main_arg7)) (m ((c.tc : Thread Cert.LastRefIdeal.nD Cert.LastRefIdeal.τ).loc Cert.LastRefIdeal.main_arg8))).2.2.2 = (fun _ => 1#1)

def Pre_MmLn (m : (ℓ : Loc Cert.MmLn.nD Cert.MmLn.τ Cert.MmLn.sig) → Buf (Elt Bits) ℓ) : Prop :=
  True

def Pre_MmLnIdeal (m : (ℓ : Loc Cert.MmLnIdeal.nD Cert.MmLnIdeal.τ Cert.MmLnIdeal.sig) → Buf (Elt Ideal) ℓ) : Prop :=
  True

def Pre_MmLnRefIdeal (m : (ℓ : Loc Cert.MmLnRefIdeal.nD Cert.MmLnRefIdeal.τ Cert.MmLnRefIdeal.sig) → Buf (Elt Ideal) ℓ) : Prop :=
  True

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1))
      ∧ r.2.sem = fun _ => 0)

def quiescent_KvRefIdeal [hKvRefIdeal : Cert.KvRefIdeal.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1))
      ∧ r.2.sem = fun _ => 0)

def quiescent_Exp [hExp : Cert.Exp.Facts] [hPre_plan_tables : Cert.Pre_plan_tables.Facts] : Prop :=
  ∀ (m : (ℓ : Loc Cert.Exp.nD Cert.Exp.τ Cert.Exp.sig) → Buf (Elt Bits) ℓ) (g : Dev Cert.Exp.nD → PrngReg), Pre_Exp m →
    θ_run (Cert.Exp.defs (F := Bits)) (onTc (τ := Cert.Exp.τ) (Cert.Exp.main (F := Bits))) ⟨m, fun _ => 0, g⟩ (fun r => (∀ c : Dev Cert.Exp.nD,
      r.2.mem ((c.tc : Thread Cert.Exp.nD Cert.Exp.τ).loc Cert.Exp.main_arg0) = m ((c.tc : Thread Cert.Exp.nD Cert.Exp.τ).loc Cert.Exp.main_arg0)
      ∧ r.2.mem ((c.tc : Thread Cert.Exp.nD Cert.Exp.τ).loc Cert.Exp.main_arg1) = m ((c.tc : Thread Cert.Exp.nD Cert.Exp.τ).loc Cert.Exp.main_arg1)
      ∧ r.2.mem ((c.tc : Thread Cert.Exp.nD Cert.Exp.τ).loc Cert.Exp.main_arg2) = m ((c.tc : Thread Cert.Exp.nD Cert.Exp.τ).loc Cert.Exp.main_arg2)
      ∧ r.2.mem ((c.tc : Thread Cert.Exp.nD Cert.Exp.τ).loc Cert.Exp.main_arg3) = m ((c.tc : Thread Cert.Exp.nD Cert.Exp.τ).loc Cert.Exp.main_arg3)
      ∧ r.2.mem ((c.tc : Thread Cert.Exp.nD Cert.Exp.τ).loc Cert.Exp.main_arg4) = m ((c.tc : Thread Cert.Exp.nD Cert.Exp.τ).loc Cert.Exp.main_arg4)
      ∧ r.2.mem ((c.tc : Thread Cert.Exp.nD Cert.Exp.τ).loc Cert.Exp.main_arg5) = m ((c.tc : Thread Cert.Exp.nD Cert.Exp.τ).loc Cert.Exp.main_arg5)
      ∧ r.2.mem ((c.tc : Thread Cert.Exp.nD Cert.Exp.τ).loc Cert.Exp.main_arg6) = m ((c.tc : Thread Cert.Exp.nD Cert.Exp.τ).loc Cert.Exp.main_arg6)
      ∧ r.2.mem ((c.tc : Thread Cert.Exp.nD Cert.Exp.τ).loc Cert.Exp.main_arg7) = m ((c.tc : Thread Cert.Exp.nD Cert.Exp.τ).loc Cert.Exp.main_arg7)
      ∧ r.2.mem ((c.tc : Thread Cert.Exp.nD Cert.Exp.τ).loc Cert.Exp.main_arg8) = m ((c.tc : Thread Cert.Exp.nD Cert.Exp.τ).loc Cert.Exp.main_arg8))
      ∧ r.2.sem = fun _ => 0)

def quiescent_ExpIdeal [hExpIdeal : Cert.ExpIdeal.Facts] [hPre_plan_tables : Cert.Pre_plan_tables.Facts] : Prop :=
  ∀ (m : (ℓ : Loc Cert.ExpIdeal.nD Cert.ExpIdeal.τ Cert.ExpIdeal.sig) → Buf (Elt Ideal) ℓ) (g : Dev Cert.ExpIdeal.nD → PrngReg), Pre_ExpIdeal m →
    θ_run (Cert.ExpIdeal.defs (F := Ideal)) (onTc (τ := Cert.ExpIdeal.τ) (Cert.ExpIdeal.main (F := Ideal))) ⟨m, fun _ => 0, g⟩ (fun r => (∀ c : Dev Cert.ExpIdeal.nD,
      r.2.mem ((c.tc : Thread Cert.ExpIdeal.nD Cert.ExpIdeal.τ).loc Cert.ExpIdeal.main_arg0) = m ((c.tc : Thread Cert.ExpIdeal.nD Cert.ExpIdeal.τ).loc Cert.ExpIdeal.main_arg0)
      ∧ r.2.mem ((c.tc : Thread Cert.ExpIdeal.nD Cert.ExpIdeal.τ).loc Cert.ExpIdeal.main_arg1) = m ((c.tc : Thread Cert.ExpIdeal.nD Cert.ExpIdeal.τ).loc Cert.ExpIdeal.main_arg1)
      ∧ r.2.mem ((c.tc : Thread Cert.ExpIdeal.nD Cert.ExpIdeal.τ).loc Cert.ExpIdeal.main_arg2) = m ((c.tc : Thread Cert.ExpIdeal.nD Cert.ExpIdeal.τ).loc Cert.ExpIdeal.main_arg2)
      ∧ r.2.mem ((c.tc : Thread Cert.ExpIdeal.nD Cert.ExpIdeal.τ).loc Cert.ExpIdeal.main_arg3) = m ((c.tc : Thread Cert.ExpIdeal.nD Cert.ExpIdeal.τ).loc Cert.ExpIdeal.main_arg3)
      ∧ r.2.mem ((c.tc : Thread Cert.ExpIdeal.nD Cert.ExpIdeal.τ).loc Cert.ExpIdeal.main_arg4) = m ((c.tc : Thread Cert.ExpIdeal.nD Cert.ExpIdeal.τ).loc Cert.ExpIdeal.main_arg4)
      ∧ r.2.mem ((c.tc : Thread Cert.ExpIdeal.nD Cert.ExpIdeal.τ).loc Cert.ExpIdeal.main_arg5) = m ((c.tc : Thread Cert.ExpIdeal.nD Cert.ExpIdeal.τ).loc Cert.ExpIdeal.main_arg5)
      ∧ r.2.mem ((c.tc : Thread Cert.ExpIdeal.nD Cert.ExpIdeal.τ).loc Cert.ExpIdeal.main_arg6) = m ((c.tc : Thread Cert.ExpIdeal.nD Cert.ExpIdeal.τ).loc Cert.ExpIdeal.main_arg6)
      ∧ r.2.mem ((c.tc : Thread Cert.ExpIdeal.nD Cert.ExpIdeal.τ).loc Cert.ExpIdeal.main_arg7) = m ((c.tc : Thread Cert.ExpIdeal.nD Cert.ExpIdeal.τ).loc Cert.ExpIdeal.main_arg7)
      ∧ r.2.mem ((c.tc : Thread Cert.ExpIdeal.nD Cert.ExpIdeal.τ).loc Cert.ExpIdeal.main_arg8) = m ((c.tc : Thread Cert.ExpIdeal.nD Cert.ExpIdeal.τ).loc Cert.ExpIdeal.main_arg8))
      ∧ r.2.sem = fun _ => 0)

def quiescent_ExpRefIdeal [hExpRefIdeal : Cert.ExpRefIdeal.Facts] [hPre_plan_tables : Cert.Pre_plan_tables.Facts] : Prop :=
  ∀ (m : (ℓ : Loc Cert.ExpRefIdeal.nD Cert.ExpRefIdeal.τ Cert.ExpRefIdeal.sig) → Buf (Elt Ideal) ℓ) (g : Dev Cert.ExpRefIdeal.nD → PrngReg), Pre_ExpRefIdeal m →
    θ_run (Cert.ExpRefIdeal.defs (F := Ideal)) (onTc (τ := Cert.ExpRefIdeal.τ) (Cert.ExpRefIdeal.main (F := Ideal))) ⟨m, fun _ => 0, g⟩ (fun r => (∀ c : Dev Cert.ExpRefIdeal.nD,
      r.2.mem ((c.tc : Thread Cert.ExpRefIdeal.nD Cert.ExpRefIdeal.τ).loc Cert.ExpRefIdeal.main_arg0) = m ((c.tc : Thread Cert.ExpRefIdeal.nD Cert.ExpRefIdeal.τ).loc Cert.ExpRefIdeal.main_arg0)
      ∧ r.2.mem ((c.tc : Thread Cert.ExpRefIdeal.nD Cert.ExpRefIdeal.τ).loc Cert.ExpRefIdeal.main_arg1) = m ((c.tc : Thread Cert.ExpRefIdeal.nD Cert.ExpRefIdeal.τ).loc Cert.ExpRefIdeal.main_arg1)
      ∧ r.2.mem ((c.tc : Thread Cert.ExpRefIdeal.nD Cert.ExpRefIdeal.τ).loc Cert.ExpRefIdeal.main_arg2) = m ((c.tc : Thread Cert.ExpRefIdeal.nD Cert.ExpRefIdeal.τ).loc Cert.ExpRefIdeal.main_arg2)
      ∧ r.2.mem ((c.tc : Thread Cert.ExpRefIdeal.nD Cert.ExpRefIdeal.τ).loc Cert.ExpRefIdeal.main_arg3) = m ((c.tc : Thread Cert.ExpRefIdeal.nD Cert.ExpRefIdeal.τ).loc Cert.ExpRefIdeal.main_arg3)
      ∧ r.2.mem ((c.tc : Thread Cert.ExpRefIdeal.nD Cert.ExpRefIdeal.τ).loc Cert.ExpRefIdeal.main_arg4) = m ((c.tc : Thread Cert.ExpRefIdeal.nD Cert.ExpRefIdeal.τ).loc Cert.ExpRefIdeal.main_arg4)
      ∧ r.2.mem ((c.tc : Thread Cert.ExpRefIdeal.nD Cert.ExpRefIdeal.τ).loc Cert.ExpRefIdeal.main_arg5) = m ((c.tc : Thread Cert.ExpRefIdeal.nD Cert.ExpRefIdeal.τ).loc Cert.ExpRefIdeal.main_arg5)
      ∧ r.2.mem ((c.tc : Thread Cert.ExpRefIdeal.nD Cert.ExpRefIdeal.τ).loc Cert.ExpRefIdeal.main_arg6) = m ((c.tc : Thread Cert.ExpRefIdeal.nD Cert.ExpRefIdeal.τ).loc Cert.ExpRefIdeal.main_arg6)
      ∧ r.2.mem ((c.tc : Thread Cert.ExpRefIdeal.nD Cert.ExpRefIdeal.τ).loc Cert.ExpRefIdeal.main_arg7) = m ((c.tc : Thread Cert.ExpRefIdeal.nD Cert.ExpRefIdeal.τ).loc Cert.ExpRefIdeal.main_arg7)
      ∧ r.2.mem ((c.tc : Thread Cert.ExpRefIdeal.nD Cert.ExpRefIdeal.τ).loc Cert.ExpRefIdeal.main_arg8) = m ((c.tc : Thread Cert.ExpRefIdeal.nD Cert.ExpRefIdeal.τ).loc Cert.ExpRefIdeal.main_arg8))
      ∧ r.2.sem = fun _ => 0)

def quiescent_Last [hLast : Cert.Last.Facts] [hPre_plan_tables : Cert.Pre_plan_tables.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2)
      ∧ r.2.mem ((c.tc : Thread Cert.Last.nD Cert.Last.τ).loc Cert.Last.main_arg3) = m ((c.tc : Thread Cert.Last.nD Cert.Last.τ).loc Cert.Last.main_arg3)
      ∧ r.2.mem ((c.tc : Thread Cert.Last.nD Cert.Last.τ).loc Cert.Last.main_arg4) = m ((c.tc : Thread Cert.Last.nD Cert.Last.τ).loc Cert.Last.main_arg4)
      ∧ r.2.mem ((c.tc : Thread Cert.Last.nD Cert.Last.τ).loc Cert.Last.main_arg5) = m ((c.tc : Thread Cert.Last.nD Cert.Last.τ).loc Cert.Last.main_arg5)
      ∧ r.2.mem ((c.tc : Thread Cert.Last.nD Cert.Last.τ).loc Cert.Last.main_arg6) = m ((c.tc : Thread Cert.Last.nD Cert.Last.τ).loc Cert.Last.main_arg6)
      ∧ r.2.mem ((c.tc : Thread Cert.Last.nD Cert.Last.τ).loc Cert.Last.main_arg7) = m ((c.tc : Thread Cert.Last.nD Cert.Last.τ).loc Cert.Last.main_arg7)
      ∧ r.2.mem ((c.tc : Thread Cert.Last.nD Cert.Last.τ).loc Cert.Last.main_arg8) = m ((c.tc : Thread Cert.Last.nD Cert.Last.τ).loc Cert.Last.main_arg8))
      ∧ r.2.sem = fun _ => 0)

def quiescent_LastIdeal [hLastIdeal : Cert.LastIdeal.Facts] [hPre_plan_tables : Cert.Pre_plan_tables.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
      ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
      ∧ r.2.mem ((c.tc : Thread Cert.LastIdeal.nD Cert.LastIdeal.τ).loc Cert.LastIdeal.main_arg5) = m ((c.tc : Thread Cert.LastIdeal.nD Cert.LastIdeal.τ).loc Cert.LastIdeal.main_arg5)
      ∧ r.2.mem ((c.tc : Thread Cert.LastIdeal.nD Cert.LastIdeal.τ).loc Cert.LastIdeal.main_arg6) = m ((c.tc : Thread Cert.LastIdeal.nD Cert.LastIdeal.τ).loc Cert.LastIdeal.main_arg6)
      ∧ r.2.mem ((c.tc : Thread Cert.LastIdeal.nD Cert.LastIdeal.τ).loc Cert.LastIdeal.main_arg7) = m ((c.tc : Thread Cert.LastIdeal.nD Cert.LastIdeal.τ).loc Cert.LastIdeal.main_arg7)
      ∧ r.2.mem ((c.tc : Thread Cert.LastIdeal.nD Cert.LastIdeal.τ).loc Cert.LastIdeal.main_arg8) = m ((c.tc : Thread Cert.LastIdeal.nD Cert.LastIdeal.τ).loc Cert.LastIdeal.main_arg8))
      ∧ r.2.sem = fun _ => 0)

def quiescent_LastRefIdeal [hLastRefIdeal : Cert.LastRefIdeal.Facts] [hPre_plan_tables : Cert.Pre_plan_tables.Facts] : Prop :=
  ∀ (m : (ℓ : Loc Cert.LastRefIdeal.nD Cert.LastRefIdeal.τ Cert.LastRefIdeal.sig) → Buf (Elt Ideal) ℓ) (g : Dev Cert.LastRefIdeal.nD → PrngReg), Pre_LastRefIdeal m →
    θ_run (Cert.LastRefIdeal.defs (F := Ideal)) (onTc (τ := Cert.LastRefIdeal.τ) (Cert.LastRefIdeal.main (F := Ideal))) ⟨m, fun _ => 0, g⟩ (fun r => (∀ c : Dev Cert.LastRefIdeal.nD,
      r.2.mem ((c.tc : Thread Cert.LastRefIdeal.nD Cert.LastRefIdeal.τ).loc Cert.LastRefIdeal.main_arg0) = m ((c.tc : Thread Cert.LastRefIdeal.nD Cert.LastRefIdeal.τ).loc Cert.LastRefIdeal.main_arg0)
      ∧ r.2.mem ((c.tc : Thread Cert.LastRefIdeal.nD Cert.LastRefIdeal.τ).loc Cert.LastRefIdeal.main_arg1) = m ((c.tc : Thread Cert.LastRefIdeal.nD Cert.LastRefIdeal.τ).loc Cert.LastRefIdeal.main_arg1)
      ∧ r.2.mem ((c.tc : Thread Cert.LastRefIdeal.nD Cert.LastRefIdeal.τ).loc Cert.LastRefIdeal.main_arg2) = m ((c.tc : Thread Cert.LastRefIdeal.nD Cert.LastRefIdeal.τ).loc Cert.LastRefIdeal.main_arg2)
      ∧ r.2.mem ((c.tc : Thread Cert.LastRefIdeal.nD Cert.LastRefIdeal.τ).loc Cert.LastRefIdeal.main_arg3) = m ((c.tc : Thread Cert.LastRefIdeal.nD Cert.LastRefIdeal.τ).loc Cert.LastRefIdeal.main_arg3)
      ∧ r.2.mem ((c.tc : Thread Cert.LastRefIdeal.nD Cert.LastRefIdeal.τ).loc Cert.LastRefIdeal.main_arg4) = m ((c.tc : Thread Cert.LastRefIdeal.nD Cert.LastRefIdeal.τ).loc Cert.LastRefIdeal.main_arg4)
      ∧ r.2.mem ((c.tc : Thread Cert.LastRefIdeal.nD Cert.LastRefIdeal.τ).loc Cert.LastRefIdeal.main_arg5) = m ((c.tc : Thread Cert.LastRefIdeal.nD Cert.LastRefIdeal.τ).loc Cert.LastRefIdeal.main_arg5)
      ∧ r.2.mem ((c.tc : Thread Cert.LastRefIdeal.nD Cert.LastRefIdeal.τ).loc Cert.LastRefIdeal.main_arg6) = m ((c.tc : Thread Cert.LastRefIdeal.nD Cert.LastRefIdeal.τ).loc Cert.LastRefIdeal.main_arg6)
      ∧ r.2.mem ((c.tc : Thread Cert.LastRefIdeal.nD Cert.LastRefIdeal.τ).loc Cert.LastRefIdeal.main_arg7) = m ((c.tc : Thread Cert.LastRefIdeal.nD Cert.LastRefIdeal.τ).loc Cert.LastRefIdeal.main_arg7)
      ∧ r.2.mem ((c.tc : Thread Cert.LastRefIdeal.nD Cert.LastRefIdeal.τ).loc Cert.LastRefIdeal.main_arg8) = m ((c.tc : Thread Cert.LastRefIdeal.nD Cert.LastRefIdeal.τ).loc Cert.LastRefIdeal.main_arg8))
      ∧ r.2.sem = fun _ => 0)

def quiescent_MmLn [hMmLn : Cert.MmLn.Facts] : Prop :=
  ∀ (m : (ℓ : Loc Cert.MmLn.nD Cert.MmLn.τ Cert.MmLn.sig) → Buf (Elt Bits) ℓ) (g : Dev Cert.MmLn.nD → PrngReg), Pre_MmLn m →
    θ_run (Cert.MmLn.defs (F := Bits)) (onTc (τ := Cert.MmLn.τ) (Cert.MmLn.main (F := Bits))) ⟨m, fun _ => 0, g⟩ (fun r => (∀ c : Dev Cert.MmLn.nD,
      r.2.mem ((c.tc : Thread Cert.MmLn.nD Cert.MmLn.τ).loc Cert.MmLn.main_arg0) = m ((c.tc : Thread Cert.MmLn.nD Cert.MmLn.τ).loc Cert.MmLn.main_arg0)
      ∧ r.2.mem ((c.tc : Thread Cert.MmLn.nD Cert.MmLn.τ).loc Cert.MmLn.main_arg1) = m ((c.tc : Thread Cert.MmLn.nD Cert.MmLn.τ).loc Cert.MmLn.main_arg1)
      ∧ r.2.mem ((c.tc : Thread Cert.MmLn.nD Cert.MmLn.τ).loc Cert.MmLn.main_arg2) = m ((c.tc : Thread Cert.MmLn.nD Cert.MmLn.τ).loc Cert.MmLn.main_arg2)
      ∧ r.2.mem ((c.tc : Thread Cert.MmLn.nD Cert.MmLn.τ).loc Cert.MmLn.main_arg3) = m ((c.tc : Thread Cert.MmLn.nD Cert.MmLn.τ).loc Cert.MmLn.main_arg3)
      ∧ r.2.mem ((c.tc : Thread Cert.MmLn.nD Cert.MmLn.τ).loc Cert.MmLn.main_arg4) = m ((c.tc : Thread Cert.MmLn.nD Cert.MmLn.τ).loc Cert.MmLn.main_arg4))
      ∧ r.2.sem = fun _ => 0)

def quiescent_MmLnIdeal [hMmLnIdeal : Cert.MmLnIdeal.Facts] : Prop :=
  ∀ (m : (ℓ : Loc Cert.MmLnIdeal.nD Cert.MmLnIdeal.τ Cert.MmLnIdeal.sig) → Buf (Elt Ideal) ℓ) (g : Dev Cert.MmLnIdeal.nD → PrngReg), Pre_MmLnIdeal m →
    θ_run (Cert.MmLnIdeal.defs (F := Ideal)) (onTc (τ := Cert.MmLnIdeal.τ) (Cert.MmLnIdeal.main (F := Ideal))) ⟨m, fun _ => 0, g⟩ (fun r => (∀ c : Dev Cert.MmLnIdeal.nD,
      r.2.mem ((c.tc : Thread Cert.MmLnIdeal.nD Cert.MmLnIdeal.τ).loc Cert.MmLnIdeal.main_arg0) = m ((c.tc : Thread Cert.MmLnIdeal.nD Cert.MmLnIdeal.τ).loc Cert.MmLnIdeal.main_arg0)
      ∧ r.2.mem ((c.tc : Thread Cert.MmLnIdeal.nD Cert.MmLnIdeal.τ).loc Cert.MmLnIdeal.main_arg1) = m ((c.tc : Thread Cert.MmLnIdeal.nD Cert.MmLnIdeal.τ).loc Cert.MmLnIdeal.main_arg1)
      ∧ r.2.mem ((c.tc : Thread Cert.MmLnIdeal.nD Cert.MmLnIdeal.τ).loc Cert.MmLnIdeal.main_arg2) = m ((c.tc : Thread Cert.MmLnIdeal.nD Cert.MmLnIdeal.τ).loc Cert.MmLnIdeal.main_arg2)
      ∧ r.2.mem ((c.tc : Thread Cert.MmLnIdeal.nD Cert.MmLnIdeal.τ).loc Cert.MmLnIdeal.main_arg3) = m ((c.tc : Thread Cert.MmLnIdeal.nD Cert.MmLnIdeal.τ).loc Cert.MmLnIdeal.main_arg3)
      ∧ r.2.mem ((c.tc : Thread Cert.MmLnIdeal.nD Cert.MmLnIdeal.τ).loc Cert.MmLnIdeal.main_arg4) = m ((c.tc : Thread Cert.MmLnIdeal.nD Cert.MmLnIdeal.τ).loc Cert.MmLnIdeal.main_arg4))
      ∧ r.2.sem = fun _ => 0)

def quiescent_MmLnRefIdeal [hMmLnRefIdeal : Cert.MmLnRefIdeal.Facts] : Prop :=
  ∀ (m : (ℓ : Loc Cert.MmLnRefIdeal.nD Cert.MmLnRefIdeal.τ Cert.MmLnRefIdeal.sig) → Buf (Elt Ideal) ℓ) (g : Dev Cert.MmLnRefIdeal.nD → PrngReg), Pre_MmLnRefIdeal m →
    θ_run (Cert.MmLnRefIdeal.defs (F := Ideal)) (onTc (τ := Cert.MmLnRefIdeal.τ) (Cert.MmLnRefIdeal.main (F := Ideal))) ⟨m, fun _ => 0, g⟩ (fun r => (∀ c : Dev Cert.MmLnRefIdeal.nD,
      r.2.mem ((c.tc : Thread Cert.MmLnRefIdeal.nD Cert.MmLnRefIdeal.τ).loc Cert.MmLnRefIdeal.main_arg0) = m ((c.tc : Thread Cert.MmLnRefIdeal.nD Cert.MmLnRefIdeal.τ).loc Cert.MmLnRefIdeal.main_arg0)
      ∧ r.2.mem ((c.tc : Thread Cert.MmLnRefIdeal.nD Cert.MmLnRefIdeal.τ).loc Cert.MmLnRefIdeal.main_arg1) = m ((c.tc : Thread Cert.MmLnRefIdeal.nD Cert.MmLnRefIdeal.τ).loc Cert.MmLnRefIdeal.main_arg1)
      ∧ r.2.mem ((c.tc : Thread Cert.MmLnRefIdeal.nD Cert.MmLnRefIdeal.τ).loc Cert.MmLnRefIdeal.main_arg2) = m ((c.tc : Thread Cert.MmLnRefIdeal.nD Cert.MmLnRefIdeal.τ).loc Cert.MmLnRefIdeal.main_arg2)
      ∧ r.2.mem ((c.tc : Thread Cert.MmLnRefIdeal.nD Cert.MmLnRefIdeal.τ).loc Cert.MmLnRefIdeal.main_arg3) = m ((c.tc : Thread Cert.MmLnRefIdeal.nD Cert.MmLnRefIdeal.τ).loc Cert.MmLnRefIdeal.main_arg3)
      ∧ r.2.mem ((c.tc : Thread Cert.MmLnRefIdeal.nD Cert.MmLnRefIdeal.τ).loc Cert.MmLnRefIdeal.main_arg4) = m ((c.tc : Thread Cert.MmLnRefIdeal.nD Cert.MmLnRefIdeal.τ).loc Cert.MmLnRefIdeal.main_arg4))
      ∧ r.2.sem = fun _ => 0)

def preserves_Kv_KvIdeal : Prop :=
  True

def algebraic_KvIdeal_KvRefIdeal [hKvIdeal : Cert.KvIdeal.Facts] [hKvRefIdeal : Cert.KvRefIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvRefIdeal.nD Cert.KvRefIdeal.τ Cert.KvRefIdeal.sig) → Buf (Elt Ideal) ℓ) (g' : Dev Cert.KvRefIdeal.nD → PrngReg), Pre_KvIdeal m →
    (∀ c : Dev Cert.KvIdeal.nD,
      m' ((c.tc : Thread Cert.KvRefIdeal.nD Cert.KvRefIdeal.τ).loc Cert.KvRefIdeal.main_arg0) = m ((c.tc : Thread Cert.KvIdeal.nD Cert.KvIdeal.τ).loc Cert.KvIdeal.main_arg0)
      ∧ m' ((c.tc : Thread Cert.KvRefIdeal.nD Cert.KvRefIdeal.τ).loc Cert.KvRefIdeal.main_arg1) = m ((c.tc : Thread Cert.KvIdeal.nD Cert.KvIdeal.τ).loc Cert.KvIdeal.main_arg1)) →
    ∃ (v0 : (c : Dev Cert.KvIdeal.nD) → Buf (Elt Ideal) ((c.tc : Thread Cert.KvIdeal.nD Cert.KvIdeal.τ).loc Cert.KvIdeal.main_v1_0)) (v1 : (c : Dev Cert.KvIdeal.nD) → Buf (Elt Ideal) ((c.tc : Thread Cert.KvIdeal.nD Cert.KvIdeal.τ).loc Cert.KvIdeal.main_v1_1)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v1_0) = v0 c
          ∧ r.2.mem ((c.tc : Thread Cert.KvIdeal.nD Cert.KvIdeal.τ).loc Cert.KvIdeal.main_v1_1) = v1 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1))
      ∧ θ_run (Cert.KvRefIdeal.defs (F := Ideal)) (onTc (τ := Cert.KvRefIdeal.τ) (Cert.KvRefIdeal.main (F := Ideal))) ⟨m', fun _ => 0, g'⟩ (fun r => ∀ c : Dev Cert.KvRefIdeal.nD,
          r.2.mem ((c.tc : Thread Cert.KvRefIdeal.nD Cert.KvRefIdeal.τ).loc Cert.KvRefIdeal.main_v2) = v0 c
          ∧ r.2.mem ((c.tc : Thread Cert.KvRefIdeal.nD Cert.KvRefIdeal.τ).loc Cert.KvRefIdeal.main_v3) = v1 c
          ∧ r.2.mem ((c.tc : Thread Cert.KvRefIdeal.nD Cert.KvRefIdeal.τ).loc Cert.KvRefIdeal.main_arg0) = m' ((c.tc : Thread Cert.KvRefIdeal.nD Cert.KvRefIdeal.τ).loc Cert.KvRefIdeal.main_arg0)
          ∧ r.2.mem ((c.tc : Thread Cert.KvRefIdeal.nD Cert.KvRefIdeal.τ).loc Cert.KvRefIdeal.main_arg1) = m' ((c.tc : Thread Cert.KvRefIdeal.nD Cert.KvRefIdeal.τ).loc Cert.KvRefIdeal.main_arg1))

def preserves_Exp_ExpIdeal : Prop :=
  True

def algebraic_ExpIdeal_ExpRefIdeal [hExpIdeal : Cert.ExpIdeal.Facts] [hExpRefIdeal : Cert.ExpRefIdeal.Facts] [hPre_plan_tables : Cert.Pre_plan_tables.Facts] : Prop :=
  ∀ (m : (ℓ : Loc Cert.ExpIdeal.nD Cert.ExpIdeal.τ Cert.ExpIdeal.sig) → Buf (Elt Ideal) ℓ) (g : Dev Cert.ExpIdeal.nD → PrngReg)
    (m' : (ℓ : Loc Cert.ExpRefIdeal.nD Cert.ExpRefIdeal.τ Cert.ExpRefIdeal.sig) → Buf (Elt Ideal) ℓ) (g' : Dev Cert.ExpRefIdeal.nD → PrngReg), Pre_ExpIdeal m →
    (∀ c : Dev Cert.ExpIdeal.nD,
      m' ((c.tc : Thread Cert.ExpRefIdeal.nD Cert.ExpRefIdeal.τ).loc Cert.ExpRefIdeal.main_arg0) = m ((c.tc : Thread Cert.ExpIdeal.nD Cert.ExpIdeal.τ).loc Cert.ExpIdeal.main_arg0)
      ∧ m' ((c.tc : Thread Cert.ExpRefIdeal.nD Cert.ExpRefIdeal.τ).loc Cert.ExpRefIdeal.main_arg1) = m ((c.tc : Thread Cert.ExpIdeal.nD Cert.ExpIdeal.τ).loc Cert.ExpIdeal.main_arg1)
      ∧ m' ((c.tc : Thread Cert.ExpRefIdeal.nD Cert.ExpRefIdeal.τ).loc Cert.ExpRefIdeal.main_arg2) = m ((c.tc : Thread Cert.ExpIdeal.nD Cert.ExpIdeal.τ).loc Cert.ExpIdeal.main_arg2)
      ∧ m' ((c.tc : Thread Cert.ExpRefIdeal.nD Cert.ExpRefIdeal.τ).loc Cert.ExpRefIdeal.main_arg3) = m ((c.tc : Thread Cert.ExpIdeal.nD Cert.ExpIdeal.τ).loc Cert.ExpIdeal.main_arg3)
      ∧ m' ((c.tc : Thread Cert.ExpRefIdeal.nD Cert.ExpRefIdeal.τ).loc Cert.ExpRefIdeal.main_arg4) = m ((c.tc : Thread Cert.ExpIdeal.nD Cert.ExpIdeal.τ).loc Cert.ExpIdeal.main_arg4)
      ∧ m' ((c.tc : Thread Cert.ExpRefIdeal.nD Cert.ExpRefIdeal.τ).loc Cert.ExpRefIdeal.main_arg5) = m ((c.tc : Thread Cert.ExpIdeal.nD Cert.ExpIdeal.τ).loc Cert.ExpIdeal.main_arg5)
      ∧ m' ((c.tc : Thread Cert.ExpRefIdeal.nD Cert.ExpRefIdeal.τ).loc Cert.ExpRefIdeal.main_arg6) = m ((c.tc : Thread Cert.ExpIdeal.nD Cert.ExpIdeal.τ).loc Cert.ExpIdeal.main_arg6)
      ∧ m' ((c.tc : Thread Cert.ExpRefIdeal.nD Cert.ExpRefIdeal.τ).loc Cert.ExpRefIdeal.main_arg7) = m ((c.tc : Thread Cert.ExpIdeal.nD Cert.ExpIdeal.τ).loc Cert.ExpIdeal.main_arg7)
      ∧ m' ((c.tc : Thread Cert.ExpRefIdeal.nD Cert.ExpRefIdeal.τ).loc Cert.ExpRefIdeal.main_arg8) = m ((c.tc : Thread Cert.ExpIdeal.nD Cert.ExpIdeal.τ).loc Cert.ExpIdeal.main_arg8)) →
    ∃ (v0 : (c : Dev Cert.ExpIdeal.nD) → Buf (Elt Ideal) ((c.tc : Thread Cert.ExpIdeal.nD Cert.ExpIdeal.τ).loc Cert.ExpIdeal.main_v0)),
      θ_run (Cert.ExpIdeal.defs (F := Ideal)) (onTc (τ := Cert.ExpIdeal.τ) (Cert.ExpIdeal.main (F := Ideal))) ⟨m, fun _ => 0, g⟩ (fun r => ∀ c : Dev Cert.ExpIdeal.nD,
          r.2.mem ((c.tc : Thread Cert.ExpIdeal.nD Cert.ExpIdeal.τ).loc Cert.ExpIdeal.main_v0) = v0 c
          ∧ r.2.mem ((c.tc : Thread Cert.ExpIdeal.nD Cert.ExpIdeal.τ).loc Cert.ExpIdeal.main_arg0) = m ((c.tc : Thread Cert.ExpIdeal.nD Cert.ExpIdeal.τ).loc Cert.ExpIdeal.main_arg0)
          ∧ r.2.mem ((c.tc : Thread Cert.ExpIdeal.nD Cert.ExpIdeal.τ).loc Cert.ExpIdeal.main_arg1) = m ((c.tc : Thread Cert.ExpIdeal.nD Cert.ExpIdeal.τ).loc Cert.ExpIdeal.main_arg1)
          ∧ r.2.mem ((c.tc : Thread Cert.ExpIdeal.nD Cert.ExpIdeal.τ).loc Cert.ExpIdeal.main_arg2) = m ((c.tc : Thread Cert.ExpIdeal.nD Cert.ExpIdeal.τ).loc Cert.ExpIdeal.main_arg2)
          ∧ r.2.mem ((c.tc : Thread Cert.ExpIdeal.nD Cert.ExpIdeal.τ).loc Cert.ExpIdeal.main_arg3) = m ((c.tc : Thread Cert.ExpIdeal.nD Cert.ExpIdeal.τ).loc Cert.ExpIdeal.main_arg3)
          ∧ r.2.mem ((c.tc : Thread Cert.ExpIdeal.nD Cert.ExpIdeal.τ).loc Cert.ExpIdeal.main_arg4) = m ((c.tc : Thread Cert.ExpIdeal.nD Cert.ExpIdeal.τ).loc Cert.ExpIdeal.main_arg4)
          ∧ r.2.mem ((c.tc : Thread Cert.ExpIdeal.nD Cert.ExpIdeal.τ).loc Cert.ExpIdeal.main_arg5) = m ((c.tc : Thread Cert.ExpIdeal.nD Cert.ExpIdeal.τ).loc Cert.ExpIdeal.main_arg5)
          ∧ r.2.mem ((c.tc : Thread Cert.ExpIdeal.nD Cert.ExpIdeal.τ).loc Cert.ExpIdeal.main_arg6) = m ((c.tc : Thread Cert.ExpIdeal.nD Cert.ExpIdeal.τ).loc Cert.ExpIdeal.main_arg6)
          ∧ r.2.mem ((c.tc : Thread Cert.ExpIdeal.nD Cert.ExpIdeal.τ).loc Cert.ExpIdeal.main_arg7) = m ((c.tc : Thread Cert.ExpIdeal.nD Cert.ExpIdeal.τ).loc Cert.ExpIdeal.main_arg7)
          ∧ r.2.mem ((c.tc : Thread Cert.ExpIdeal.nD Cert.ExpIdeal.τ).loc Cert.ExpIdeal.main_arg8) = m ((c.tc : Thread Cert.ExpIdeal.nD Cert.ExpIdeal.τ).loc Cert.ExpIdeal.main_arg8))
      ∧ θ_run (Cert.ExpRefIdeal.defs (F := Ideal)) (onTc (τ := Cert.ExpRefIdeal.τ) (Cert.ExpRefIdeal.main (F := Ideal))) ⟨m', fun _ => 0, g'⟩ (fun r => ∀ c : Dev Cert.ExpRefIdeal.nD,
          r.2.mem ((c.tc : Thread Cert.ExpRefIdeal.nD Cert.ExpRefIdeal.τ).loc Cert.ExpRefIdeal.main_v50) = v0 c
          ∧ r.2.mem ((c.tc : Thread Cert.ExpRefIdeal.nD Cert.ExpRefIdeal.τ).loc Cert.ExpRefIdeal.main_arg0) = m' ((c.tc : Thread Cert.ExpRefIdeal.nD Cert.ExpRefIdeal.τ).loc Cert.ExpRefIdeal.main_arg0)
          ∧ r.2.mem ((c.tc : Thread Cert.ExpRefIdeal.nD Cert.ExpRefIdeal.τ).loc Cert.ExpRefIdeal.main_arg1) = m' ((c.tc : Thread Cert.ExpRefIdeal.nD Cert.ExpRefIdeal.τ).loc Cert.ExpRefIdeal.main_arg1)
          ∧ r.2.mem ((c.tc : Thread Cert.ExpRefIdeal.nD Cert.ExpRefIdeal.τ).loc Cert.ExpRefIdeal.main_arg2) = m' ((c.tc : Thread Cert.ExpRefIdeal.nD Cert.ExpRefIdeal.τ).loc Cert.ExpRefIdeal.main_arg2)
          ∧ r.2.mem ((c.tc : Thread Cert.ExpRefIdeal.nD Cert.ExpRefIdeal.τ).loc Cert.ExpRefIdeal.main_arg3) = m' ((c.tc : Thread Cert.ExpRefIdeal.nD Cert.ExpRefIdeal.τ).loc Cert.ExpRefIdeal.main_arg3)
          ∧ r.2.mem ((c.tc : Thread Cert.ExpRefIdeal.nD Cert.ExpRefIdeal.τ).loc Cert.ExpRefIdeal.main_arg4) = m' ((c.tc : Thread Cert.ExpRefIdeal.nD Cert.ExpRefIdeal.τ).loc Cert.ExpRefIdeal.main_arg4)
          ∧ r.2.mem ((c.tc : Thread Cert.ExpRefIdeal.nD Cert.ExpRefIdeal.τ).loc Cert.ExpRefIdeal.main_arg5) = m' ((c.tc : Thread Cert.ExpRefIdeal.nD Cert.ExpRefIdeal.τ).loc Cert.ExpRefIdeal.main_arg5)
          ∧ r.2.mem ((c.tc : Thread Cert.ExpRefIdeal.nD Cert.ExpRefIdeal.τ).loc Cert.ExpRefIdeal.main_arg6) = m' ((c.tc : Thread Cert.ExpRefIdeal.nD Cert.ExpRefIdeal.τ).loc Cert.ExpRefIdeal.main_arg6)
          ∧ r.2.mem ((c.tc : Thread Cert.ExpRefIdeal.nD Cert.ExpRefIdeal.τ).loc Cert.ExpRefIdeal.main_arg7) = m' ((c.tc : Thread Cert.ExpRefIdeal.nD Cert.ExpRefIdeal.τ).loc Cert.ExpRefIdeal.main_arg7)
          ∧ r.2.mem ((c.tc : Thread Cert.ExpRefIdeal.nD Cert.ExpRefIdeal.τ).loc Cert.ExpRefIdeal.main_arg8) = m' ((c.tc : Thread Cert.ExpRefIdeal.nD Cert.ExpRefIdeal.τ).loc Cert.ExpRefIdeal.main_arg8))

def preserves_Last_LastIdeal : Prop :=
  True

def algebraic_LastIdeal_LastRefIdeal [hLastIdeal : Cert.LastIdeal.Facts] [hLastRefIdeal : Cert.LastRefIdeal.Facts] [hPre_plan_tables : Cert.Pre_plan_tables.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastRefIdeal.nD Cert.LastRefIdeal.τ Cert.LastRefIdeal.sig) → Buf (Elt Ideal) ℓ) (g' : Dev Cert.LastRefIdeal.nD → PrngReg), Pre_LastIdeal m →
    (∀ c : Dev Cert.LastIdeal.nD,
      m' ((c.tc : Thread Cert.LastRefIdeal.nD Cert.LastRefIdeal.τ).loc Cert.LastRefIdeal.main_arg0) = m ((c.tc : Thread Cert.LastIdeal.nD Cert.LastIdeal.τ).loc Cert.LastIdeal.main_arg0)
      ∧ m' ((c.tc : Thread Cert.LastRefIdeal.nD Cert.LastRefIdeal.τ).loc Cert.LastRefIdeal.main_arg1) = m ((c.tc : Thread Cert.LastIdeal.nD Cert.LastIdeal.τ).loc Cert.LastIdeal.main_arg1)
      ∧ m' ((c.tc : Thread Cert.LastRefIdeal.nD Cert.LastRefIdeal.τ).loc Cert.LastRefIdeal.main_arg2) = m ((c.tc : Thread Cert.LastIdeal.nD Cert.LastIdeal.τ).loc Cert.LastIdeal.main_arg2)
      ∧ m' ((c.tc : Thread Cert.LastRefIdeal.nD Cert.LastRefIdeal.τ).loc Cert.LastRefIdeal.main_arg3) = m ((c.tc : Thread Cert.LastIdeal.nD Cert.LastIdeal.τ).loc Cert.LastIdeal.main_arg3)
      ∧ m' ((c.tc : Thread Cert.LastRefIdeal.nD Cert.LastRefIdeal.τ).loc Cert.LastRefIdeal.main_arg4) = m ((c.tc : Thread Cert.LastIdeal.nD Cert.LastIdeal.τ).loc Cert.LastIdeal.main_arg4)
      ∧ m' ((c.tc : Thread Cert.LastRefIdeal.nD Cert.LastRefIdeal.τ).loc Cert.LastRefIdeal.main_arg5) = m ((c.tc : Thread Cert.LastIdeal.nD Cert.LastIdeal.τ).loc Cert.LastIdeal.main_arg5)
      ∧ m' ((c.tc : Thread Cert.LastRefIdeal.nD Cert.LastRefIdeal.τ).loc Cert.LastRefIdeal.main_arg6) = m ((c.tc : Thread Cert.LastIdeal.nD Cert.LastIdeal.τ).loc Cert.LastIdeal.main_arg6)
      ∧ m' ((c.tc : Thread Cert.LastRefIdeal.nD Cert.LastRefIdeal.τ).loc Cert.LastRefIdeal.main_arg7) = m ((c.tc : Thread Cert.LastIdeal.nD Cert.LastIdeal.τ).loc Cert.LastIdeal.main_arg7)
      ∧ m' ((c.tc : Thread Cert.LastRefIdeal.nD Cert.LastRefIdeal.τ).loc Cert.LastRefIdeal.main_arg8) = m ((c.tc : Thread Cert.LastIdeal.nD Cert.LastIdeal.τ).loc Cert.LastIdeal.main_arg8)) →
    ∃ (v0 : (c : Dev Cert.LastIdeal.nD) → Buf (Elt Ideal) ((c.tc : Thread Cert.LastIdeal.nD Cert.LastIdeal.τ).loc Cert.LastIdeal.main_v0)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v0) = v0 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
          ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
          ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
          ∧ r.2.mem ((c.tc : Thread Cert.LastIdeal.nD Cert.LastIdeal.τ).loc Cert.LastIdeal.main_arg5) = m ((c.tc : Thread Cert.LastIdeal.nD Cert.LastIdeal.τ).loc Cert.LastIdeal.main_arg5)
          ∧ r.2.mem ((c.tc : Thread Cert.LastIdeal.nD Cert.LastIdeal.τ).loc Cert.LastIdeal.main_arg6) = m ((c.tc : Thread Cert.LastIdeal.nD Cert.LastIdeal.τ).loc Cert.LastIdeal.main_arg6)
          ∧ r.2.mem ((c.tc : Thread Cert.LastIdeal.nD Cert.LastIdeal.τ).loc Cert.LastIdeal.main_arg7) = m ((c.tc : Thread Cert.LastIdeal.nD Cert.LastIdeal.τ).loc Cert.LastIdeal.main_arg7)
          ∧ r.2.mem ((c.tc : Thread Cert.LastIdeal.nD Cert.LastIdeal.τ).loc Cert.LastIdeal.main_arg8) = m ((c.tc : Thread Cert.LastIdeal.nD Cert.LastIdeal.τ).loc Cert.LastIdeal.main_arg8))
      ∧ θ_run (Cert.LastRefIdeal.defs (F := Ideal)) (onTc (τ := Cert.LastRefIdeal.τ) (Cert.LastRefIdeal.main (F := Ideal))) ⟨m', fun _ => 0, g'⟩ (fun r => ∀ c : Dev Cert.LastRefIdeal.nD,
          r.2.mem ((c.tc : Thread Cert.LastRefIdeal.nD Cert.LastRefIdeal.τ).loc Cert.LastRefIdeal.main_v50) = v0 c
          ∧ r.2.mem ((c.tc : Thread Cert.LastRefIdeal.nD Cert.LastRefIdeal.τ).loc Cert.LastRefIdeal.main_arg0) = m' ((c.tc : Thread Cert.LastRefIdeal.nD Cert.LastRefIdeal.τ).loc Cert.LastRefIdeal.main_arg0)
          ∧ r.2.mem ((c.tc : Thread Cert.LastRefIdeal.nD Cert.LastRefIdeal.τ).loc Cert.LastRefIdeal.main_arg1) = m' ((c.tc : Thread Cert.LastRefIdeal.nD Cert.LastRefIdeal.τ).loc Cert.LastRefIdeal.main_arg1)
          ∧ r.2.mem ((c.tc : Thread Cert.LastRefIdeal.nD Cert.LastRefIdeal.τ).loc Cert.LastRefIdeal.main_arg2) = m' ((c.tc : Thread Cert.LastRefIdeal.nD Cert.LastRefIdeal.τ).loc Cert.LastRefIdeal.main_arg2)
          ∧ r.2.mem ((c.tc : Thread Cert.LastRefIdeal.nD Cert.LastRefIdeal.τ).loc Cert.LastRefIdeal.main_arg3) = m' ((c.tc : Thread Cert.LastRefIdeal.nD Cert.LastRefIdeal.τ).loc Cert.LastRefIdeal.main_arg3)
          ∧ r.2.mem ((c.tc : Thread Cert.LastRefIdeal.nD Cert.LastRefIdeal.τ).loc Cert.LastRefIdeal.main_arg4) = m' ((c.tc : Thread Cert.LastRefIdeal.nD Cert.LastRefIdeal.τ).loc Cert.LastRefIdeal.main_arg4)
          ∧ r.2.mem ((c.tc : Thread Cert.LastRefIdeal.nD Cert.LastRefIdeal.τ).loc Cert.LastRefIdeal.main_arg5) = m' ((c.tc : Thread Cert.LastRefIdeal.nD Cert.LastRefIdeal.τ).loc Cert.LastRefIdeal.main_arg5)
          ∧ r.2.mem ((c.tc : Thread Cert.LastRefIdeal.nD Cert.LastRefIdeal.τ).loc Cert.LastRefIdeal.main_arg6) = m' ((c.tc : Thread Cert.LastRefIdeal.nD Cert.LastRefIdeal.τ).loc Cert.LastRefIdeal.main_arg6)
          ∧ r.2.mem ((c.tc : Thread Cert.LastRefIdeal.nD Cert.LastRefIdeal.τ).loc Cert.LastRefIdeal.main_arg7) = m' ((c.tc : Thread Cert.LastRefIdeal.nD Cert.LastRefIdeal.τ).loc Cert.LastRefIdeal.main_arg7)
          ∧ r.2.mem ((c.tc : Thread Cert.LastRefIdeal.nD Cert.LastRefIdeal.τ).loc Cert.LastRefIdeal.main_arg8) = m' ((c.tc : Thread Cert.LastRefIdeal.nD Cert.LastRefIdeal.τ).loc Cert.LastRefIdeal.main_arg8))

def preserves_MmLn_MmLnIdeal : Prop :=
  True

def algebraic_MmLnIdeal_MmLnRefIdeal [hMmLnIdeal : Cert.MmLnIdeal.Facts] [hMmLnRefIdeal : Cert.MmLnRefIdeal.Facts] : Prop :=
  ∀ (m : (ℓ : Loc Cert.MmLnIdeal.nD Cert.MmLnIdeal.τ Cert.MmLnIdeal.sig) → Buf (Elt Ideal) ℓ) (g : Dev Cert.MmLnIdeal.nD → PrngReg)
    (m' : (ℓ : Loc Cert.MmLnRefIdeal.nD Cert.MmLnRefIdeal.τ Cert.MmLnRefIdeal.sig) → Buf (Elt Ideal) ℓ) (g' : Dev Cert.MmLnRefIdeal.nD → PrngReg), Pre_MmLnIdeal m →
    (∀ c : Dev Cert.MmLnIdeal.nD,
      m' ((c.tc : Thread Cert.MmLnRefIdeal.nD Cert.MmLnRefIdeal.τ).loc Cert.MmLnRefIdeal.main_arg0) = m ((c.tc : Thread Cert.MmLnIdeal.nD Cert.MmLnIdeal.τ).loc Cert.MmLnIdeal.main_arg0)
      ∧ m' ((c.tc : Thread Cert.MmLnRefIdeal.nD Cert.MmLnRefIdeal.τ).loc Cert.MmLnRefIdeal.main_arg1) = m ((c.tc : Thread Cert.MmLnIdeal.nD Cert.MmLnIdeal.τ).loc Cert.MmLnIdeal.main_arg1)
      ∧ m' ((c.tc : Thread Cert.MmLnRefIdeal.nD Cert.MmLnRefIdeal.τ).loc Cert.MmLnRefIdeal.main_arg2) = m ((c.tc : Thread Cert.MmLnIdeal.nD Cert.MmLnIdeal.τ).loc Cert.MmLnIdeal.main_arg2)
      ∧ m' ((c.tc : Thread Cert.MmLnRefIdeal.nD Cert.MmLnRefIdeal.τ).loc Cert.MmLnRefIdeal.main_arg3) = m ((c.tc : Thread Cert.MmLnIdeal.nD Cert.MmLnIdeal.τ).loc Cert.MmLnIdeal.main_arg3)
      ∧ m' ((c.tc : Thread Cert.MmLnRefIdeal.nD Cert.MmLnRefIdeal.τ).loc Cert.MmLnRefIdeal.main_arg4) = m ((c.tc : Thread Cert.MmLnIdeal.nD Cert.MmLnIdeal.τ).loc Cert.MmLnIdeal.main_arg4)) →
    ∃ (v0 : (c : Dev Cert.MmLnIdeal.nD) → Buf (Elt Ideal) ((c.tc : Thread Cert.MmLnIdeal.nD Cert.MmLnIdeal.τ).loc Cert.MmLnIdeal.main_v0)),
      θ_run (Cert.MmLnIdeal.defs (F := Ideal)) (onTc (τ := Cert.MmLnIdeal.τ) (Cert.MmLnIdeal.main (F := Ideal))) ⟨m, fun _ => 0, g⟩ (fun r => ∀ c : Dev Cert.MmLnIdeal.nD,
          r.2.mem ((c.tc : Thread Cert.MmLnIdeal.nD Cert.MmLnIdeal.τ).loc Cert.MmLnIdeal.main_v0) = v0 c
          ∧ r.2.mem ((c.tc : Thread Cert.MmLnIdeal.nD Cert.MmLnIdeal.τ).loc Cert.MmLnIdeal.main_arg0) = m ((c.tc : Thread Cert.MmLnIdeal.nD Cert.MmLnIdeal.τ).loc Cert.MmLnIdeal.main_arg0)
          ∧ r.2.mem ((c.tc : Thread Cert.MmLnIdeal.nD Cert.MmLnIdeal.τ).loc Cert.MmLnIdeal.main_arg1) = m ((c.tc : Thread Cert.MmLnIdeal.nD Cert.MmLnIdeal.τ).loc Cert.MmLnIdeal.main_arg1)
          ∧ r.2.mem ((c.tc : Thread Cert.MmLnIdeal.nD Cert.MmLnIdeal.τ).loc Cert.MmLnIdeal.main_arg2) = m ((c.tc : Thread Cert.MmLnIdeal.nD Cert.MmLnIdeal.τ).loc Cert.MmLnIdeal.main_arg2)
          ∧ r.2.mem ((c.tc : Thread Cert.MmLnIdeal.nD Cert.MmLnIdeal.τ).loc Cert.MmLnIdeal.main_arg3) = m ((c.tc : Thread Cert.MmLnIdeal.nD Cert.MmLnIdeal.τ).loc Cert.MmLnIdeal.main_arg3)
          ∧ r.2.mem ((c.tc : Thread Cert.MmLnIdeal.nD Cert.MmLnIdeal.τ).loc Cert.MmLnIdeal.main_arg4) = m ((c.tc : Thread Cert.MmLnIdeal.nD Cert.MmLnIdeal.τ).loc Cert.MmLnIdeal.main_arg4))
      ∧ θ_run (Cert.MmLnRefIdeal.defs (F := Ideal)) (onTc (τ := Cert.MmLnRefIdeal.τ) (Cert.MmLnRefIdeal.main (F := Ideal))) ⟨m', fun _ => 0, g'⟩ (fun r => ∀ c : Dev Cert.MmLnRefIdeal.nD,
          r.2.mem ((c.tc : Thread Cert.MmLnRefIdeal.nD Cert.MmLnRefIdeal.τ).loc Cert.MmLnRefIdeal.main_v27) = v0 c
          ∧ r.2.mem ((c.tc : Thread Cert.MmLnRefIdeal.nD Cert.MmLnRefIdeal.τ).loc Cert.MmLnRefIdeal.main_arg0) = m' ((c.tc : Thread Cert.MmLnRefIdeal.nD Cert.MmLnRefIdeal.τ).loc Cert.MmLnRefIdeal.main_arg0)
          ∧ r.2.mem ((c.tc : Thread Cert.MmLnRefIdeal.nD Cert.MmLnRefIdeal.τ).loc Cert.MmLnRefIdeal.main_arg1) = m' ((c.tc : Thread Cert.MmLnRefIdeal.nD Cert.MmLnRefIdeal.τ).loc Cert.MmLnRefIdeal.main_arg1)
          ∧ r.2.mem ((c.tc : Thread Cert.MmLnRefIdeal.nD Cert.MmLnRefIdeal.τ).loc Cert.MmLnRefIdeal.main_arg2) = m' ((c.tc : Thread Cert.MmLnRefIdeal.nD Cert.MmLnRefIdeal.τ).loc Cert.MmLnRefIdeal.main_arg2)
          ∧ r.2.mem ((c.tc : Thread Cert.MmLnRefIdeal.nD Cert.MmLnRefIdeal.τ).loc Cert.MmLnRefIdeal.main_arg3) = m' ((c.tc : Thread Cert.MmLnRefIdeal.nD Cert.MmLnRefIdeal.τ).loc Cert.MmLnRefIdeal.main_arg3)
          ∧ r.2.mem ((c.tc : Thread Cert.MmLnRefIdeal.nD Cert.MmLnRefIdeal.τ).loc Cert.MmLnRefIdeal.main_arg4) = m' ((c.tc : Thread Cert.MmLnRefIdeal.nD Cert.MmLnRefIdeal.τ).loc Cert.MmLnRefIdeal.main_arg4))

def Claim : Prop :=
  ∃ (hKv : Cert.Kv.Facts) (hKvIdeal : Cert.KvIdeal.Facts) (hKvRefIdeal : Cert.KvRefIdeal.Facts) (hExp : Cert.Exp.Facts) (hExpIdeal : Cert.ExpIdeal.Facts) (hExpRefIdeal : Cert.ExpRefIdeal.Facts) (hLast : Cert.Last.Facts) (hLastIdeal : Cert.LastIdeal.Facts) (hLastRefIdeal : Cert.LastRefIdeal.Facts) (hMmLn : Cert.MmLn.Facts) (hMmLnIdeal : Cert.MmLnIdeal.Facts) (hMmLnRefIdeal : Cert.MmLnRefIdeal.Facts) (hPre_plan_tables : Cert.Pre_plan_tables.Facts),
    quiescent_Kv (hKv := hKv)
    ∧ quiescent_KvIdeal (hKvIdeal := hKvIdeal)
    ∧ quiescent_KvRefIdeal (hKvRefIdeal := hKvRefIdeal)
    ∧ quiescent_Exp (hExp := hExp) (hPre_plan_tables := hPre_plan_tables)
    ∧ quiescent_ExpIdeal (hExpIdeal := hExpIdeal) (hPre_plan_tables := hPre_plan_tables)
    ∧ quiescent_ExpRefIdeal (hExpRefIdeal := hExpRefIdeal) (hPre_plan_tables := hPre_plan_tables)
    ∧ quiescent_Last (hLast := hLast) (hPre_plan_tables := hPre_plan_tables)
    ∧ quiescent_LastIdeal (hLastIdeal := hLastIdeal) (hPre_plan_tables := hPre_plan_tables)
    ∧ quiescent_LastRefIdeal (hLastRefIdeal := hLastRefIdeal) (hPre_plan_tables := hPre_plan_tables)
    ∧ quiescent_MmLn (hMmLn := hMmLn)
    ∧ quiescent_MmLnIdeal (hMmLnIdeal := hMmLnIdeal)
    ∧ quiescent_MmLnRefIdeal (hMmLnRefIdeal := hMmLnRefIdeal)
    ∧ preserves_Kv_KvIdeal
    ∧ algebraic_KvIdeal_KvRefIdeal (hKvIdeal := hKvIdeal) (hKvRefIdeal := hKvRefIdeal)
    ∧ preserves_Exp_ExpIdeal
    ∧ algebraic_ExpIdeal_ExpRefIdeal (hExpIdeal := hExpIdeal) (hExpRefIdeal := hExpRefIdeal) (hPre_plan_tables := hPre_plan_tables)
    ∧ preserves_Last_LastIdeal
    ∧ algebraic_LastIdeal_LastRefIdeal (hLastIdeal := hLastIdeal) (hLastRefIdeal := hLastRefIdeal) (hPre_plan_tables := hPre_plan_tables)
    ∧ preserves_MmLn_MmLnIdeal
    ∧ algebraic_MmLnIdeal_MmLnRefIdeal (hMmLnIdeal := hMmLnIdeal) (hMmLnRefIdeal := hMmLnRefIdeal)
-- ==== Pre_plan_tables.lean ====
abbrev S51 : Shape := ⟨1, ![51]⟩
abbrev S1 : Shape := ⟨1, ![1]⟩
abbrev S294912x128 : Shape := ⟨2, ![294912, 128]⟩
abbrev S2x16x2048x512 : Shape := ⟨4, ![2, 16, 2048, 512]⟩
abbrev S2x16x512x2048 : Shape := ⟨4, ![2, 16, 512, 2048]⟩
abbrev S_ : Shape := ⟨0, ![]⟩
abbrev S50 : Shape := ⟨1, ![50]⟩
abbrev S51x1 : Shape := ⟨2, ![51, 1]⟩
abbrev S1x51 : Shape := ⟨2, ![1, 51]⟩
abbrev S51x51 : Shape := ⟨2, ![51, 51]⟩

class Facts : Prop where
  bcast_S_S51 : S_.BroadcastsInDim S51 (![] : Fin 0 → Fin S51.rank)
  slices_S51_S1_0 : S51.Slices ![0] S1
  bcast_S_S1 : S_.BroadcastsInDim S1 (![] : Fin 0 → Fin S1.rank)
  slices_S51_S1_50 : S51.Slices ![50] S1
  slices_S51_S50_0 : S51.Slices ![0] S50
  slices_S51_S50_1 : S51.Slices ![1] S50
  bcast_S_S50 : S_.BroadcastsInDim S50 (![] : Fin 0 → Fin S50.rank)
  bcast_S1_S50_0 : S1.BroadcastsInDim S50 (![0] : Fin 1 → Fin S50.rank)
  bcast_S51_S51x1_0 : S51.BroadcastsInDim S51x1 (![0] : Fin 1 → Fin S51x1.rank)
  bcast_S51_S1x51_1 : S51.BroadcastsInDim S1x51 (![1] : Fin 1 → Fin S1x51.rank)
  bcast_S51x1_S51x51_0_1 : S51x1.BroadcastsInDim S51x51 (![0, 1] : Fin 2 → Fin S51x51.rank)
  bcast_S1x51_S51x51_0_1 : S1x51.BroadcastsInDim S51x51 (![0, 1] : Fin 2 → Fin S51x51.rank)

variable [Facts]

def fn_part2 {F : FTy → Type} [FloatOps F] (main_arg0 : IVec S51 32) (main_arg2 : IVec S51 32) (main_arg3 : IVec S51 32) (main_v10 : IVec S51 1) (main_v20 : IVec S1 1) (main_v21 : IVec S51 32) (main_v38 : IVec S50 1) (main_v39 : IVec S51x1 32) : IVec S51 1 × IVec S1 1 × IVec S50 1 × IVec S51x51 1 :=
  let main_v40 : IVec S1x51 32 := broadcastInDim S1x51 ![1] bcast_S51_S1x51_1 main_v21
  let main_v41 : IVec S51x51 32 := broadcastInDim S51x51 ![0, 1] bcast_S51x1_S51x51_0_1 main_v39
  let main_v42 : IVec S51x51 32 := broadcastInDim S51x51 ![0, 1] bcast_S1x51_S51x51_0_1 main_v40
  let main_v43 : IVec S51x51 1 := cmpi .eq main_v41 main_v42
  let main_v44 : IVec S51x1 32 := broadcastInDim S51x1 ![0] bcast_S51_S51x1_0 main_arg0
  let main_v45 : IVec S1x51 32 := broadcastInDim S1x51 ![1] bcast_S51_S1x51_1 main_arg0
  let main_v46 : IVec S51x51 32 := broadcastInDim S51x51 ![0, 1] bcast_S51x1_S51x51_0_1 main_v44
  let main_v47 : IVec S51x51 32 := broadcastInDim S51x51 ![0, 1] bcast_S1x51_S51x51_0_1 main_v45
  let main_v48 : IVec S51x51 1 := cmpi .ne main_v46 main_v47
  let main_v49 : IVec S51x51 1 := ori main_v43 main_v48
  let main_v50 : IVec S51x1 32 := broadcastInDim S51x1 ![0] bcast_S51_S51x1_0 main_arg3
  let main_v51 : IVec S1x51 32 := broadcastInDim S1x51 ![1] bcast_S51_S1x51_1 main_arg2
  let main_v52 : IVec S51x51 32 := broadcastInDim S51x51 ![0, 1] bcast_S51x1_S51x51_0_1 main_v50
  let main_v53 : IVec S51x51 32 := broadcastInDim S51x51 ![0, 1] bcast_S1x51_S51x51_0_1 main_v51
  let main_v54 : IVec S51x51 1 := cmpi .sle main_v52 main_v53
  let main_v55 : IVec S51x51 1 := ori main_v49 main_v54
  let main_v56 : IVec S1x51 32 := broadcastInDim S1x51 ![1] bcast_S51_S1x51_1 main_arg3
  let main_v57 : IVec S51x1 32 := broadcastInDim S51x1 ![0] bcast_S51_S51x1_0 main_arg2
  let main_v58 : IVec S51x51 32 := broadcastInDim S51x51 ![0, 1] bcast_S1x51_S51x51_0_1 main_v56
  let main_v59 : IVec S51x51 32 := broadcastInDim S51x51 ![0, 1] bcast_S51x1_S51x51_0_1 main_v57
  let main_v60 : IVec S51x51 1 := cmpi .sle main_v58 main_v59
  let main_v61 : IVec S51x51 1 := ori main_v55 main_v60
  (main_v10, main_v20, main_v38, main_v61)

def fn_part1 {F : FTy → Type} [FloatOps F] (main_arg0 : IVec S51 32) (main_arg2 : IVec S51 32) (main_arg3 : IVec S51 32) (main_arg4 : IVec S1 32) (main_v10 : IVec S51 1) (main_v17 : IVec S1 1) : IVec S51 1 × IVec S1 1 × IVec S50 1 × IVec S51x51 1 :=
  let main_c_5 : IVec S_ 32 := constantI S_ 32 0#32
  let main_v18 : IVec S1 32 := broadcastInDim S1 ![] bcast_S_S1 main_c_5
  let main_v19 : IVec S1 1 := cmpi .sgt main_arg4 main_v18
  let main_v20 : IVec S1 1 := andi main_v17 main_v19
  let main_v21 : IVec S51 32 := iotaInDim S51 32 0
  let main_v22 : IVec S50 32 := (extractStridedSlice S50 ![0] · slices_S51_S50_0) main_arg0
  let main_v23 : IVec S50 32 := (extractStridedSlice S50 ![1] · slices_S51_S50_1) main_arg0
  let main_v24 : IVec S50 1 := cmpi .sle main_v22 main_v23
  let main_v25 : IVec S50 32 := (extractStridedSlice S50 ![1] · slices_S51_S50_1) main_arg0
  let main_v26 : IVec S50 32 := (extractStridedSlice S50 ![0] · slices_S51_S50_0) main_arg0
  let main_c_6 : IVec S_ 32 := constantI S_ 32 1#32
  let main_v27 : IVec S50 32 := broadcastInDim S50 ![] bcast_S_S50 main_c_6
  let main_v28 : IVec S50 32 := addi main_v26 main_v27
  let main_v29 : IVec S50 1 := cmpi .sle main_v25 main_v28
  let main_v30 : IVec S50 1 := andi main_v24 main_v29
  let main_v31 : IVec S50 32 := (extractStridedSlice S50 ![1] · slices_S51_S50_1) main_v21
  let main_v32 : IVec S50 32 := broadcastInDim S50 ![0] bcast_S1_S50_0 main_arg4
  let main_v33 : IVec S50 1 := cmpi .slt main_v31 main_v32
  let main_v34 : IVec S50 32 := (extractStridedSlice S50 ![1] · slices_S51_S50_1) main_arg0
  let main_v35 : IVec S50 32 := (extractStridedSlice S50 ![0] · slices_S51_S50_0) main_arg0
  let main_v36 : IVec S50 1 := cmpi .eq main_v34 main_v35
  let main_v37 : IVec S50 1 := ori main_v33 main_v36
  let main_v38 : IVec S50 1 := andi main_v30 main_v37
  let main_v39 : IVec S51x1 32 := broadcastInDim S51x1 ![0] bcast_S51_S51x1_0 main_v21
  fn_part2 (F := F) main_arg0 main_arg2 main_arg3 main_v10 main_v20 main_v21 main_v38 main_v39

def fn {F : FTy → Type} [FloatOps F] (main_arg0 : IVec S51 32) (main_arg1 : IVec S51 32) (main_arg2 : IVec S51 32) (main_arg3 : IVec S51 32) (main_arg4 : IVec S1 32) (main_arg5 : FVec F S294912x128 .f32) (main_arg6 : FVec F S2x16x2048x512 .f32) (main_arg7 : FVec F S2x16x2048x512 .f32) (main_arg8 : FVec F S2x16x512x2048 .f32) : IVec S51 1 × IVec S1 1 × IVec S50 1 × IVec S51x51 1 :=
  let main_c : IVec S_ 32 := constantI S_ 32 0#32
  let main_v0 : IVec S51 32 := broadcastInDim S51 ![] bcast_S_S51 main_c
  let main_v1 : IVec S51 1 := cmpi .sge main_arg0 main_v0
  let main_c_0 : IVec S_ 32 := constantI S_ 32 36#32
  let main_v2 : IVec S51 32 := broadcastInDim S51 ![] bcast_S_S51 main_c_0
  let main_v3 : IVec S51 1 := cmpi .slt main_arg0 main_v2
  let main_v4 : IVec S51 1 := andi main_v1 main_v3
  let main_c_1 : IVec S_ 32 := constantI S_ 32 0#32
  let main_v5 : IVec S51 32 := broadcastInDim S51 ![] bcast_S_S51 main_c_1
  let main_v6 : IVec S51 1 := cmpi .sge main_arg1 main_v5
  let main_v7 : IVec S51 1 := andi main_v4 main_v6
  let main_c_2 : IVec S_ 32 := constantI S_ 32 16#32
  let main_v8 : IVec S51 32 := broadcastInDim S51 ![] bcast_S_S51 main_c_2
  let main_v9 : IVec S51 1 := cmpi .slt main_arg1 main_v8
  let main_v10 : IVec S51 1 := andi main_v7 main_v9
  let main_v11 : IVec S1 32 := (extractStridedSlice S1 ![0] · slices_S51_S1_0) main_arg0
  let main_c_3 : IVec S_ 32 := constantI S_ 32 0#32
  let main_v12 : IVec S1 32 := broadcastInDim S1 ![] bcast_S_S1 main_c_3
  let main_v13 : IVec S1 1 := cmpi .eq main_v11 main_v12
  let main_v14 : IVec S1 32 := (extractStridedSlice S1 ![50] · slices_S51_S1_50) main_arg0
  let main_c_4 : IVec S_ 32 := constantI S_ 32 35#32
  let main_v15 : IVec S1 32 := broadcastInDim S1 ![] bcast_S_S1 main_c_4
  let main_v16 : IVec S1 1 := cmpi .eq main_v14 main_v15
  let main_v17 : IVec S1 1 := andi main_v13 main_v16
  fn_part1 (F := F) main_arg0 main_arg2 main_arg3 main_arg4 main_v10 main_v17
-- ==== Kv.lean ====
abbrev S1x256x2048 : Shape := ⟨3, ![1, 256, 2048]⟩
abbrev S2x2048x2048 : Shape := ⟨3, ![2, 2048, 2048]⟩
abbrev S256x2048 : Shape := ⟨2, ![256, 2048]⟩
abbrev S2x256x2048 : Shape := ⟨3, ![2, 256, 2048]⟩
abbrev S1x2048x512 : Shape := ⟨3, ![1, 2048, 512]⟩
abbrev S1x256x512 : Shape := ⟨3, ![1, 256, 512]⟩
abbrev S2048x512 : Shape := ⟨2, ![2048, 512]⟩
abbrev S256x512 : Shape := ⟨2, ![256, 512]⟩

abbrev nBuf : Space → Nat
  | .hbm => 5
  | .vmem => 7
  | .smem => 0
  | _ => 0

abbrev bufTy : (tb : Table) → Fin (tcTables nBuf tb) → BufTy
  | .hbm, ⟨0, _⟩ => ⟨S1x256x2048, .f32⟩
  | .hbm, ⟨1, _⟩ => ⟨S2x2048x2048, .f32⟩
  | .hbm, ⟨2, _⟩ => ⟨S256x2048, .f32⟩
  | .hbm, ⟨3, _⟩ => ⟨S2x256x2048, .f32⟩
  | .hbm, ⟨4, _⟩ => ⟨S2x256x2048, .bf16⟩
  | .local _ .vmem, ⟨0, _⟩ => ⟨S256x2048, .f32⟩
  | .local _ .vmem, ⟨1, _⟩ => ⟨S1x2048x512, .f32⟩
  | .local _ .vmem, ⟨2, _⟩ => ⟨S1x2048x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .bf16⟩
  | .local _ .vmem, ⟨6, _⟩ => ⟨S1x256x512, .bf16⟩
  | _, _ => ⟨S1x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KvRefIdeal.lean ====
abbrev S1x256x2048 : Shape := ⟨3, ![1, 256, 2048]⟩
abbrev S2x2048x2048 : Shape := ⟨3, ![2, 2048, 2048]⟩
abbrev S2x2048x1x256 : Shape := ⟨4, ![2, 2048, 1, 256]⟩
abbrev S2x1x256x2048 : Shape := ⟨4, ![2, 1, 256, 2048]⟩
abbrev S2x256x2048 : Shape := ⟨3, ![2, 256, 2048]⟩

abbrev nBuf : Space → Nat
  | .hbm => 6
  | .vmem => 0
  | .smem => 0
  | _ => 0

abbrev bufTy : (tb : Table) → Fin (tcTables nBuf tb) → BufTy
  | .hbm, ⟨0, _⟩ => ⟨S1x256x2048, .f32⟩
  | .hbm, ⟨1, _⟩ => ⟨S2x2048x2048, .f32⟩
  | .hbm, ⟨2, _⟩ => ⟨S2x2048x1x256, .f32⟩
  | .hbm, ⟨3, _⟩ => ⟨S2x1x256x2048, .f32⟩
  | .hbm, ⟨4, _⟩ => ⟨S2x256x2048, .f32⟩
  | .hbm, ⟨5, _⟩ => ⟨S2x256x2048, .bf16⟩
  | _, _ => ⟨S1x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Exp.lean ====
abbrev S51 : Shape := ⟨1, ![51]⟩
abbrev S1 : Shape := ⟨1, ![1]⟩
abbrev S294912x128 : Shape := ⟨2, ![294912, 128]⟩
abbrev S2x16x2048x512 : Shape := ⟨4, ![2, 16, 2048, 512]⟩
abbrev S2x16x512x2048 : Shape := ⟨4, ![2, 16, 512, 2048]⟩
abbrev S8192x128 : Shape := ⟨2, ![8192, 128]⟩
abbrev S1x1x2048x512 : Shape := ⟨4, ![1, 1, 2048, 512]⟩
abbrev S1x1x512x2048 : Shape := ⟨4, ![1, 1, 512, 2048]⟩
abbrev S2048x512 : Shape := ⟨2, ![2048, 512]⟩
abbrev S512x2048 : Shape := ⟨2, ![512, 2048]⟩
abbrev S512x128 : Shape := ⟨2, ![512, 128]⟩
abbrev S512x512 : Shape := ⟨2, ![512, 512]⟩
abbrev S512x1 : Shape := ⟨2, ![512, 1]⟩

abbrev nBuf : Space → Nat
  | .hbm => 5
  | .vmem => 13
  | .smem => 5
  | _ => 0

abbrev bufTy : (tb : Table) → Fin (tcTables nBuf tb) → BufTy
  | .hbm, ⟨0, _⟩ => ⟨S294912x128, .f32⟩
  | .hbm, ⟨1, _⟩ => ⟨S2x16x2048x512, .f32⟩
  | .hbm, ⟨2, _⟩ => ⟨S2x16x2048x512, .f32⟩
  | .hbm, ⟨3, _⟩ => ⟨S2x16x512x2048, .f32⟩
  | .hbm, ⟨4, _⟩ => ⟨S294912x128, .f32⟩
  | .local _ .vmem, ⟨0, _⟩ => ⟨S8192x128, .f32⟩
  | .local _ .vmem, ⟨1, _⟩ => ⟨S8192x128, .f32⟩
  | .local _ .vmem, ⟨2, _⟩ => ⟨S1x1x2048x512, .f32⟩
  | .local _ .vmem, ⟨3, _⟩ => ⟨S1x1x2048x512, .f32⟩
  | .local _ .vmem, ⟨4, _⟩ => ⟨S1x1x2048x512, .f32⟩
  | .local _ .vmem, ⟨5, _⟩ => ⟨S1x1x2048x512, .f32⟩
  | .local _ .vmem, ⟨6, _⟩ => ⟨S1x1x512x2048, .f32⟩
  | .local _ .vmem, ⟨7, _⟩ => ⟨S1x1x512x2048, .f32⟩
  | .local _ .vmem, ⟨8, _⟩ => ⟨S8192x128, .f32⟩
  | .local _ .vmem, ⟨9, _⟩ => ⟨S8192x128, .f32⟩
  | .local _ .vmem, ⟨10, _⟩ => ⟨S2048x512, .bf16⟩
  | .local _ .vmem, ⟨11, _⟩ => ⟨S2048x512, .bf16⟩
  | .local _ .vmem, ⟨12, _⟩ => ⟨S512x2048, .bf16⟩
  | .local _ .smem, ⟨0, _⟩ => ⟨S51, .i32⟩
  | .local _ .smem, ⟨1, _⟩ => ⟨S51, .i32⟩
  | .local _ .smem, ⟨2, _⟩ => ⟨S51, .i32⟩
  | .local _ .smem, ⟨3, _⟩ => ⟨S51, .i32⟩
  | .local _ .smem, ⟨4, _⟩ => ⟨S1, .i32⟩
  | _, _ => ⟨S294912x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg5 : Ref sig .tc := ⟨.hbm, 0, rfl⟩
abbrev main_arg6 : Ref sig .tc := ⟨.hbm, 1, rfl⟩
abbrev main_arg7 : Ref sig .tc := ⟨.hbm, 2, rfl⟩
abbrev main_arg8 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev main_arg3 : Ref sig .tc := ⟨.smem, 3, rfl⟩
abbrev main_arg4 : Ref sig .tc := ⟨.smem, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![51], ![false]⟩

abbrev pre0 : Pipeline.Prefetch sig := ⟨5, ![main_arg0.idx, main_arg1.idx, main_arg2.idx, main_arg3.idx, main_arg4.idx], fun | 0 => main_arg0.names | 1 => main_arg1.names | 2 => main_arg2.names | 3 => main_arg3.names | 4 => main_arg4.names | ⟨_ + 5, h⟩ => absurd h (Nat.not_lt.2 (Nat.le_add_left _ _)), fun | 0 => rfl | 1 => rfl | 2 => rfl | 3 => rfl | 4 => rfl | ⟨_ + 5, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v7 : Index := Scalar.indexCast arg0
  ![v7.toNat]
def k0_off3 (i : grid0.Coords) : Fin 1 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let v9 : Index := Scalar.indexCast v1
  ![v9.toNat]
def k0_off4 (i : grid0.Coords) : Fin 1 → Nat :=
  let arg0 : BitVec 32 := BitVec.ofNat 32 (i 0).val
  let v44 : Index := Scalar.indexCast arg0
  ![v44.toNat]
def k0_off5 (i : grid0.Coords) : Fin 1 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let v56 : Index := Scalar.indexCast v1
  ![v56.toNat]
def k0_cond1 (i : grid0.Coords) (v2 : BitVec 32) : BitVec 1 :=
  let arg0 : BitVec 32 := BitVec.ofNat 32 (i 0).val
  let v3 : BitVec 1 := Scalar.cmpi .slt arg0 v2
  let v4 : BitVec 32 := Scalar.extui v3
  let c0_i32_0 : BitVec 32 := 0#32
  let v5 : BitVec 1 := Scalar.cmpi .ne v4 c0_i32_0
  v5

def k0_cond3 (i : grid0.Coords) (v55 : BitVec 32) (v57 : BitVec 32) : BitVec 1 :=
  let arg0 : BitVec 32 := BitVec.ofNat 32 (i 0).val
  let c0_i32_28 : BitVec 32 := 0#32
  let v53 : BitVec 1 := Scalar.cmpi .eq arg0 c0_i32_28
  let v58 : BitVec 1 := Scalar.cmpi .ne v55 v57
  let v59 : BitVec 1 := Scalar.ori v53 v58
  let v60 : BitVec 32 := Scalar.extui v59
  let c0_i32_29 : BitVec 32 := 0#32
  let v61 : BitVec 1 := Scalar.cmpi .ne v60 c0_i32_29
  v61

def k0_cond4 (i : grid0.Coords) (v55 : BitVec 32) (v57 : BitVec 32) : BitVec 1 :=
  let arg0 : BitVec 32 := BitVec.ofNat 32 (i 0).val
  let c0_i32_28 : BitVec 32 := 0#32
  let v53 : BitVec 1 := Scalar.cmpi .eq arg0 c0_i32_28
  let v58 : BitVec 1 := Scalar.cmpi .ne v55 v57
  let v59 : BitVec 1 := Scalar.ori v53 v58
  let v_true : BitVec 1 := 1#1
  let v62 : BitVec 1 := Scalar.xori v59 v_true
  let v63 : BitVec 32 := Scalar.extui v62
  let c0_i32_30 : BitVec 32 := 0#32
  let v64 : BitVec 1 := Scalar.cmpi .ne v63 c0_i32_30
  v64

def cc0_transform_0 (k0_off1_inb : ∀ i : grid0.Coords, ∀ a, (k0_off1 i) a + S1.size a ≤ S51.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S51) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S51.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 1 (Rect.unit (s := S51) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S51.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 1 (Rect.unit (s := S51) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S51.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 1 (Rect.unit (s := S51) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (k0_off1_inb : ∀ i : grid0.Coords, ∀ a, (k0_off1 i) a + S1.size a ≤ S51.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S51) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8192x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ExpRefIdeal.lean ====
abbrev S51 : Shape := ⟨1, ![51]⟩
abbrev S1 : Shape := ⟨1, ![1]⟩
abbrev S294912x128 : Shape := ⟨2, ![294912, 128]⟩
abbrev S2x16x2048x512 : Shape := ⟨4, ![2, 16, 2048, 512]⟩
abbrev S2x16x512x2048 : Shape := ⟨4, ![2, 16, 512, 2048]⟩
abbrev S51x36x512x16 : Shape := ⟨4, ![51, 36, 512, 16]⟩
abbrev S_ : Shape := ⟨0, ![]⟩
abbrev S51x1x1x1 : Shape := ⟨4, ![51, 1, 1, 1]⟩
abbrev S36x512x16 : Shape := ⟨3, ![36, 512, 16]⟩
abbrev S18432x16 : Shape := ⟨2, ![18432, 16]⟩
abbrev S18432x2048 : Shape := ⟨2, ![18432, 2048]⟩
abbrev S1x16x2048x512 : Shape := ⟨4, ![1, 16, 2048, 512]⟩
abbrev S16x2048x512 : Shape := ⟨3, ![16, 2048, 512]⟩
abbrev S18432x16x512 : Shape := ⟨3, ![18432, 16, 512]⟩
abbrev S18432x16x1 : Shape := ⟨3, ![18432, 16, 1]⟩
abbrev S1x16x512x2048 : Shape := ⟨4, ![1, 16, 512, 2048]⟩
abbrev S16x512x2048 : Shape := ⟨3, ![16, 512, 2048]⟩

abbrev nBuf : Space → Nat
  | .hbm => 67
  | .vmem => 0
  | .smem => 0
  | _ => 0

abbrev bufTy : (tb : Table) → Fin (tcTables nBuf tb) → BufTy
  | .hbm, ⟨0, _⟩ => ⟨S51, .i32⟩
  | .hbm, ⟨1, _⟩ => ⟨S51, .i32⟩
  | .hbm, ⟨2, _⟩ => ⟨S51, .i32⟩
  | .hbm, ⟨3, _⟩ => ⟨S51, .i32⟩
  | .hbm, ⟨4, _⟩ => ⟨S1, .i32⟩
  | .hbm, ⟨5, _⟩ => ⟨S294912x128, .f32⟩
  | .hbm, ⟨6, _⟩ => ⟨S2x16x2048x512, .f32⟩
  | .hbm, ⟨7, _⟩ => ⟨S2x16x2048x512, .f32⟩
  | .hbm, ⟨8, _⟩ => ⟨S2x16x512x2048, .f32⟩
  | .hbm, ⟨9, _⟩ => ⟨S51x36x512x16, .i32⟩
  | .hbm, ⟨10, _⟩ => ⟨S51x36x512x16, .i32⟩
  | .hbm, ⟨11, _⟩ => ⟨S51x36x512x16, .i32⟩
  | .hbm, ⟨12, _⟩ => ⟨S51x36x512x16, .i32⟩
  | .hbm, ⟨13, _⟩ => ⟨S_, .i32⟩
  | .hbm, ⟨14, _⟩ => ⟨S51x36x512x16, .i32⟩
  | .hbm, ⟨15, _⟩ => ⟨S51x36x512x16, .i1⟩
  | .hbm, ⟨16, _⟩ => ⟨S51x1x1x1, .i32⟩
  | .hbm, ⟨17, _⟩ => ⟨S51x36x512x16, .i32⟩
  | .hbm, ⟨18, _⟩ => ⟨S51x36x512x16, .i1⟩
  | .hbm, ⟨19, _⟩ => ⟨S51x36x512x16, .i1⟩
  | .hbm, ⟨20, _⟩ => ⟨S51x1x1x1, .i32⟩
  | .hbm, ⟨21, _⟩ => ⟨S51x36x512x16, .i32⟩
  | .hbm, ⟨22, _⟩ => ⟨S51x36x512x16, .i1⟩
  | .hbm, ⟨23, _⟩ => ⟨S51x36x512x16, .i1⟩
  | .hbm, ⟨24, _⟩ => ⟨S51x1x1x1, .i32⟩
  | .hbm, ⟨25, _⟩ => ⟨S51x36x512x16, .i32⟩
  | .hbm, ⟨26, _⟩ => ⟨S51x36x512x16, .i1⟩
  | .hbm, ⟨27, _⟩ => ⟨S51x36x512x16, .i1⟩
  | .hbm, ⟨28, _⟩ => ⟨S51x1x1x1, .i32⟩
  | .hbm, ⟨29, _⟩ => ⟨S51x36x512x16, .i32⟩
  | .hbm, ⟨30, _⟩ => ⟨S51x36x512x16, .i1⟩
  | .hbm, ⟨31, _⟩ => ⟨S51x36x512x16, .i1⟩
  | .hbm, ⟨32, _⟩ => ⟨S_, .i1⟩
  | .hbm, ⟨33, _⟩ => ⟨S36x512x16, .i1⟩
  | .hbm, ⟨34, _⟩ => ⟨S18432x16, .i1⟩
  | .hbm, ⟨35, _⟩ => ⟨S18432x2048, .f32⟩
  | .hbm, ⟨36, _⟩ => ⟨S18432x2048, .bf16⟩
  | .hbm, ⟨37, _⟩ => ⟨S1x16x2048x512, .f32⟩
  | .hbm, ⟨38, _⟩ => ⟨S16x2048x512, .f32⟩
  | .hbm, ⟨39, _⟩ => ⟨S16x2048x512, .bf16⟩
  | .hbm, ⟨40, _⟩ => ⟨S18432x16x512, .f32⟩
  | .hbm, ⟨41, _⟩ => ⟨S1x16x2048x512, .f32⟩
  | .hbm, ⟨42, _⟩ => ⟨S16x2048x512, .f32⟩
  | .hbm, ⟨43, _⟩ => ⟨S16x2048x512, .bf16⟩
  | .hbm, ⟨44, _⟩ => ⟨S18432x16x512, .f32⟩
  | .hbm, ⟨45, _⟩ => ⟨S18432x16x1, .i1⟩
  | .hbm, ⟨46, _⟩ => ⟨S18432x16x512, .f32⟩
  | .hbm, ⟨47, _⟩ => ⟨S18432x16x512, .f32⟩
  | .hbm, ⟨48, _⟩ => ⟨S_, .f32⟩
  | .hbm, ⟨49, _⟩ => ⟨S18432x16x512, .f32⟩
  | .hbm, ⟨50, _⟩ => ⟨S18432x16x512, .f32⟩
  | .hbm, ⟨51, _⟩ => ⟨S_, .f32⟩
  | .hbm, ⟨52, _⟩ => ⟨S18432x16x512, .f32⟩
  | .hbm, ⟨53, _⟩ => ⟨S18432x16x512, .f32⟩
  | .hbm, ⟨54, _⟩ => ⟨S18432x16x512, .f32⟩
  | .hbm, ⟨55, _⟩ => ⟨S18432x16x512, .f32⟩
  | .hbm, ⟨56, _⟩ => ⟨S_, .f32⟩
  | .hbm, ⟨57, _⟩ => ⟨S_, .f32⟩
  | .hbm, ⟨58, _⟩ => ⟨S18432x16x512, .i1⟩
  | .hbm, ⟨59, _⟩ => ⟨S18432x16x512, .f32⟩
  | .hbm, ⟨60, _⟩ => ⟨S18432x16x512, .f32⟩
  | .hbm, ⟨61, _⟩ => ⟨S18432x16x512, .bf16⟩
  | .hbm, ⟨62, _⟩ => ⟨S1x16x512x2048, .f32⟩
  | .hbm, ⟨63, _⟩ => ⟨S16x512x2048, .f32⟩
  | .hbm, ⟨64, _⟩ => ⟨S16x512x2048, .bf16⟩
  | .hbm, ⟨65, _⟩ => ⟨S18432x2048, .f32⟩
  | .hbm, ⟨66, _⟩ => ⟨S294912x128, .f32⟩
  | _, _ => ⟨S51, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst : Ref sig .tc := ⟨.hbm, 48, rfl⟩
abbrev main_v38 : Ref sig .tc := ⟨.hbm, 49, rfl⟩
abbrev main_v39 : Ref sig .tc := ⟨.hbm, 50, rfl⟩
abbrev main_cst_0 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_1 : Ref sig .tc := ⟨.hbm, 56, rfl⟩
abbrev main_call0_v0 : Ref sig .tc := ⟨.hbm, 57, rfl⟩
abbrev main_call0_v1 : Ref sig .tc := ⟨.hbm, 58, rfl⟩
abbrev main_call0_v2 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩

abbrev nD : Nat := 1
abbrev τ : Topo := Topo.v7x

variable {F : FTy → Type} [FloatOps F]
-- ==== Last.lean ====
abbrev S51 : Shape := ⟨1, ![51]⟩
abbrev S1 : Shape := ⟨1, ![1]⟩
abbrev S294912x128 : Shape := ⟨2, ![294912, 128]⟩
abbrev S2x16x2048x512 : Shape := ⟨4, ![2, 16, 2048, 512]⟩
abbrev S2x16x512x2048 : Shape := ⟨4, ![2, 16, 512, 2048]⟩
abbrev S8192x128 : Shape := ⟨2, ![8192, 128]⟩
abbrev S1x1x2048x512 : Shape := ⟨4, ![1, 1, 2048, 512]⟩
abbrev S1x1x512x2048 : Shape := ⟨4, ![1, 1, 512, 2048]⟩
abbrev S2048x512 : Shape := ⟨2, ![2048, 512]⟩
abbrev S512x2048 : Shape := ⟨2, ![512, 2048]⟩
abbrev S512x128 : Shape := ⟨2, ![512, 128]⟩
abbrev S512x512 : Shape := ⟨2, ![512, 512]⟩
abbrev S512x1 : Shape := ⟨2, ![512, 1]⟩

abbrev nBuf : Space → Nat
  | .hbm => 5
  | .vmem => 13
  | .smem => 5
  | _ => 0

abbrev bufTy : (tb : Table) → Fin (tcTables nBuf tb) → BufTy
  | .hbm, ⟨0, _⟩ => ⟨S294912x128, .f32⟩
  | .hbm, ⟨1, _⟩ => ⟨S2x16x2048x512, .f32⟩
  | .hbm, ⟨2, _⟩ => ⟨S2x16x2048x512, .f32⟩
  | .hbm, ⟨3, _⟩ => ⟨S2x16x512x2048, .f32⟩
  | .hbm, ⟨4, _⟩ => ⟨S294912x128, .f32⟩
  | .local _ .vmem, ⟨0, _⟩ => ⟨S8192x128, .f32⟩
  | .local _ .vmem, ⟨1, _⟩ => ⟨S8192x128, .f32⟩
  | .local _ .vmem, ⟨2, _⟩ => ⟨S1x1x2048x512, .f32⟩
  | .local _ .vmem, ⟨3, _⟩ => ⟨S1x1x2048x512, .f32⟩
  | .local _ .vmem, ⟨4, _⟩ => ⟨S1x1x2048x512, .f32⟩
  | .local _ .vmem, ⟨5, _⟩ => ⟨S1x1x2048x512, .f32⟩
  | .local _ .vmem, ⟨6, _⟩ => ⟨S1x1x512x2048, .f32⟩
  | .local _ .vmem, ⟨7, _⟩ => ⟨S1x1x512x2048, .f32⟩
  | .local _ .vmem, ⟨8, _⟩ => ⟨S8192x128, .f32⟩
  | .local _ .vmem, ⟨9, _⟩ => ⟨S8192x128, .f32⟩
  | .local _ .vmem, ⟨10, _⟩ => ⟨S2048x512, .bf16⟩
  | .local _ .vmem, ⟨11, _⟩ => ⟨S2048x512, .bf16⟩
  | .local _ .vmem, ⟨12, _⟩ => ⟨S512x2048, .bf16⟩
  | .local _ .smem, ⟨0, _⟩ => ⟨S51, .i32⟩
  | .local _ .smem, ⟨1, _⟩ => ⟨S51, .i32⟩
  | .local _ .smem, ⟨2, _⟩ => ⟨S51, .i32⟩
  | .local _ .smem, ⟨3, _⟩ => ⟨S51, .i32⟩
  | .local _ .smem, ⟨4, _⟩ => ⟨S1, .i32⟩
  | _, _ => ⟨S294912x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg5 : Ref sig .tc := ⟨.hbm, 0, rfl⟩
abbrev main_arg6 : Ref sig .tc := ⟨.hbm, 1, rfl⟩
abbrev main_arg7 : Ref sig .tc := ⟨.hbm, 2, rfl⟩
abbrev main_arg8 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev main_arg3 : Ref sig .tc := ⟨.smem, 3, rfl⟩
abbrev main_arg4 : Ref sig .tc := ⟨.smem, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![51], ![false]⟩

abbrev pre0 : Pipeline.Prefetch sig := ⟨5, ![main_arg0.idx, main_arg1.idx, main_arg2.idx, main_arg3.idx, main_arg4.idx], fun | 0 => main_arg0.names | 1 => main_arg1.names | 2 => main_arg2.names | 3 => main_arg3.names | 4 => main_arg4.names | ⟨_ + 5, h⟩ => absurd h (Nat.not_lt.2 (Nat.le_add_left _ _)), fun | 0 => rfl | 1 => rfl | 2 => rfl | 3 => rfl | 4 => rfl | ⟨_ + 5, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v7 : Index := Scalar.indexCast arg0
  ![v7.toNat]
def k0_off3 (i : grid0.Coords) : Fin 1 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let v9 : Index := Scalar.indexCast v1
  ![v9.toNat]
def k0_off4 (i : grid0.Coords) : Fin 1 → Nat :=
  let arg0 : BitVec 32 := BitVec.ofNat 32 (i 0).val
  let v44 : Index := Scalar.indexCast arg0
  ![v44.toNat]
def k0_off5 (i : grid0.Coords) : Fin 1 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let v56 : Index := Scalar.indexCast v1
  ![v56.toNat]
def k0_cond1 (i : grid0.Coords) (v2 : BitVec 32) : BitVec 1 :=
  let arg0 : BitVec 32 := BitVec.ofNat 32 (i 0).val
  let v3 : BitVec 1 := Scalar.cmpi .slt arg0 v2
  let v4 : BitVec 32 := Scalar.extui v3
  let c0_i32_0 : BitVec 32 := 0#32
  let v5 : BitVec 1 := Scalar.cmpi .ne v4 c0_i32_0
  v5

def k0_cond3 (i : grid0.Coords) (v55 : BitVec 32) (v57 : BitVec 32) : BitVec 1 :=
  let arg0 : BitVec 32 := BitVec.ofNat 32 (i 0).val
  let c0_i32_28 : BitVec 32 := 0#32
  let v53 : BitVec 1 := Scalar.cmpi .eq arg0 c0_i32_28
  let v58 : BitVec 1 := Scalar.cmpi .ne v55 v57
  let v59 : BitVec 1 := Scalar.ori v53 v58
  let v60 : BitVec 32 := Scalar.extui v59
  let c0_i32_29 : BitVec 32 := 0#32
  let v61 : BitVec 1 := Scalar.cmpi .ne v60 c0_i32_29
  v61

def k0_cond4 (i : grid0.Coords) (v55 : BitVec 32) (v57 : BitVec 32) : BitVec 1 :=
  let arg0 : BitVec 32 := BitVec.ofNat 32 (i 0).val
  let c0_i32_28 : BitVec 32 := 0#32
  let v53 : BitVec 1 := Scalar.cmpi .eq arg0 c0_i32_28
  let v58 : BitVec 1 := Scalar.cmpi .ne v55 v57
  let v59 : BitVec 1 := Scalar.ori v53 v58
  let v_true : BitVec 1 := 1#1
  let v62 : BitVec 1 := Scalar.xori v59 v_true
  let v63 : BitVec 32 := Scalar.extui v62
  let c0_i32_30 : BitVec 32 := 0#32
  let v64 : BitVec 1 := Scalar.cmpi .ne v63 c0_i32_30
  v64

def cc0_transform_0 (k0_off1_inb : ∀ i : grid0.Coords, ∀ a, (k0_off1 i) a + S1.size a ≤ S51.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S51) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S51.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 1 (Rect.unit (s := S51) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_2 (k0_off1_inb : ∀ i : grid0.Coords, ∀ a, (k0_off1 i) a + S1.size a ≤ S51.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 1 (Rect.unit (s := S51) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_3 (k0_off1_inb : ∀ i : grid0.Coords, ∀ a, (k0_off1 i) a + S1.size a ≤ S51.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 1 (Rect.unit (s := S51) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_4 (k0_off1_inb : ∀ i : grid0.Coords, ∀ a, (k0_off1 i) a + S1.size a ≤ S51.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S51) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8192x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== LastRefIdeal.lean ====
abbrev S51 : Shape := ⟨1, ![51]⟩
abbrev S1 : Shape := ⟨1, ![1]⟩
abbrev S294912x128 : Shape := ⟨2, ![294912, 128]⟩
abbrev S2x16x2048x512 : Shape := ⟨4, ![2, 16, 2048, 512]⟩
abbrev S2x16x512x2048 : Shape := ⟨4, ![2, 16, 512, 2048]⟩
abbrev S51x36x512x16 : Shape := ⟨4, ![51, 36, 512, 16]⟩
abbrev S_ : Shape := ⟨0, ![]⟩
abbrev S51x1x1x1 : Shape := ⟨4, ![51, 1, 1, 1]⟩
abbrev S36x512x16 : Shape := ⟨3, ![36, 512, 16]⟩
abbrev S18432x16 : Shape := ⟨2, ![18432, 16]⟩
abbrev S18432x2048 : Shape := ⟨2, ![18432, 2048]⟩
abbrev S1x16x2048x512 : Shape := ⟨4, ![1, 16, 2048, 512]⟩
abbrev S16x2048x512 : Shape := ⟨3, ![16, 2048, 512]⟩
abbrev S18432x16x512 : Shape := ⟨3, ![18432, 16, 512]⟩
abbrev S18432x16x1 : Shape := ⟨3, ![18432, 16, 1]⟩
abbrev S1x16x512x2048 : Shape := ⟨4, ![1, 16, 512, 2048]⟩
abbrev S16x512x2048 : Shape := ⟨3, ![16, 512, 2048]⟩

abbrev nBuf : Space → Nat
  | .hbm => 67
  | .vmem => 0
  | .smem => 0
  | _ => 0

abbrev bufTy : (tb : Table) → Fin (tcTables nBuf tb) → BufTy
  | .hbm, ⟨0, _⟩ => ⟨S51, .i32⟩
  | .hbm, ⟨1, _⟩ => ⟨S51, .i32⟩
  | .hbm, ⟨2, _⟩ => ⟨S51, .i32⟩
  | .hbm, ⟨3, _⟩ => ⟨S51, .i32⟩
  | .hbm, ⟨4, _⟩ => ⟨S1, .i32⟩
  | .hbm, ⟨5, _⟩ => ⟨S294912x128, .f32⟩
  | .hbm, ⟨6, _⟩ => ⟨S2x16x2048x512, .f32⟩
  | .hbm, ⟨7, _⟩ => ⟨S2x16x2048x512, .f32⟩
  | .hbm, ⟨8, _⟩ => ⟨S2x16x512x2048, .f32⟩
  | .hbm, ⟨9, _⟩ => ⟨S51x36x512x16, .i32⟩
  | .hbm, ⟨10, _⟩ => ⟨S51x36x512x16, .i32⟩
  | .hbm, ⟨11, _⟩ => ⟨S51x36x512x16, .i32⟩
  | .hbm, ⟨12, _⟩ => ⟨S51x36x512x16, .i32⟩
  | .hbm, ⟨13, _⟩ => ⟨S_, .i32⟩
  | .hbm, ⟨14, _⟩ => ⟨S51x36x512x16, .i32⟩
  | .hbm, ⟨15, _⟩ => ⟨S51x36x512x16, .i1⟩
  | .hbm, ⟨16, _⟩ => ⟨S51x1x1x1, .i32⟩
  | .hbm, ⟨17, _⟩ => ⟨S51x36x512x16, .i32⟩
  | .hbm, ⟨18, _⟩ => ⟨S51x36x512x16, .i1⟩
  | .hbm, ⟨19, _⟩ => ⟨S51x36x512x16, .i1⟩
  | .hbm, ⟨20, _⟩ => ⟨S51x1x1x1, .i32⟩
  | .hbm, ⟨21, _⟩ => ⟨S51x36x512x16, .i32⟩
  | .hbm, ⟨22, _⟩ => ⟨S51x36x512x16, .i1⟩
  | .hbm, ⟨23, _⟩ => ⟨S51x36x512x16, .i1⟩
  | .hbm, ⟨24, _⟩ => ⟨S51x1x1x1, .i32⟩
  | .hbm, ⟨25, _⟩ => ⟨S51x36x512x16, .i32⟩
  | .hbm, ⟨26, _⟩ => ⟨S51x36x512x16, .i1⟩
  | .hbm, ⟨27, _⟩ => ⟨S51x36x512x16, .i1⟩
  | .hbm, ⟨28, _⟩ => ⟨S51x1x1x1, .i32⟩
  | .hbm, ⟨29, _⟩ => ⟨S51x36x512x16, .i32⟩
  | .hbm, ⟨30, _⟩ => ⟨S51x36x512x16, .i1⟩
  | .hbm, ⟨31, _⟩ => ⟨S51x36x512x16, .i1⟩
  | .hbm, ⟨32, _⟩ => ⟨S_, .i1⟩
  | .hbm, ⟨33, _⟩ => ⟨S36x512x16, .i1⟩
  | .hbm, ⟨34, _⟩ => ⟨S18432x16, .i1⟩
  | .hbm, ⟨35, _⟩ => ⟨S18432x2048, .f32⟩
  | .hbm, ⟨36, _⟩ => ⟨S18432x2048, .bf16⟩
  | .hbm, ⟨37, _⟩ => ⟨S1x16x2048x512, .f32⟩
  | .hbm, ⟨38, _⟩ => ⟨S16x2048x512, .f32⟩
  | .hbm, ⟨39, _⟩ => ⟨S16x2048x512, .bf16⟩
  | .hbm, ⟨40, _⟩ => ⟨S18432x16x512, .f32⟩
  | .hbm, ⟨41, _⟩ => ⟨S1x16x2048x512, .f32⟩
  | .hbm, ⟨42, _⟩ => ⟨S16x2048x512, .f32⟩
  | .hbm, ⟨43, _⟩ => ⟨S16x2048x512, .bf16⟩
  | .hbm, ⟨44, _⟩ => ⟨S18432x16x512, .f32⟩
  | .hbm, ⟨45, _⟩ => ⟨S18432x16x1, .i1⟩
  | .hbm, ⟨46, _⟩ => ⟨S18432x16x512, .f32⟩
  | .hbm, ⟨47, _⟩ => ⟨S18432x16x512, .f32⟩
  | .hbm, ⟨48, _⟩ => ⟨S_, .f32⟩
  | .hbm, ⟨49, _⟩ => ⟨S18432x16x512, .f32⟩
  | .hbm, ⟨50, _⟩ => ⟨S18432x16x512, .f32⟩
  | .hbm, ⟨51, _⟩ => ⟨S_, .f32⟩
  | .hbm, ⟨52, _⟩ => ⟨S18432x16x512, .f32⟩
  | .hbm, ⟨53, _⟩ => ⟨S18432x16x512, .f32⟩
  | .hbm, ⟨54, _⟩ => ⟨S18432x16x512, .f32⟩
  | .hbm, ⟨55, _⟩ => ⟨S18432x16x512, .f32⟩
  | .hbm, ⟨56, _⟩ => ⟨S_, .f32⟩
  | .hbm, ⟨57, _⟩ => ⟨S_, .f32⟩
  | .hbm, ⟨58, _⟩ => ⟨S18432x16x512, .i1⟩
  | .hbm, ⟨59, _⟩ => ⟨S18432x16x512, .f32⟩
  | .hbm, ⟨60, _⟩ => ⟨S18432x16x512, .f32⟩
  | .hbm, ⟨61, _⟩ => ⟨S18432x16x512, .bf16⟩
  | .hbm, ⟨62, _⟩ => ⟨S1x16x512x2048, .f32⟩
  | .hbm, ⟨63, _⟩ => ⟨S16x512x2048, .f32⟩
  | .hbm, ⟨64, _⟩ => ⟨S16x512x2048, .bf16⟩
  | .hbm, ⟨65, _⟩ => ⟨S18432x2048, .f32⟩
  | .hbm, ⟨66, _⟩ => ⟨S294912x128, .f32⟩
  | _, _ => ⟨S51, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst : Ref sig .tc := ⟨.hbm, 48, rfl⟩
abbrev main_v38 : Ref sig .tc := ⟨.hbm, 49, rfl⟩
abbrev main_v39 : Ref sig .tc := ⟨.hbm, 50, rfl⟩
abbrev main_cst_0 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_1 : Ref sig .tc := ⟨.hbm, 56, rfl⟩
abbrev main_call0_v0 : Ref sig .tc := ⟨.hbm, 57, rfl⟩
abbrev main_call0_v1 : Ref sig .tc := ⟨.hbm, 58, rfl⟩
abbrev main_call0_v2 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩

abbrev nD : Nat := 1
abbrev τ : Topo := Topo.v7x

variable {F : FTy → Type} [FloatOps F]
-- ==== MmLn.lean ====
abbrev S9216x2048 : Shape := ⟨2, ![9216, 2048]⟩
abbrev S1x2048 : Shape := ⟨2, ![1, 2048]⟩
abbrev S1x2048x2048 : Shape := ⟨3, ![1, 2048, 2048]⟩
abbrev S512x2048 : Shape := ⟨2, ![512, 2048]⟩
abbrev S2048x2048 : Shape := ⟨2, ![2048, 2048]⟩
abbrev S2x128x2048 : Shape := ⟨3, ![2, 128, 2048]⟩
abbrev S2 : Shape := ⟨1, ![2]⟩
abbrev S1 : Shape := ⟨1, ![1]⟩
abbrev S_ : Shape := ⟨0, ![]⟩
abbrev S1x128x2048 : Shape := ⟨3, ![1, 128, 2048]⟩
abbrev S128x2048 : Shape := ⟨2, ![128, 2048]⟩
abbrev S512 : Shape := ⟨1, ![512]⟩
abbrev S512x1 : Shape := ⟨2, ![512, 1]⟩

abbrev nBuf : Space → Nat
  | .hbm => 6
  | .vmem => 12
  | .smem => 0
  | _ => 0

abbrev bufTy : (tb : Table) → Fin (tcTables nBuf tb) → BufTy
  | .hbm, ⟨0, _⟩ => ⟨S9216x2048, .bf16⟩
  | .hbm, ⟨1, _⟩ => ⟨S9216x2048, .f32⟩
  | .hbm, ⟨2, _⟩ => ⟨S1x2048, .f32⟩
  | .hbm, ⟨3, _⟩ => ⟨S1x2048, .f32⟩
  | .hbm, ⟨4, _⟩ => ⟨S1x2048x2048, .f32⟩
  | .hbm, ⟨5, _⟩ => ⟨S9216x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S2048x2048, .bf16⟩
  | .local _ .vmem, ⟨9, _⟩ => ⟨S2x128x2048, .f32⟩
  | .local _ .vmem, ⟨10, _⟩ => ⟨S512x2048, .f32⟩
  | .local _ .vmem, ⟨11, _⟩ => ⟨S512x2048, .f32⟩
  | _, _ => ⟨S9216x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![19], ![false]⟩

def k0_cond2 (i : grid0.Coords) : BitVec 1 :=
  let arg0 : BitVec 32 := BitVec.ofNat 32 (i 0).val
  let c18_i32 : BitVec 32 := 18#32
  let v3 : BitVec 1 := Scalar.cmpi .slt arg0 c18_i32
  let c2_i32 : BitVec 32 := 2#32
  let c0_i32_1 : BitVec 32 := 0#32
  let v4 : BitVec 1 := Scalar.cmpi .eq c2_i32 c0_i32_1
  let c1_i32 : BitVec 32 := 1#32
  let v5 : BitVec 32 := Scalar.select v4 c1_i32 c2_i32
  let v6 : BitVec 32 := Scalar.remsi arg0 v5
  let c0_i32_3 : BitVec 32 := 0#32
  let v8 : BitVec 1 := Scalar.cmpi .slt v6 c0_i32_3
  let c0_i32_4 : BitVec 32 := 0#32
  let v9 : BitVec 1 := Scalar.cmpi .slt v5 c0_i32_4
  let v10 : BitVec 1 := Scalar.xori v8 v9
  let c0_i32_2 : BitVec 32 := 0#32
  let v7 : BitVec 1 := Scalar.cmpi .ne v6 c0_i32_2
  let v11 : BitVec 1 := Scalar.andi v10 v7
  let v12 : BitVec 32 := Scalar.addi v6 v5
  let v13 : BitVec 32 := Scalar.select v11 v12 v6
  let c0_i32_5 : BitVec 32 := 0#32
  let v14 : BitVec 1 := Scalar.cmpi .eq v13 c0_i32_5
  let v15 : BitVec 1 := Scalar.andi v3 v14
  let v16 : BitVec 32 := Scalar.extui v15
  let c0_i32_6 : BitVec 32 := 0#32
  let v17 : BitVec 1 := Scalar.cmpi .ne v16 c0_i32_6
  v17

def k0_cond3 (i : grid0.Coords) : BitVec 1 :=
  let arg0 : BitVec 32 := BitVec.ofNat 32 (i 0).val
  let c18_i32_7 : BitVec 32 := 18#32
  let v18 : BitVec 1 := Scalar.cmpi .slt arg0 c18_i32_7
  let c2_i32_8 : BitVec 32 := 2#32
  let c0_i32_9 : BitVec 32 := 0#32
  let v19 : BitVec 1 := Scalar.cmpi .eq c2_i32_8 c0_i32_9
  let c1_i32_10 : BitVec 32 := 1#32
  let v20 : BitVec 32 := Scalar.select v19 c1_i32_10 c2_i32_8
  let v21 : BitVec 32 := Scalar.remsi arg0 v20
  let c0_i32_12 : BitVec 32 := 0#32
  let v23 : BitVec 1 := Scalar.cmpi .slt v21 c0_i32_12
  let c0_i32_13 : BitVec 32 := 0#32
  let v24 : BitVec 1 := Scalar.cmpi .slt v20 c0_i32_13
  let v25 : BitVec 1 := Scalar.xori v23 v24
  let c0_i32_11 : BitVec 32 := 0#32
  let v22 : BitVec 1 := Scalar.cmpi .ne v21 c0_i32_11
  let v26 : BitVec 1 := Scalar.andi v25 v22
  let v27 : BitVec 32 := Scalar.addi v21 v20
  let v28 : BitVec 32 := Scalar.select v26 v27 v21
  let c1_i32_14 : BitVec 32 := 1#32
  let v29 : BitVec 1 := Scalar.cmpi .eq v28 c1_i32_14
  let v30 : BitVec 1 := Scalar.andi v18 v29
  let v31 : BitVec 32 := Scalar.extui v30
  let c0_i32_15 : BitVec 32 := 0#32
  let v32 : BitVec 1 := Scalar.cmpi .ne v31 c0_i32_15
  v32

def k0_cond4 (i : grid0.Coords) : BitVec 1 :=
  let arg0 : BitVec 32 := BitVec.ofNat 32 (i 0).val
  let c18_i32_16 : BitVec 32 := 18#32
  let v33 : BitVec 1 := Scalar.cmpi .eq arg0 c18_i32_16
  let v34 : BitVec 32 := Scalar.extui v33
  let c0_i32_17 : BitVec 32 := 0#32
  let v35 : BitVec 1 := Scalar.cmpi .ne v34 c0_i32_17
  v35

def cc0_transform_0 (i : grid0.Coords) : Fin 2 → Nat :=
  let arg0 : BitVec 32 := BitVec.ofNat 32 (i 0).val
  let c17_i32 : BitVec 32 := 17#32
  let v0 : BitVec 32 := Scalar.minsi arg0 c17_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MmLnRefIdeal.lean ====
abbrev S9216x2048 : Shape := ⟨2, ![9216, 2048]⟩
abbrev S1x2048 : Shape := ⟨2, ![1, 2048]⟩
abbrev S1x2048x2048 : Shape := ⟨3, ![1, 2048, 2048]⟩
abbrev S_ : Shape := ⟨0, ![]⟩
abbrev S2048x2048 : Shape := ⟨2, ![2048, 2048]⟩
abbrev S9216 : Shape := ⟨1, ![9216]⟩
abbrev S9216x1 : Shape := ⟨2, ![9216, 1]⟩

abbrev nBuf : Space → Nat
  | .hbm => 39
  | .vmem => 0
  | .smem => 0
  | _ => 0

abbrev bufTy : (tb : Table) → Fin (tcTables nBuf tb) → BufTy
  | .hbm, ⟨0, _⟩ => ⟨S9216x2048, .bf16⟩
  | .hbm, ⟨1, _⟩ => ⟨S9216x2048, .f32⟩
  | .hbm, ⟨2, _⟩ => ⟨S1x2048, .f32⟩
  | .hbm, ⟨3, _⟩ => ⟨S1x2048, .f32⟩
  | .hbm, ⟨4, _⟩ => ⟨S1x2048x2048, .f32⟩
  | .hbm, ⟨5, _⟩ => ⟨S_, .f32⟩
  | .hbm, ⟨6, _⟩ => ⟨S9216x2048, .f32⟩
  | .hbm, ⟨7, _⟩ => ⟨S9216x2048, .f32⟩
  | .hbm, ⟨8, _⟩ => ⟨S2048x2048, .f32⟩
  | .hbm, ⟨9, _⟩ => ⟨S2048x2048, .bf16⟩
  | .hbm, ⟨10, _⟩ => ⟨S9216x2048, .f32⟩
  | .hbm, ⟨11, _⟩ => ⟨S9216x2048, .f32⟩
  | .hbm, ⟨12, _⟩ => ⟨S_, .f32⟩
  | .hbm, ⟨13, _⟩ => ⟨S9216, .f32⟩
  | .hbm, ⟨14, _⟩ => ⟨S9216x1, .f32⟩
  | .hbm, ⟨15, _⟩ => ⟨S_, .f32⟩
  | .hbm, ⟨16, _⟩ => ⟨S9216x1, .f32⟩
  | .hbm, ⟨17, _⟩ => ⟨S9216x1, .f32⟩
  | .hbm, ⟨18, _⟩ => ⟨S9216x2048, .f32⟩
  | .hbm, ⟨19, _⟩ => ⟨S9216x2048, .f32⟩
  | .hbm, ⟨20, _⟩ => ⟨S9216x2048, .f32⟩
  | .hbm, ⟨21, _⟩ => ⟨S_, .f32⟩
  | .hbm, ⟨22, _⟩ => ⟨S9216, .f32⟩
  | .hbm, ⟨23, _⟩ => ⟨S9216x1, .f32⟩
  | .hbm, ⟨24, _⟩ => ⟨S_, .f32⟩
  | .hbm, ⟨25, _⟩ => ⟨S9216x1, .f32⟩
  | .hbm, ⟨26, _⟩ => ⟨S9216x1, .f32⟩
  | .hbm, ⟨27, _⟩ => ⟨S9216x2048, .f32⟩
  | .hbm, ⟨28, _⟩ => ⟨S9216x2048, .f32⟩
  | .hbm, ⟨29, _⟩ => ⟨S_, .f32⟩
  | .hbm, ⟨30, _⟩ => ⟨S9216x1, .f32⟩
  | .hbm, ⟨31, _⟩ => ⟨S9216x1, .f32⟩
  | .hbm, ⟨32, _⟩ => ⟨S9216x1, .f32⟩
  | .hbm, ⟨33, _⟩ => ⟨S9216x2048, .f32⟩
  | .hbm, ⟨34, _⟩ => ⟨S9216x2048, .f32⟩
  | .hbm, ⟨35, _⟩ => ⟨S9216x2048, .f32⟩
  | .hbm, ⟨36, _⟩ => ⟨S9216x2048, .f32⟩
  | .hbm, ⟨37, _⟩ => ⟨S9216x2048, .f32⟩
  | .hbm, ⟨38, _⟩ => ⟨S9216x2048, .f32⟩
  | _, _ => ⟨S9216x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== Proof.MmRuns.lean ====
module

public import proofs.«01_k».proof.Proof.Gen.MmLnIdeal.Frame.Runs
public import Idealize.ShloMosaic.Lib.VecWindow

@[expose] public section

set_option maxRecDepth 16384

noncomputable section

namespace Cert.MmLnIdeal.Mm

open Cert.MmLnIdeal Cert.MmLnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- A load of a whole buffer's own sizes reads what it holds. -/
theorem ld_big (M : Memref sig .tc .vmem S512x2048 .f32) (h : M.IsWhole) (x : Vec F S512x2048 .f32) :
    View.readAt (Elt F) M.view (Rect.unit ![0, 0] ![512, 2048] inb_S512x2048_S512x2048_0_0).toLoadRect (h.unread x) = x :=
  (View.readAt_full (Val := Elt F) M.view (h.unread x) inb_S512x2048_S512x2048_0_0).trans (h.read_unread x)
theorem ld_in (M : Memref sig .tc .vmem S512x2048 .bf16) (h : M.IsWhole) (x : Vec F S512x2048 .bf16) :
    View.readAt (Elt F) M.view (Rect.unit ![0, 0] ![512, 2048] inb_S512x2048_S512x2048_0_0).toLoadRect (h.unread x) = x :=
  (View.readAt_full (Val := Elt F) M.view (h.unread x) inb_S512x2048_S512x2048_0_0).trans (h.read_unread x)
theorem ld_row (M : Memref sig .tc .vmem S1x2048 .f32) (h : M.IsWhole) (x : Vec F S1x2048 .f32) :
    View.readAt (Elt F) M.view (Rect.unit ![0, 0] ![1, 2048] inb_S1x2048_S1x2048_0_0).toLoadRect (h.unread x) = x :=
  (View.readAt_full (Val := Elt F) M.view (h.unread x) inb_S1x2048_S1x2048_0_0).trans (h.read_unread x)
theorem ld_w (M : Memref sig .tc .vmem S2048x2048 .bf16) (h : M.IsWhole) (x : Vec F S2048x2048 .bf16) :
    View.readAt (Elt F) M.view (Rect.unit ![0, 0] ![2048, 2048] inb_S2048x2048_S2048x2048_0_0).toLoadRect (h.unread x) = x :=
  (View.readAt_full (Val := Elt F) M.view (h.unread x) inb_S2048x2048_S2048x2048_0_0).trans (h.read_unread x)

set_option maxHeartbeats 2000000 in
/-- An even point past the first: the first buffer is filled, the second is finished. -/
theorem run_even (c : Dev nD) (i : grid0.Coords) (arg1 : Memref sig .tc .vmem S512x2048 .bf16) (harg1 : arg1.IsWhole) (arg2 : Memref sig .tc .vmem S512x2048 .f32) (harg2 : arg2.IsWhole)
  (arg3 : Memref sig .tc .vmem S1x2048 .f32) (harg3 : arg3.IsWhole) (arg4 : Memref sig .tc .vmem S1x2048 .f32) (harg4 : arg4.IsWhole) (arg6 : Memref sig .tc .vmem S512x2048 .f32) (harg6 : arg6.IsWhole)
  (arg7 : Memref sig .tc .vmem S2048x2048 .bf16) (harg7 : arg7.IsWhole) (arg8 : Memref sig .tc .vmem S2x128x2048 .f32) (harg8 : arg8.IsWhole)
  (arg9 : Memref sig .tc .vmem S512x2048 .f32) (harg9 : arg9.IsWhole) (arg10 : Memref sig .tc .vmem S512x2048 .f32) (harg10 : arg10.IsWhole)
    (hc0 : ¬cond0_0 i) (hc1 : cond0_1 i) (hc2 : ¬cond0_2 i) (hc3 : ¬cond0_3 i)
    (x0 : Vec F S512x2048 .bf16) (x1 : Vec F S512x2048 .f32) (x2 : Vec F S1x2048 .f32) (x3 : Vec F S1x2048 .f32) (w : Vec F S2048x2048 .bf16) (p : Vec F S512x2048 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg6 fullShare d) ∗ owns (c : Thread nD τ) arg7 fullShare w ∗ (∃ d, owns (c : Thread nD τ) arg9 fullShare d) ∗ owns (c : Thread nD τ) arg10 fullShare p
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg6 fullShare (k0_pay21 x1 p x2 x3) ∗ owns (c : Thread nD τ) arg7 fullShare w ∗ owns (c : Thread nD τ) arg9 fullShare (k0_pay20 x0 w) ∗ owns (c : Thread nD τ) arg10 fullShare p) -∗ K ⟨⟩))
      ⊢ wp frame (wpE (defs₀ (F := F)) Variants.none c none) Set.univ (cc0_mix_out_ln i arg1 harg1 arg2 harg2 arg3 harg3 arg4 harg4 (Memref.whole main_arg4) (Memref.isWhole_whole _) arg6 harg6 arg7 harg7 arg8 harg8 arg9 harg9 arg10 harg10 cc0_scratch4) K := by
  simp only [cc0_mix_out_ln_eq_skeleton]; unfold cc0_mix_out_ln_skel
  simp only [k0_part13_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%fw, %hfw, Hw⟩, ⟨%ds2, %fs2, -, HS2⟩, ⟨%fp, %hfp, Hp⟩, Hk⟩
  obtain rfl := harg1.eq_unread hf0; obtain rfl := harg2.eq_unread hf1; obtain rfl := harg3.eq_unread hf2; obtain rfl := harg4.eq_unread hf3
  obtain rfl := harg7.eq_unread hfw; obtain rfl := harg10.eq_unread hfp
  sl_exec (disch := first | sl_exact hc0 | sl_exact hc1 | sl_exact hc2 | sl_exact hc3)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; rotate_left; · iexact H4
    ipureintro
    refine (View.read_writes_full _ _ _ _ _).trans ?_
    simp only [ld_big, ld_in, ld_row, ld_w]
  isplitl [Hw]
  · iexists _; isplitr; · ipureintro; exact harg7.read_unread _
    iexact Hw
  isplitl [HS2]
  · iexists _; isplitr; rotate_left; · iexact HS2
    ipureintro
    refine (View.read_writes_full _ _ _ _ _).trans ?_
    simp only [ld_big, ld_in, ld_row, ld_w]
  · iexists _; isplitr; · ipureintro; exact harg10.read_unread _
    iexact Hp

set_option maxHeartbeats 2000000 in
/-- An odd point: the second buffer is filled, the first is finished. -/
theorem run_odd (c : Dev nD) (i : grid0.Coords) (arg1 : Memref sig .tc .vmem S512x2048 .bf16) (harg1 : arg1.IsWhole) (arg2 : Memref sig .tc .vmem S512x2048 .f32) (harg2 : arg2.IsWhole)
  (arg3 : Memref sig .tc .vmem S1x2048 .f32) (harg3 : arg3.IsWhole) (arg4 : Memref sig .tc .vmem S1x2048 .f32) (harg4 : arg4.IsWhole) (arg6 : Memref sig .tc .vmem S512x2048 .f32) (harg6 : arg6.IsWhole)
  (arg7 : Memref sig .tc .vmem S2048x2048 .bf16) (harg7 : arg7.IsWhole) (arg8 : Memref sig .tc .vmem S2x128x2048 .f32) (harg8 : arg8.IsWhole)
  (arg9 : Memref sig .tc .vmem S512x2048 .f32) (harg9 : arg9.IsWhole) (arg10 : Memref sig .tc .vmem S512x2048 .f32) (harg10 : arg10.IsWhole)
    (hc0 : ¬cond0_0 i) (hc1 : ¬cond0_1 i) (hc2 : cond0_2 i) (hc3 : ¬cond0_3 i)
    (x0 : Vec F S512x2048 .bf16) (x1 : Vec F S512x2048 .f32) (x2 : Vec F S1x2048 .f32) (x3 : Vec F S1x2048 .f32) (w : Vec F S2048x2048 .bf16) (p : Vec F S512x2048 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg6 fullShare d) ∗ owns (c : Thread nD τ) arg7 fullShare w ∗ (∃ d, owns (c : Thread nD τ) arg10 fullShare d) ∗ owns (c : Thread nD τ) arg9 fullShare p
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg6 fullShare (k0_pay23 x1 p x2 x3) ∗ owns (c : Thread nD τ) arg7 fullShare w ∗ owns (c : Thread nD τ) arg10 fullShare (k0_pay22 x0 w) ∗ owns (c : Thread nD τ) arg9 fullShare p) -∗ K ⟨⟩))
      ⊢ wp frame (wpE (defs₀ (F := F)) Variants.none c none) Set.univ (cc0_mix_out_ln i arg1 harg1 arg2 harg2 arg3 harg3 arg4 harg4 (Memref.whole main_arg4) (Memref.isWhole_whole _) arg6 harg6 arg7 harg7 arg8 harg8 arg9 harg9 arg10 harg10 cc0_scratch4) K := by
  simp only [cc0_mix_out_ln_eq_skeleton]; unfold cc0_mix_out_ln_skel
  simp only [k0_part13_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%fw, %hfw, Hw⟩, ⟨%ds2, %fs2, -, HS2⟩, ⟨%fp, %hfp, Hp⟩, Hk⟩
  obtain rfl := harg1.eq_unread hf0; obtain rfl := harg2.eq_unread hf1; obtain rfl := harg3.eq_unread hf2; obtain rfl := harg4.eq_unread hf3
  obtain rfl := harg7.eq_unread hfw; obtain rfl := harg9.eq_unread hfp
  sl_exec (disch := first | sl_exact hc0 | sl_exact hc1 | sl_exact hc2 | sl_exact hc3)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; rotate_left; · iexact H4
    ipureintro
    refine (View.read_writes_full _ _ _ _ _).trans ?_
    simp only [ld_big, ld_in, ld_row, ld_w]
  isplitl [Hw]
  · iexists _; isplitr; · ipureintro; exact harg7.read_unread _
    iexact Hw
  isplitl [HS2]
  · iexists _; isplitr; rotate_left; · iexact HS2
    ipureintro
    refine (View.read_writes_full _ _ _ _ _).trans ?_
    simp only [ld_big, ld_in, ld_row, ld_w]
  · iexists _; isplitr; · ipureintro; exact harg9.read_unread _
    iexact Hp

set_option maxHeartbeats 2000000 in
/-- The last point: the second buffer is finished. -/
theorem run_last (c : Dev nD) (i : grid0.Coords) (arg1 : Memref sig .tc .vmem S512x2048 .bf16) (harg1 : arg1.IsWhole) (arg2 : Memref sig .tc .vmem S512x2048 .f32) (harg2 : arg2.IsWhole)
  (arg3 : Memref sig .tc .vmem S1x2048 .f32) (harg3 : arg3.IsWhole) (arg4 : Memref sig .tc .vmem S1x2048 .f32) (harg4 : arg4.IsWhole) (arg6 : Memref sig .tc .vmem S512x2048 .f32) (harg6 : arg6.IsWhole)
  (arg7 : Memref sig .tc .vmem S2048x2048 .bf16) (harg7 : arg7.IsWhole) (arg8 : Memref sig .tc .vmem S2x128x2048 .f32) (harg8 : arg8.IsWhole)
  (arg9 : Memref sig .tc .vmem S512x2048 .f32) (harg9 : arg9.IsWhole) (arg10 : Memref sig .tc .vmem S512x2048 .f32) (harg10 : arg10.IsWhole)
    (hc0 : ¬cond0_0 i) (hc1 : ¬cond0_1 i) (hc2 : ¬cond0_2 i) (hc3 : cond0_3 i)
    (x0 : Vec F S512x2048 .bf16) (x1 : Vec F S512x2048 .f32) (x2 : Vec F S1x2048 .f32) (x3 : Vec F S1x2048 .f32) (w : Vec F S2048x2048 .bf16) (p : Vec F S512x2048 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg6 fullShare d) ∗ owns (c : Thread nD τ) arg7 fullShare w ∗ (∃ d, owns (c : Thread nD τ) arg9 fullShare d) ∗ owns (c : Thread nD τ) arg10 fullShare p
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg6 fullShare (k0_pay1 x1 p x2 x3) ∗ owns (c : Thread nD τ) arg7 fullShare w ∗ (∃ d, owns (c : Thread nD τ) arg9 fullShare d) ∗ owns (c : Thread nD τ) arg10 fullShare p) -∗ K ⟨⟩))
      ⊢ wp frame (wpE (defs₀ (F := F)) Variants.none c none) Set.univ (cc0_mix_out_ln i arg1 harg1 arg2 harg2 arg3 harg3 arg4 harg4 (Memref.whole main_arg4) (Memref.isWhole_whole _) arg6 harg6 arg7 harg7 arg8 harg8 arg9 harg9 arg10 harg10 cc0_scratch4) K := by
  simp only [cc0_mix_out_ln_eq_skeleton]; unfold cc0_mix_out_ln_skel
  simp only [k0_part13_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%fw, %hfw, Hw⟩, ⟨%ds2, %fs2, -, HS2⟩, ⟨%fp, %hfp, Hp⟩, Hk⟩
  obtain rfl := harg1.eq_unread hf0; obtain rfl := harg2.eq_unread hf1; obtain rfl := harg3.eq_unread hf2; obtain rfl := harg4.eq_unread hf3
  obtain rfl := harg7.eq_unread hfw; obtain rfl := harg10.eq_unread hfp
  sl_exec (disch := first | sl_exact hc0 | sl_exact hc1 | sl_exact hc2 | sl_exact hc3)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; rotate_left; · iexact H4
    ipureintro
    refine (View.read_writes_full _ _ _ _ _).trans ?_
    simp only [ld_big, ld_in, ld_row, ld_w]
  isplitl [Hw]
  · iexists _; isplitr; · ipureintro; exact harg7.read_unread _
    iexact Hw
  isplitl [HS2]
  · iexists _, _; isplitr; swap; · iexact HS2
    ipureintro; rfl
  · iexists _; isplitr; · ipureintro; exact harg10.read_unread _
    iexact Hp

end Cert.MmLnIdeal.Mm
-- ==== Proof.MmLoad.lean ====
module

public import proofs.«01_k».proof.Proof.Gen.MmLnIdeal.Frame.Runs
public import proofs.«01_k».proof.Proof.MmRuns
public import Idealize.ShloMosaic.Lib.Pipeline.ValueKit

@[expose] public section

set_option maxRecDepth 16384

noncomputable section

namespace Cert.MmLnIdeal.Mm

open Cert.MmLnIdeal Cert.MmLnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The weights, rounded, as the first point leaves them. -/
def wb (fh : S1x2048x2048.Idx → Elt F .f32) : Vec F S2048x2048 .bf16 := truncf .bf16 (fun y => fh (Fin.cons (0 : Fin 1) y)) bitsLt_bf16_f32

/-- One chunk of the weights, rounded. -/
def rnd (v : Vec F S1x128x2048 .f32) : FVec F S128x2048 .bf16 :=
  shapeCast S128x2048 (truncf .bf16 (shapeCast S128x2048 v shapeCasts_S1x128x2048_S128x2048) bitsLt_bf16_f32) shapeCasts_S128x2048_S128x2048

section
variable (M : Memref sig .tc .vmem S2x128x2048 .f32) (fh : S1x2048x2048.Idx → Elt F .f32)

/-- Rows `o` on of the weights. -/
abbrev rows (o : Fin 2 → ℕ) (inb : ∀ a, o a + S128x2048.size a ≤ S2048x2048.size a) : S128x2048.Idx → Elt F .f32 :=
  fun z => fh (Fin.cons (0 : Fin 1) ((Rect.unit (s := S2048x2048) o S128x2048.size inb).emb z))

/-- A transfer's source, read. -/
theorem dma_rows (o : Fin 2 → ℕ) (inb : ∀ a, o a + S128x2048.size a ≤ S2048x2048.size a) (h1 h2) (f : HbBuf0 (F := F) (0 : Dev nD) hbM0_0) :
    (View.read (Elt F) ((((Memref.whole main_arg4).slice (Rect.unit ![0, 0, 0] S1x2048x2048.size inb_S1x2048x2048_S1x2048x2048_0_0_0) h1).squeeze S2048x2048 squeezes_S1x2048x2048_S2048x2048).slice
      (Rect.unit o S128x2048.size inb) h2).view f : S128x2048.Idx → Elt F .f32) = rows (F := F) f o inb := by
  funext z
  show f ((Rect.unit (s := S1x2048x2048) ![0, 0, 0] S1x2048x2048.size inb_S1x2048x2048_S1x2048x2048_0_0_0).emb (Shape.reshapeEquiv squeezes_S1x2048x2048_S2048x2048.numel_eq ((Rect.unit (s := S2048x2048) o S128x2048.size inb).emb z))) = _
  rw [Rect.emb_unit_full, Shape.reshapeEquiv_cons_one]
  rfl

/-- A half of the staging buffer, just filled, rounded. -/
theorem hit (off : Fin 3 → ℕ) (inb : ∀ a, off a + S1x128x2048.size a ≤ S2x128x2048.size a) (hr) (g : M.view.ty.Contents (Elt F)) (D : S128x2048.Idx → Elt F .f32)
    (o : Fin 2 → ℕ) (inbo : ∀ a, o a + S128x2048.size a ≤ S2048x2048.size a) (hD : D = rows fh o inbo) (z : S128x2048.Idx) :
    rnd (View.readAt (Elt F) M.view (Rect.unit (s := S2x128x2048) off S1x128x2048.size inb).toLoadRect
      (View.write (Elt F) ((M.slice (Rect.unit off S1x128x2048.size inb) hr).squeeze S128x2048 squeezes_S1x128x2048_S128x2048).view g D Finset.univ)) z
      = wb fh ((Rect.unit (s := S2048x2048) o S128x2048.size inbo).emb z) := by
  unfold rnd wb
  rw [shapeCast_self, ← Memref.read_squeeze_slice M (Rect.unit off S1x128x2048.size inb) hr squeezes_S1x128x2048_S128x2048]
  have h := View.read_write_univ (v := ((M.slice (Rect.unit off S1x128x2048.size inb) hr).squeeze S128x2048 squeezes_S1x128x2048_S128x2048).view) g D
  rw [h, hD]
  rfl

/-- The same with the other half filled since. -/
theorem miss (off off' : Fin 3 → ℕ) (hd : off 0 + 1 ≤ off' 0 ∨ off' 0 + 1 ≤ off 0) (inb : ∀ a, off a + S1x128x2048.size a ≤ S2x128x2048.size a) (inb' : ∀ a, off' a + S1x128x2048.size a ≤ S2x128x2048.size a) (hr hr') (g : M.view.ty.Contents (Elt F))
    (D D' : S128x2048.Idx → Elt F .f32) (o : Fin 2 → ℕ) (inbo : ∀ a, o a + S128x2048.size a ≤ S2048x2048.size a) (hD : D = rows fh o inbo) (z : S128x2048.Idx) :
    rnd (View.readAt (Elt F) M.view (Rect.unit (s := S2x128x2048) off S1x128x2048.size inb).toLoadRect
      (View.write (Elt F) ((M.slice (Rect.unit off' S1x128x2048.size inb') hr').squeeze S128x2048 squeezes_S1x128x2048_S128x2048).view
        (View.write (Elt F) ((M.slice (Rect.unit off S1x128x2048.size inb) hr).squeeze S128x2048 squeezes_S1x128x2048_S128x2048).view g D Finset.univ) D' Finset.univ)) z
      = wb fh ((Rect.unit (s := S2048x2048) o S128x2048.size inbo).emb z) := by
  rw [← hit M fh off inb hr g D o inbo hD z]
  refine congrArg (fun v => rnd v z) (funext fun x => ?_)
  refine View.read_congr_at (v := M.view) _ (View.write_of_not_mem _ _ _ fun hm => ?_)
  obtain ⟨y, -, hy⟩ := Finset.mem_map.mp hm
  have hy' : M.view.emb ((Rect.unit (s := S2x128x2048) off' S1x128x2048.size inb').emb (Shape.reshapeEquiv squeezes_S1x128x2048_S128x2048.numel_eq y)) = M.view.emb ((Rect.unit (s := S2x128x2048) off S1x128x2048.size inb).toLoadRect.idx x) := hy
  have e := congrArg (fun w : S2x128x2048.Idx => (w 0).val) (M.view.emb.injective hy')
  have e' : off' 0 + 1 * (Shape.reshapeEquiv squeezes_S1x128x2048_S128x2048.numel_eq y 0).val = off 0 + 1 * (x 0).val := e
  have a1 : (x 0).val < 1 := (x 0).isLt
  have a2 : (Shape.reshapeEquiv squeezes_S1x128x2048_S128x2048.numel_eq y 0).val < 1 := (Shape.reshapeEquiv squeezes_S1x128x2048_S128x2048.numel_eq y 0).isLt
  omega
end

end Cert.MmLnIdeal.Mm
-- ==== Proof.MmFirst.lean ====
module

public import proofs.«01_k».proof.Proof.Gen.MmLnIdeal.Frame.Runs
public import proofs.«01_k».proof.Proof.MmLoad

@[expose] public section

set_option maxRecDepth 16384

noncomputable section

namespace Cert.MmLnIdeal.Mm

open Cert.MmLnIdeal Cert.MmLnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

set_option maxHeartbeats 40000000 in set_option sl_exec.dmaWindow true in set_option sl_exec.dmaWindowSet true in
/-- The first point: the weights are loaded and rounded, the first buffer is filled, and the second, holding zeros, is finished. -/
theorem run_first (c : Dev nD) (i : grid0.Coords) (arg1 : Memref sig .tc .vmem S512x2048 .bf16) (harg1 : arg1.IsWhole) (arg2 : Memref sig .tc .vmem S512x2048 .f32) (harg2 : arg2.IsWhole)
  (arg3 : Memref sig .tc .vmem S1x2048 .f32) (harg3 : arg3.IsWhole) (arg4 : Memref sig .tc .vmem S1x2048 .f32) (harg4 : arg4.IsWhole) (arg6 : Memref sig .tc .vmem S512x2048 .f32) (harg6 : arg6.IsWhole)
  (arg7 : Memref sig .tc .vmem S2048x2048 .bf16) (harg7 : arg7.IsWhole) (arg8 : Memref sig .tc .vmem S2x128x2048 .f32) (harg8 : arg8.IsWhole)
  (arg9 : Memref sig .tc .vmem S512x2048 .f32) (harg9 : arg9.IsWhole) (arg10 : Memref sig .tc .vmem S512x2048 .f32) (harg10 : arg10.IsWhole)
    (hc0 : cond0_0 i) (hc1 : cond0_1 i) (hc2 : ¬cond0_2 i) (hc3 : ¬cond0_3 i)
    (x0 : Vec F S512x2048 .bf16) (x1 : Vec F S512x2048 .f32) (x2 : Vec F S1x2048 .f32) (x3 : Vec F S1x2048 .f32) (fh : HbBuf0 (F := F) c hbM0_0) (W : Waits sig Unit) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ semVal ((c : Thread nD τ), SemLoc.dma 8) 0 ∗ semVal ((c : Thread nD τ), SemLoc.dma 9) 0 ∗ hbPt0 c hbM0_0 fh ∗ owes (c : Thread nD τ) 0 W
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg6 fullShare (k0_pay21 x1 k0_pay2 x2 x3) ∗ owns (c : Thread nD τ) arg7 fullShare (wb fh) ∗ (∃ d, owns (c : Thread nD τ) arg8 fullShare d) ∗ owns (c : Thread nD τ) arg9 fullShare (k0_pay20 x0 (wb fh)) ∗ owns (c : Thread nD τ) arg10 fullShare k0_pay2 ∗ semVal ((c : Thread nD τ), SemLoc.dma 8) 0 ∗ semVal ((c : Thread nD τ), SemLoc.dma 9) 0 ∗ hbPt0 c hbM0_0 fh ∗ (∃ W', owes (c : Thread nD τ) 0 W')) -∗ K ⟨⟩))
      ⊢ wp frame (wpE (defs₀ (F := F)) Variants.none c none) Set.univ (cc0_mix_out_ln i arg1 harg1 arg2 harg2 arg3 harg3 arg4 harg4 (Memref.whole main_arg4) (Memref.isWhole_whole _) arg6 harg6 arg7 harg7 arg8 harg8 arg9 harg9 arg10 harg10 cc0_scratch4) K := by
  simp only [cc0_mix_out_ln_eq_skeleton]; unfold cc0_mix_out_ln_skel
  simp only [k0_part13_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, ⟨%ds2, %fs2, -, HS2⟩, ⟨%ds3, %fs3, -, HS3⟩, Hq0, Hq1, Hh0, HW, Hk⟩
  obtain rfl := harg1.eq_unread hf0; obtain rfl := harg2.eq_unread hf1; obtain rfl := harg3.eq_unread hf2; obtain rfl := harg4.eq_unread hf3
  set_option sl_exec.stopBefore "k0_cond2" in sl_exec (disch := first | sl_exact hc0 | sl_exact hc1 | sl_exact hc2 | sl_exact hc3)
  generalize hfw : arg7.view.writes (Elt F) fs0 _ = fw
  have ew : View.read (Elt F) arg7.view fw = wb fh := by
    rw [← hfw]
    funext y
    refine View.read_writes_apply_of_pieces _ _ (wb fh) _ ?_ y ?_
    rotate_left
    · refine View.cover_of_tiled (s := S2048x2048) _ S128x2048.size ?_ y
      sl_kernel_rfl
    iterate 16
      refine List.forall_mem_cons.2 ⟨fun z => ?_, ?_⟩
      · show rnd _ z = _
        first
        | exact miss arg8 fh _ _ (by decide) _ _ _ _ _ _ _ _ _ (dma_rows _ _ _ _ _) z
        | exact hit arg8 fh _ _ _ _ _ _ _ (dma_rows _ _ _ _ _) z
    exact fun p hp => absurd hp List.not_mem_nil
  clear hfw
  generalize hfz : arg10.view.writes (Elt F) fs3 _ = fz
  have ez : View.read (Elt F) arg10.view fz = k0_pay2 := by
    rw [← hfz]; exact View.read_writes_full _ _ _ _ _
  clear hfz
  generalize View.write (Elt F) _ _ _ _ = g8
  obtain rfl := harg7.eq_unread ew; obtain rfl := harg10.eq_unread ez
  sl_exec (disch := first | sl_exact hc0 | sl_exact hc1 | sl_exact hc2 | sl_exact hc3)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; rotate_left; · iexact H4
    ipureintro
    refine (View.read_writes_full _ _ _ _ _).trans ?_
    simp only [ld_big, ld_in, ld_row, ld_w]
  isplitl [HS0]
  · iexists _; isplitr; · ipureintro; exact harg7.read_unread _
    iexact HS0
  isplitl [HS1]
  · iexists _, _; isplitr; swap; · iexact HS1
    ipureintro; rfl
  isplitl [HS2]
  · iexists _; isplitr; rotate_left; · iexact HS2
    ipureintro
    refine (View.read_writes_full _ _ _ _ _).trans ?_
    simp only [ld_big, ld_in, ld_row, ld_w]
  isplitl [HS3]
  · iexists _; isplitr; · ipureintro; exact harg10.read_unread _
    iexact HS3
  isplitl [Hq0]; · iexact Hq0
  isplitl [Hq1]; · iexact Hq1
  isplitl [Hh0]; · iexact Hh0
  iexists _; iexact HW

end Cert.MmLnIdeal.Mm
-- ==== Proof.MmFrame.lean ====
module

public import proofs.«01_k».proof.Proof.MmFirst

@[expose] public section

set_option maxRecDepth 16384

noncomputable section

namespace Cert.MmLnIdeal.Mm

open Cert.MmLnIdeal Cert.MmLnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

attribute [local irreducible] k0_pay20 k0_pay21 wb

variable (m : (ℓ : Loc nD τ sig) → Buf (Elt F) ℓ) (ρ : Dev nD → PrngReg)

/-- The rounded weights a device works with. -/
abbrev wv (c : Dev nD) : Vec F S2048x2048 .bf16 := wb (V m c main_arg4)

/-- The product of point `t`'s block. -/
def acc (c : Dev nD) (t : Fin cfg0.N) : Vec F S512x2048 .f32 := k0_pay20 (iblk m c 0 t) (wv m c)

/-- The product that is finished at point `t`: the one of the point before, and zeros at the first. -/
def prev (c : Dev nD) (t : Fin cfg0.N) : Vec F S512x2048 .f32 :=
  if t.val = 0 then k0_pay2 else acc m c ⟨t.val - 1, lt_of_le_of_lt (Nat.sub_le _ _) t.isLt⟩

/-- What point `t` leaves in its block of the result. -/
def outv (c : Dev nD) (t : Fin cfg0.N) : Vec F S512x2048 .f32 := k0_pay21 (iblk m c 1 t) (prev m c t) (iblk m c 2 t) (iblk m c 3 t)

/-- What is held before point `n`: after the first point the rounded weights, and the last product in the buffer of its parity. -/
def PhiS (c : Dev nD) : (n : ℕ) → n ≤ cfg0.N → sProp 𝕄
  | 0, _ => Pipeline.ΦD osem0 spec0 H0 (V m) c
  | n + 1, hn => iprop(iprop(owns (c : Thread nD τ) scM0_0 fullShare (wv m c) ∗ (∃ d, owns (c : Thread nD τ) scM0_1 fullShare d) ∗ (∃ d, ⌜(n % 2 = 0 ∧ n < 18) → d = acc m c ⟨n, hn⟩⌝ ∗ owns (c : Thread nD τ) scM0_2 fullShare d) ∗ (∃ d, ⌜n % 2 = 1 → d = acc m c ⟨n, hn⟩⌝ ∗ owns (c : Thread nD τ) scM0_3 fullShare d)) ∗ (∃ r, prngReg c r) ∗ iprop(semVal ((c : Thread nD τ), SemLoc.dma 8) 0 ∗ semVal ((c : Thread nD τ), SemLoc.dma 9) 0) ∗ iprop(hbPt0 c hbM0_0 (V m c main_arg4)))

theorem PhiS_zero (c : Dev nD) (n : ℕ) (h : n ≤ cfg0.N) (hz : n = 0) : PhiS m c n h = Pipeline.ΦD osem0 spec0 H0 (V m) c := by
  subst hz; rfl

theorem PhiS_succ (c : Dev nD) (n : ℕ) (hn : n < cfg0.N) :
    PhiS m c (n + 1) hn = iprop(iprop(owns (c : Thread nD τ) scM0_0 fullShare (wv m c) ∗ (∃ d, owns (c : Thread nD τ) scM0_1 fullShare d) ∗ (∃ d, ⌜(n % 2 = 0 ∧ n < 18) → d = acc m c ⟨n, hn⟩⌝ ∗ owns (c : Thread nD τ) scM0_2 fullShare d) ∗ (∃ d, ⌜n % 2 = 1 → d = acc m c ⟨n, hn⟩⌝ ∗ owns (c : Thread nD τ) scM0_3 fullShare d)) ∗ (∃ r, prngReg c r) ∗ iprop(semVal ((c : Thread nD τ), SemLoc.dma 8) 0 ∗ semVal ((c : Thread nD τ), SemLoc.dma 9) 0) ∗ iprop(hbPt0 c hbM0_0 (V m c main_arg4))) := rfl

/-- Before a point that is not the first. -/
theorem PhiS_pos (c : Dev nD) (n : ℕ) (h : n ≤ cfg0.N) (hz : n ≠ 0) :
    PhiS m c n h = iprop(iprop(owns (c : Thread nD τ) scM0_0 fullShare (wv m c) ∗ (∃ d, owns (c : Thread nD τ) scM0_1 fullShare d) ∗ (∃ d, ⌜((n - 1) % 2 = 0 ∧ n - 1 < 18) → d = acc m c ⟨n - 1, by omega⟩⌝ ∗ owns (c : Thread nD τ) scM0_2 fullShare d) ∗ (∃ d, ⌜(n - 1) % 2 = 1 → d = acc m c ⟨n - 1, by omega⟩⌝ ∗ owns (c : Thread nD τ) scM0_3 fullShare d)) ∗ (∃ r, prngReg c r) ∗ iprop(semVal ((c : Thread nD τ), SemLoc.dma 8) 0 ∗ semVal ((c : Thread nD τ), SemLoc.dma 9) 0) ∗ iprop(hbPt0 c hbM0_0 (V m c main_arg4))) := by
  cases n with
  | zero => exact absurd rfl hz
  | succ n => rfl

/-- The proof data. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outv m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outv m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem liveAt0_4 : ∀ t : Fin cfg0.N, cfg0.idle 4 (grid0.coords t) = false :=
  (by decide +kernel : ∀ t : Fin grid0.N, cfg0.idle 4 (grid0.coords t) = false)

theorem pay22_eq : (k0_pay22 : Vec F S512x2048 .bf16 → Vec F S2048x2048 .bf16 → Vec F S512x2048 .f32) = k0_pay20 := by
  funext x w; unfold k0_pay20; rfl
theorem pay23_eq : (k0_pay23 : Vec F S512x2048 .f32 → Vec F S512x2048 .f32 → Vec F S1x2048 .f32 → Vec F S1x2048 .f32 → Vec F S512x2048 .f32) = k0_pay21 := by
  funext x p g b; unfold k0_pay21; rfl
theorem pay1_eq : (k0_pay1 : Vec F S512x2048 .f32 → Vec F S512x2048 .f32 → Vec F S1x2048 .f32 → Vec F S1x2048 .f32 → Vec F S512x2048 .f32) = k0_pay21 := by
  funext x p g b; unfold k0_pay21; rfl

set_option maxHeartbeats 12800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = PhiS m c (t.val + 1) t.isLt from rfl, PhiS_succ]
  unfold Dat.owesAt Pipeline.owesWithin
  rw [show (dats m 0 c).owed t.castSucc = 0 from rfl, show (dats m 0 c).owed t.succ = 0 from rfl]
  have hN : t.val < 19 := lt_of_lt_of_eq t.isLt (show cfg0.N = 19 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  have n0 : ¬ t.val = 0 → ¬ cond0_0 (grid0.coords t) := fun h q => h (by have := (hcond0_0 t).mp q; omega)
  by_cases hz : t.val = 0
  · have e4 : outv m c t = k0_pay21 (iblk m c 1 t) k0_pay2 (iblk m c 2 t) (iblk m c 3 t) := by unfold outv prev; rw [if_pos hz]
    have ea : ∀ d, d = k0_pay20 (iblk m c 0 t) (wv m c) → d = acc m c ⟨t.val, t.isLt⟩ := fun d h => h
    rw [PhiS_castSucc m c t, PhiS_zero m c _ _ hz, PhiD0_eq, e4]
    iintro ⟨⟨⟨HS0, HS1, HS2, HS3⟩, Hg, ⟨Hq0, Hq1⟩, Hh0⟩, ⟨%W, -, HW⟩, ⟨%d0, H0⟩, ⟨%d1, H1⟩, ⟨%d2, H2⟩, ⟨%d3, H3⟩, ⟨%d4, H4⟩⟩
    iapply (run_first c (grid0.coords t) _ _ _ _ _ _ _ _ _ _ _ _ _ _ _ _ _ _ ((hcond0_0 t).mpr (by omega)) ((hcond0_1 t).mpr (by omega)) (fun h => by have := (hcond0_2 t).mp h; omega) (fun h => by have := (hcond0_3 t).mp h; omega) (iblk m c 0 t) (iblk m c 1 t) (iblk m c 2 t) (iblk m c 3 t) (V m c main_arg4) W _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iexact HS2
    isplitl [HS3]; · iexact HS3
    isplitl [Hq0]; · iexact Hq0
    isplitl [Hq1]; · iexact Hq1
    isplitl [Hh0]; · iexact Hh0
    isplitl [HW]; · iexact HW
    iintro ⟨H0, H1, H2, H3, H4, HS0, HS1, HS2, HS3, Hq0, Hq1, Hh0, ⟨%W', HW'⟩⟩
    isplitl [HS0 HS1 HS2 HS3 Hg Hq0 Hq1 Hh0]
    · isplitl [HS0 HS1 HS2 HS3]
      · isplitl [HS0]; · iexact HS0
        isplitl [HS1]; · iexact HS1
        isplitl [HS2]
        · iexists _; isplitr; swap; · iexact HS2
          ipureintro; exact fun _ => ea _ rfl
        iexists _; isplitr; swap; · iexact HS3
        ipureintro; intro h; omega
      isplitl [Hg]; · iexact Hg
      isplitl [Hq0 Hq1]
      · isplitl [Hq0]; · iexact Hq0
        iexact Hq1
      iexact Hh0
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    iexact H4
  by_cases ho : t.val % 2 = 1
  · have e4 : outv m c t = k0_pay23 (iblk m c 1 t) (acc m c ⟨t.val - 1, lt_of_le_of_lt (Nat.sub_le _ _) t.isLt⟩) (iblk m c 2 t) (iblk m c 3 t) := by unfold outv prev; rw [if_neg hz, pay23_eq]
    have ea : ∀ d, d = k0_pay22 (iblk m c 0 t) (wv m c) → d = acc m c ⟨t.val, t.isLt⟩ := fun d h => by rw [h]; unfold acc; rw [pay22_eq]
    rw [PhiS_castSucc m c t, PhiS_pos m c _ _ hz, e4]
    iintro ⟨⟨⟨HS0, HS1, ⟨%s2, %e2, HS2⟩, ⟨%s3, %e3, HS3⟩⟩, Hg, ⟨Hq0, Hq1⟩, Hh0⟩, ⟨%W, -, HW⟩, ⟨%d0, H0⟩, ⟨%d1, H1⟩, ⟨%d2, H2⟩, ⟨%d3, H3⟩, ⟨%d4, H4⟩⟩
    obtain rfl := e2 (by omega)
    iapply (run_odd c (grid0.coords t) _ _ _ _ _ _ _ _ _ _ _ _ _ _ _ _ _ _ (n0 hz) (fun h => by have := (hcond0_1 t).mp h; omega) ((hcond0_2 t).mpr (by omega)) (fun h => by have := (hcond0_3 t).mp h; omega) (iblk m c 0 t) (iblk m c 1 t) (iblk m c 2 t) (iblk m c 3 t) (wv m c) (acc m c ⟨t.val - 1, lt_of_le_of_lt (Nat.sub_le _ _) t.isLt⟩) _)
    isplitl [H0]; · iexact H0
    isplitl [H1]; · iexact H1
    isplitl [H2]; · iexact H2
    isplitl [H3]; · iexact H3
    isplitl [H4]; · iexists _; iexact H4
    isplitl [HS0]; · iexact HS0
    isplitl [HS3]; · iexists _; iexact HS3
    isplitl [HS2]; · iexact HS2
    iintro ⟨H0, H1, H2, H3, H4, HS0, HS3, HS2⟩
    isplitl [HS0 HS1 HS2 HS3 Hg Hq0 Hq1 Hh0]
    · isplitl [HS0 HS1 HS2 HS3]
      · isplitl [HS0]; · iexact HS0
        isplitl [HS1]; · iexact HS1
        isplitl [HS2]
        · iexists _; isplitr; swap; · iexact HS2
          ipureintro; intro h; omega
        iexists _; isplitr; swap; · iexact HS3
        ipureintro; exact fun _ => ea _ rfl
      isplitl [Hg]; · iexact Hg
      isplitl [Hq0 Hq1]
      · isplitl [Hq0]; · iexact Hq0
        iexact Hq1
      iexact Hh0
    isplitl [HW]
    · iexists W; isplitr; · ipureintro; exact fun _ _ => Or.inl trivial
      iexact HW
    isplitl [H0]; · iexact H0
    isplitl [H1]; · iexact H1
    isplitl [H2]; · iexact H2
    isplitl [H3]; · iexact H3
    iexact H4
  by_cases hl : t.val = 18
  · have e4 : outv m c t = k0_pay1 (iblk m c 1 t) (acc m c ⟨t.val - 1, lt_of_le_of_lt (Nat.sub_le _ _) t.isLt⟩) (iblk m c 2 t) (iblk m c 3 t) := by unfold outv prev; rw [if_neg hz, pay1_eq]
    rw [PhiS_castSucc m c t, PhiS_pos m c _ _ hz, e4]
    iintro ⟨⟨⟨HS0, HS1, ⟨%s2, %e2, HS2⟩, ⟨%s3, %e3, HS3⟩⟩, Hg, ⟨Hq0, Hq1⟩, Hh0⟩, ⟨%W, -, HW⟩, ⟨%d0, H0⟩, ⟨%d1, H1⟩, ⟨%d2, H2⟩, ⟨%d3, H3⟩, ⟨%d4, H4⟩⟩
    obtain rfl := e3 (by omega)
    iapply (run_last c (grid0.coords t) _ _ _ _ _ _ _ _ _ _ _ _ _ _ _ _ _ _ (n0 hz) (fun h => by have := (hcond0_1 t).mp h; omega) (fun h => by have := (hcond0_2 t).mp h; omega) ((hcond0_3 t).mpr (by omega)) (iblk m c 0 t) (iblk m c 1 t) (iblk m c 2 t) (iblk m c 3 t) (wv m c) (acc m c ⟨t.val - 1, lt_of_le_of_lt (Nat.sub_le _ _) t.isLt⟩) _)
    isplitl [H0]; · iexact H0
    isplitl [H1]; · iexact H1
    isplitl [H2]; · iexact H2
    isplitl [H3]; · iexact H3
    isplitl [H4]; · iexists _; iexact H4
    isplitl [HS0]; · iexact HS0
    isplitl [HS2]; · iexists _; iexact HS2
    isplitl [HS3]; · iexact HS3
    iintro ⟨H0, H1, H2, H3, H4, HS0, ⟨%s4, HS2⟩, HS3⟩
    isplitl [HS0 HS1 HS2 HS3 Hg Hq0 Hq1 Hh0]
    · isplitl [HS0 HS1 HS2 HS3]
      · isplitl [HS0]; · iexact HS0
        isplitl [HS1]; · iexact HS1
        isplitl [HS2]
        · iexists _; isplitr; swap; · iexact HS2
          ipureintro; intro h; omega
        iexists _; isplitr; swap; · iexact HS3
        ipureintro; intro h; omega
      isplitl [Hg]; · iexact Hg
      isplitl [Hq0 Hq1]
      · isplitl [Hq0]; · iexact Hq0
        iexact Hq1
      iexact Hh0
    isplitl [HW]
    · iexists W; isplitr; · ipureintro; exact fun _ _ => Or.inl trivial
      iexact HW
    isplitl [H0]; · iexact H0
    isplitl [H1]; · iexact H1
    isplitl [H2]; · iexact H2
    isplitl [H3]; · iexact H3
    iexact H4
  have e4 : outv m c t = k0_pay21 (iblk m c 1 t) (acc m c ⟨t.val - 1, lt_of_le_of_lt (Nat.sub_le _ _) t.isLt⟩) (iblk m c 2 t) (iblk m c 3 t) := by unfold outv prev; rw [if_neg hz]
  have ea : ∀ d, d = k0_pay20 (iblk m c 0 t) (wv m c) → d = acc m c ⟨t.val, t.isLt⟩ := fun d h => by rw [h]; unfold acc; rfl
  rw [PhiS_castSucc m c t, PhiS_pos m c _ _ hz, e4]
  iintro ⟨⟨⟨HS0, HS1, ⟨%s2, %e2, HS2⟩, ⟨%s3, %e3, HS3⟩⟩, Hg, ⟨Hq0, Hq1⟩, Hh0⟩, ⟨%W, -, HW⟩, ⟨%d0, H0⟩, ⟨%d1, H1⟩, ⟨%d2, H2⟩, ⟨%d3, H3⟩, ⟨%d4, H4⟩⟩
  obtain rfl := e3 (by omega)
  iapply (run_even c (grid0.coords t) _ _ _ _ _ _ _ _ _ _ _ _ _ _ _ _ _ _ (n0 hz) ((hcond0_1 t).mpr (by rw [Nat.mod_eq_of_lt hN]; omega)) (fun h => by have := (hcond0_2 t).mp h; omega) (fun h => by have := (hcond0_3 t).mp h; omega) (iblk m c 0 t) (iblk m c 1 t) (iblk m c 2 t) (iblk m c 3 t) (wv m c) (acc m c ⟨t.val - 1, lt_of_le_of_lt (Nat.sub_le _ _) t.isLt⟩) _)
  isplitl [H0]; · iexact H0
  isplitl [H1]; · iexact H1
  isplitl [H2]; · iexact H2
  isplitl [H3]; · iexact H3
  isplitl [H4]; · iexists _; iexact H4
  isplitl [HS0]; · iexact HS0
  isplitl [HS2]; · iexists _; iexact HS2
  isplitl [HS3]; · iexact HS3
  iintro ⟨H0, H1, H2, H3, H4, HS0, HS2, HS3⟩
  isplitl [HS0 HS1 HS2 HS3 Hg Hq0 Hq1 Hh0]
  · isplitl [HS0 HS1 HS2 HS3]
    · isplitl [HS0]; · iexact HS0
      isplitl [HS1]; · iexact HS1
      isplitl [HS2]
      · iexists _; isplitr; swap; · iexact HS2
        ipureintro; exact fun _ => ea _ rfl
      iexists _; isplitr; swap; · iexact HS3
      ipureintro; intro h; omega
    isplitl [Hg]; · iexact Hg
    isplitl [Hq0 Hq1]
    · isplitl [Hq0]; · iexact Hq0
      iexact Hq1
    iexact Hh0
  isplitl [HW]
  · iexists W; isplitr; · ipureintro; exact fun _ _ => Or.inl trivial
    iexact HW
  isplitl [H0]; · iexact H0
  isplitl [H1]; · iexact H1
  isplitl [H2]; · iexact H2
  isplitl [H3]; · iexact H3
  iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact sound_body m c t

theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]

theorem hout (c : Dev nD) : (dats m 0 c).Φ (Fin.last cfg0.N) ⊢ Pipeline.ΦD osem0 spec0 H0 (V m) c := by
  rw [show (dats m 0 c).Φ (Fin.last cfg0.N) = PhiS m c cfg0.N le_rfl from rfl, PhiS_pos m c _ _ (by have : cfg0.N = 19 := N_0; omega), PhiD0_eq]
  iintro ⟨⟨HS0, HS1, ⟨%s2, -, HS2⟩, ⟨%s3, -, HS3⟩⟩, Hg, ⟨Hq0, Hq1⟩, Hh0⟩
  isplitl [HS0 HS1 HS2 HS3]
  · isplitl [HS0]
    · iexists _; iexact HS0
    isplitl [HS1]
    · iexact HS1
    isplitl [HS2]
    · iexists _; iexact HS2
    iexists _; iexact HS3
  isplitl [Hg]; · iexact Hg
  isplitl [Hq0 Hq1]
  · isplitl [Hq0]; · iexact Hq0
    iexact Hq1
  iexact Hh0

set_option backward.isDefEq.respectTransparency.types false in
/-- The launch: every array ends at what the library computes, every counter at zero. -/
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: every argument array ends unchanged, every counter at zero; -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).1 0).trans ((dats m 0 c).arrAt_in 0 rfl _), ((h.1 c).1 1).trans ((dats m 0 c).arrAt_in 1 rfl _), ((h.1 c).1 2).trans ((dats m 0 c).arrAt_in 2 rfl _), ((h.1 c).1 3).trans ((dats m 0 c).arrAt_in 3 rfl _),
    (h.1 c).2 main_arg4 (Pipeline.mem_restRefs_of main_arg4 (by decide) (by decide))⟩, h.2⟩) (run_main m ρ)

/-- and the result is what the write-backs leave. -/
theorem frame_value : θ_run defs (onTc (τ := τ) (main (F := F))) ⟨m, fun _ => 0, ρ⟩ (fun r => (∀ c : Dev nD,
      r.2.mem ((cfg0.win 4).arr.view.loc (c : Thread nD τ)) = (dats m 0 c).arrAt 4 cfg0.N) ∧ r.2.sem = fun _ => 0) :=
  (θ_run defs _ _).mono (fun _ h => ⟨fun c => (h.1 c).1 4, h.2⟩) (run_main m ρ)

end Cert.MmLnIdeal.Mm
-- ==== Proof.MmTie.lean ====
/- What the second layer's mixer output with normalization leaves: every row the normalized sum of the scaled residual row and the row's product. -/
module

public import proofs.«01_k».proof.Proof.MmFrame
public import proofs.«01_k».proof.Proof.Gen.MmLnRefIdeal.Run
public import Idealize.ShloMosaic.Lib.Pipeline.ValueKit
public import Idealize.ShloMosaic.Lib.Pointwise

@[expose] public section

set_option maxRecDepth 16384

noncomputable section

namespace Cert.MmLnIdeal.Mm

open Cert.MmLnIdeal Cert.MmLnIdeal.Gen
open Idealize.ShloMosaic Idealize.ShloMosaic.TcCoe Idealize.SL.Sem

/-- A row's layer norm at lane `j`, with gain `g` and bias `b`. -/
def LN (v : Fin 2048 → EReal) (j : Fin 2048) (g b : EReal) : EReal :=
  (v j - Ideal.div (∑ k, v k) (Ideal.ofBits .f32 1157627904#32))
    * Ideal.rsqrt (Ideal.div (∑ k, (v k - Ideal.div (∑ l, v l) (Ideal.ofBits .f32 1157627904#32)) * (v k - Ideal.div (∑ l, v l) (Ideal.ofBits .f32 1157627904#32)))
        (Ideal.ofBits .f32 1157627904#32) + Ideal.ofBits .f32 925353388#32) * g + b

/-- The layer's result, from the rows, the residual, the gain, the bias and the weights. -/
def G (x : FVec Ideal S9216x2048 .bf16) (r : FVec Ideal S9216x2048 .f32) (g b : FVec Ideal S1x2048 .f32) (w : FVec Ideal S1x2048x2048 .f32) : S9216x2048.Idx → EReal := fun i =>
  LN (fun k => Ideal.ofBits .f32 1068827891#32 * r (ix2 (⟨(i 0).val, (i 0).isLt⟩ : Fin 9216) k) + ∑ d : Fin 2048, x (ix2 (⟨(i 0).val, (i 0).isLt⟩ : Fin 9216) d) * w (ix3 (0 : Fin 1) d k))
    (⟨(i 1).val, (i 1).isLt⟩ : Fin 2048) (g (ix2 (0 : Fin 1) (⟨(i 1).val, (i 1).isLt⟩ : Fin 2048))) (b (ix2 (0 : Fin 1) (⟨(i 1).val, (i 1).isLt⟩ : Fin 2048)))

theorem dot_at (x : Vec Ideal S512x2048 .bf16) (w : Vec Ideal S2048x2048 .bf16) (r : Fin 512) (j : Fin 2048) :
    (k0_pay20 x w : FVec Ideal S512x2048 .f32) (ix2 r j) = ∑ k : Fin 2048, x (ix2 r k) * w (ix2 k j) := by
  unfold k0_pay20
  pointwise

theorem fin_at (x p : Vec Ideal S512x2048 .f32) (g b : Vec Ideal S1x2048 .f32) (r : Fin 512) (j : Fin 2048) :
    (k0_pay21 x p g b : FVec Ideal S512x2048 .f32) (ix2 r j)
      = LN (fun k => Ideal.ofBits .f32 1068827891#32 * x (ix2 r k) + p (ix2 r k)) j (g (ix2 (0 : Fin 1) j)) (b (ix2 (0 : Fin 1) j)) := by
  unfold k0_pay21 LN
  pointwise

variable (m : (ℓ : Loc nD τ sig) → Buf (Elt Ideal) ℓ) (ρ : Dev nD → PrngReg)

theorem idx : ∀ t : Fin cfg0.N, win0_0.index t = ![min t.val 17, 0] ∧ win0_1.index t = ![t.val - 1, 0]
    ∧ win0_2.index t = ![0, 0] ∧ win0_3.index t = ![0, 0] ∧ win0_4.index t = ![t.val - 1, 0] := by
  decide +kernel

theorem flush_pos : ∀ t : Fin cfg0.N, (cfg0.win 4).flush t = true → t.val ≠ 0 := by decide +kernel

theorem N_lt (t : Fin cfg0.N) : t.val < 19 := lt_of_lt_of_eq t.isLt (show cfg0.N = 19 from N_0)

theorem x_at (c : Dev nD) (t : Fin cfg0.N) (r : Fin 512) (k : Fin 2048) :
    iblk m c 0 t (ix2 r k) = m ((c : Thread nD τ).loc main_arg0) (ix2 (⟨min t.val 17 * 512 + r.val, by omega⟩ : Fin 9216) k) := by
  blk_point [iblk, V, idx t]
theorem r_at (c : Dev nD) (t : Fin cfg0.N) (r : Fin 512) (k : Fin 2048) :
    iblk m c 1 t (ix2 r k) = m ((c : Thread nD τ).loc main_arg1) (ix2 (⟨(t.val - 1) * 512 + r.val, by have := N_lt t; omega⟩ : Fin 9216) k) := by
  blk_point [iblk, V, idx t]
theorem g_at (c : Dev nD) (t : Fin cfg0.N) (k : Fin 2048) :
    iblk m c 2 t (ix2 (0 : Fin 1) k) = m ((c : Thread nD τ).loc main_arg2) (ix2 (0 : Fin 1) k) := by
  blk_point [iblk, V, idx t]
theorem b_at (c : Dev nD) (t : Fin cfg0.N) (k : Fin 2048) :
    iblk m c 3 t (ix2 (0 : Fin 1) k) = m ((c : Thread nD τ).loc main_arg3) (ix2 (0 : Fin 1) k) := by
  blk_point [iblk, V, idx t]
theorem w_at (c : Dev nD) (k j : Fin 2048) :
    wv m c (ix2 k j) = m ((c : Thread nD τ).loc main_arg4) (ix3 (0 : Fin 1) k j) := by
  show V m c main_arg4 (Fin.cons (0 : Fin 1) (ix2 k j)) = _
  refine congrArg (m ((c : Thread nD τ).loc main_arg4)) (funext fun a => ?_)
  match a with
  | ⟨0, _⟩ => rfl
  | ⟨1, _⟩ => rfl
  | ⟨2, _⟩ => rfl

/-- What a point that is not the first leaves, lane by lane. -/
theorem out_at (c : Dev nD) (t : Fin cfg0.N) (hz : t.val ≠ 0) (r : Fin 512) (j : Fin 2048) :
    outv m c t (ix2 r j) = G (m ((c : Thread nD τ).loc main_arg0)) (m ((c : Thread nD τ).loc main_arg1)) (m ((c : Thread nD τ).loc main_arg2)) (m ((c : Thread nD τ).loc main_arg3))
      (m ((c : Thread nD τ).loc main_arg4)) (ix2 (⟨(t.val - 1) * 512 + r.val, by have := N_lt t; omega⟩ : Fin 9216) j) := by
  have ht := N_lt t
  unfold outv prev
  rw [if_neg hz, fin_at, g_at, b_at]
  unfold G
  refine congrArg (fun v => LN v j _ _) (funext fun k => ?_)
  rw [r_at]
  refine congrArg₂ (fun a b : EReal => a + b) rfl ?_
  unfold acc
  rw [dot_at]
  refine Finset.sum_congr rfl fun d _ => ?_
  rw [x_at, w_at]
  refine congrArg₂ (fun a b : EReal => a * b) (congrArg (fun z : Fin 9216 => m ((c : Thread nD τ).loc main_arg0) (ix2 z d)) (Fin.ext ?_)) rfl
  show min (t.val - 1) 17 * 512 + r.val = (t.val - 1) * 512 + r.val
  omega

/-- The result array after the run. -/
theorem final (c : Dev nD) : (dats m 0 c).arrAt 4 cfg0.N = G (m ((c : Thread nD τ).loc main_arg0)) (m ((c : Thread nD τ).loc main_arg1)) (m ((c : Thread nD τ).loc main_arg2))
    (m ((c : Thread nD τ).loc main_arg3)) (m ((c : Thread nD τ).loc main_arg4)) := by
  refine (dats m 0 c).arrAt_eq_of_covers 4 _ (by decide +kernel) fun t hf y => ?_
  have hz := flush_pos t hf
  blk_simp
  rw [after0_4]
  refine (congrArg (outv m c t) (ix2_eta (n0 := 512) (n1 := 2048) y).symm).trans ((out_at m c t hz (y 0) (y 1)).trans ?_)
  blk_point [idx t]

end Cert.MmLnIdeal.Mm

end
-- ==== Proof.MmRef.lean ====
/- The reference of the second layer's mixer output with normalization: its result is the same function of the arguments. -/
module

public import proofs.«01_k».proof.Proof.MmTie
public import proofs.«01_k».proof.Proof.Gen.MmLnRefIdeal.Run
public import Idealize.ShloMosaic.Lib.Pipeline.ValueKit
public import Idealize.ShloMosaic.Lib.Pointwise

@[expose] public section

set_option maxRecDepth 16384

noncomputable section

namespace Cert.MmLnRefIdeal.Mm

open Cert.MmLnRefIdeal Cert.MmLnRefIdeal.Gen Cert.MmLnIdeal.Mm
open Idealize.ShloMosaic Idealize.ShloMosaic.TcCoe Idealize.SL.Sem

/-- The scaled residual with the product of the rows and the weights. -/
def Y (x : FVec Ideal S9216x2048 .bf16) (r : FVec Ideal S9216x2048 .f32) (w : FVec Ideal S1x2048x2048 .f32) : FVec Ideal S9216x2048 .f32 :=
  addf (mulf (broadcastInDim S9216x2048 ![] bcast_S_S9216x2048 (constant S_ .f32 0x3FB504F3#32)) r)
    (Host.dotGeneral dot_S9216x2048_S2048x2048_S9216x2048_1_0_0_1_n_n none x (truncf .bf16 (shapeCast _ w shapeCasts_S1x2048x2048_S2048x2048) bitsLt_bf16_f32))

/-- Each row's mean, as a column. -/
def MU (y : FVec Ideal S9216x2048 .f32) : FVec Ideal S9216x1 .f32 :=
  Host.divf (broadcastInDim S9216x1 ![0] bcast_S9216_S9216x1_0 (Host.reduceAdd y (constant S_ .f32 0x00000000#32) reducesTo_S9216x2048_S9216_d1 h_S_))
    (broadcastInDim S9216x1 ![] bcast_S_S9216x1 (constant S_ .f32 0x45000000#32))

/-- The rows without their means. -/
def DV (y : FVec Ideal S9216x2048 .f32) : FVec Ideal S9216x2048 .f32 := subf y (broadcastInDim S9216x2048 ![0, 1] bcast_S9216x1_S9216x2048_0_1 (MU y))

/-- The rows normalized. -/
def Z (y : FVec Ideal S9216x2048 .f32) (g b : FVec Ideal S1x2048 .f32) : FVec Ideal S9216x2048 .f32 :=
  addf (mulf (mulf (DV y) (broadcastInDim S9216x2048 ![0, 1] bcast_S9216x1_S9216x2048_0_1
    (Host.rsqrt (addf (MU (mulf (DV y) (DV y))) (broadcastInDim S9216x1 ![] bcast_S_S9216x1 (constant S_ .f32 0x3727C5AC#32))))))
    (broadcastInDim S9216x2048 ![0, 1] bcast_S1x2048_S9216x2048_0_1 g)) (broadcastInDim S9216x2048 ![0, 1] bcast_S1x2048_S9216x2048_0_1 b)

theorem y_at (x : FVec Ideal S9216x2048 .bf16) (r : FVec Ideal S9216x2048 .f32) (w : FVec Ideal S1x2048x2048 .f32) (i : Fin 9216) (j : Fin 2048) :
    Y x r w (ix2 i j) = Ideal.ofBits .f32 1068827891#32 * r (ix2 i j) + ∑ d : Fin 2048, x (ix2 i d) * w (ix3 (0 : Fin 1) d j) := by
  unfold Y
  pointwise

theorem mu_at (y : FVec Ideal S9216x2048 .f32) (i : Fin 9216) : MU y (ix2 i (0 : Fin 1)) = Ideal.div (∑ k : Fin 2048, y (ix2 i k)) (Ideal.ofBits .f32 1157627904#32) := by
  unfold MU
  pointwise

theorem dv_at (y : FVec Ideal S9216x2048 .f32) (i : Fin 9216) (j : Fin 2048) :
    DV y (ix2 i j) = y (ix2 i j) - Ideal.div (∑ k : Fin 2048, y (ix2 i k)) (Ideal.ofBits .f32 1157627904#32) := by
  rw [← mu_at]
  unfold DV
  pointwise

theorem sq_at (y : FVec Ideal S9216x2048 .f32) (i : Fin 9216) (j : Fin 2048) :
    (mulf (DV y) (DV y) : FVec Ideal S9216x2048 .f32) (ix2 i j) = DV y (ix2 i j) * DV y (ix2 i j) := rfl

theorem z_at (y : FVec Ideal S9216x2048 .f32) (g b : FVec Ideal S1x2048 .f32) (i : Fin 9216) (j : Fin 2048) :
    Z y g b (ix2 i j) = LN (fun k => y (ix2 i k)) j (g (ix2 (0 : Fin 1) j)) (b (ix2 (0 : Fin 1) j)) := by
  have h : Z y g b (ix2 i j) = DV y (ix2 i j) * Ideal.rsqrt (MU (mulf (DV y) (DV y)) (ix2 i (0 : Fin 1)) + Ideal.ofBits .f32 925353388#32) * g (ix2 (0 : Fin 1) j) + b (ix2 (0 : Fin 1) j) := by
    unfold Z
    generalize DV y = d
    generalize MU (mulf d d) = v
    pointwise
  rw [h, mu_at]
  simp only [sq_at, dv_at]
  rfl

theorem ref_value (x : FVec Ideal S9216x2048 .bf16) (r : FVec Ideal S9216x2048 .f32) (g b : FVec Ideal S1x2048 .f32) (w : FVec Ideal S1x2048x2048 .f32) :
    Z (Y x r w) g b = G x r g b w := by
  funext i
  refine (congrArg (Z (Y x r w) g b) (ix2_eta (n0 := 9216) (n1 := 2048) i).symm).trans ((z_at (Y x r w) g b (i 0) (i 1)).trans ?_)
  refine (congrArg (fun v => LN v (i 1) (g (ix2 (0 : Fin 1) (i 1))) (b (ix2 (0 : Fin 1) (i 1)))) (funext fun k => y_at x r w (i 0) k)).trans ?_
  rfl

theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v27) = G (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run _ _ _).mono (fun r h c => ?_) (Value.run (F := Ideal) m ρ)
  obtain ⟨h1, hr⟩ := h c
  exact ⟨h1.trans (ref_value ..), hr⟩

end Cert.MmLnRefIdeal.Mm

end
-- ==== Proof.MmClaims.lean ====
/- The second layer's mixer output with normalization: its five claims. -/
module

public import proofs.«01_k».proof.Proof.MmRef
public import proofs.«01_k».proof.Proof.Gen.MmLn.Skeleton
public import proofs.«01_k».proof.Proof.Gen.MmLn.Launch
public import proofs.«01_k».proof.Defs
public import Idealize.ShloMosaic.PureOps.BitExact
public import Idealize.ShloMosaic.Lib.Quiescent

@[expose] public section

set_option maxRecDepth 16384

noncomputable section

namespace Cert.MmClaims

open Idealize.ShloMosaic Idealize.SL.Sem Idealize.ShloMosaic.TcCoe

/-- With no operation replaced, the two programs have the same kernel bodies, -/
theorem defs₀_eq {F : FTy → Type} [FloatOps F] : Cert.MmLn.defs₀ (F := F) = Cert.MmLnIdeal.defs₀ (F := F) := by
  unfold Cert.MmLn.defs₀ Cert.MmLnIdeal.defs₀
  refine congrArg Defs.onTc ?_
  funext x y
  rcases x with ⟨x, hx⟩
  match x, hx with
  | 0, _ => rfl

/-- the same definitions, -/
theorem defs_eq {F : FTy → Type} [FloatOps F] : Cert.MmLn.defs (F := F) = Cert.MmLnIdeal.defs (F := F) := by
  unfold Cert.MmLn.defs Cert.MmLnIdeal.defs
  rw [defs₀_eq]
  rfl

/-- and the same body of the launch. -/
theorem main_eq {F : FTy → Type} [FloatOps F] : Cert.MmLn.main (F := F) = Cert.MmLnIdeal.main (F := F) := rfl

/-- The bit-level run: it ends, arguments unchanged, counters at zero. -/
theorem frame_bits : Cert.quiescent_MmLn (hMmLn := Cert.MmLn.Gen.facts) := by
  intro m g _
  have h := Cert.MmLnIdeal.Mm.frame (F := Bits) m g
  rw [← defs_eq] at h
  exact h

/-- The idealized run: it ends, arguments unchanged, counters at zero. -/
theorem frame_ideal : Cert.quiescent_MmLnIdeal (hMmLnIdeal := Cert.MmLnIdeal.Gen.facts) := fun m g _ => Cert.MmLnIdeal.Mm.frame (F := Ideal) m g

/-- The reference's run: it ends, arguments unchanged, counters at zero. -/
theorem frame_ref : Cert.quiescent_MmLnRefIdeal (hMmLnRefIdeal := Cert.MmLnRefIdeal.Gen.facts) := by
  intro m g _
  exact (θ_run _ _ _).mono (fun r h => ⟨fun c => (h c).2, sem_eq_zero_of_no_sems rfl _⟩) (Cert.MmLnRefIdeal.Mm.ref_run m g)

/-- Equal arguments give equal results. -/
theorem G_congr {x x' : FVec Ideal Cert.MmLnIdeal.S9216x2048 .bf16} {r r' : FVec Ideal Cert.MmLnIdeal.S9216x2048 .f32} {g b g' b' : FVec Ideal Cert.MmLnIdeal.S1x2048 .f32}
    {w w' : FVec Ideal Cert.MmLnIdeal.S1x2048x2048 .f32} (h0 : x = x') (h1 : r = r') (h2 : g = g') (h3 : b = b') (h4 : w = w') :
    Cert.MmLnIdeal.Mm.G x r g b w = Cert.MmLnIdeal.Mm.G x' r' g' b' w' := by
  rw [h0, h1, h2, h3, h4]

/-- The two results are equal. -/
theorem value : Cert.algebraic_MmLnIdeal_MmLnRefIdeal (hMmLnIdeal := Cert.MmLnIdeal.Gen.facts) (hMmLnRefIdeal := Cert.MmLnRefIdeal.Gen.facts) := by
  intro m g m' g' _ hagree
  refine ⟨fun c => (Cert.MmLnIdeal.Mm.dats m 0 c).arrAt 4 Cert.MmLnIdeal.cfg0.N, ?_, ?_⟩
  · refine (θ_run _ _ _).mono (fun r h c => ?_) (Cert.MmLnIdeal.Mm.run_main m g)
    have h := h.1 c
    exact ⟨h.1 4, (h.1 0).trans ((Cert.MmLnIdeal.Mm.dats m 0 c).arrAt_in 0 rfl _), (h.1 1).trans ((Cert.MmLnIdeal.Mm.dats m 0 c).arrAt_in 1 rfl _),
      (h.1 2).trans ((Cert.MmLnIdeal.Mm.dats m 0 c).arrAt_in 2 rfl _), (h.1 3).trans ((Cert.MmLnIdeal.Mm.dats m 0 c).arrAt_in 3 rfl _),
      h.2 Cert.MmLnIdeal.main_arg4 (Pipeline.mem_restRefs_of Cert.MmLnIdeal.main_arg4 (by decide) (by decide))⟩
  · refine (θ_run _ _ _).mono (fun r h c => ?_) (Cert.MmLnRefIdeal.Mm.ref_run m' g')
    obtain ⟨h0, hr⟩ := h c
    obtain ⟨e0, e1, e2, e3, e4⟩ := hagree c
    refine ⟨h0.trans ?_, hr⟩
    refine Eq.trans ?_ (Cert.MmLnIdeal.Mm.final m c).symm
    exact G_congr e0 e1 e2 e3 e4

end Cert.MmClaims

end
-- ==== Proof.ExpPlan.lean ====
/- The precondition of the experts' call, read word by word. -/
module

public import proofs.«01_k».proof.Proof.Gen.Pre_plan_tables
public import Idealize.ShloMosaic.Lib.Pointwise
public import Idealize.ShloMosaic.Lib.StableHlo.Predicate

@[expose] public section

set_option maxRecDepth 16384

namespace Cert.ExpPlan

open Cert.Pre_plan_tables Cert.Pre_plan_tables.Gen
open Idealize.ShloMosaic

/-- What the precondition says of the tables' words: tiles and experts in range, the first visit on the first tile and the last on the
    last, at least one visit, tiles in order, no visit past the count changing the tile, visits of one tile with disjoint row ranges. -/
structure Words (t e lo hi : S51.Idx → BitVec 32) (n : S1.Idx → BitVec 32) : Prop where
  tile : ∀ v : Fin 51, (t (ix1 v)).toNat < 36
  exp : ∀ v : Fin 51, (e (ix1 v)).toNat < 16
  first : (t (ix1 0)).toNat = 0
  last : (t (ix1 50)).toNat = 35
  pos : 0 < (n (ix1 (0 : Fin 1))).toInt
  step : ∀ (v : Fin 51) (h : v.val + 1 < 51), (t (ix1 v)).toNat ≤ (t (ix1 ⟨v.val + 1, h⟩)).toNat ∧ (t (ix1 ⟨v.val + 1, h⟩)).toNat ≤ (t (ix1 v)).toNat + 1
  idle : ∀ (v : Fin 51) (h : v.val + 1 < 51), ¬ ((v.val + 1 : ℕ) : ℤ) < (n (ix1 (0 : Fin 1))).toInt → t (ix1 ⟨v.val + 1, h⟩) = t (ix1 v)
  apart : ∀ u v : Fin 51, u = v ∨ (t (ix1 u)).toNat ≠ (t (ix1 v)).toNat ∨ (hi (ix1 u)).toInt ≤ (lo (ix1 v)).toInt ∨ (hi (ix1 v)).toInt ≤ (lo (ix1 u)).toInt

theorem and1 (a b : BitVec 1) : IntOp.andi a b = 1#1 ↔ a = 1#1 ∧ b = 1#1 := by revert a b; decide
theorem or1 (a b : BitVec 1) : IntOp.ori a b = 1#1 ↔ a = 1#1 ∨ b = 1#1 := by revert a b; decide
theorem bool1 (b : Bool) : BitVec.ofBool b = 1#1 ↔ b = true := by revert b; decide
theorem sge1 (a b : BitVec 32) : IntOp.cmpi .sge a b = 1#1 ↔ b.toInt ≤ a.toInt := by
  show BitVec.ofBool (BitVec.sle b a) = 1#1 ↔ _
  rw [bool1, BitVec.sle, decide_eq_true_eq]
theorem sgt1 (a b : BitVec 32) : IntOp.cmpi .sgt a b = 1#1 ↔ b.toInt < a.toInt := by
  show BitVec.ofBool (BitVec.slt b a) = 1#1 ↔ _
  rw [bool1, BitVec.slt, decide_eq_true_eq]
theorem sle1 (a b : BitVec 32) : IntOp.cmpi .sle a b = 1#1 ↔ a.toInt ≤ b.toInt := by
  show BitVec.ofBool (BitVec.sle a b) = 1#1 ↔ _
  rw [bool1, BitVec.sle, decide_eq_true_eq]
theorem slt1 (a b : BitVec 32) : IntOp.cmpi .slt a b = 1#1 ↔ a.toInt < b.toInt := by
  show BitVec.ofBool (BitVec.slt a b) = 1#1 ↔ _
  rw [bool1, BitVec.slt, decide_eq_true_eq]
theorem eq1 (a b : BitVec 32) : IntOp.cmpi .eq a b = 1#1 ↔ a = b := by
  show BitVec.ofBool (a == b) = 1#1 ↔ _
  rw [bool1, beq_iff_eq]
theorem ne1 (a b : BitVec 32) : IntOp.cmpi .ne a b = 1#1 ↔ a ≠ b := by
  show BitVec.ofBool (a != b) = 1#1 ↔ _
  rw [bool1, bne_iff_ne]

/-- A word between 0 and a small bound, signed, is below the bound. -/
theorem small (w : BitVec 32) (k : ℕ) (hk : k ≤ 64) (h0 : (0 : ℤ) ≤ w.toInt) (h1 : w.toInt < k) : w.toNat < k ∧ w.toInt = w.toNat := by
  have hlt := w.isLt
  rw [BitVec.toInt_eq_toNat_cond] at h0 h1 ⊢
  split at h0 <;> rename_i hc
  · rw [if_pos hc] at h1 ⊢; exact ⟨by omega, rfl⟩
  · omega

theorem word_of (t : S51.Idx → BitVec 32) : ∃ w : Fin 51 → BitVec 32, ∀ I, t I = w (I 0) :=
  ⟨fun v => t (ix1 v), fun I => congrArg t (by
    funext b
    match b with
    | ⟨0, _⟩ => rfl)⟩
theorem word_of_one (n : S1.Idx → BitVec 32) : ∃ w : BitVec 32, ∀ I, n I = w :=
  ⟨n (ix1 (0 : Fin 1)), fun I => congrArg n (by
    funext b
    match b with
    | ⟨0, _⟩ => exact Fin.ext (Nat.lt_one_iff.mp (I 0).isLt))⟩

/-- The precondition, read word by word. -/
theorem words {F : FTy → Type} [FloatOps F] (t e lo hi : IVec S51 32) (n : IVec S1 32) (x : FVec F S294912x128 .f32) (g u : FVec F S2x16x2048x512 .f32)
    (d : FVec F S2x16x512x2048 .f32) (h1 : (fn (F := F) t e lo hi n x g u d).1 = fun _ => 1#1) (h2 : (fn (F := F) t e lo hi n x g u d).2.1 = fun _ => 1#1)
    (h3 : (fn (F := F) t e lo hi n x g u d).2.2.1 = fun _ => 1#1) (h4 : (fn (F := F) t e lo hi n x g u d).2.2.2 = fun _ => 1#1) : Words t e lo hi n := by
  have p1 := fun v : Fin 51 => congrFun h1 (ix1 v)
  have p2 := congrFun h2 (ix1 (0 : Fin 1))
  have p3 := fun v : Fin 50 => congrFun h3 (ix1 v)
  have p4 := fun u v : Fin 51 => congrFun h4 (ix2 u v)
  simp only [fn, fn_part1, fn_part2, constantI, broadcastInDim, cmpi, andi, ori, addi, iotaInDim, and1, or1, sge1, sgt1, sle1, slt1, eq1, ne1, extractStridedSlice] at p1 p2 p3 p4
  obtain ⟨tw, ht⟩ := word_of t
  obtain ⟨ew, he⟩ := word_of e
  obtain ⟨lw, hl⟩ := word_of lo
  obtain ⟨hw, hh⟩ := word_of hi
  obtain ⟨nw, hn⟩ := word_of_one n
  simp only [ht, he, hl, hh, hn] at p1 p2 p3 p4
  have q1 : ∀ v : Fin 51, (((0 : ℤ) ≤ (tw v).toInt ∧ (tw v).toInt < (36 : ℕ)) ∧ (0 : ℤ) ≤ (ew v).toInt) ∧ (ew v).toInt < (16 : ℕ) := p1
  have q2 : (tw 0 = 0#32 ∧ tw 50 = 35#32) ∧ 0 < nw.toInt := p2
  have q3 : ∀ (v : Fin 51) (h : v.val + 1 < 51), ((tw v).toInt ≤ (tw ⟨v.val + 1, h⟩).toInt ∧ (tw ⟨v.val + 1, h⟩).toInt ≤ (tw v + 1#32).toInt)
      ∧ ((BitVec.ofNat 32 (v.val + 1)).toInt < nw.toInt ∨ tw ⟨v.val + 1, h⟩ = tw v) := fun v h => by
    have hv := p3 ⟨v.val, by omega⟩
    have a1 : v.val + 1 = 1 + v.val := Nat.add_comm _ _
    have e0 : (⟨v.val + 1, h⟩ : Fin 51) = ⟨1 + v.val, by omega⟩ := Fin.ext a1
    have e1 : v = ⟨0 + v.val, by omega⟩ := Fin.ext (Nat.zero_add _).symm
    rw [e0, a1]
    have e2 : tw v = tw ⟨0 + v.val, by omega⟩ := congrArg tw e1
    rw [e2]
    exact hv
  have q4 : ∀ u v : Fin 51, ((BitVec.ofNat 32 u.val = BitVec.ofNat 32 v.val ∨ tw u ≠ tw v) ∨ (hw u).toInt ≤ (lw v).toInt) ∨ (hw v).toInt ≤ (lw u).toInt := fun u v => p4 u v
  have st : ∀ v, (tw v).toNat < 36 ∧ (tw v).toInt = (tw v).toNat := fun v => small _ 36 (by decide) (q1 v).1.1.1 (q1 v).1.1.2
  refine ⟨fun v => ?_, fun v => ?_, ?_, ?_, ?_, fun v h => ?_, fun v h hn' => ?_, fun u v => ?_⟩
  · rw [ht]; exact (st v).1
  · rw [he]; exact (small _ 16 (by decide) (q1 v).1.2 (q1 v).2).1
  · rw [ht]; exact congrArg BitVec.toNat q2.1.1
  · rw [ht]; exact congrArg BitVec.toNat q2.1.2
  · rw [hn]; exact q2.2
  · rw [ht, ht]
    obtain ⟨⟨a1, a2⟩, -⟩ := q3 v h
    have s1 := st v
    have s2 := st ⟨v.val + 1, h⟩
    have ea : (tw v + 1#32).toInt = (tw v).toNat + 1 := by
      rw [BitVec.toInt_eq_toNat_of_lt] <;> rw [BitVec.toNat_add] <;> simp <;> omega
    rw [ea, s2.2] at a2
    rw [s1.2, s2.2] at a1
    show (tw v).toNat ≤ (tw ⟨v.val + 1, h⟩).toNat ∧ (tw ⟨v.val + 1, h⟩).toNat ≤ (tw v).toNat + 1
    omega
  · rw [ht, ht]
    rw [hn] at hn'
    rcases (q3 v h).2 with hc | hc
    · rw [BitVec.toInt_eq_toNat_of_lt (by simp only [BitVec.toNat_ofNat]; omega)] at hc
      simp only [BitVec.toNat_ofNat] at hc
      omega
    · exact hc
  · rw [ht, ht, hh, hl, hh, hl]
    rcases q4 u v with ((hc | hc) | hc) | hc
    · refine Or.inl (Fin.ext ?_)
      have := congrArg BitVec.toNat hc
      simp only [BitVec.toNat_ofNat] at this
      omega
    · exact Or.inr (Or.inl fun h => hc (BitVec.eq_of_toNat_eq h))
    · exact Or.inr (Or.inr (Or.inl hc))
    · exact Or.inr (Or.inr (Or.inr hc))

end Cert.ExpPlan
-- ==== Proof.LastIdealRuns.lean ====
module

public import proofs.«01_k».proof.Proof.Gen.LastIdeal.Skeleton
public import proofs.«01_k».proof.Proof.Gen.LastIdeal.Launch
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.LastIdeal.Tab

open Cert.LastIdeal Cert.LastIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The five tables and the three scratch buffers, whole. -/
abbrev tb0 : Memref sig .tc .smem S51 .i32 := Memref.whole main_arg0
abbrev tb1 : Memref sig .tc .smem S51 .i32 := Memref.whole main_arg1
abbrev tb2 : Memref sig .tc .smem S51 .i32 := Memref.whole main_arg2
abbrev tb3 : Memref sig .tc .smem S51 .i32 := Memref.whole main_arg3
abbrev tb4 : Memref sig .tc .smem S1 .i32 := Memref.whole main_arg4
abbrev sc0 : Memref sig .tc .vmem S2048x512 .bf16 := Memref.whole cc0_scratch0
abbrev sc1 : Memref sig .tc .vmem S2048x512 .bf16 := Memref.whole cc0_scratch1
abbrev sc2 : Memref sig .tc .vmem S512x2048 .bf16 := Memref.whole cc0_scratch2

/-- The words the body reads of the tables at a visit. -/
abbrev wn (T4 : S1.Idx → Elt F .i32) : Elt F .i32 := View.readAt (Elt F) tb4.view (Rect.unit (s := S1) ![0] S1.size inb_S1_S1_0).toLoadRect T4 (Shape.Idx.first (numel1_S1.symm ▸ Nat.one_pos))
abbrev we (i : grid0.Coords) (T1 : S51.Idx → Elt F .i32) : Elt F .i32 := View.readAt (Elt F) tb1.view (Rect.unit (s := S51) (k0_off2 i) S1.size (k0_off2_inb i)).toLoadRect T1 (Shape.Idx.first (numel1_S1.symm ▸ Nat.one_pos))
abbrev wep (i : grid0.Coords) (T1 : S51.Idx → Elt F .i32) : Elt F .i32 := View.readAt (Elt F) tb1.view (Rect.unit (s := S51) (k0_off3 i) S1.size (k0_off3_inb i)).toLoadRect T1 (Shape.Idx.first (numel1_S1.symm ▸ Nat.one_pos))
abbrev wt (i : grid0.Coords) (T0 : S51.Idx → Elt F .i32) : Elt F .i32 := View.readAt (Elt F) tb0.view (Rect.unit (s := S51) (k0_off4 i) S1.size (k0_off4_inb i)).toLoadRect T0 (Shape.Idx.first (numel1_S1.symm ▸ Nat.one_pos))
abbrev wtp (i : grid0.Coords) (T0 : S51.Idx → Elt F .i32) : Elt F .i32 := View.readAt (Elt F) tb0.view (Rect.unit (s := S51) (k0_off5 i) S1.size (k0_off5_inb i)).toLoadRect T0 (Shape.Idx.first (numel1_S1.symm ▸ Nat.one_pos))

/-- The visit is one of the plan's. -/
abbrev H1 (i : grid0.Coords) (T4 : S1.Idx → Elt F .i32) : Prop := k0_cond1 i (wn T4) = 1#1
/-- The visit loads the weights: it is the first, or its expert is not the last one's. -/
abbrev HL (i : grid0.Coords) (T1 : S51.Idx → Elt F .i32) : Prop :=
  Scalar.cmpi .ne (Scalar.extui (Scalar.ori (Scalar.cmpi .eq (BitVec.ofNat 32 (i 0).val) 0#32) (Scalar.cmpi .ne (we i T1) (wep i T1)))) 0#32 = 1#1
/-- The visit is the first of its tile. -/
abbrev H3 (i : grid0.Coords) (T0 : S51.Idx → Elt F .i32) : Prop := k0_cond3 i (wt i T0) (wtp i T0) = 1#1
/-- The visit is not the first of its tile. -/
abbrev H4 (i : grid0.Coords) (T0 : S51.Idx → Elt F .i32) : Prop := k0_cond4 i (wt i T0) (wtp i T0) = 1#1

set_option maxHeartbeats 8000000 in
/-- A visit past the plan's last does nothing. -/
theorem runE (c : Dev nD) (i : grid0.Coords) (arg6 : Memref sig .tc .vmem S8192x128 .f32) (harg6 : arg6.IsWhole) (arg7 : Memref sig .tc .vmem S1x1x2048x512 .f32) (harg7 : arg7.IsWhole) (arg8 : Memref sig .tc .vmem S1x1x2048x512 .f32) (harg8 : arg8.IsWhole) (arg9 : Memref sig .tc .vmem S1x1x512x2048 .f32) (harg9 : arg9.IsWhole) (arg10 : Memref sig .tc .vmem S8192x128 .f32) (harg10 : arg10.IsWhole)
    (T0 T1 T2 T3 : S51.Idx → Elt F .i32) (T4 : S1.Idx → Elt F .i32)
    (x0 : S8192x128.Idx → Elt F .f32) (x1 x2 : S1x1x2048x512.Idx → Elt F .f32) (x3 : S1x1x512x2048.Idx → Elt F .f32)
    (xa0 : Buf (Elt F) ((c : Thread nD τ).loc cc0_scratch0)) (xa1 : Buf (Elt F) ((c : Thread nD τ).loc cc0_scratch1)) (xa2 : Buf (Elt F) ((c : Thread nD τ).loc cc0_scratch2)) (h1 : ¬ H1 i T4) (K : PUnit → sProp 𝕄) :
    iprop((arg6.view.loc (c : Thread nD τ) ↦[arg6.view.set]{fullShare} arg6.view.rep x0)
          ∗ (arg7.view.loc (c : Thread nD τ) ↦[arg7.view.set]{fullShare} arg7.view.rep x1)
          ∗ (arg8.view.loc (c : Thread nD τ) ↦[arg8.view.set]{fullShare} arg8.view.rep x2)
          ∗ (arg9.view.loc (c : Thread nD τ) ↦[arg9.view.set]{fullShare} arg9.view.rep x3)
          ∗ (tb0.view.loc (c : Thread nD τ) ↦{fullShare.right} T0)
          ∗ (tb1.view.loc (c : Thread nD τ) ↦{fullShare.right} T1)
          ∗ (tb2.view.loc (c : Thread nD τ) ↦{fullShare.right} T2)
          ∗ (tb3.view.loc (c : Thread nD τ) ↦{fullShare.right} T3)
          ∗ (tb4.view.loc (c : Thread nD τ) ↦{fullShare.right} T4)
          ∗ (sc0.view.loc (c : Thread nD τ) ↦{fullShare} xa0)
          ∗ (sc1.view.loc (c : Thread nD τ) ↦{fullShare} xa1)
          ∗ (sc2.view.loc (c : Thread nD τ) ↦{fullShare} xa2)
          ∗ (iprop((arg6.view.loc (c : Thread nD τ) ↦[arg6.view.set]{fullShare} arg6.view.rep x0)
          ∗ (arg7.view.loc (c : Thread nD τ) ↦[arg7.view.set]{fullShare} arg7.view.rep x1)
          ∗ (arg8.view.loc (c : Thread nD τ) ↦[arg8.view.set]{fullShare} arg8.view.rep x2)
          ∗ (arg9.view.loc (c : Thread nD τ) ↦[arg9.view.set]{fullShare} arg9.view.rep x3)
          ∗ (tb0.view.loc (c : Thread nD τ) ↦{fullShare.right} T0)
          ∗ (tb1.view.loc (c : Thread nD τ) ↦{fullShare.right} T1)
          ∗ (tb2.view.loc (c : Thread nD τ) ↦{fullShare.right} T2)
          ∗ (tb3.view.loc (c : Thread nD τ) ↦{fullShare.right} T3)
          ∗ (tb4.view.loc (c : Thread nD τ) ↦{fullShare.right} T4)
          ∗ (sc0.view.loc (c : Thread nD τ) ↦{fullShare} xa0)
          ∗ (sc1.view.loc (c : Thread nD τ) ↦{fullShare} xa1)
          ∗ (sc2.view.loc (c : Thread nD τ) ↦{fullShare} xa2)) -∗ K ⟨⟩))
      ⊢ wp frame (wpE (defs₀ (F := F)) Variants.none c none) Set.univ (cc0_moe_experts i tb0 (Memref.isWhole_whole _) tb1 (Memref.isWhole_whole _) tb2 (Memref.isWhole_whole _) tb3 (Memref.isWhole_whole _) tb4 (Memref.isWhole_whole _) arg6 harg6 arg7 harg7 arg8 harg8 arg9 harg9 arg10 harg10 sc0 (Memref.isWhole_whole _) sc1 (Memref.isWhole_whole _) sc2 (Memref.isWhole_whole _)) K := by
    rw [cc0_moe_experts_eq_skeleton]; unfold cc0_moe_experts_skel
    iintro ⟨H0, H1, H2, H3, HT0, HT1, HT2, HT3, HT4, HS0, HS1, HS2, Hk⟩
    have hT4 : tb4.IsWhole := Memref.isWhole_whole _
    sl_exec! (disch := first | (guard_target = ¬(k0_cond1 _ _ = _); exact h1))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HT2]; · iexact HT2
    isplitl [HT3]; · iexact HT3
    isplitl [HT4]; · iexact HT4
    isplitl [HS0]; · iexact HS0
    isplitl [HS1]; · iexact HS1
    iexact HS2

set_option backward.proofsInPublic true in
set_option maxHeartbeats 40000000 in
/-- A visit of the plan, first of its tile, loading its weights: the pieces it leaves in the output's buffer and what the scratches then hold, found by
    the run, with the proof that the body runs to them. -/
def runA (c : Dev nD) (i : grid0.Coords) (arg6 : Memref sig .tc .vmem S8192x128 .f32) (harg6 : arg6.IsWhole) (arg7 : Memref sig .tc .vmem S1x1x2048x512 .f32) (harg7 : arg7.IsWhole) (arg8 : Memref sig .tc .vmem S1x1x2048x512 .f32) (harg8 : arg8.IsWhole) (arg9 : Memref sig .tc .vmem S1x1x512x2048 .f32) (harg9 : arg9.IsWhole) (arg10 : Memref sig .tc .vmem S8192x128 .f32) (harg10 : arg10.IsWhole)
    (T0 T1 T2 T3 : S51.Idx → Elt F .i32) (T4 : S1.Idx → Elt F .i32)
    (x0 : S8192x128.Idx → Elt F .f32) (x1 x2 : S1x1x2048x512.Idx → Elt F .f32) (x3 : S1x1x512x2048.Idx → Elt F .f32)
    (h1 : H1 i T4) (hl : HL i T1) (h3 : H3 i T0) (h4 : ¬ H4 i T0) :
    Σ' (out0 : List (View.Piece (Elt F) S8192x128 .f32)) (out1 : Buf (Elt F) ((c : Thread nD τ).loc cc0_scratch0)) (out2 : Buf (Elt F) ((c : Thread nD τ).loc cc0_scratch1)), { out3 : Buf (Elt F) ((c : Thread nD τ).loc cc0_scratch2) //
      ∀ (xa0 : Buf (Elt F) ((c : Thread nD τ).loc cc0_scratch0)) (xa1 : Buf (Elt F) ((c : Thread nD τ).loc cc0_scratch1)) (xa2 : Buf (Elt F) ((c : Thread nD τ).loc cc0_scratch2)) (K : PUnit → sProp 𝕄),
        iprop((arg6.view.loc (c : Thread nD τ) ↦[arg6.view.set]{fullShare} arg6.view.rep x0)
          ∗ (arg7.view.loc (c : Thread nD τ) ↦[arg7.view.set]{fullShare} arg7.view.rep x1)
          ∗ (arg8.view.loc (c : Thread nD τ) ↦[arg8.view.set]{fullShare} arg8.view.rep x2)
          ∗ (arg9.view.loc (c : Thread nD τ) ↦[arg9.view.set]{fullShare} arg9.view.rep x3)
          ∗ (tb0.view.loc (c : Thread nD τ) ↦{fullShare.right} T0)
          ∗ (tb1.view.loc (c : Thread nD τ) ↦{fullShare.right} T1)
          ∗ (tb2.view.loc (c : Thread nD τ) ↦{fullShare.right} T2)
          ∗ (tb3.view.loc (c : Thread nD τ) ↦{fullShare.right} T3)
          ∗ (tb4.view.loc (c : Thread nD τ) ↦{fullShare.right} T4)
          ∗ (∃ d, owns (c : Thread nD τ) arg10 fullShare d)
          ∗ (sc0.view.loc (c : Thread nD τ) ↦{fullShare} xa0)
          ∗ (sc1.view.loc (c : Thread nD τ) ↦{fullShare} xa1)
          ∗ (sc2.view.loc (c : Thread nD τ) ↦{fullShare} xa2)
          ∗ (iprop((arg6.view.loc (c : Thread nD τ) ↦[arg6.view.set]{fullShare} arg6.view.rep x0)
          ∗ (arg7.view.loc (c : Thread nD τ) ↦[arg7.view.set]{fullShare} arg7.view.rep x1)
          ∗ (arg8.view.loc (c : Thread nD τ) ↦[arg8.view.set]{fullShare} arg8.view.rep x2)
          ∗ (arg9.view.loc (c : Thread nD τ) ↦[arg9.view.set]{fullShare} arg9.view.rep x3)
          ∗ (tb0.view.loc (c : Thread nD τ) ↦{fullShare.right} T0)
          ∗ (tb1.view.loc (c : Thread nD τ) ↦{fullShare.right} T1)
          ∗ (tb2.view.loc (c : Thread nD τ) ↦{fullShare.right} T2)
          ∗ (tb3.view.loc (c : Thread nD τ) ↦{fullShare.right} T3)
          ∗ (tb4.view.loc (c : Thread nD τ) ↦{fullShare.right} T4)
          ∗ (∃ f, arg10.view.loc (c : Thread nD τ) ↦[arg10.view.set]{fullShare} arg10.view.writes (Elt F) f out0)
          ∗ (sc0.view.loc (c : Thread nD τ) ↦{fullShare} out1)
          ∗ (sc1.view.loc (c : Thread nD τ) ↦{fullShare} out2)
          ∗ (sc2.view.loc (c : Thread nD τ) ↦{fullShare} out3)) -∗ K ⟨⟩))
          ⊢ wp frame (wpE (defs₀ (F := F)) Variants.none c none) Set.univ (cc0_moe_experts i tb0 (Memref.isWhole_whole _) tb1 (Memref.isWhole_whole _) tb2 (Memref.isWhole_whole _) tb3 (Memref.isWhole_whole _) tb4 (Memref.isWhole_whole _) arg6 harg6 arg7 harg7 arg8 harg8 arg9 harg9 arg10 harg10 sc0 (Memref.isWhole_whole _) sc1 (Memref.isWhole_whole _) sc2 (Memref.isWhole_whole _)) K } :=
  ⟨_, _, _, _, fun (xa0 : Buf (Elt F) ((c : Thread nD τ).loc cc0_scratch0)) (xa1 : Buf (Elt F) ((c : Thread nD τ).loc cc0_scratch1)) (xa2 : Buf (Elt F) ((c : Thread nD τ).loc cc0_scratch2)) K => by
    unfold owns
    rw [cc0_moe_experts_eq_skeleton]; unfold cc0_moe_experts_skel
    iintro ⟨H0, H1, H2, H3, HT0, HT1, HT2, HT3, HT4, ⟨%d4, %f4, -, HO4⟩, HS0, HS1, HS2, Hk⟩

    have hS0 : sc0.IsWhole := Memref.isWhole_whole _
    have hS1 : sc1.IsWhole := Memref.isWhole_whole _
    have hS2 : sc2.IsWhole := Memref.isWhole_whole _
    have hT0 : tb0.IsWhole := Memref.isWhole_whole _
    have hT1 : tb1.IsWhole := Memref.isWhole_whole _
    have hT2 : tb2.IsWhole := Memref.isWhole_whole _
    have hT3 : tb3.IsWhole := Memref.isWhole_whole _
    have hT4 : tb4.IsWhole := Memref.isWhole_whole _
    sl_exec! (disch := first | (guard_target = k0_cond1 _ _ = _; exact h1) | (guard_target = Scalar.cmpi = _; exact hl) | (guard_target = k0_cond3 _ _ _ = _; exact h3) | (guard_target = ¬(k0_cond4 _ _ _ = _); exact h4))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HT2]; · iexact HT2
    isplitl [HT3]; · iexact HT3
    isplitl [HT4]; · iexact HT4
    isplitl [HO4]; · iexists _; iexact HO4
    isplitl [HS0]; · iexact HS0
    isplitl [HS1]; · iexact HS1
    iexact HS2⟩

set_option backward.proofsInPublic true in
set_option maxHeartbeats 40000000 in
/-- A visit of the plan, a later one of its tile, keeping the weights: the pieces it leaves in the output's buffer and what the scratches then hold, found by
    the run, with the proof that the body runs to them. -/
def runB (c : Dev nD) (i : grid0.Coords) (arg6 : Memref sig .tc .vmem S8192x128 .f32) (harg6 : arg6.IsWhole) (arg7 : Memref sig .tc .vmem S1x1x2048x512 .f32) (harg7 : arg7.IsWhole) (arg8 : Memref sig .tc .vmem S1x1x2048x512 .f32) (harg8 : arg8.IsWhole) (arg9 : Memref sig .tc .vmem S1x1x512x2048 .f32) (harg9 : arg9.IsWhole) (arg10 : Memref sig .tc .vmem S8192x128 .f32) (harg10 : arg10.IsWhole)
    (T0 T1 T2 T3 : S51.Idx → Elt F .i32) (T4 : S1.Idx → Elt F .i32)
    (x0 : S8192x128.Idx → Elt F .f32) (x1 x2 : S1x1x2048x512.Idx → Elt F .f32) (x3 : S1x1x512x2048.Idx → Elt F .f32)
    (xo : S8192x128.Idx → Elt F .f32)
    (xa0 : Buf (Elt F) ((c : Thread nD τ).loc cc0_scratch0)) (xa1 : Buf (Elt F) ((c : Thread nD τ).loc cc0_scratch1)) (xa2 : Buf (Elt F) ((c : Thread nD τ).loc cc0_scratch2))
    (h1 : H1 i T4) (hl : ¬ HL i T1) (h3 : ¬ H3 i T0) (h4 : H4 i T0) :
    Σ' (out0 : List (View.Piece (Elt F) S8192x128 .f32)) (out1 : Buf (Elt F) ((c : Thread nD τ).loc cc0_scratch0)) (out2 : Buf (Elt F) ((c : Thread nD τ).loc cc0_scratch1)), { out3 : Buf (Elt F) ((c : Thread nD τ).loc cc0_scratch2) //
      ∀ (K : PUnit → sProp 𝕄),
        iprop((arg6.view.loc (c : Thread nD τ) ↦[arg6.view.set]{fullShare} arg6.view.rep x0)
          ∗ (arg7.view.loc (c : Thread nD τ) ↦[arg7.view.set]{fullShare} arg7.view.rep x1)
          ∗ (arg8.view.loc (c : Thread nD τ) ↦[arg8.view.set]{fullShare} arg8.view.rep x2)
          ∗ (arg9.view.loc (c : Thread nD τ) ↦[arg9.view.set]{fullShare} arg9.view.rep x3)
          ∗ (tb0.view.loc (c : Thread nD τ) ↦{fullShare.right} T0)
          ∗ (tb1.view.loc (c : Thread nD τ) ↦{fullShare.right} T1)
          ∗ (tb2.view.loc (c : Thread nD τ) ↦{fullShare.right} T2)
          ∗ (tb3.view.loc (c : Thread nD τ) ↦{fullShare.right} T3)
          ∗ (tb4.view.loc (c : Thread nD τ) ↦{fullShare.right} T4)
          ∗ owns (c : Thread nD τ) arg10 fullShare xo
          ∗ (sc0.view.loc (c : Thread nD τ) ↦{fullShare} xa0)
          ∗ (sc1.view.loc (c : Thread nD τ) ↦{fullShare} xa1)
          ∗ (sc2.view.loc (c : Thread nD τ) ↦{fullShare} xa2)
          ∗ (iprop((arg6.view.loc (c : Thread nD τ) ↦[arg6.view.set]{fullShare} arg6.view.rep x0)
          ∗ (arg7.view.loc (c : Thread nD τ) ↦[arg7.view.set]{fullShare} arg7.view.rep x1)
          ∗ (arg8.view.loc (c : Thread nD τ) ↦[arg8.view.set]{fullShare} arg8.view.rep x2)
          ∗ (arg9.view.loc (c : Thread nD τ) ↦[arg9.view.set]{fullShare} arg9.view.rep x3)
          ∗ (tb0.view.loc (c : Thread nD τ) ↦{fullShare.right} T0)
          ∗ (tb1.view.loc (c : Thread nD τ) ↦{fullShare.right} T1)
          ∗ (tb2.view.loc (c : Thread nD τ) ↦{fullShare.right} T2)
          ∗ (tb3.view.loc (c : Thread nD τ) ↦{fullShare.right} T3)
          ∗ (tb4.view.loc (c : Thread nD τ) ↦{fullShare.right} T4)
          ∗ (∃ f, arg10.view.loc (c : Thread nD τ) ↦[arg10.view.set]{fullShare} arg10.view.writes (Elt F) f out0)
          ∗ (sc0.view.loc (c : Thread nD τ) ↦{fullShare} out1)
          ∗ (sc1.view.loc (c : Thread nD τ) ↦{fullShare} out2)
          ∗ (sc2.view.loc (c : Thread nD τ) ↦{fullShare} out3)) -∗ K ⟨⟩))
          ⊢ wp frame (wpE (defs₀ (F := F)) Variants.none c none) Set.univ (cc0_moe_experts i tb0 (Memref.isWhole_whole _) tb1 (Memref.isWhole_whole _) tb2 (Memref.isWhole_whole _) tb3 (Memref.isWhole_whole _) tb4 (Memref.isWhole_whole _) arg6 harg6 arg7 harg7 arg8 harg8 arg9 harg9 arg10 harg10 sc0 (Memref.isWhole_whole _) sc1 (Memref.isWhole_whole _) sc2 (Memref.isWhole_whole _)) K } :=
  ⟨_, _, _, _, fun K => by
    unfold owns
    rw [cc0_moe_experts_eq_skeleton]; unfold cc0_moe_experts_skel
    iintro ⟨H0, H1, H2, H3, HT0, HT1, HT2, HT3, HT4, ⟨%f4, %hf4, HO4⟩, HS0, HS1, HS2, Hk⟩
    obtain rfl := harg10.eq_unread hf4
    have hS0 : sc0.IsWhole := Memref.isWhole_whole _
    have hS1 : sc1.IsWhole := Memref.isWhole_whole _
    have hS2 : sc2.IsWhole := Memref.isWhole_whole _
    have hT0 : tb0.IsWhole := Memref.isWhole_whole _
    have hT1 : tb1.IsWhole := Memref.isWhole_whole _
    have hT2 : tb2.IsWhole := Memref.isWhole_whole _
    have hT3 : tb3.IsWhole := Memref.isWhole_whole _
    have hT4 : tb4.IsWhole := Memref.isWhole_whole _
    sl_exec! (disch := first | (guard_target = k0_cond1 _ _ = _; exact h1) | (guard_target = ¬(Scalar.cmpi = _); exact hl) | (guard_target = ¬(k0_cond3 _ _ _ = _); exact h3) | (guard_target = k0_cond4 _ _ _ = _; exact h4))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HT2]; · iexact HT2
    isplitl [HT3]; · iexact HT3
    isplitl [HT4]; · iexact HT4
    isplitl [HO4]; · iexists _; iexact HO4
    isplitl [HS0]; · iexact HS0
    isplitl [HS1]; · iexact HS1
    iexact HS2⟩

set_option backward.proofsInPublic true in
set_option maxHeartbeats 40000000 in
/-- A visit of the plan, first of its tile, keeping the weights: the pieces it leaves in the output's buffer and what the scratches then hold, found by
    the run, with the proof that the body runs to them. -/
def runC (c : Dev nD) (i : grid0.Coords) (arg6 : Memref sig .tc .vmem S8192x128 .f32) (harg6 : arg6.IsWhole) (arg7 : Memref sig .tc .vmem S1x1x2048x512 .f32) (harg7 : arg7.IsWhole) (arg8 : Memref sig .tc .vmem S1x1x2048x512 .f32) (harg8 : arg8.IsWhole) (arg9 : Memref sig .tc .vmem S1x1x512x2048 .f32) (harg9 : arg9.IsWhole) (arg10 : Memref sig .tc .vmem S8192x128 .f32) (harg10 : arg10.IsWhole)
    (T0 T1 T2 T3 : S51.Idx → Elt F .i32) (T4 : S1.Idx → Elt F .i32)
    (x0 : S8192x128.Idx → Elt F .f32) (x1 x2 : S1x1x2048x512.Idx → Elt F .f32) (x3 : S1x1x512x2048.Idx → Elt F .f32)
    (xa0 : Buf (Elt F) ((c : Thread nD τ).loc cc0_scratch0)) (xa1 : Buf (Elt F) ((c : Thread nD τ).loc cc0_scratch1)) (xa2 : Buf (Elt F) ((c : Thread nD τ).loc cc0_scratch2))
    (h1 : H1 i T4) (hl : ¬ HL i T1) (h3 : H3 i T0) (h4 : ¬ H4 i T0) :
    Σ' (out0 : List (View.Piece (Elt F) S8192x128 .f32)) (out1 : Buf (Elt F) ((c : Thread nD τ).loc cc0_scratch0)) (out2 : Buf (Elt F) ((c : Thread nD τ).loc cc0_scratch1)), { out3 : Buf (Elt F) ((c : Thread nD τ).loc cc0_scratch2) //
      ∀ (K : PUnit → sProp 𝕄),
        iprop((arg6.view.loc (c : Thread nD τ) ↦[arg6.view.set]{fullShare} arg6.view.rep x0)
          ∗ (arg7.view.loc (c : Thread nD τ) ↦[arg7.view.set]{fullShare} arg7.view.rep x1)
          ∗ (arg8.view.loc (c : Thread nD τ) ↦[arg8.view.set]{fullShare} arg8.view.rep x2)
          ∗ (arg9.view.loc (c : Thread nD τ) ↦[arg9.view.set]{fullShare} arg9.view.rep x3)
          ∗ (tb0.view.loc (c : Thread nD τ) ↦{fullShare.right} T0)
          ∗ (tb1.view.loc (c : Thread nD τ) ↦{fullShare.right} T1)
          ∗ (tb2.view.loc (c : Thread nD τ) ↦{fullShare.right} T2)
          ∗ (tb3.view.loc (c : Thread nD τ) ↦{fullShare.right} T3)
          ∗ (tb4.view.loc (c : Thread nD τ) ↦{fullShare.right} T4)
          ∗ (∃ d, owns (c : Thread nD τ) arg10 fullShare d)
          ∗ (sc0.view.loc (c : Thread nD τ) ↦{fullShare} xa0)
          ∗ (sc1.view.loc (c : Thread nD τ) ↦{fullShare} xa1)
          ∗ (sc2.view.loc (c : Thread nD τ) ↦{fullShare} xa2)
          ∗ (iprop((arg6.view.loc (c : Thread nD τ) ↦[arg6.view.set]{fullShare} arg6.view.rep x0)
          ∗ (arg7.view.loc (c : Thread nD τ) ↦[arg7.view.set]{fullShare} arg7.view.rep x1)
          ∗ (arg8.view.loc (c : Thread nD τ) ↦[arg8.view.set]{fullShare} arg8.view.rep x2)
          ∗ (arg9.view.loc (c : Thread nD τ) ↦[arg9.view.set]{fullShare} arg9.view.rep x3)
          ∗ (tb0.view.loc (c : Thread nD τ) ↦{fullShare.right} T0)
          ∗ (tb1.view.loc (c : Thread nD τ) ↦{fullShare.right} T1)
          ∗ (tb2.view.loc (c : Thread nD τ) ↦{fullShare.right} T2)
          ∗ (tb3.view.loc (c : Thread nD τ) ↦{fullShare.right} T3)
          ∗ (tb4.view.loc (c : Thread nD τ) ↦{fullShare.right} T4)
          ∗ (∃ f, arg10.view.loc (c : Thread nD τ) ↦[arg10.view.set]{fullShare} arg10.view.writes (Elt F) f out0)
          ∗ (sc0.view.loc (c : Thread nD τ) ↦{fullShare} out1)
          ∗ (sc1.view.loc (c : Thread nD τ) ↦{fullShare} out2)
          ∗ (sc2.view.loc (c : Thread nD τ) ↦{fullShare} out3)) -∗ K ⟨⟩))
          ⊢ wp frame (wpE (defs₀ (F := F)) Variants.none c none) Set.univ (cc0_moe_experts i tb0 (Memref.isWhole_whole _) tb1 (Memref.isWhole_whole _) tb2 (Memref.isWhole_whole _) tb3 (Memref.isWhole_whole _) tb4 (Memref.isWhole_whole _) arg6 harg6 arg7 harg7 arg8 harg8 arg9 harg9 arg10 harg10 sc0 (Memref.isWhole_whole _) sc1 (Memref.isWhole_whole _) sc2 (Memref.isWhole_whole _)) K } :=
  ⟨_, _, _, _, fun K => by
    unfold owns
    rw [cc0_moe_experts_eq_skeleton]; unfold cc0_moe_experts_skel
    iintro ⟨H0, H1, H2, H3, HT0, HT1, HT2, HT3, HT4, ⟨%d4, %f4, -, HO4⟩, HS0, HS1, HS2, Hk⟩

    have hS0 : sc0.IsWhole := Memref.isWhole_whole _
    have hS1 : sc1.IsWhole := Memref.isWhole_whole _
    have hS2 : sc2.IsWhole := Memref.isWhole_whole _
    have hT0 : tb0.IsWhole := Memref.isWhole_whole _
    have hT1 : tb1.IsWhole := Memref.isWhole_whole _
    have hT2 : tb2.IsWhole := Memref.isWhole_whole _
    have hT3 : tb3.IsWhole := Memref.isWhole_whole _
    have hT4 : tb4.IsWhole := Memref.isWhole_whole _
    sl_exec! (disch := first | (guard_target = k0_cond1 _ _ = _; exact h1) | (guard_target = ¬(Scalar.cmpi = _); exact hl) | (guard_target = k0_cond3 _ _ _ = _; exact h3) | (guard_target = ¬(k0_cond4 _ _ _ = _); exact h4))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HT2]; · iexact HT2
    isplitl [HT3]; · iexact HT3
    isplitl [HT4]; · iexact HT4
    isplitl [HO4]; · iexists _; iexact HO4
    isplitl [HS0]; · iexact HS0
    isplitl [HS1]; · iexact HS1
    iexact HS2⟩

set_option backward.proofsInPublic true in
set_option maxHeartbeats 40000000 in
/-- A visit of the plan, a later one of its tile, loading its weights: the pieces it leaves in the output's buffer and what the scratches then hold, found by
    the run, with the proof that the body runs to them. -/
def runD (c : Dev nD) (i : grid0.Coords) (arg6 : Memref sig .tc .vmem S8192x128 .f32) (harg6 : arg6.IsWhole) (arg7 : Memref sig .tc .vmem S1x1x2048x512 .f32) (harg7 : arg7.IsWhole) (arg8 : Memref sig .tc .vmem S1x1x2048x512 .f32) (harg8 : arg8.IsWhole) (arg9 : Memref sig .tc .vmem S1x1x512x2048 .f32) (harg9 : arg9.IsWhole) (arg10 : Memref sig .tc .vmem S8192x128 .f32) (harg10 : arg10.IsWhole)
    (T0 T1 T2 T3 : S51.Idx → Elt F .i32) (T4 : S1.Idx → Elt F .i32)
    (x0 : S8192x128.Idx → Elt F .f32) (x1 x2 : S1x1x2048x512.Idx → Elt F .f32) (x3 : S1x1x512x2048.Idx → Elt F .f32)
    (xo : S8192x128.Idx → Elt F .f32)
    (h1 : H1 i T4) (hl : HL i T1) (h3 : ¬ H3 i T0) (h4 : H4 i T0) :
    Σ' (out0 : List (View.Piece (Elt F) S8192x128 .f32)) (out1 : Buf (Elt F) ((c : Thread nD τ).loc cc0_scratch0)) (out2 : Buf (Elt F) ((c : Thread nD τ).loc cc0_scratch1)), { out3 : Buf (Elt F) ((c : Thread nD τ).loc cc0_scratch2) //
      ∀ (xa0 : Buf (Elt F) ((c : Thread nD τ).loc cc0_scratch0)) (xa1 : Buf (Elt F) ((c : Thread nD τ).loc cc0_scratch1)) (xa2 : Buf (Elt F) ((c : Thread nD τ).loc cc0_scratch2)) (K : PUnit → sProp 𝕄),
        iprop((arg6.view.loc (c : Thread nD τ) ↦[arg6.view.set]{fullShare} arg6.view.rep x0)
          ∗ (arg7.view.loc (c : Thread nD τ) ↦[arg7.view.set]{fullShare} arg7.view.rep x1)
          ∗ (arg8.view.loc (c : Thread nD τ) ↦[arg8.view.set]{fullShare} arg8.view.rep x2)
          ∗ (arg9.view.loc (c : Thread nD τ) ↦[arg9.view.set]{fullShare} arg9.view.rep x3)
          ∗ (tb0.view.loc (c : Thread nD τ) ↦{fullShare.right} T0)
          ∗ (tb1.view.loc (c : Thread nD τ) ↦{fullShare.right} T1)
          ∗ (tb2.view.loc (c : Thread nD τ) ↦{fullShare.right} T2)
          ∗ (tb3.view.loc (c : Thread nD τ) ↦{fullShare.right} T3)
          ∗ (tb4.view.loc (c : Thread nD τ) ↦{fullShare.right} T4)
          ∗ owns (c : Thread nD τ) arg10 fullShare xo
          ∗ (sc0.view.loc (c : Thread nD τ) ↦{fullShare} xa0)
          ∗ (sc1.view.loc (c : Thread nD τ) ↦{fullShare} xa1)
          ∗ (sc2.view.loc (c : Thread nD τ) ↦{fullShare} xa2)
          ∗ (iprop((arg6.view.loc (c : Thread nD τ) ↦[arg6.view.set]{fullShare} arg6.view.rep x0)
          ∗ (arg7.view.loc (c : Thread nD τ) ↦[arg7.view.set]{fullShare} arg7.view.rep x1)
          ∗ (arg8.view.loc (c : Thread nD τ) ↦[arg8.view.set]{fullShare} arg8.view.rep x2)
          ∗ (arg9.view.loc (c : Thread nD τ) ↦[arg9.view.set]{fullShare} arg9.view.rep x3)
          ∗ (tb0.view.loc (c : Thread nD τ) ↦{fullShare.right} T0)
          ∗ (tb1.view.loc (c : Thread nD τ) ↦{fullShare.right} T1)
          ∗ (tb2.view.loc (c : Thread nD τ) ↦{fullShare.right} T2)
          ∗ (tb3.view.loc (c : Thread nD τ) ↦{fullShare.right} T3)
          ∗ (tb4.view.loc (c : Thread nD τ) ↦{fullShare.right} T4)
          ∗ (∃ f, arg10.view.loc (c : Thread nD τ) ↦[arg10.view.set]{fullShare} arg10.view.writes (Elt F) f out0)
          ∗ (sc0.view.loc (c : Thread nD τ) ↦{fullShare} out1)
          ∗ (sc1.view.loc (c : Thread nD τ) ↦{fullShare} out2)
          ∗ (sc2.view.loc (c : Thread nD τ) ↦{fullShare} out3)) -∗ K ⟨⟩))
          ⊢ wp frame (wpE (defs₀ (F := F)) Variants.none c none) Set.univ (cc0_moe_experts i tb0 (Memref.isWhole_whole _) tb1 (Memref.isWhole_whole _) tb2 (Memref.isWhole_whole _) tb3 (Memref.isWhole_whole _) tb4 (Memref.isWhole_whole _) arg6 harg6 arg7 harg7 arg8 harg8 arg9 harg9 arg10 harg10 sc0 (Memref.isWhole_whole _) sc1 (Memref.isWhole_whole _) sc2 (Memref.isWhole_whole _)) K } :=
  ⟨_, _, _, _, fun (xa0 : Buf (Elt F) ((c : Thread nD τ).loc cc0_scratch0)) (xa1 : Buf (Elt F) ((c : Thread nD τ).loc cc0_scratch1)) (xa2 : Buf (Elt F) ((c : Thread nD τ).loc cc0_scratch2)) K => by
    unfold owns
    rw [cc0_moe_experts_eq_skeleton]; unfold cc0_moe_experts_skel
    iintro ⟨H0, H1, H2, H3, HT0, HT1, HT2, HT3, HT4, ⟨%f4, %hf4, HO4⟩, HS0, HS1, HS2, Hk⟩
    obtain rfl := harg10.eq_unread hf4
    have hS0 : sc0.IsWhole := Memref.isWhole_whole _
    have hS1 : sc1.IsWhole := Memref.isWhole_whole _
    have hS2 : sc2.IsWhole := Memref.isWhole_whole _
    have hT0 : tb0.IsWhole := Memref.isWhole_whole _
    have hT1 : tb1.IsWhole := Memref.isWhole_whole _
    have hT2 : tb2.IsWhole := Memref.isWhole_whole _
    have hT3 : tb3.IsWhole := Memref.isWhole_whole _
    have hT4 : tb4.IsWhole := Memref.isWhole_whole _
    sl_exec! (disch := first | (guard_target = k0_cond1 _ _ = _; exact h1) | (guard_target = Scalar.cmpi = _; exact hl) | (guard_target = ¬(k0_cond3 _ _ _ = _); exact h3) | (guard_target = k0_cond4 _ _ _ = _; exact h4))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HT2]; · iexact HT2
    isplitl [HT3]; · iexact HT3
    isplitl [HT4]; · iexact HT4
    isplitl [HO4]; · iexists _; iexact HO4
    isplitl [HS0]; · iexact HS0
    isplitl [HS1]; · iexact HS1
    iexact HS2⟩

end Cert.LastIdeal.Tab
-- ==== Proof.LastIdealFr.lean ====
module

public import proofs.«01_k».proof.Proof.LastIdealRuns

@[expose] public section

set_option maxRecDepth 16384
set_option Elab.async false

noncomputable section

namespace Cert.LastIdeal.Tab

open Cert.LastIdeal Cert.LastIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

attribute [local irreducible] runA runB runC runD

variable {F : FTy → Type} [FloatOps F]

local notation "𝕄" => MT nD τ sig Unit (Elt F) ℕ (UR sig nD τ) ℕ

/-! ## The pieces a visit stores cover its tile -/

/-- The rows `16 r + k` of a tile, `k` a chunk. -/
abbrev RK (k : Fin 16) : Rect S8192x128 :=
  ⟨⟨![k.val, 0], S512x128.size, ![16, 1], by
      have hk := k.isLt
      intro a
      match a with
      | ⟨0, _⟩ => exact .inr (show k.val + 16 * (512 - 1) < 8192 by omega)
      | ⟨1, _⟩ => exact .inr (show 0 + 1 * (128 - 1) < 128 by omega)⟩, spos_16_1⟩

theorem mem_RK (y : S8192x128.Idx) : y ∈ (RK ⟨(y 0).val % 16, Nat.mod_lt _ (by decide)⟩).set := by
  rw [LoadRect.mem_set]
  intro a; fin_cases a
  · refine ⟨(y 0).val / 16, ?_, ?_⟩
    · have := (y 0).isLt
      show _ < 512
      have h8 : (y 0).val < 8192 := this
      omega
    · show _ = (y 0).val % 16 + 16 * ((y 0).val / 16)
      exact (Nat.mod_add_div _ _).symm
  · refine ⟨(y 1).val, (y 1).isLt, ?_⟩
    show _ = 0 + 1 * (y 1).val
    show (y 1).val = _
    omega

/-- Pieces on all sixteen row families cover the tile. -/
theorem cover_of_rows (L : List (View.Piece (Elt F) S8192x128 .f32)) (hL : L.map Sigma.fst = (List.ofFn RK).reverse) (y : S8192x128.Idx) :
    ∃ pc ∈ L, y ∈ pc.1.set := by
  have h : RK ⟨(y 0).val % 16, Nat.mod_lt _ (by decide)⟩ ∈ L.map Sigma.fst := by
    rw [hL, List.mem_reverse, List.mem_ofFn]; exact ⟨_, rfl⟩
  obtain ⟨pc, hp, he⟩ := List.mem_map.mp h
  exact ⟨pc, hp, by rw [he]; exact mem_RK y⟩

/-! ## The tables -/

/-- The index `v` of a table. -/
abbrev tix (v : Fin 51) : S51.Idx := fun a => ⟨v.val, match a with | ⟨0, _⟩ => v.isLt⟩

theorem coord_lt (i : grid0.Coords) : (i 0).val < 51 := (i 0).isLt

theorem off1_eq (i : grid0.Coords) : k0_off1 i = ![(i 0).val] := by
  have h := coord_lt i
  unfold k0_off1; simp only [Scalar.indexCast]
  congr 1
  generalize (i 0).val = n at h ⊢
  interval_cases n <;> rfl
theorem off2_eq (i : grid0.Coords) : k0_off2 i = ![(i 0).val] := off1_eq i
theorem off4_eq (i : grid0.Coords) : k0_off4 i = ![(i 0).val] := off1_eq i
theorem off5_eq (i : grid0.Coords) : k0_off5 i = ![(i 0).val - 1] := by
  have h := coord_lt i
  unfold k0_off5; simp only [Scalar.indexCast]
  congr 1
  generalize (i 0).val = n at h ⊢
  interval_cases n <;> rfl
theorem off3_eq (i : grid0.Coords) : k0_off3 i = ![(i 0).val - 1] := off5_eq i

theorem at_eq (T : S51.Idx → BitVec 32) (off : Fin 1 → ℕ) (inb : ∀ a, off a + S1.size a ≤ S51.size a) (n : ℕ) (hn : n < 51) (h : off = ![n]) (z : S1.Idx) :
    T ((Rect.unit (s := S51) off S1.size inb).idx z) = T (tix ⟨n, hn⟩) := by
  subst h
  congr 1
  funext a
  match a with
  | ⟨0, _⟩ =>
    apply Fin.ext
    have hz : (z 0).val = 0 := by have : (z 0).val < 1 := (z 0).isLt; omega
    show n + 1 * (z 0).val = n
    omega

theorem wt_eq (i : grid0.Coords) (T : S51.Idx → BitVec 32) : wt (F := F) i T = T (tix ⟨(i 0).val, coord_lt i⟩) := at_eq T _ _ _ _ (off4_eq i) _
theorem wtp_eq (i : grid0.Coords) (T : S51.Idx → BitVec 32) : wtp (F := F) i T = T (tix ⟨(i 0).val - 1, by have := coord_lt i; omega⟩) := at_eq T _ _ _ _ (off5_eq i) _
theorem we_eq (i : grid0.Coords) (T : S51.Idx → BitVec 32) : we (F := F) i T = T (tix ⟨(i 0).val, coord_lt i⟩) := at_eq T _ _ _ _ (off2_eq i) _
theorem wep_eq (i : grid0.Coords) (T : S51.Idx → BitVec 32) : wep (F := F) i T = T (tix ⟨(i 0).val - 1, by have := coord_lt i; omega⟩) := at_eq T _ _ _ _ (off3_eq i) _

/-- What the tables must satisfy: tiles and experts in range, and no tile first visited past the plan's last visit. -/
structure Good (pf : pre0.Contents (Elt F)) : Prop where
  tile : ∀ v : Fin 51, BitVec.toNat (pf 0 (tix v)) < 36
  exp : ∀ v : Fin 51, BitVec.toNat (pf 1 (tix v)) < 16
  idle : ∀ i : grid0.Coords, ¬ H1 i (pf 4) → ¬ H3 i (pf 0)

theorem tr_rows (pf : pre0.Contents (Elt F)) (i : grid0.Coords) : cc0_transform_4 k0_off1_inb numel1_S1 pf i = ![BitVec.toNat (pf 0 (tix ⟨(i 0).val, coord_lt i⟩)), 0] := by
  have h := at_eq (pf 0) _ (k0_off1_inb i) _ (coord_lt i) (off1_eq i) (Shape.Idx.first (numel1_S1.symm ▸ Nat.one_pos))
  unfold cc0_transform_4; exact congrArg (fun x : BitVec 32 => (![x.toNat, 0] : Fin 2 → ℕ)) h
theorem tr_x (pf : pre0.Contents (Elt F)) (i : grid0.Coords) : cc0_transform_0 k0_off1_inb numel1_S1 pf i = ![BitVec.toNat (pf 0 (tix ⟨(i 0).val, coord_lt i⟩)), 0] := tr_rows pf i
theorem tr_w (pf : pre0.Contents (Elt F)) (i : grid0.Coords) : cc0_transform_1 k0_off1_inb numel1_S1 pf i = ![1, BitVec.toNat (pf 1 (tix ⟨(i 0).val, coord_lt i⟩)), 0, 0] := by
  have h := at_eq (pf 1) _ (k0_off1_inb i) _ (coord_lt i) (off1_eq i) (Shape.Idx.first (numel1_S1.symm ▸ Nat.one_pos))
  unfold cc0_transform_1; exact congrArg (fun x : BitVec 32 => (![1, x.toNat, 0, 0] : Fin 4 → ℕ)) h

theorem ok_of_good (pf : pre0.Contents (Elt F)) (h : Good pf) : ok0 (F := F) pf := by
  have hx : ∀ i : grid0.Coords, ∀ a, (cc0_transform_4 k0_off1_inb numel1_S1 pf i a + 1) * S8192x128.size a ≤ S294912x128.size a := fun i a => by
    rw [tr_rows]; have := h.tile ⟨(i 0).val, coord_lt i⟩
    match a with
    | ⟨0, _⟩ =>
      show (BitVec.toNat (pf 0 (tix ⟨(i 0).val, coord_lt i⟩)) + 1) * 8192 ≤ 294912
      omega
    | ⟨1, _⟩ => exact (by decide : (0 + 1) * 128 ≤ 128)
  have hw : ∀ i : grid0.Coords, ∀ a, (cc0_transform_1 k0_off1_inb numel1_S1 pf i a + 1) * S1x1x2048x512.size a ≤ S2x16x2048x512.size a := fun i a => by
    rw [tr_w]; have := h.exp ⟨(i 0).val, coord_lt i⟩
    match a with
    | ⟨0, _⟩ => exact (by decide : (1 + 1) * 1 ≤ 2)
    | ⟨1, _⟩ =>
      show (BitVec.toNat (pf 1 (tix ⟨(i 0).val, coord_lt i⟩)) + 1) * 1 ≤ 16
      omega
    | ⟨2, _⟩ => exact (by decide : (0 + 1) * 2048 ≤ 2048)
    | ⟨3, _⟩ => exact (by decide : (0 + 1) * 512 ≤ 512)
  have hd : ∀ i : grid0.Coords, ∀ a, (cc0_transform_1 k0_off1_inb numel1_S1 pf i a + 1) * S1x1x512x2048.size a ≤ S2x16x512x2048.size a := fun i a => by
    rw [tr_w]; have := h.exp ⟨(i 0).val, coord_lt i⟩
    match a with
    | ⟨0, _⟩ => exact (by decide : (1 + 1) * 1 ≤ 2)
    | ⟨1, _⟩ =>
      show (BitVec.toNat (pf 1 (tix ⟨(i 0).val, coord_lt i⟩)) + 1) * 1 ≤ 16
      omega
    | ⟨2, _⟩ => exact (by decide : (0 + 1) * 512 ≤ 512)
    | ⟨3, _⟩ => exact (by decide : (0 + 1) * 2048 ≤ 2048)
  exact ⟨fun i => ⟨hx i, .inl rfl⟩, fun i => ⟨hw i, .inl rfl⟩, fun i => ⟨hw i, .inl rfl⟩, fun i => ⟨hd i, .inl rfl⟩, fun i => ⟨hx i, .inl rfl⟩⟩

/-! ## The decisions -/

theorem h3_zero (i : grid0.Coords) (T : S51.Idx → Elt F .i32) (h : (i 0).val = 0) : H3 i T := by
  show k0_cond3 i _ _ = 1#1
  unfold k0_cond3; rw [h]
  generalize Scalar.cmpi .ne (wt i T) (wtp i T) = b
  revert b; decide
theorem hl_zero (i : grid0.Coords) (T : S51.Idx → Elt F .i32) (h : (i 0).val = 0) : HL i T := by
  show Scalar.cmpi .ne (Scalar.extui (Scalar.ori (Scalar.cmpi .eq (BitVec.ofNat 32 (i 0).val) 0#32) _)) 0#32 = 1#1
  rw [h]
  generalize Scalar.cmpi .ne (we i T) (wep i T) = b
  revert b; decide
theorem not_bit : ∀ b : BitVec 1, Scalar.cmpi .ne (Scalar.extui (Scalar.xori b 1#1)) 0#32 = 1#1 ↔ ¬ Scalar.cmpi .ne (Scalar.extui b) 0#32 = 1#1 := by decide
theorem or_bit : ∀ b : BitVec 1, Scalar.cmpi .ne (Scalar.extui (Scalar.ori b 1#1)) 0#32 = 1#1 := by decide
theorem ne_bit (x y : BitVec 32) (h : x ≠ y) : Scalar.cmpi .ne x y = 1#1 := by
  unfold Scalar.cmpi IntOp.cmpi; simp only [bne_iff_ne, ne_eq, h, not_false_eq_true, BitVec.ofBool_true, (bne_iff_ne).mpr h]; rfl
theorem h4_iff (i : grid0.Coords) (T : S51.Idx → Elt F .i32) : H4 i T ↔ ¬ H3 i T := by
  show k0_cond4 i _ _ = 1#1 ↔ ¬ k0_cond3 i _ _ = 1#1
  unfold k0_cond3 k0_cond4
  exact not_bit _
theorem same_of_not_h3 (i : grid0.Coords) (T : S51.Idx → BitVec 32) (h : ¬ H3 (F := F) i T) :
    T (tix ⟨(i 0).val, coord_lt i⟩) = T (tix ⟨(i 0).val - 1, by have := coord_lt i; omega⟩) := by
  refine (wt_eq (F := F) i T).symm.trans (Eq.trans ?_ (wtp_eq (F := F) i T))
  by_contra hne
  apply h
  show k0_cond3 i _ _ = 1#1
  unfold k0_cond3
  rw [ne_bit _ _ hne]
  exact or_bit _

/-! ## The pipeline at the tables -/

theorem atD_eq (pf : pre0.Contents (Elt F)) (off : Fin 1 → ℕ) (inb : ∀ a, off a + S1.size a ≤ S51.size a) (z : S1.Idx) :
    pf.atD 0 off = pf 0 ((Rect.unit (s := S51) off S1.size inb).idx z) := by
  have h : ∀ a : Fin 1, off a + 1 ≤ S51.size a := fun a => by
    have := inb a
    match a with
    | ⟨0, _⟩ => exact this
  unfold Pipeline.Prefetch.Contents.atD
  refine (dif_pos h).trans ?_
  congr 1
  funext a
  match a with
  | ⟨0, _⟩ =>
    apply Fin.ext
    have hz : (z 0).val = 0 := by have : (z 0).val < 1 := (z 0).isLt; omega
    show off 0 = off 0 + 1 * (z 0).val
    omega

theorem atD_n (pf : pre0.Contents (Elt F)) : pf.atD 4 ![0] = wn (pf 4) := by
  unfold Pipeline.Prefetch.Contents.atD
  refine (dif_pos (show ∀ a : Fin 1, (![0] : Fin 1 → ℕ) a + 1 ≤ S1.size a from fun a => match a with | ⟨0, _⟩ => (by decide : 0 + 1 ≤ 1))).trans ?_
  show pf 4 _ = pf 4 _
  congr 1
theorem atD_t (i : grid0.Coords) (pf : pre0.Contents (Elt F)) : pf.atD 0 (k0_off4 i) = wt i (pf 0) := atD_eq pf _ (k0_off4_inb i) _
theorem atD_tp (i : grid0.Coords) (pf : pre0.Contents (Elt F)) : pf.atD 0 (k0_off5 i) = wtp i (pf 0) := atD_eq pf _ (k0_off5_inb i) _

variable (a : (pcfg0 (F := F)).Adm)

abbrev cfgA : Pipeline.Cfg sig Λ₀ := cfg0 (F := F) a
abbrev pcs : Fin 1 → Pipeline.Cfg sig Λ₀ := Pipeline.pin (pcfgs (F := F)) fun _ => a
abbrev EP : Emb (UR sig nD τ) 𝕄 := emb₁

/-- The tables' contents. -/
abbrev T0 : S51.Idx → Elt F .i32 := a.1 0
abbrev T1 : S51.Idx → Elt F .i32 := a.1 1
abbrev T2 : S51.Idx → Elt F .i32 := a.1 2
abbrev T3 : S51.Idx → Elt F .i32 := a.1 3
abbrev T4 : S1.Idx → Elt F .i32 := a.1 4

/-- Point `t`'s coordinates, and each window's staging memref there. -/
abbrev crd (t : Fin (cfgA a).N) : (cfgA a).grid.Coords := (cfgA a).grid.coords t
abbrev ms0_0 (t : Fin (cfgA a).N) : Memref sig .tc .vmem S8192x128 .f32 := spec0_0.stage ((cfgA a).slots t (0 : Fin 5))
abbrev hs0_0 (t : Fin (cfgA a).N) : (ms0_0 a t).IsWhole := hstage0_0 (((cfgA a).slots t (0 : Fin 5)).cast nbuf0_0)
abbrev ms0_1 (t : Fin (cfgA a).N) : Memref sig .tc .vmem S1x1x2048x512 .f32 := spec0_1.stage ((cfgA a).slots t (1 : Fin 5))
abbrev hs0_1 (t : Fin (cfgA a).N) : (ms0_1 a t).IsWhole := hstage0_1 (((cfgA a).slots t (1 : Fin 5)).cast nbuf0_1)
abbrev ms0_2 (t : Fin (cfgA a).N) : Memref sig .tc .vmem S1x1x2048x512 .f32 := spec0_2.stage ((cfgA a).slots t (2 : Fin 5))
abbrev hs0_2 (t : Fin (cfgA a).N) : (ms0_2 a t).IsWhole := hstage0_2 (((cfgA a).slots t (2 : Fin 5)).cast nbuf0_2)
abbrev ms0_3 (t : Fin (cfgA a).N) : Memref sig .tc .vmem S1x1x512x2048 .f32 := spec0_3.stage ((cfgA a).slots t (3 : Fin 5))
abbrev hs0_3 (t : Fin (cfgA a).N) : (ms0_3 a t).IsWhole := hstage0_3 (((cfgA a).slots t (3 : Fin 5)).cast nbuf0_3)
abbrev ms0_4 (t : Fin (cfgA a).N) : Memref sig .tc .vmem S8192x128 .f32 := spec0_4.stage ((cfgA a).slots t (4 : Fin 5))
abbrev hs0_4 (t : Fin (cfgA a).N) : (ms0_4 a t).IsWhole := hstage0_4 (((cfgA a).slots t (4 : Fin 5)).cast nbuf0_4)

theorem crd_val : ∀ t : Fin grid0.N, (grid0.coords t 0).val = t.val := by decide +kernel

/-- What the decisions are at point `t`. -/
abbrev Q1 (t : Fin (cfgA a).N) : Prop := H1 (crd a t) (T4 a)
abbrev QL (t : Fin (cfgA a).N) : Prop := HL (crd a t) (T1 a)
abbrev Q3 (t : Fin (cfgA a).N) : Prop := H3 (crd a t) (T0 a)
abbrev Q4 (t : Fin (cfgA a).N) : Prop := H4 (crd a t) (T0 a)

theorem q4_of (t : Fin (cfgA a).N) (h : ¬ Q3 a t) : Q4 a t := (h4_iff _ _).mpr h
theorem nq4_of (t : Fin (cfgA a).N) (h : Q3 a t) : ¬ Q4 a t := fun h4 => (h4_iff _ _).mp h4 h

theorem idle_eq (t : Fin (cfgA a).N) : (cfgA a).idle (4 : Fin 5) ((cfgA a).grid.coords t) =
    (!(k0_cond1 (crd a t) (wn (T4 a)) == 1#1 && k0_cond3 (crd a t) (wt (crd a t) (T0 a)) (wtp (crd a t) (T0 a)) == 1#1) && !(k0_cond1 (crd a t) (wn (T4 a)) == 1#1 && k0_cond4 (crd a t) (wt (crd a t) (T0 a)) (wtp (crd a t) (T0 a)) == 1#1)) := by
  show idle0 a.1 4 (crd a t) = _
  rw [← atD_n a.1, ← atD_t _ a.1, ← atD_tp _ a.1]

theorem idle_live (t : Fin (cfgA a).N) (h : Q1 a t) : (cfgA a).idle (4 : Fin 5) ((cfgA a).grid.coords t) = false := by
  rw [idle_eq]
  have h1 : k0_cond1 (crd a t) (wn (T4 a)) = 1#1 := h
  by_cases h3 : Q3 a t
  · have h3' : k0_cond3 (crd a t) (wt (crd a t) (T0 a)) (wtp (crd a t) (T0 a)) = 1#1 := h3
    simp only [h1, h3', beq_self_eq_true, Bool.and_self, Bool.not_true, Bool.false_and]
  · have h4' : k0_cond4 (crd a t) (wt (crd a t) (T0 a)) (wtp (crd a t) (T0 a)) = 1#1 := q4_of a t h3
    simp only [h1, h4', beq_self_eq_true, Bool.and_self, Bool.not_true, Bool.and_false]

theorem idle_dead (t : Fin (cfgA a).N) (h : ¬ Q1 a t) : (cfgA a).idle (4 : Fin 5) ((cfgA a).grid.coords t) = true := by
  rw [idle_eq]
  have h1 : (k0_cond1 (crd a t) (wn (T4 a)) == 1#1) = false := beq_false_of_ne h
  simp only [h1, Bool.false_and, Bool.not_false, Bool.and_self]

theorem q3_zero (t : Fin (cfgA a).N) (h : t.val = 0) : Q3 a t := h3_zero _ _ ((crd_val t).trans h)
theorem ql_zero (t : Fin (cfgA a).N) (h : t.val = 0) : QL a t := hl_zero _ _ ((crd_val t).trans h)

theorem tix_congr {x y : Fin 51} (h : x.val = y.val) : tix x = tix y := by rw [Fin.ext h]

/-- A point that is not its tile's first comes after one that does not write the tile back. -/
theorem no_flush (n : ℕ) (h : n + 1 < (cfgA a).N) (h3 : ¬ Q3 a ⟨n + 1, h⟩) :
    ((cfgA a).win (4 : Fin 5)).flush ⟨n, Nat.lt_of_succ_lt h⟩ = false := by
  rw [Pipeline.Window.flush_eq_flushF]
  unfold Pipeline.Window.flushF
  have hN : n + 1 ≠ (cfgA a).grid.N := Nat.ne_of_lt h
  have hs : ∀ (h' : n + 1 < (cfgA a).grid.N) (b : Fin 2), ((cfgA a).win (4 : Fin 5)).index ⟨n + 1, h'⟩ b = ((cfgA a).win (4 : Fin 5)).index ⟨n, Nat.lt_of_succ_lt h⟩ b := by
    intro h' b
    show cc0_transform_4 k0_off1_inb numel1_S1 a.1 (grid0.coords ⟨n + 1, h'⟩) b = cc0_transform_4 k0_off1_inb numel1_S1 a.1 (grid0.coords ⟨n, Nat.lt_of_succ_lt h⟩) b
    rw [tr_rows, tr_rows]
    have e := same_of_not_h3 _ _ h3
    have e1 : tix ⟨((crd a ⟨n + 1, h⟩) 0).val - 1, by have := coord_lt (crd a ⟨n + 1, h⟩); omega⟩ = tix ⟨(grid0.coords ⟨n, Nat.lt_of_succ_lt h⟩ 0).val, coord_lt _⟩ :=
      tix_congr (by show (grid0.coords ⟨n + 1, h⟩ 0).val - 1 = _; rw [crd_val, crd_val]; rfl)
    rw [e1] at e
    exact congrArg (fun x : BitVec 32 => (![x.toNat, 0] : Fin 2 → ℕ) b) e
  rw [Bool.and_eq_false_iff]; right
  rw [Bool.or_eq_false_iff]
  refine ⟨decide_eq_false hN, decide_eq_false ?_⟩
  rintro ⟨h', b, hb⟩
  exact hb (hs h' b)

/-- Its buffer then holds what the tile's earlier visits left. -/
theorem not_fresh (G : Good a.1) : ∀ (n : ℕ) (h : n < (cfgA a).N), ¬ Q3 a ⟨n, h⟩ → (cfgA a).fresh (4 : Fin 5) n = false
  | 0, h, h3 => absurd (q3_zero a ⟨0, h⟩ rfl) h3
  | n + 1, h, h3 => by
    rw [Pipeline.Cfg.fresh_succ _ _ n (Nat.lt_of_succ_lt h), no_flush a n h h3, Bool.false_or]
    by_cases h1 : Q1 a ⟨n, Nat.lt_of_succ_lt h⟩
    · rw [idle_live a _ h1, Bool.false_and]
    · rw [not_fresh G n (Nat.lt_of_succ_lt h) (G.idle _ h1), Bool.and_false]

/-! ## The windows' blocks and the trajectory -/

variable (m : (ℓ : Loc nD τ sig) → Buf (Elt F) ℓ) (ρ : Dev nD → PrngReg)

/-- The state a launch starts from. -/
abbrev s₀ : MemSt nD τ sig (Elt F) := ⟨m, fun _ => 0, ρ⟩

/-- Window `w`'s block at point `t`, read off its array at launch. -/
def iblk (c : Dev nD) (w : Fin (cfgA a).W) (t : Fin (cfgA a).N) : (((cfgA a).win w).xblock (crd a t)).Idx → Elt F ((cfgA a).win w).elt :=
  (((cfgA a).win w).blk t).view.read (Elt F) ((s₀ m ρ).mem (((cfgA a).win w).arr.view.loc (c : Thread nD τ)))

/-- What the tracked buffers hold: the output's, the three scratches. -/
abbrev St (c : Dev nD) : Type := (S8192x128.Idx → Elt F .f32) × Buf (Elt F) ((c : Thread nD τ).loc cc0_scratch0) × Buf (Elt F) ((c : Thread nD τ).loc cc0_scratch1) × Buf (Elt F) ((c : Thread nD τ).loc cc0_scratch2)

/-- The four runs at point `t`. -/
abbrev rA (c : Dev nD) (t : Fin (cfgA a).N) (q1 : Q1 a t) (ql : QL a t) (q3 : Q3 a t) :=
  runA c (crd a t) (ms0_0 a t) (hs0_0 a t) (ms0_1 a t) (hs0_1 a t) (ms0_2 a t) (hs0_2 a t) (ms0_3 a t) (hs0_3 a t) (ms0_4 a t) (hs0_4 a t) (T0 a) (T1 a) (T2 a) (T3 a) (T4 a) (iblk a m ρ c (0 : Fin 5) t) (iblk a m ρ c (1 : Fin 5) t) (iblk a m ρ c (2 : Fin 5) t) (iblk a m ρ c (3 : Fin 5) t) q1 ql q3 (nq4_of a t q3)
abbrev rB (c : Dev nD) (t : Fin (cfgA a).N) (p : St (F := F) c) (q1 : Q1 a t) (ql : ¬ QL a t) (q3 : ¬ Q3 a t) :=
  runB c (crd a t) (ms0_0 a t) (hs0_0 a t) (ms0_1 a t) (hs0_1 a t) (ms0_2 a t) (hs0_2 a t) (ms0_3 a t) (hs0_3 a t) (ms0_4 a t) (hs0_4 a t) (T0 a) (T1 a) (T2 a) (T3 a) (T4 a) (iblk a m ρ c (0 : Fin 5) t) (iblk a m ρ c (1 : Fin 5) t) (iblk a m ρ c (2 : Fin 5) t) (iblk a m ρ c (3 : Fin 5) t) p.1 p.2.1 p.2.2.1 p.2.2.2 q1 ql q3 (q4_of a t q3)
abbrev rC (c : Dev nD) (t : Fin (cfgA a).N) (p : St (F := F) c) (q1 : Q1 a t) (ql : ¬ QL a t) (q3 : Q3 a t) :=
  runC c (crd a t) (ms0_0 a t) (hs0_0 a t) (ms0_1 a t) (hs0_1 a t) (ms0_2 a t) (hs0_2 a t) (ms0_3 a t) (hs0_3 a t) (ms0_4 a t) (hs0_4 a t) (T0 a) (T1 a) (T2 a) (T3 a) (T4 a) (iblk a m ρ c (0 : Fin 5) t) (iblk a m ρ c (1 : Fin 5) t) (iblk a m ρ c (2 : Fin 5) t) (iblk a m ρ c (3 : Fin 5) t) p.2.1 p.2.2.1 p.2.2.2 q1 ql q3 (nq4_of a t q3)
abbrev rD (c : Dev nD) (t : Fin (cfgA a).N) (p : St (F := F) c) (q1 : Q1 a t) (ql : QL a t) (q3 : ¬ Q3 a t) :=
  runD c (crd a t) (ms0_0 a t) (hs0_0 a t) (ms0_1 a t) (hs0_1 a t) (ms0_2 a t) (hs0_2 a t) (ms0_3 a t) (hs0_3 a t) (ms0_4 a t) (hs0_4 a t) (T0 a) (T1 a) (T2 a) (T3 a) (T4 a) (iblk a m ρ c (0 : Fin 5) t) (iblk a m ρ c (1 : Fin 5) t) (iblk a m ρ c (2 : Fin 5) t) (iblk a m ρ c (3 : Fin 5) t) p.1 q1 ql q3 (q4_of a t q3)

/-- What run A leaves. -/
def oA (c : Dev nD) (t : Fin (cfgA a).N) (q1 : Q1 a t) (ql : QL a t) (q3 : Q3 a t) : St (F := F) c :=
  (View.canon (rA a m ρ c t q1 ql q3).1, (rA a m ρ c t q1 ql q3).2.1, (rA a m ρ c t q1 ql q3).2.2.1, (rA a m ρ c t q1 ql q3).2.2.2.1)
/-- What run B leaves. -/
def oB (c : Dev nD) (t : Fin (cfgA a).N) (p : St (F := F) c) (q1 : Q1 a t) (ql : ¬ QL a t) (q3 : ¬ Q3 a t) : St (F := F) c :=
  (View.canon (rB a m ρ c t p q1 ql q3).1, (rB a m ρ c t p q1 ql q3).2.1, (rB a m ρ c t p q1 ql q3).2.2.1, (rB a m ρ c t p q1 ql q3).2.2.2.1)
/-- What run C leaves. -/
def oC (c : Dev nD) (t : Fin (cfgA a).N) (p : St (F := F) c) (q1 : Q1 a t) (ql : ¬ QL a t) (q3 : Q3 a t) : St (F := F) c :=
  (View.canon (rC a m ρ c t p q1 ql q3).1, (rC a m ρ c t p q1 ql q3).2.1, (rC a m ρ c t p q1 ql q3).2.2.1, (rC a m ρ c t p q1 ql q3).2.2.2.1)
/-- What run D leaves. -/
def oD (c : Dev nD) (t : Fin (cfgA a).N) (p : St (F := F) c) (q1 : Q1 a t) (ql : QL a t) (q3 : ¬ Q3 a t) : St (F := F) c :=
  (View.canon (rD a m ρ c t p q1 ql q3).1, (rD a m ρ c t p q1 ql q3).2.1, (rD a m ρ c t p q1 ql q3).2.2.1, (rD a m ρ c t p q1 ql q3).2.2.2.1)

theorem oA_0 (c : Dev nD) (t : Fin (cfgA a).N) (q1 : Q1 a t) (ql : QL a t) (q3 : Q3 a t) : (oA a m ρ c t q1 ql q3).1 = View.canon (rA a m ρ c t q1 ql q3).1 := rfl
theorem oA_1 (c : Dev nD) (t : Fin (cfgA a).N) (q1 : Q1 a t) (ql : QL a t) (q3 : Q3 a t) : (oA a m ρ c t q1 ql q3).2.1 = (rA a m ρ c t q1 ql q3).2.1 := rfl
theorem oA_2 (c : Dev nD) (t : Fin (cfgA a).N) (q1 : Q1 a t) (ql : QL a t) (q3 : Q3 a t) : (oA a m ρ c t q1 ql q3).2.2.1 = (rA a m ρ c t q1 ql q3).2.2.1 := rfl
theorem oA_3 (c : Dev nD) (t : Fin (cfgA a).N) (q1 : Q1 a t) (ql : QL a t) (q3 : Q3 a t) : (oA a m ρ c t q1 ql q3).2.2.2 = (rA a m ρ c t q1 ql q3).2.2.2.1 := rfl
theorem oB_0 (c : Dev nD) (t : Fin (cfgA a).N) (p : St (F := F) c) (q1 : Q1 a t) (ql : ¬ QL a t) (q3 : ¬ Q3 a t) : (oB a m ρ c t p q1 ql q3).1 = View.canon (rB a m ρ c t p q1 ql q3).1 := rfl
theorem oB_1 (c : Dev nD) (t : Fin (cfgA a).N) (p : St (F := F) c) (q1 : Q1 a t) (ql : ¬ QL a t) (q3 : ¬ Q3 a t) : (oB a m ρ c t p q1 ql q3).2.1 = (rB a m ρ c t p q1 ql q3).2.1 := rfl
theorem oB_2 (c : Dev nD) (t : Fin (cfgA a).N) (p : St (F := F) c) (q1 : Q1 a t) (ql : ¬ QL a t) (q3 : ¬ Q3 a t) : (oB a m ρ c t p q1 ql q3).2.2.1 = (rB a m ρ c t p q1 ql q3).2.2.1 := rfl
theorem oB_3 (c : Dev nD) (t : Fin (cfgA a).N) (p : St (F := F) c) (q1 : Q1 a t) (ql : ¬ QL a t) (q3 : ¬ Q3 a t) : (oB a m ρ c t p q1 ql q3).2.2.2 = (rB a m ρ c t p q1 ql q3).2.2.2.1 := rfl
theorem oC_0 (c : Dev nD) (t : Fin (cfgA a).N) (p : St (F := F) c) (q1 : Q1 a t) (ql : ¬ QL a t) (q3 : Q3 a t) : (oC a m ρ c t p q1 ql q3).1 = View.canon (rC a m ρ c t p q1 ql q3).1 := rfl
theorem oC_1 (c : Dev nD) (t : Fin (cfgA a).N) (p : St (F := F) c) (q1 : Q1 a t) (ql : ¬ QL a t) (q3 : Q3 a t) : (oC a m ρ c t p q1 ql q3).2.1 = (rC a m ρ c t p q1 ql q3).2.1 := rfl
theorem oC_2 (c : Dev nD) (t : Fin (cfgA a).N) (p : St (F := F) c) (q1 : Q1 a t) (ql : ¬ QL a t) (q3 : Q3 a t) : (oC a m ρ c t p q1 ql q3).2.2.1 = (rC a m ρ c t p q1 ql q3).2.2.1 := rfl
theorem oC_3 (c : Dev nD) (t : Fin (cfgA a).N) (p : St (F := F) c) (q1 : Q1 a t) (ql : ¬ QL a t) (q3 : Q3 a t) : (oC a m ρ c t p q1 ql q3).2.2.2 = (rC a m ρ c t p q1 ql q3).2.2.2.1 := rfl
theorem oD_0 (c : Dev nD) (t : Fin (cfgA a).N) (p : St (F := F) c) (q1 : Q1 a t) (ql : QL a t) (q3 : ¬ Q3 a t) : (oD a m ρ c t p q1 ql q3).1 = View.canon (rD a m ρ c t p q1 ql q3).1 := rfl
theorem oD_1 (c : Dev nD) (t : Fin (cfgA a).N) (p : St (F := F) c) (q1 : Q1 a t) (ql : QL a t) (q3 : ¬ Q3 a t) : (oD a m ρ c t p q1 ql q3).2.1 = (rD a m ρ c t p q1 ql q3).2.1 := rfl
theorem oD_2 (c : Dev nD) (t : Fin (cfgA a).N) (p : St (F := F) c) (q1 : Q1 a t) (ql : QL a t) (q3 : ¬ Q3 a t) : (oD a m ρ c t p q1 ql q3).2.2.1 = (rD a m ρ c t p q1 ql q3).2.2.1 := rfl
theorem oD_3 (c : Dev nD) (t : Fin (cfgA a).N) (p : St (F := F) c) (q1 : Q1 a t) (ql : QL a t) (q3 : ¬ Q3 a t) : (oD a m ρ c t p q1 ql q3).2.2.2 = (rD a m ρ c t p q1 ql q3).2.2.2.1 := rfl

open Classical in
/-- One visit: what the tracked buffers hold after it, from what they held before. -/
def step (c : Dev nD) (t : Fin (cfgA a).N) (p : St (F := F) c) : St (F := F) c :=
  if q1 : Q1 a t then
    if q3 : Q3 a t then
      if ql : QL a t then oA a m ρ c t q1 ql q3 else oC a m ρ c t p q1 ql q3
    else
      if ql : QL a t then oD a m ρ c t p q1 ql q3 else oB a m ρ c t p q1 ql q3
  else p

theorem step_A (c : Dev nD) (t : Fin (cfgA a).N) (p : St (F := F) c) (q1 : Q1 a t) (ql : QL a t) (q3 : Q3 a t) : step a m ρ c t p = oA a m ρ c t q1 ql q3 := by
  unfold step; exact (dif_pos q1).trans ((dif_pos q3).trans (dif_pos ql))
theorem step_B (c : Dev nD) (t : Fin (cfgA a).N) (p : St (F := F) c) (q1 : Q1 a t) (ql : ¬ QL a t) (q3 : ¬ Q3 a t) : step a m ρ c t p = oB a m ρ c t p q1 ql q3 := by
  unfold step; exact (dif_pos q1).trans ((dif_neg q3).trans (dif_neg ql))
theorem step_C (c : Dev nD) (t : Fin (cfgA a).N) (p : St (F := F) c) (q1 : Q1 a t) (ql : ¬ QL a t) (q3 : Q3 a t) : step a m ρ c t p = oC a m ρ c t p q1 ql q3 := by
  unfold step; exact (dif_pos q1).trans ((dif_pos q3).trans (dif_neg ql))
theorem step_D (c : Dev nD) (t : Fin (cfgA a).N) (p : St (F := F) c) (q1 : Q1 a t) (ql : QL a t) (q3 : ¬ Q3 a t) : step a m ρ c t p = oD a m ρ c t p q1 ql q3 := by
  unfold step; exact (dif_pos q1).trans ((dif_neg q3).trans (dif_pos ql))
theorem step_E (c : Dev nD) (t : Fin (cfgA a).N) (p : St (F := F) c) (q1 : ¬ Q1 a t) : step a m ρ c t p = p := by
  unfold step; exact dif_neg q1

/-- After position `n`. -/
def traj (c : Dev nD) : (n : ℕ) → n < (cfgA a).N → St (F := F) c
  | 0, h => step a m ρ c ⟨0, h⟩ (constant _ .f32 0#32, constant _ .bf16 0#16, constant _ .bf16 0#16, constant _ .bf16 0#16)
  | n + 1, h => step a m ρ c ⟨n + 1, h⟩ (traj c n (Nat.lt_of_succ_lt h))

/-- Before position `n`. -/
def prev (c : Dev nD) (n : ℕ) (h : n ≤ (cfgA a).N) : St (F := F) c :=
  if h0 : n = 0 then (constant _ .f32 0#32, constant _ .bf16 0#16, constant _ .bf16 0#16, constant _ .bf16 0#16) else traj a m ρ c (n - 1) (by omega)

theorem traj_eq (c : Dev nD) (t : Fin (cfgA a).N) : traj a m ρ c t.val t.isLt = step a m ρ c t (prev a m ρ c t.val t.isLt.le) := by
  obtain ⟨n, hn⟩ := t
  cases n with
  | zero => rfl
  | succ n => unfold prev; simp only [Nat.add_one_ne_zero, dif_neg, not_false_eq_true]; rfl

theorem prev_succ (c : Dev nD) (t : Fin (cfgA a).N) (h : t.val + 1 ≤ (cfgA a).N) : prev a m ρ c (t.val + 1) h = step a m ρ c t (prev a m ρ c t.val t.isLt.le) := by
  rw [← traj_eq]; unfold prev; simp only [Nat.add_one_ne_zero, ↓reduceDIte, Nat.add_one_sub_one]

/-! ## The pipeline's proof data -/

/-- Before point `n`: each scratch at what the trajectory says once a point has filled it, the body's halves of the tables. -/
def Phi (c : Dev nD) (n : ℕ) (h : n ≤ (cfgA a).N) : sProp 𝕄 :=
  iprop((∃ x, ⌜n ≠ 0 → x = (prev a m ρ c n h).2.1⌝ ∗ (sc0.view.loc (c : Thread nD τ) ↦{fullShare} x)) ∗ (∃ x, ⌜n ≠ 0 → x = (prev a m ρ c n h).2.2.1⌝ ∗ (sc1.view.loc (c : Thread nD τ) ↦{fullShare} x)) ∗ (∃ x, ⌜n ≠ 0 → x = (prev a m ρ c n h).2.2.2⌝ ∗ (sc2.view.loc (c : Thread nD τ) ↦{fullShare} x)) ∗ (tb0.view.loc (c : Thread nD τ) ↦{fullShare.right} T0 a) ∗ (tb1.view.loc (c : Thread nD τ) ↦{fullShare.right} T1 a) ∗ (tb2.view.loc (c : Thread nD τ) ↦{fullShare.right} T2 a) ∗ (tb3.view.loc (c : Thread nD τ) ↦{fullShare.right} T3 a) ∗ (tb4.view.loc (c : Thread nD τ) ↦{fullShare.right} T4 a))

/-- The proof data of the one pipeline on core `c`. -/
def dats (_ : Fin 1) (c : Dev nD) : Dat τ (Elt F) Unit ℕ (UR sig nD τ) ℕ (cfgA a) c where
  A w := (s₀ m ρ).mem (((cfgA a).win w).arr.view.loc (c : Thread nD τ))
  after w t := match w with
    | ⟨0, _⟩ => iblk a m ρ c (0 : Fin 5) t
    | ⟨1, _⟩ => iblk a m ρ c (1 : Fin 5) t
    | ⟨2, _⟩ => iblk a m ρ c (2 : Fin 5) t
    | ⟨3, _⟩ => iblk a m ρ c (3 : Fin 5) t
    | ⟨4, _⟩ => (step a m ρ c t (prev a m ρ c t.val t.isLt.le)).1
  Φ t := Phi a m ρ c t.val (Nat.le_of_lt_succ t.isLt)
  q _ := fullShare
  owed _ := 0

theorem after0_0 (c : Dev nD) (t : Fin (cfgA a).N) : (dats a m ρ 0 c).after (0 : Fin 5) t = iblk a m ρ c (0 : Fin 5) t := rfl
theorem after0_1 (c : Dev nD) (t : Fin (cfgA a).N) : (dats a m ρ 0 c).after (1 : Fin 5) t = iblk a m ρ c (1 : Fin 5) t := rfl
theorem after0_2 (c : Dev nD) (t : Fin (cfgA a).N) : (dats a m ρ 0 c).after (2 : Fin 5) t = iblk a m ρ c (2 : Fin 5) t := rfl
theorem after0_3 (c : Dev nD) (t : Fin (cfgA a).N) : (dats a m ρ 0 c).after (3 : Fin 5) t = iblk a m ρ c (3 : Fin 5) t := rfl
theorem after0_4 (c : Dev nD) (t : Fin (cfgA a).N) : (dats a m ρ 0 c).after (4 : Fin 5) t = (step a m ρ c t (prev a m ρ c t.val t.isLt.le)).1 := rfl

theorem before0_0 (c : Dev nD) (t : Fin (cfgA a).N) (d) : (dats a m ρ 0 c).before (0 : Fin 5) t d = iblk a m ρ c (0 : Fin 5) t :=
  ((dats a m ρ 0 c).before_in_eq_fetched (0 : Fin 5) rfl (fun _ => rfl) (fun _ _ _ => rfl) (fun t => by rw [after0_0]; unfold Dat.blockOf iblk; rfl) t d).trans
    (by unfold Dat.fetched Dat.blockOf iblk; rfl)
theorem before0_1 (c : Dev nD) (t : Fin (cfgA a).N) (d) : (dats a m ρ 0 c).before (1 : Fin 5) t d = iblk a m ρ c (1 : Fin 5) t :=
  ((dats a m ρ 0 c).before_in_eq_fetched (1 : Fin 5) rfl (fun _ => rfl) (fun _ _ _ => rfl) (fun t => by rw [after0_1]; unfold Dat.blockOf iblk; rfl) t d).trans
    (by unfold Dat.fetched Dat.blockOf iblk; rfl)
theorem before0_2 (c : Dev nD) (t : Fin (cfgA a).N) (d) : (dats a m ρ 0 c).before (2 : Fin 5) t d = iblk a m ρ c (2 : Fin 5) t :=
  ((dats a m ρ 0 c).before_in_eq_fetched (2 : Fin 5) rfl (fun _ => rfl) (fun _ _ _ => rfl) (fun t => by rw [after0_2]; unfold Dat.blockOf iblk; rfl) t d).trans
    (by unfold Dat.fetched Dat.blockOf iblk; rfl)
theorem before0_3 (c : Dev nD) (t : Fin (cfgA a).N) (d) : (dats a m ρ 0 c).before (3 : Fin 5) t d = iblk a m ρ c (3 : Fin 5) t :=
  ((dats a m ρ 0 c).before_in_eq_fetched (3 : Fin 5) rfl (fun _ => rfl) (fun _ _ _ => rfl) (fun t => by rw [after0_3]; unfold Dat.blockOf iblk; rfl) t d).trans
    (by unfold Dat.fetched Dat.blockOf iblk; rfl)

/-- An idle point's output is the point before's. -/
theorem hcarry0_4 (c : Dev nD) : ∀ (t : Fin (cfgA a).N) (ht : t.val ≠ 0), (cfgA a).idle (4 : Fin 5) ((cfgA a).grid.coords t) = true → (cfgA a).fresh (4 : Fin 5) t.val = false →
    (dats a m ρ 0 c).after (4 : Fin 5) t = (dats a m ρ 0 c).after (4 : Fin 5) ⟨t.val - 1, by omega⟩ := by
  intro t ht hi hf
  have h1 : ¬ Q1 a t := fun h => by rw [idle_live a t h] at hi; exact absurd hi (by decide)
  rw [after0_4, after0_4, step_E a m ρ c t _ h1, ← traj_eq]
  unfold prev; rw [dif_neg ht]

theorem before0_4 (c : Dev nD) (t : Fin (cfgA a).N) (d) :
    (dats a m ρ 0 c).before (4 : Fin 5) t d = if (cfgA a).fresh (4 : Fin 5) t.val then d else (prev a m ρ c t.val t.isLt.le).1 := by
  rw [(dats a m ρ 0 c).before_out_traj (4 : Fin 5) rfl (fun _ _ => rfl) (hcarry0_4 a m ρ c) t.val t rfl d]
  by_cases hf : (cfgA a).fresh (4 : Fin 5) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_4]; unfold prev; rw [dif_neg h0]
    exact congrArg Prod.fst (traj_eq a m ρ c ⟨t.val - 1, by omega⟩).symm

/-- The pieces of each run cover the tile. -/
theorem covA (c : Dev nD) (t : Fin (cfgA a).N) (q1 : Q1 a t) (ql : QL a t) (q3 : Q3 a t) (y : S8192x128.Idx) :
    ∃ pc ∈ (rA a m ρ c t q1 ql q3).1, y ∈ pc.1.set := cover_of_rows _ (by sl_kernel_rfl) y
theorem covB (c : Dev nD) (t : Fin (cfgA a).N) (p : St (F := F) c) (q1 : Q1 a t) (ql : ¬ QL a t) (q3 : ¬ Q3 a t) (y : S8192x128.Idx) :
    ∃ pc ∈ (rB a m ρ c t p q1 ql q3).1, y ∈ pc.1.set := cover_of_rows _ (by sl_kernel_rfl) y
theorem covC (c : Dev nD) (t : Fin (cfgA a).N) (p : St (F := F) c) (q1 : Q1 a t) (ql : ¬ QL a t) (q3 : Q3 a t) (y : S8192x128.Idx) :
    ∃ pc ∈ (rC a m ρ c t p q1 ql q3).1, y ∈ pc.1.set := cover_of_rows _ (by sl_kernel_rfl) y
theorem covD (c : Dev nD) (t : Fin (cfgA a).N) (p : St (F := F) c) (q1 : Q1 a t) (ql : QL a t) (q3 : ¬ Q3 a t) (y : S8192x128.Idx) :
    ∃ pc ∈ (rD a m ρ c t p q1 ql q3).1, y ∈ pc.1.set := cover_of_rows _ (by sl_kernel_rfl) y

/-- The body at point `t` on its staging memrefs, as the pipeline calls it. -/
abbrev bodyAt0 (t : Fin (cfgA a).N) : Prog (TpuEff nD τ sig (Elt F) Λ₀ .tc) PUnit :=
  cc0_moe_experts (crd a t) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (ms0_0 a t) (hs0_0 a t) (ms0_1 a t) (hs0_1 a t) (ms0_2 a t) (hs0_2 a t) (ms0_3 a t) (hs0_3 a t) (ms0_4 a t) (hs0_4 a t) (Memref.whole cc0_scratch0) (Memref.isWhole_whole _) (Memref.whole cc0_scratch1) (Memref.isWhole_whole _) (Memref.whole cc0_scratch2) (Memref.isWhole_whole _)

/-- The body's obligation at point `t`. -/
def BodyAt (c : Dev nD) (t : Fin (cfgA a).N) : Prop :=
    iprop((dats a m ρ 0 c).Φ t.castSucc ∗ (dats a m ρ 0 c).owesAt () t.castSucc
        ∗ (∃ d, owns (c : Thread nD τ) (ms0_0 a t) fullShare ((dats a m ρ 0 c).before (0 : Fin 5) t d))
        ∗ (∃ d, owns (c : Thread nD τ) (ms0_1 a t) fullShare ((dats a m ρ 0 c).before (1 : Fin 5) t d))
        ∗ (∃ d, owns (c : Thread nD τ) (ms0_2 a t) fullShare ((dats a m ρ 0 c).before (2 : Fin 5) t d))
        ∗ (∃ d, owns (c : Thread nD τ) (ms0_3 a t) fullShare ((dats a m ρ 0 c).before (3 : Fin 5) t d))
        ∗ (∃ d, owns (c : Thread nD τ) (ms0_4 a t) fullShare ((dats a m ρ 0 c).before (4 : Fin 5) t d)))
      ⊢ wp frame (wpE (defs₀ (F := F)) Variants.none c none) Set.univ (bodyAt0 a t) fun _ =>
          iprop((dats a m ρ 0 c).Φ t.succ ∗ (dats a m ρ 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats a m ρ 0 c).before w t d))
                  | true => owns (c : Thread nD τ) (((cfgA a).win w).stage ((cfgA a).slots t w)) fullShare ((dats a m ρ 0 c).after w t)
                | false => owns (c : Thread nD τ) (((cfgA a).win w).stage ((cfgA a).slots t w)) fullShare ((dats a m ρ 0 c).after w t))

end Cert.LastIdeal.Tab
-- ==== Proof.LastIdealBodyA.lean ====
module

public import proofs.«01_k».proof.Proof.LastIdealFr

@[expose] public section

set_option maxRecDepth 16384
set_option Elab.async false

noncomputable section

namespace Cert.LastIdeal.Tab

open Cert.LastIdeal Cert.LastIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

attribute [local irreducible] runA runB runC runD

variable {F : FTy → Type} [FloatOps F]

local notation "𝕄" => MT nD τ sig Unit (Elt F) ℕ (UR sig nD τ) ℕ

variable (a : (pcfg0 (F := F)).Adm) (m : (ℓ : Loc nD τ sig) → Buf (Elt F) ℓ) (ρ : Dev nD → PrngReg)

set_option maxHeartbeats 4000000 in
theorem bodyA (G : Good a.1) (c : Dev nD) (t : Fin (cfgA a).N) (q1 : Q1 a t) (ql : QL a t) (q3 : Q3 a t) : BodyAt a m ρ c t := by
  unfold BodyAt
  rw [bigSep_W0]
  have i4 := idle_live a t q1
  rewrite [i4]
  simp only [before0_0, before0_1, before0_2, before0_3, before0_4, after0_0, after0_1, after0_2, after0_3, after0_4]
  rewrite [show (dats a m ρ 0 c).Φ t.succ = Phi a m ρ c (t.val + 1) t.isLt from rfl, show (dats a m ρ 0 c).Φ t.castSucc = Phi a m ρ c t.val t.isLt.le from rfl,
    show (dats a m ρ 0 c).owesAt () t.succ = (dats a m ρ 0 c).owesAt () t.castSucc from rfl]
  unfold Phi
  rewrite [prev_succ a m ρ c t t.isLt, step_A a m ρ c t _ q1 ql q3]
  iintro ⟨⟨⟨%a0, %ha0, HS0⟩, ⟨%a1, %ha1, HS1⟩, ⟨%a2, %ha2, HS2⟩, HT0, HT1, HT2, HT3, HT4⟩, Ho, ⟨%d0, H0⟩, ⟨%d1, H1⟩, ⟨%d2, H2⟩, ⟨%d3, H3⟩, ⟨%d4, H4⟩⟩
  iapply ((rA a m ρ c t q1 ql q3).2.2.2.2 a0 a1 a2 _)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [HT2]; · iexact HT2
  isplitl [HT3]; · iexact HT3
  isplitl [HT4]; · iexact HT4
  isplitl [H4]; · iexists _; iexact H4
  isplitl [HS0]; · iexact HS0
  isplitl [HS1]; · iexact HS1
  isplitl [HS2]; · iexact HS2
  iintro ⟨H0, H1, H2, H3, HT0, HT1, HT2, HT3, HT4, ⟨%e4, H4⟩, HS0, HS1, HS2⟩
  isplitl [HS0 HS1 HS2 HT0 HT1 HT2 HT3 HT4]
  · isplitl [HS0]
    · iexists _; isplitr; swap
      · iexact HS0
      · ipureintro; intro hn; exact (oA_1 a m ρ c t q1 ql q3).symm
    isplitl [HS1]
    · iexists _; isplitr; swap
      · iexact HS1
      · ipureintro; intro hn; exact (oA_2 a m ρ c t q1 ql q3).symm
    isplitl [HS2]
    · iexists _; isplitr; swap
      · iexact HS2
      · ipureintro; intro hn; exact (oA_3 a m ρ c t q1 ql q3).symm
    isplitl [HT0]; · iexact HT0
    isplitl [HT1]; · iexact HT1
    isplitl [HT2]; · iexact HT2
    isplitl [HT3]; · iexact HT3
    iexact HT4
  isplitl [Ho]; · iexact Ho
  isplitl [H0]
  · iapply owns_of_rep; iexact H0
  isplitl [H1]
  · iapply owns_of_rep; iexact H1
  isplitl [H2]
  · iapply owns_of_rep; iexact H2
  isplitl [H3]
  · iapply owns_of_rep; iexact H3
  unfold owns; iexists _; isplitr; swap
  · iexact H4
  · ipureintro; exact (View.read_writes_eq_canon _ _ _ (covA a m ρ c t q1 ql q3)).trans (oA_0 a m ρ c t q1 ql q3).symm

end Cert.LastIdeal.Tab
-- ==== Proof.LastIdealBodyB.lean ====
module

public import proofs.«01_k».proof.Proof.LastIdealFr

@[expose] public section

set_option maxRecDepth 16384
set_option Elab.async false

noncomputable section

namespace Cert.LastIdeal.Tab

open Cert.LastIdeal Cert.LastIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

attribute [local irreducible] runA runB runC runD

variable {F : FTy → Type} [FloatOps F]

local notation "𝕄" => MT nD τ sig Unit (Elt F) ℕ (UR sig nD τ) ℕ

variable (a : (pcfg0 (F := F)).Adm) (m : (ℓ : Loc nD τ sig) → Buf (Elt F) ℓ) (ρ : Dev nD → PrngReg)

set_option maxHeartbeats 4000000 in
theorem bodyB (G : Good a.1) (c : Dev nD) (t : Fin (cfgA a).N) (q1 : Q1 a t) (ql : ¬ QL a t) (q3 : ¬ Q3 a t) : BodyAt a m ρ c t := by
  unfold BodyAt
  rw [bigSep_W0]
  have i4 := idle_live a t q1
  have t0 : t.val ≠ 0 := fun h => ql (ql_zero a t h)
  have fr4 := not_fresh a G t.val t.isLt q3
  rewrite [i4]
  simp only [before0_0, before0_1, before0_2, before0_3, before0_4, after0_0, after0_1, after0_2, after0_3, after0_4]
  simp only [fr4, Bool.false_eq_true, ↓reduceIte]
  rewrite [show (dats a m ρ 0 c).Φ t.succ = Phi a m ρ c (t.val + 1) t.isLt from rfl, show (dats a m ρ 0 c).Φ t.castSucc = Phi a m ρ c t.val t.isLt.le from rfl,
    show (dats a m ρ 0 c).owesAt () t.succ = (dats a m ρ 0 c).owesAt () t.castSucc from rfl]
  unfold Phi
  rewrite [prev_succ a m ρ c t t.isLt, step_B a m ρ c t _ q1 ql q3]
  simp only [exists_held t0]
  iintro ⟨⟨HS0, HS1, HS2, HT0, HT1, HT2, HT3, HT4⟩, Ho, ⟨%d0, H0⟩, ⟨%d1, H1⟩, ⟨%d2, H2⟩, ⟨%d3, H3⟩, ⟨%d4, H4⟩⟩
  iapply ((rB a m ρ c t (prev a m ρ c t.val t.isLt.le) q1 ql q3).2.2.2.2 _)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [HT2]; · iexact HT2
  isplitl [HT3]; · iexact HT3
  isplitl [HT4]; · iexact HT4
  isplitl [H4]; · iexact H4
  isplitl [HS0]; · iexact HS0
  isplitl [HS1]; · iexact HS1
  isplitl [HS2]; · iexact HS2
  iintro ⟨H0, H1, H2, H3, HT0, HT1, HT2, HT3, HT4, ⟨%e4, H4⟩, HS0, HS1, HS2⟩
  isplitl [HS0 HS1 HS2 HT0 HT1 HT2 HT3 HT4]
  · isplitl [HS0]
    · iexists _; isplitr; swap
      · iexact HS0
      · ipureintro; intro hn; exact (oB_1 a m ρ c t (prev a m ρ c t.val t.isLt.le) q1 ql q3).symm
    isplitl [HS1]
    · iexists _; isplitr; swap
      · iexact HS1
      · ipureintro; intro hn; exact (oB_2 a m ρ c t (prev a m ρ c t.val t.isLt.le) q1 ql q3).symm
    isplitl [HS2]
    · iexists _; isplitr; swap
      · iexact HS2
      · ipureintro; intro hn; exact (oB_3 a m ρ c t (prev a m ρ c t.val t.isLt.le) q1 ql q3).symm
    isplitl [HT0]; · iexact HT0
    isplitl [HT1]; · iexact HT1
    isplitl [HT2]; · iexact HT2
    isplitl [HT3]; · iexact HT3
    iexact HT4
  isplitl [Ho]; · iexact Ho
  isplitl [H0]
  · iapply owns_of_rep; iexact H0
  isplitl [H1]
  · iapply owns_of_rep; iexact H1
  isplitl [H2]
  · iapply owns_of_rep; iexact H2
  isplitl [H3]
  · iapply owns_of_rep; iexact H3
  unfold owns; iexists _; isplitr; swap
  · iexact H4
  · ipureintro; exact (View.read_writes_eq_canon _ _ _ (covB a m ρ c t (prev a m ρ c t.val t.isLt.le) q1 ql q3)).trans (oB_0 a m ρ c t (prev a m ρ c t.val t.isLt.le) q1 ql q3).symm

end Cert.LastIdeal.Tab
-- ==== Proof.LastIdealBodyC.lean ====
module

public import proofs.«01_k».proof.Proof.LastIdealFr

@[expose] public section

set_option maxRecDepth 16384
set_option Elab.async false

noncomputable section

namespace Cert.LastIdeal.Tab

open Cert.LastIdeal Cert.LastIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

attribute [local irreducible] runA runB runC runD

variable {F : FTy → Type} [FloatOps F]

local notation "𝕄" => MT nD τ sig Unit (Elt F) ℕ (UR sig nD τ) ℕ

variable (a : (pcfg0 (F := F)).Adm) (m : (ℓ : Loc nD τ sig) → Buf (Elt F) ℓ) (ρ : Dev nD → PrngReg)

set_option maxHeartbeats 4000000 in
theorem bodyC (G : Good a.1) (c : Dev nD) (t : Fin (cfgA a).N) (q1 : Q1 a t) (ql : ¬ QL a t) (q3 : Q3 a t) : BodyAt a m ρ c t := by
  unfold BodyAt
  rw [bigSep_W0]
  have i4 := idle_live a t q1
  have t0 : t.val ≠ 0 := fun h => ql (ql_zero a t h)
  rewrite [i4]
  simp only [before0_0, before0_1, before0_2, before0_3, before0_4, after0_0, after0_1, after0_2, after0_3, after0_4]
  rewrite [show (dats a m ρ 0 c).Φ t.succ = Phi a m ρ c (t.val + 1) t.isLt from rfl, show (dats a m ρ 0 c).Φ t.castSucc = Phi a m ρ c t.val t.isLt.le from rfl,
    show (dats a m ρ 0 c).owesAt () t.succ = (dats a m ρ 0 c).owesAt () t.castSucc from rfl]
  unfold Phi
  rewrite [prev_succ a m ρ c t t.isLt, step_C a m ρ c t _ q1 ql q3]
  simp only [exists_held t0]
  iintro ⟨⟨HS0, HS1, HS2, HT0, HT1, HT2, HT3, HT4⟩, Ho, ⟨%d0, H0⟩, ⟨%d1, H1⟩, ⟨%d2, H2⟩, ⟨%d3, H3⟩, ⟨%d4, H4⟩⟩
  iapply ((rC a m ρ c t (prev a m ρ c t.val t.isLt.le) q1 ql q3).2.2.2.2 _)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [HT2]; · iexact HT2
  isplitl [HT3]; · iexact HT3
  isplitl [HT4]; · iexact HT4
  isplitl [H4]; · iexists _; iexact H4
  isplitl [HS0]; · iexact HS0
  isplitl [HS1]; · iexact HS1
  isplitl [HS2]; · iexact HS2
  iintro ⟨H0, H1, H2, H3, HT0, HT1, HT2, HT3, HT4, ⟨%e4, H4⟩, HS0, HS1, HS2⟩
  isplitl [HS0 HS1 HS2 HT0 HT1 HT2 HT3 HT4]
  · isplitl [HS0]
    · iexists _; isplitr; swap
      · iexact HS0
      · ipureintro; intro hn; exact (oC_1 a m ρ c t (prev a m ρ c t.val t.isLt.le) q1 ql q3).symm
    isplitl [HS1]
    · iexists _; isplitr; swap
      · iexact HS1
      · ipureintro; intro hn; exact (oC_2 a m ρ c t (prev a m ρ c t.val t.isLt.le) q1 ql q3).symm
    isplitl [HS2]
    · iexists _; isplitr; swap
      · iexact HS2
      · ipureintro; intro hn; exact (oC_3 a m ρ c t (prev a m ρ c t.val t.isLt.le) q1 ql q3).symm
    isplitl [HT0]; · iexact HT0
    isplitl [HT1]; · iexact HT1
    isplitl [HT2]; · iexact HT2
    isplitl [HT3]; · iexact HT3
    iexact HT4
  isplitl [Ho]; · iexact Ho
  isplitl [H0]
  · iapply owns_of_rep; iexact H0
  isplitl [H1]
  · iapply owns_of_rep; iexact H1
  isplitl [H2]
  · iapply owns_of_rep; iexact H2
  isplitl [H3]
  · iapply owns_of_rep; iexact H3
  unfold owns; iexists _; isplitr; swap
  · iexact H4
  · ipureintro; exact (View.read_writes_eq_canon _ _ _ (covC a m ρ c t (prev a m ρ c t.val t.isLt.le) q1 ql q3)).trans (oC_0 a m ρ c t (prev a m ρ c t.val t.isLt.le) q1 ql q3).symm

end Cert.LastIdeal.Tab
-- ==== Proof.LastIdealBodyD.lean ====
module

public import proofs.«01_k».proof.Proof.LastIdealFr

@[expose] public section

set_option maxRecDepth 16384
set_option Elab.async false

noncomputable section

namespace Cert.LastIdeal.Tab

open Cert.LastIdeal Cert.LastIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

attribute [local irreducible] runA runB runC runD

variable {F : FTy → Type} [FloatOps F]

local notation "𝕄" => MT nD τ sig Unit (Elt F) ℕ (UR sig nD τ) ℕ

variable (a : (pcfg0 (F := F)).Adm) (m : (ℓ : Loc nD τ sig) → Buf (Elt F) ℓ) (ρ : Dev nD → PrngReg)

set_option maxHeartbeats 4000000 in
theorem bodyD (G : Good a.1) (c : Dev nD) (t : Fin (cfgA a).N) (q1 : Q1 a t) (ql : QL a t) (q3 : ¬ Q3 a t) : BodyAt a m ρ c t := by
  unfold BodyAt
  rw [bigSep_W0]
  have i4 := idle_live a t q1
  have fr4 := not_fresh a G t.val t.isLt q3
  rewrite [i4]
  simp only [before0_0, before0_1, before0_2, before0_3, before0_4, after0_0, after0_1, after0_2, after0_3, after0_4]
  simp only [fr4, Bool.false_eq_true, ↓reduceIte]
  rewrite [show (dats a m ρ 0 c).Φ t.succ = Phi a m ρ c (t.val + 1) t.isLt from rfl, show (dats a m ρ 0 c).Φ t.castSucc = Phi a m ρ c t.val t.isLt.le from rfl,
    show (dats a m ρ 0 c).owesAt () t.succ = (dats a m ρ 0 c).owesAt () t.castSucc from rfl]
  unfold Phi
  rewrite [prev_succ a m ρ c t t.isLt, step_D a m ρ c t _ q1 ql q3]
  iintro ⟨⟨⟨%a0, %ha0, HS0⟩, ⟨%a1, %ha1, HS1⟩, ⟨%a2, %ha2, HS2⟩, HT0, HT1, HT2, HT3, HT4⟩, Ho, ⟨%d0, H0⟩, ⟨%d1, H1⟩, ⟨%d2, H2⟩, ⟨%d3, H3⟩, ⟨%d4, H4⟩⟩
  iapply ((rD a m ρ c t (prev a m ρ c t.val t.isLt.le) q1 ql q3).2.2.2.2 a0 a1 a2 _)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [HT2]; · iexact HT2
  isplitl [HT3]; · iexact HT3
  isplitl [HT4]; · iexact HT4
  isplitl [H4]; · iexact H4
  isplitl [HS0]; · iexact HS0
  isplitl [HS1]; · iexact HS1
  isplitl [HS2]; · iexact HS2
  iintro ⟨H0, H1, H2, H3, HT0, HT1, HT2, HT3, HT4, ⟨%e4, H4⟩, HS0, HS1, HS2⟩
  isplitl [HS0 HS1 HS2 HT0 HT1 HT2 HT3 HT4]
  · isplitl [HS0]
    · iexists _; isplitr; swap
      · iexact HS0
      · ipureintro; intro hn; exact (oD_1 a m ρ c t (prev a m ρ c t.val t.isLt.le) q1 ql q3).symm
    isplitl [HS1]
    · iexists _; isplitr; swap
      · iexact HS1
      · ipureintro; intro hn; exact (oD_2 a m ρ c t (prev a m ρ c t.val t.isLt.le) q1 ql q3).symm
    isplitl [HS2]
    · iexists _; isplitr; swap
      · iexact HS2
      · ipureintro; intro hn; exact (oD_3 a m ρ c t (prev a m ρ c t.val t.isLt.le) q1 ql q3).symm
    isplitl [HT0]; · iexact HT0
    isplitl [HT1]; · iexact HT1
    isplitl [HT2]; · iexact HT2
    isplitl [HT3]; · iexact HT3
    iexact HT4
  isplitl [Ho]; · iexact Ho
  isplitl [H0]
  · iapply owns_of_rep; iexact H0
  isplitl [H1]
  · iapply owns_of_rep; iexact H1
  isplitl [H2]
  · iapply owns_of_rep; iexact H2
  isplitl [H3]
  · iapply owns_of_rep; iexact H3
  unfold owns; iexists _; isplitr; swap
  · iexact H4
  · ipureintro; exact (View.read_writes_eq_canon _ _ _ (covD a m ρ c t (prev a m ρ c t.val t.isLt.le) q1 ql q3)).trans (oD_0 a m ρ c t (prev a m ρ c t.val t.isLt.le) q1 ql q3).symm

end Cert.LastIdeal.Tab
-- ==== Proof.LastIdealBodyE.lean ====
module

public import proofs.«01_k».proof.Proof.LastIdealFr

@[expose] public section

set_option maxRecDepth 16384
set_option Elab.async false

noncomputable section

namespace Cert.LastIdeal.Tab

open Cert.LastIdeal Cert.LastIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

attribute [local irreducible] runA runB runC runD

variable {F : FTy → Type} [FloatOps F]

local notation "𝕄" => MT nD τ sig Unit (Elt F) ℕ (UR sig nD τ) ℕ

variable (a : (pcfg0 (F := F)).Adm) (m : (ℓ : Loc nD τ sig) → Buf (Elt F) ℓ) (ρ : Dev nD → PrngReg)

set_option maxHeartbeats 4000000 in
theorem bodyE (G : Good a.1) (c : Dev nD) (t : Fin (cfgA a).N) (q1 : ¬ Q1 a t) : BodyAt a m ρ c t := by
  unfold BodyAt
  rw [bigSep_W0]
  have i4 := idle_dead a t q1
  have q3 : ¬ Q3 a t := G.idle _ q1
  have fr4 := not_fresh a G t.val t.isLt q3
  have t0 : t.val ≠ 0 := fun h => q3 (q3_zero a t h)
  rewrite [i4]
  simp only [before0_0, before0_1, before0_2, before0_3, before0_4, after0_0, after0_1, after0_2, after0_3, after0_4]
  simp only [fr4, Bool.false_eq_true, ↓reduceIte]
  rewrite [show (dats a m ρ 0 c).Φ t.succ = Phi a m ρ c (t.val + 1) t.isLt from rfl, show (dats a m ρ 0 c).Φ t.castSucc = Phi a m ρ c t.val t.isLt.le from rfl,
    show (dats a m ρ 0 c).owesAt () t.succ = (dats a m ρ 0 c).owesAt () t.castSucc from rfl]
  unfold Phi
  rewrite [prev_succ a m ρ c t t.isLt, step_E a m ρ c t _ q1]
  simp only [exists_held t0]
  iintro ⟨⟨HS0, HS1, HS2, HT0, HT1, HT2, HT3, HT4⟩, Ho, ⟨%d0, H0⟩, ⟨%d1, H1⟩, ⟨%d2, H2⟩, ⟨%d3, H3⟩, ⟨%d4, H4⟩⟩
  iapply (runE c (crd a t) (ms0_0 a t) (hs0_0 a t) (ms0_1 a t) (hs0_1 a t) (ms0_2 a t) (hs0_2 a t) (ms0_3 a t) (hs0_3 a t) (ms0_4 a t) (hs0_4 a t) (T0 a) (T1 a) (T2 a) (T3 a) (T4 a) (iblk a m ρ c (0 : Fin 5) t) (iblk a m ρ c (1 : Fin 5) t) (iblk a m ρ c (2 : Fin 5) t) (iblk a m ρ c (3 : Fin 5) t) _ _ _ q1 _)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [HT2]; · iexact HT2
  isplitl [HT3]; · iexact HT3
  isplitl [HT4]; · iexact HT4
  isplitl [HS0]; · iexact HS0
  isplitl [HS1]; · iexact HS1
  isplitl [HS2]; · iexact HS2
  iintro ⟨H0, H1, H2, H3, HT0, HT1, HT2, HT3, HT4, HS0, HS1, HS2⟩
  isplitl [HS0 HS1 HS2 HT0 HT1 HT2 HT3 HT4]
  · isplitl [HS0]
    · iexists _; isplitr; swap
      · iexact HS0
      · ipureintro; intro hn; rfl
    isplitl [HS1]
    · iexists _; isplitr; swap
      · iexact HS1
      · ipureintro; intro hn; rfl
    isplitl [HS2]
    · iexists _; isplitr; swap
      · iexact HS2
      · ipureintro; intro hn; rfl
    isplitl [HT0]; · iexact HT0
    isplitl [HT1]; · iexact HT1
    isplitl [HT2]; · iexact HT2
    isplitl [HT3]; · iexact HT3
    iexact HT4
  isplitl [Ho]; · iexact Ho
  isplitl [H0]
  · iapply owns_of_rep; iexact H0
  isplitl [H1]
  · iapply owns_of_rep; iexact H1
  isplitl [H2]
  · iapply owns_of_rep; iexact H2
  isplitl [H3]
  · iapply owns_of_rep; iexact H3
  cases hfl : ((cfgA a).win (4 : Fin 5)).flush t
  · iexists d4; iexact H4
  · iexact H4

end Cert.LastIdeal.Tab
-- ==== Proof.LastIdealFrame.lean ====
module

public import proofs.«01_k».proof.Proof.LastIdealBodyA
public import proofs.«01_k».proof.Proof.LastIdealBodyB
public import proofs.«01_k».proof.Proof.LastIdealBodyC
public import proofs.«01_k».proof.Proof.LastIdealBodyD
public import proofs.«01_k».proof.Proof.LastIdealBodyE

@[expose] public section

set_option maxRecDepth 16384
set_option Elab.async false

noncomputable section

namespace Cert.LastIdeal.Tab

open Cert.LastIdeal Cert.LastIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

attribute [local irreducible] runA runB runC runD

variable {F : FTy → Type} [FloatOps F]

local notation "𝕄" => MT nD τ sig Unit (Elt F) ℕ (UR sig nD τ) ℕ

variable (a : (pcfg0 (F := F)).Adm) (m : (ℓ : Loc nD τ sig) → Buf (Elt F) ℓ) (ρ : Dev nD → PrngReg)

/-- The obligation at every point. -/
theorem sound_body (G : Good a.1) (c : Dev nD) (t : Fin (cfgA a).N) : BodyAt a m ρ c t := by
  by_cases q1 : Q1 a t
  · by_cases q3 : Q3 a t
    · by_cases ql : QL a t
      · exact bodyA a m ρ G c t q1 ql q3
      · exact bodyC a m ρ G c t q1 ql q3
    · by_cases ql : QL a t
      · exact bodyD a m ρ G c t q1 ql q3
      · exact bodyB a m ρ G c t q1 ql q3
  · exact bodyE a m ρ G c t q1

theorem body_obligation (G : Good a.1) (c : Dev nD) : BodyObligation (dats a m ρ 0 c) (defs₀ (F := F)) Variants.none () Set.univ := fun t => by
  have h := sound_body a m ρ G c t
  unfold BodyAt at h
  rw [bigSep_W0]
  exact h

/-! ## The launch -/

/-- The rounds library's launch element. -/
def u₀ : UR sig nD τ :=
  initOf (Pipeline.cells (pcs a) ((launch0 (F := F)).cellOf_inj fun _ => a))
    (Pipeline.launchToks (pcs a) ((launch0 (F := F)).cellOf_inj fun _ => a))

theorem share_eq (c : Dev nD) (w : Fin (cfgA a).W) : (dats a m ρ 0 c).share w = fullShare := by unfold Dat.share; split <;> rfl

/-- The tables as the launch hands them to the region, one by one. -/
theorem prefHeld_eq (c : Dev nD) (q : Fin 5 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1) ∗ (((c : Thread nD τ).loc main_arg2) ↦{q 2} v 2) ∗ (((c : Thread nD τ).loc main_arg3) ↦{q 3} v 3) ∗ (((c : Thread nD τ).loc main_arg4) ↦{q 4} v 4)) := by
  unfold Pipeline.prefHeld
  rw [show (Finset.univ : Finset (Fin 5)) = insert (0 : Fin 5) (insert (1 : Fin 5) (insert (2 : Fin 5) (insert (3 : Fin 5) {(4 : Fin 5)}))) from by decide,
    bigSep_insert (by decide), bigSep_insert (by decide), bigSep_insert (by decide), bigSep_insert (by decide), bigSep_singleton]
  rfl

/-- The invariant at the first point from the tables and the scratch buffers (`hin`); -/
theorem phi0_intro (c : Dev nD) :
    iprop(BI.emp ∗ Pipeline.prefHeld pre0 c (fun _ => fullShare.right) a.1 ∗ Pipeline.scopedRest spec0 c) ⊢ (dats a m ρ 0 c).Φ 0 := by
  rw [prefHeld_eq, scopedRest0_eq, show (dats a m ρ 0 c).Φ 0 = Phi a m ρ c 0 (Nat.zero_le _) from rfl]
  unfold Phi
  iintro ⟨-, ⟨HT0, HT1, HT2, HT3, HT4⟩, ⟨%a0, HS0⟩, ⟨%a1, HS1⟩, ⟨%a2, HS2⟩⟩
  isplitl [HS0]
  · iexists a0; isplitr; swap
    · iexact HS0
    · ipureintro; intro h; exact absurd rfl h
  isplitl [HS1]
  · iexists a1; isplitr; swap
    · iexact HS1
    · ipureintro; intro h; exact absurd rfl h
  isplitl [HS2]
  · iexists a2; isplitr; swap
    · iexact HS2
    · ipureintro; intro h; exact absurd rfl h
  isplitl [HT0]
  · iexact HT0
  isplitl [HT1]
  · iexact HT1
  isplitl [HT2]
  · iexact HT2
  isplitl [HT3]
  · iexact HT3
  iexact HT4

/-- at the last point it gives the scratch buffers back (`hout`), the tables let go. -/
theorem phiN_exit (c : Dev nD) : (dats a m ρ 0 c).Φ (Fin.last (cfgA a).N) ⊢ iprop(BI.emp ∗ Pipeline.scopedRest spec0 c) := by
  rw [scopedRest0_eq, show (dats a m ρ 0 c).Φ (Fin.last (cfgA a).N) = Phi a m ρ c (cfgA a).N le_rfl from rfl]
  unfold Phi
  iintro ⟨⟨%a0, -, HS0⟩, ⟨%a1, -, HS1⟩, ⟨%a2, -, HS2⟩, -, -, -, -, -⟩
  isplitr; · iempintro
  isplitl [HS0]
  · iexists a0; iexact HS0
  isplitl [HS1]
  · iexists a1; iexact HS1
  iexists a2; iexact HS2

/-- The physical post: every array at what the library computes, every table at what the pipeline ran at. -/
def QC : PUnit × MemSt nD τ sig (Elt F) → Prop := fun r =>
  ∀ c : Dev nD, (∀ w : Fin (cfgA a).W, r.2.mem (((cfgA a).win w).arr.view.loc (c : Thread nD τ)) = (dats a m ρ 0 c).arrAt w (cfgA a).N)
    ∧ ∀ j, r.2.mem ((c : Thread nD τ).loc (pre0.ref j)) = a.1 j

set_option backward.isDefEq.respectTransparency.types false in
set_option maxHeartbeats 4000000 in
/-- At the compiled mesh, from any memory with zero counters whose tables are good: every weakly
    fair execution of @main on the TensorCores terminates, and every final state has each array at the computed contents,
    and every semaphore counter at zero. -/
theorem run_main (G : Good a.1) (hp : ∀ (c : Dev nD) (j : Fin 5), m ((c : Thread nD τ).loc (pre0.ref j)) = a.1 j) : θ_run (defs (F := F)) (onTc (τ := τ) (main (F := F))) (s₀ m ρ) (fun r => QC a m ρ r ∧ r.2.sem = fun _ => 0) :=
  Pipeline.θ_run_region_noSem_pf_quiescent pcfgs (fun _ => a) (dats a m ρ) () ((launch0 (F := F)).cellOf_inj fun _ => a) (0 : Fin 1)
    (launch0 (F := F)).win.to₀ (launch0 (F := F)).pre EP defs₀ Variants.none m ρ main
    (hbody := fun c => (body_obligation a m ρ G c).loose) (hne := (launch0 (F := F)).block_pos)
    (harr := (launch0 (F := F)).arr_whole) (hstage := (launch0 (F := F)).stage_whole) (howed := fun _ _ => rfl)
    (u₀ := u₀ a) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs a) (dats a m ρ) 0 (launch0 (F := F)).win.arr_inj c (launch0 (F := F)).arr_whole
      (share_eq a m ρ c) _ _ fun _ => rfl)
    (hpf := hp)
    (X := fun _ => iprop(emp)) (Y := fun _ => iprop(emp)) (Z := fun _ => iprop(emp))
    (hX := fun c => by rw [unscopedRestP0_eq]; iintro -; isplitr <;> iempintro)
    (hin := phi0_intro a m ρ)
    (hout := phiN_exit a m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The frame: every argument array ends unchanged, every counter at zero. -/
theorem frame (G : Good a.1) (hp : ∀ (c : Dev nD) (j : Fin 5), m ((c : Thread nD τ).loc (pre0.ref j)) = a.1 j) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => ⟨((h.1 c).2 0).trans (hp c 0).symm, ((h.1 c).2 1).trans (hp c 1).symm, ((h.1 c).2 2).trans (hp c 2).symm, ((h.1 c).2 3).trans (hp c 3).symm, ((h.1 c).2 4).trans (hp c 4).symm, ((h.1 c).1 (0 : Fin 5)).trans ((dats a m ρ 0 c).arrAt_in (0 : Fin 5) rfl _), ((h.1 c).1 (1 : Fin 5)).trans ((dats a m ρ 0 c).arrAt_in (1 : Fin 5) rfl _), ((h.1 c).1 (2 : Fin 5)).trans ((dats a m ρ 0 c).arrAt_in (2 : Fin 5) rfl _), ((h.1 c).1 (3 : Fin 5)).trans ((dats a m ρ 0 c).arrAt_in (3 : Fin 5) rfl _)⟩, h.2⟩) (run_main a m ρ G hp)

end Cert.LastIdeal.Tab
-- ==== Proof.LastIdealChunk.lean ====
/- What one visit leaves, read at an index: the tile's rows rescaled into chunks, the feed-forward product over the
   resident weights, and the four kinds of visit. -/
module

public import proofs.«01_k».proof.Proof.LastIdealFr
public import Idealize.ShloMosaic.Lib.Pipeline.ValueKit
public import Idealize.ShloMosaic.Lib.Pipeline.ReadBack
public import Idealize.ShloMosaic.Lib.Pointwise

@[expose] public section

set_option maxRecDepth 16384
set_option Elab.async false

noncomputable section

namespace Cert.LastIdeal.Tab

open Cert.LastIdeal Cert.LastIdeal.Gen
open Idealize.ShloMosaic
open Idealize.ShloMosaic.TcCoe Idealize.ShloMosaic.Tactic

/-- The index of a tile's buffer holding row `r`'s feature `d`. -/
def cix (r : Fin 512) (d : Fin 2048) : S8192x128.Idx :=
  ix2 (⟨16 * r.val + d.val / 128, by omega⟩ : Fin 8192) (⟨d.val % 128, by omega⟩ : Fin 128)
/-- The row and the feature at an index of a tile's buffer. -/
def rowOf (y : S8192x128.Idx) : Fin 512 := ⟨(y 0).val / 16, by have : (y 0).val < 8192 := (y 0).isLt; omega⟩
/-- The feature at an index of a tile's buffer. -/
def colOf (y : S8192x128.Idx) : Fin 2048 := ⟨128 * ((y 0).val % 16) + (y 1).val, by have : (y 1).val < 128 := (y 1).isLt; omega⟩

theorem cix_of (y : S8192x128.Idx) : cix (rowOf y) (colOf y) = y := by
  have h0 : (y 0).val < 8192 := (y 0).isLt
  have h1 : (y 1).val < 128 := (y 1).isLt
  funext b
  match b with
  | ⟨0, _⟩ =>
    apply Fin.ext
    show 16 * ((y 0).val / 16) + (128 * ((y 0).val % 16) + (y 1).val) / 128 = (y 0).val
    omega
  | ⟨1, _⟩ =>
    apply Fin.ext
    show (128 * ((y 0).val % 16) + (y 1).val) % 128 = (y 1).val
    omega

/-- Sixteen chunks side by side, read at an index: each chunk's rows are a tile's rows `16 r + k`. -/
theorem catF (X : S8192x128.Idx → EReal) (P : Fin 16 → S512x128.Idx → EReal)
    (h : ∀ k (i : S512x128.Idx), P k i = X (ix2 (⟨16 * (i 0).val + k.val, by have : (i 0).val < 512 := (i 0).isLt; omega⟩ : Fin 8192) (⟨(i 1).val, (i 1).isLt⟩ : Fin 128)))
    (hc : Shape.Concatenates ((List.ofFn fun k : Fin 16 => (⟨S512x128, P k⟩ : (s : Shape) × (s.Idx → EReal))).map (·.1)) S512x2048 1) (j : S512x2048.Idx) :
    concatenate S512x2048 1 (List.ofFn fun k : Fin 16 => (⟨S512x128, P k⟩ : (s : Shape) × (s.Idx → EReal))) hc j = X (cix (⟨(j 0).val, (j 0).isLt⟩ : Fin 512) (⟨(j 1).val, (j 1).isLt⟩ : Fin 2048)) := by
  have hj0 : (j 0).val < 512 := (j 0).isLt
  have hj1 : (j 1).val < 2048 := (j 1).isLt
  refine (concatenate_ofFn_apply 1 P hc rfl 128 rfl j (⟨(j 1).val / 128, by omega⟩ : Fin 16) rfl (ix2 (⟨(j 0).val, hj0⟩ : Fin 512) (⟨(j 1).val % 128, by omega⟩ : Fin 128)) rfl ?_).trans (h _ _)
  intro b hb
  match b, hb with
  | ⟨0, _⟩, _ => rfl
  | ⟨1, _⟩, hb => exact absurd rfl hb
/-- The same of the sixteen chunks written out. -/
theorem cat16 (X : S8192x128.Idx → EReal) (P0 : S512x128.Idx → EReal) (P1 : S512x128.Idx → EReal) (P2 : S512x128.Idx → EReal) (P3 : S512x128.Idx → EReal) (P4 : S512x128.Idx → EReal) (P5 : S512x128.Idx → EReal) (P6 : S512x128.Idx → EReal) (P7 : S512x128.Idx → EReal) (P8 : S512x128.Idx → EReal) (P9 : S512x128.Idx → EReal) (P10 : S512x128.Idx → EReal) (P11 : S512x128.Idx → EReal) (P12 : S512x128.Idx → EReal) (P13 : S512x128.Idx → EReal) (P14 : S512x128.Idx → EReal) (P15 : S512x128.Idx → EReal)
    (h0 : ∀ i : S512x128.Idx, P0 i = X (ix2 (⟨16 * (i 0).val + 0, by have : (i 0).val < 512 := (i 0).isLt; omega⟩ : Fin 8192) (⟨(i 1).val, (i 1).isLt⟩ : Fin 128)))
    (h1 : ∀ i : S512x128.Idx, P1 i = X (ix2 (⟨16 * (i 0).val + 1, by have : (i 0).val < 512 := (i 0).isLt; omega⟩ : Fin 8192) (⟨(i 1).val, (i 1).isLt⟩ : Fin 128)))
    (h2 : ∀ i : S512x128.Idx, P2 i = X (ix2 (⟨16 * (i 0).val + 2, by have : (i 0).val < 512 := (i 0).isLt; omega⟩ : Fin 8192) (⟨(i 1).val, (i 1).isLt⟩ : Fin 128)))
    (h3 : ∀ i : S512x128.Idx, P3 i = X (ix2 (⟨16 * (i 0).val + 3, by have : (i 0).val < 512 := (i 0).isLt; omega⟩ : Fin 8192) (⟨(i 1).val, (i 1).isLt⟩ : Fin 128)))
    (h4 : ∀ i : S512x128.Idx, P4 i = X (ix2 (⟨16 * (i 0).val + 4, by have : (i 0).val < 512 := (i 0).isLt; omega⟩ : Fin 8192) (⟨(i 1).val, (i 1).isLt⟩ : Fin 128)))
    (h5 : ∀ i : S512x128.Idx, P5 i = X (ix2 (⟨16 * (i 0).val + 5, by have : (i 0).val < 512 := (i 0).isLt; omega⟩ : Fin 8192) (⟨(i 1).val, (i 1).isLt⟩ : Fin 128)))
    (h6 : ∀ i : S512x128.Idx, P6 i = X (ix2 (⟨16 * (i 0).val + 6, by have : (i 0).val < 512 := (i 0).isLt; omega⟩ : Fin 8192) (⟨(i 1).val, (i 1).isLt⟩ : Fin 128)))
    (h7 : ∀ i : S512x128.Idx, P7 i = X (ix2 (⟨16 * (i 0).val + 7, by have : (i 0).val < 512 := (i 0).isLt; omega⟩ : Fin 8192) (⟨(i 1).val, (i 1).isLt⟩ : Fin 128)))
    (h8 : ∀ i : S512x128.Idx, P8 i = X (ix2 (⟨16 * (i 0).val + 8, by have : (i 0).val < 512 := (i 0).isLt; omega⟩ : Fin 8192) (⟨(i 1).val, (i 1).isLt⟩ : Fin 128)))
    (h9 : ∀ i : S512x128.Idx, P9 i = X (ix2 (⟨16 * (i 0).val + 9, by have : (i 0).val < 512 := (i 0).isLt; omega⟩ : Fin 8192) (⟨(i 1).val, (i 1).isLt⟩ : Fin 128)))
    (h10 : ∀ i : S512x128.Idx, P10 i = X (ix2 (⟨16 * (i 0).val + 10, by have : (i 0).val < 512 := (i 0).isLt; omega⟩ : Fin 8192) (⟨(i 1).val, (i 1).isLt⟩ : Fin 128)))
    (h11 : ∀ i : S512x128.Idx, P11 i = X (ix2 (⟨16 * (i 0).val + 11, by have : (i 0).val < 512 := (i 0).isLt; omega⟩ : Fin 8192) (⟨(i 1).val, (i 1).isLt⟩ : Fin 128)))
    (h12 : ∀ i : S512x128.Idx, P12 i = X (ix2 (⟨16 * (i 0).val + 12, by have : (i 0).val < 512 := (i 0).isLt; omega⟩ : Fin 8192) (⟨(i 1).val, (i 1).isLt⟩ : Fin 128)))
    (h13 : ∀ i : S512x128.Idx, P13 i = X (ix2 (⟨16 * (i 0).val + 13, by have : (i 0).val < 512 := (i 0).isLt; omega⟩ : Fin 8192) (⟨(i 1).val, (i 1).isLt⟩ : Fin 128)))
    (h14 : ∀ i : S512x128.Idx, P14 i = X (ix2 (⟨16 * (i 0).val + 14, by have : (i 0).val < 512 := (i 0).isLt; omega⟩ : Fin 8192) (⟨(i 1).val, (i 1).isLt⟩ : Fin 128)))
    (h15 : ∀ i : S512x128.Idx, P15 i = X (ix2 (⟨16 * (i 0).val + 15, by have : (i 0).val < 512 := (i 0).isLt; omega⟩ : Fin 8192) (⟨(i 1).val, (i 1).isLt⟩ : Fin 128)))
    (hc : Shape.Concatenates ([(⟨S512x128, P0⟩ : (s : Shape) × (s.Idx → EReal)), (⟨S512x128, P1⟩ : (s : Shape) × (s.Idx → EReal)), (⟨S512x128, P2⟩ : (s : Shape) × (s.Idx → EReal)), (⟨S512x128, P3⟩ : (s : Shape) × (s.Idx → EReal)), (⟨S512x128, P4⟩ : (s : Shape) × (s.Idx → EReal)), (⟨S512x128, P5⟩ : (s : Shape) × (s.Idx → EReal)), (⟨S512x128, P6⟩ : (s : Shape) × (s.Idx → EReal)), (⟨S512x128, P7⟩ : (s : Shape) × (s.Idx → EReal)), (⟨S512x128, P8⟩ : (s : Shape) × (s.Idx → EReal)), (⟨S512x128, P9⟩ : (s : Shape) × (s.Idx → EReal)), (⟨S512x128, P10⟩ : (s : Shape) × (s.Idx → EReal)), (⟨S512x128, P11⟩ : (s : Shape) × (s.Idx → EReal)), (⟨S512x128, P12⟩ : (s : Shape) × (s.Idx → EReal)), (⟨S512x128, P13⟩ : (s : Shape) × (s.Idx → EReal)), (⟨S512x128, P14⟩ : (s : Shape) × (s.Idx → EReal)), (⟨S512x128, P15⟩ : (s : Shape) × (s.Idx → EReal))].map (·.1)) S512x2048 1) (j : S512x2048.Idx) :
    concatenate S512x2048 1 [⟨S512x128, P0⟩, ⟨S512x128, P1⟩, ⟨S512x128, P2⟩, ⟨S512x128, P3⟩, ⟨S512x128, P4⟩, ⟨S512x128, P5⟩, ⟨S512x128, P6⟩, ⟨S512x128, P7⟩, ⟨S512x128, P8⟩, ⟨S512x128, P9⟩, ⟨S512x128, P10⟩, ⟨S512x128, P11⟩, ⟨S512x128, P12⟩, ⟨S512x128, P13⟩, ⟨S512x128, P14⟩, ⟨S512x128, P15⟩] hc j = X (cix (⟨(j 0).val, (j 0).isLt⟩ : Fin 512) (⟨(j 1).val, (j 1).isLt⟩ : Fin 2048)) := by
  exact catF X ![P0, P1, P2, P3, P4, P5, P6, P7, P8, P9, P10, P11, P12, P13, P14, P15] (fun k => by fin_cases k; exacts [h0, h1, h2, h3, h4, h5, h6, h7, h8, h9, h10, h11, h12, h13, h14, h15]) hc j

/-- A row lies in the visit's range. -/
def mine (lo hi : BitVec 32) (r : Fin 512) : Prop := lo.toInt ≤ (r.val : ℤ) ∧ (r.val : ℤ) < hi.toInt

/-- The gate or up product of a tile's row with one expert's resident weight. -/
def lin (x : S8192x128.Idx → EReal) (w : S2048x512.Idx → EReal) (r : Fin 512) (f : Fin 512) : EReal :=
  ∑ k : Fin 2048, x (cix r k) * w (ix2 k f)
/-- The feed-forward product of a tile's row over one expert's resident weights. -/
def ffn (x : S8192x128.Idx → EReal) (g u : S2048x512.Idx → EReal) (d : S512x2048.Idx → EReal) (r : Fin 512) (e : Fin 2048) : EReal :=
  ∑ f : Fin 512, lin x g r f * Ideal.logistic (lin x g r f) * lin x u r f * d (ix2 f e)

end Cert.LastIdeal.Tab
-- ==== Proof.LastIdealPay.lean ====
/- What one visit leaves: the payloads read at an index. -/
module

public import proofs.«01_k».proof.Proof.LastIdealChunk
public import Idealize.ShloMosaic.Lib.Pointwise

@[expose] public section

set_option maxRecDepth 16384
set_option Elab.async false

noncomputable section

namespace Cert.LastIdeal.Tab

open Cert.LastIdeal Cert.LastIdeal.Gen
open Idealize.ShloMosaic
open Idealize.ShloMosaic.TcCoe Idealize.ShloMosaic.Tactic

/-- The feed-forward payload at a row and a feature. -/
theorem pay1_eq (x : S8192x128.Idx → EReal) (X : FVec Ideal S512x2048 .f32) (g u : FVec Ideal S2048x512 .bf16) (d : FVec Ideal S512x2048 .bf16)
    (hX : ∀ j : S512x2048.Idx, X j = x (cix (⟨(j 0).val, (j 0).isLt⟩ : Fin 512) (⟨(j 1).val, (j 1).isLt⟩ : Fin 2048)))
    (r : Fin 512) (e : Fin 2048) : k0_pay1 (F := Ideal) X g u d (ix2 r e) = ffn x g u d r e := by
  unfold k0_pay1 ffn lin
  pointwise
  simp only [hX]
  rfl

/-- The visit's mask at a row. -/
theorem pay2_eq (lo hi : BitVec 32) (r : Fin 512) : k0_pay2 (F := Ideal) lo hi (ix2 r (0 : Fin 1)) = 1#1 ↔ mine lo hi r := by
  unfold k0_pay2 mine
  have h1 : ∀ a b : BitVec 1, IntOp.andi a b = 1#1 ↔ a = 1#1 ∧ b = 1#1 := by decide
  have hr : (BitVec.ofNat 32 r.val).toInt = (r.val : ℤ) := by
    have := r.isLt
    rw [BitVec.toInt_eq_toNat_of_lt] <;> simp only [BitVec.toNat_ofNat] <;> omega
  pointwise
  rw [h1]
  simp only [IntOp.cmpi, BitVec.sle, BitVec.slt, hr]
  have hb : ∀ b : Bool, BitVec.ofBool b = 1#1 ↔ b = true := by decide
  rw [hb, hb, decide_eq_true_eq, decide_eq_true_eq]

end Cert.LastIdeal.Tab
-- ==== Proof.LastIdealCanon.lean ====
/- What one visit leaves, read at an index: the tile's rows rescaled into chunks, the feed-forward product over the
   resident weights, and the four kinds of visit. -/
module

public import proofs.«01_k».proof.Proof.LastIdealChunk
public import Idealize.ShloMosaic.Lib.Pipeline.ValueKit
public import Idealize.ShloMosaic.Lib.Pipeline.ReadBack
public import Idealize.ShloMosaic.Lib.Pointwise

@[expose] public section

set_option maxRecDepth 16384
set_option Elab.async false

noncomputable section

namespace Cert.LastIdeal.Tab

open Cert.LastIdeal Cert.LastIdeal.Gen
open Idealize.ShloMosaic
open Idealize.ShloMosaic.TcCoe Idealize.ShloMosaic.Tactic

/-- Sixteen stores at the row families `16 r + k` read back at an index. -/
theorem canon16 (V : S512x2048.Idx → EReal) (P0 : S512x128.Idx → EReal) (P1 : S512x128.Idx → EReal) (P2 : S512x128.Idx → EReal) (P3 : S512x128.Idx → EReal) (P4 : S512x128.Idx → EReal) (P5 : S512x128.Idx → EReal) (P6 : S512x128.Idx → EReal) (P7 : S512x128.Idx → EReal) (P8 : S512x128.Idx → EReal) (P9 : S512x128.Idx → EReal) (P10 : S512x128.Idx → EReal) (P11 : S512x128.Idx → EReal) (P12 : S512x128.Idx → EReal) (P13 : S512x128.Idx → EReal) (P14 : S512x128.Idx → EReal) (P15 : S512x128.Idx → EReal)
    (h0 : ∀ i : S512x128.Idx, P0 i = V (ix2 (⟨(i 0).val, (i 0).isLt⟩ : Fin 512) (⟨0 + (i 1).val, by have : (i 1).val < 128 := (i 1).isLt; omega⟩ : Fin 2048)))
    (h1 : ∀ i : S512x128.Idx, P1 i = V (ix2 (⟨(i 0).val, (i 0).isLt⟩ : Fin 512) (⟨128 + (i 1).val, by have : (i 1).val < 128 := (i 1).isLt; omega⟩ : Fin 2048)))
    (h2 : ∀ i : S512x128.Idx, P2 i = V (ix2 (⟨(i 0).val, (i 0).isLt⟩ : Fin 512) (⟨256 + (i 1).val, by have : (i 1).val < 128 := (i 1).isLt; omega⟩ : Fin 2048)))
    (h3 : ∀ i : S512x128.Idx, P3 i = V (ix2 (⟨(i 0).val, (i 0).isLt⟩ : Fin 512) (⟨384 + (i 1).val, by have : (i 1).val < 128 := (i 1).isLt; omega⟩ : Fin 2048)))
    (h4 : ∀ i : S512x128.Idx, P4 i = V (ix2 (⟨(i 0).val, (i 0).isLt⟩ : Fin 512) (⟨512 + (i 1).val, by have : (i 1).val < 128 := (i 1).isLt; omega⟩ : Fin 2048)))
    (h5 : ∀ i : S512x128.Idx, P5 i = V (ix2 (⟨(i 0).val, (i 0).isLt⟩ : Fin 512) (⟨640 + (i 1).val, by have : (i 1).val < 128 := (i 1).isLt; omega⟩ : Fin 2048)))
    (h6 : ∀ i : S512x128.Idx, P6 i = V (ix2 (⟨(i 0).val, (i 0).isLt⟩ : Fin 512) (⟨768 + (i 1).val, by have : (i 1).val < 128 := (i 1).isLt; omega⟩ : Fin 2048)))
    (h7 : ∀ i : S512x128.Idx, P7 i = V (ix2 (⟨(i 0).val, (i 0).isLt⟩ : Fin 512) (⟨896 + (i 1).val, by have : (i 1).val < 128 := (i 1).isLt; omega⟩ : Fin 2048)))
    (h8 : ∀ i : S512x128.Idx, P8 i = V (ix2 (⟨(i 0).val, (i 0).isLt⟩ : Fin 512) (⟨1024 + (i 1).val, by have : (i 1).val < 128 := (i 1).isLt; omega⟩ : Fin 2048)))
    (h9 : ∀ i : S512x128.Idx, P9 i = V (ix2 (⟨(i 0).val, (i 0).isLt⟩ : Fin 512) (⟨1152 + (i 1).val, by have : (i 1).val < 128 := (i 1).isLt; omega⟩ : Fin 2048)))
    (h10 : ∀ i : S512x128.Idx, P10 i = V (ix2 (⟨(i 0).val, (i 0).isLt⟩ : Fin 512) (⟨1280 + (i 1).val, by have : (i 1).val < 128 := (i 1).isLt; omega⟩ : Fin 2048)))
    (h11 : ∀ i : S512x128.Idx, P11 i = V (ix2 (⟨(i 0).val, (i 0).isLt⟩ : Fin 512) (⟨1408 + (i 1).val, by have : (i 1).val < 128 := (i 1).isLt; omega⟩ : Fin 2048)))
    (h12 : ∀ i : S512x128.Idx, P12 i = V (ix2 (⟨(i 0).val, (i 0).isLt⟩ : Fin 512) (⟨1536 + (i 1).val, by have : (i 1).val < 128 := (i 1).isLt; omega⟩ : Fin 2048)))
    (h13 : ∀ i : S512x128.Idx, P13 i = V (ix2 (⟨(i 0).val, (i 0).isLt⟩ : Fin 512) (⟨1664 + (i 1).val, by have : (i 1).val < 128 := (i 1).isLt; omega⟩ : Fin 2048)))
    (h14 : ∀ i : S512x128.Idx, P14 i = V (ix2 (⟨(i 0).val, (i 0).isLt⟩ : Fin 512) (⟨1792 + (i 1).val, by have : (i 1).val < 128 := (i 1).isLt; omega⟩ : Fin 2048)))
    (h15 : ∀ i : S512x128.Idx, P15 i = V (ix2 (⟨(i 0).val, (i 0).isLt⟩ : Fin 512) (⟨1920 + (i 1).val, by have : (i 1).val < 128 := (i 1).isLt; omega⟩ : Fin 2048)))
    (y : S8192x128.Idx) :
    View.canon (Val := Elt Ideal) (e := .f32) [(⟨RK 15, P15⟩ : View.Piece (Elt Ideal) S8192x128 .f32), (⟨RK 14, P14⟩ : View.Piece (Elt Ideal) S8192x128 .f32), (⟨RK 13, P13⟩ : View.Piece (Elt Ideal) S8192x128 .f32), (⟨RK 12, P12⟩ : View.Piece (Elt Ideal) S8192x128 .f32), (⟨RK 11, P11⟩ : View.Piece (Elt Ideal) S8192x128 .f32), (⟨RK 10, P10⟩ : View.Piece (Elt Ideal) S8192x128 .f32), (⟨RK 9, P9⟩ : View.Piece (Elt Ideal) S8192x128 .f32), (⟨RK 8, P8⟩ : View.Piece (Elt Ideal) S8192x128 .f32), (⟨RK 7, P7⟩ : View.Piece (Elt Ideal) S8192x128 .f32), (⟨RK 6, P6⟩ : View.Piece (Elt Ideal) S8192x128 .f32), (⟨RK 5, P5⟩ : View.Piece (Elt Ideal) S8192x128 .f32), (⟨RK 4, P4⟩ : View.Piece (Elt Ideal) S8192x128 .f32), (⟨RK 3, P3⟩ : View.Piece (Elt Ideal) S8192x128 .f32), (⟨RK 2, P2⟩ : View.Piece (Elt Ideal) S8192x128 .f32), (⟨RK 1, P1⟩ : View.Piece (Elt Ideal) S8192x128 .f32), (⟨RK 0, P0⟩ : View.Piece (Elt Ideal) S8192x128 .f32)] y = V (ix2 (rowOf y) (colOf y)) := by
  refine View.canon_eq_of_allAt _ y _ (cover_of_rows _ rfl y) ?_
  refine View.allAt_cons _ _ _ ?_ (View.allAt_cons _ _ _ ?_ (View.allAt_cons _ _ _ ?_ (View.allAt_cons _ _ _ ?_ (View.allAt_cons _ _ _ ?_ (View.allAt_cons _ _ _ ?_ (View.allAt_cons _ _ _ ?_ (View.allAt_cons _ _ _ ?_ (View.allAt_cons _ _ _ ?_ (View.allAt_cons _ _ _ ?_ (View.allAt_cons _ _ _ ?_ (View.allAt_cons _ _ _ ?_ (View.allAt_cons _ _ _ ?_ (View.allAt_cons _ _ _ ?_ (View.allAt_cons _ _ _ ?_ (View.allAt_cons _ _ _ ?_ (View.allAt_nil _ _))))))))))))))))
  · intro x hx
    refine (h15 x).trans (congrArg V ?_)
    have e0 : 15 + 16 * (x 0).val = (y 0).val := congrArg (fun z : S8192x128.Idx => (z 0).val) hx
    have e1 : 0 + 1 * (x 1).val = (y 1).val := congrArg (fun z : S8192x128.Idx => (z 1).val) hx
    funext b
    match b with
    | ⟨0, _⟩ => apply Fin.ext; show (x 0).val = (y 0).val / 16; omega
    | ⟨1, _⟩ => apply Fin.ext; show 1920 + (x 1).val = 128 * ((y 0).val % 16) + (y 1).val; omega
  · intro x hx
    refine (h14 x).trans (congrArg V ?_)
    have e0 : 14 + 16 * (x 0).val = (y 0).val := congrArg (fun z : S8192x128.Idx => (z 0).val) hx
    have e1 : 0 + 1 * (x 1).val = (y 1).val := congrArg (fun z : S8192x128.Idx => (z 1).val) hx
    funext b
    match b with
    | ⟨0, _⟩ => apply Fin.ext; show (x 0).val = (y 0).val / 16; omega
    | ⟨1, _⟩ => apply Fin.ext; show 1792 + (x 1).val = 128 * ((y 0).val % 16) + (y 1).val; omega
  · intro x hx
    refine (h13 x).trans (congrArg V ?_)
    have e0 : 13 + 16 * (x 0).val = (y 0).val := congrArg (fun z : S8192x128.Idx => (z 0).val) hx
    have e1 : 0 + 1 * (x 1).val = (y 1).val := congrArg (fun z : S8192x128.Idx => (z 1).val) hx
    funext b
    match b with
    | ⟨0, _⟩ => apply Fin.ext; show (x 0).val = (y 0).val / 16; omega
    | ⟨1, _⟩ => apply Fin.ext; show 1664 + (x 1).val = 128 * ((y 0).val % 16) + (y 1).val; omega
  · intro x hx
    refine (h12 x).trans (congrArg V ?_)
    have e0 : 12 + 16 * (x 0).val = (y 0).val := congrArg (fun z : S8192x128.Idx => (z 0).val) hx
    have e1 : 0 + 1 * (x 1).val = (y 1).val := congrArg (fun z : S8192x128.Idx => (z 1).val) hx
    funext b
    match b with
    | ⟨0, _⟩ => apply Fin.ext; show (x 0).val = (y 0).val / 16; omega
    | ⟨1, _⟩ => apply Fin.ext; show 1536 + (x 1).val = 128 * ((y 0).val % 16) + (y 1).val; omega
  · intro x hx
    refine (h11 x).trans (congrArg V ?_)
    have e0 : 11 + 16 * (x 0).val = (y 0).val := congrArg (fun z : S8192x128.Idx => (z 0).val) hx
    have e1 : 0 + 1 * (x 1).val = (y 1).val := congrArg (fun z : S8192x128.Idx => (z 1).val) hx
    funext b
    match b with
    | ⟨0, _⟩ => apply Fin.ext; show (x 0).val = (y 0).val / 16; omega
    | ⟨1, _⟩ => apply Fin.ext; show 1408 + (x 1).val = 128 * ((y 0).val % 16) + (y 1).val; omega
  · intro x hx
    refine (h10 x).trans (congrArg V ?_)
    have e0 : 10 + 16 * (x 0).val = (y 0).val := congrArg (fun z : S8192x128.Idx => (z 0).val) hx
    have e1 : 0 + 1 * (x 1).val = (y 1).val := congrArg (fun z : S8192x128.Idx => (z 1).val) hx
    funext b
    match b with
    | ⟨0, _⟩ => apply Fin.ext; show (x 0).val = (y 0).val / 16; omega
    | ⟨1, _⟩ => apply Fin.ext; show 1280 + (x 1).val = 128 * ((y 0).val % 16) + (y 1).val; omega
  · intro x hx
    refine (h9 x).trans (congrArg V ?_)
    have e0 : 9 + 16 * (x 0).val = (y 0).val := congrArg (fun z : S8192x128.Idx => (z 0).val) hx
    have e1 : 0 + 1 * (x 1).val = (y 1).val := congrArg (fun z : S8192x128.Idx => (z 1).val) hx
    funext b
    match b with
    | ⟨0, _⟩ => apply Fin.ext; show (x 0).val = (y 0).val / 16; omega
    | ⟨1, _⟩ => apply Fin.ext; show 1152 + (x 1).val = 128 * ((y 0).val % 16) + (y 1).val; omega
  · intro x hx
    refine (h8 x).trans (congrArg V ?_)
    have e0 : 8 + 16 * (x 0).val = (y 0).val := congrArg (fun z : S8192x128.Idx => (z 0).val) hx
    have e1 : 0 + 1 * (x 1).val = (y 1).val := congrArg (fun z : S8192x128.Idx => (z 1).val) hx
    funext b
    match b with
    | ⟨0, _⟩ => apply Fin.ext; show (x 0).val = (y 0).val / 16; omega
    | ⟨1, _⟩ => apply Fin.ext; show 1024 + (x 1).val = 128 * ((y 0).val % 16) + (y 1).val; omega
  · intro x hx
    refine (h7 x).trans (congrArg V ?_)
    have e0 : 7 + 16 * (x 0).val = (y 0).val := congrArg (fun z : S8192x128.Idx => (z 0).val) hx
    have e1 : 0 + 1 * (x 1).val = (y 1).val := congrArg (fun z : S8192x128.Idx => (z 1).val) hx
    funext b
    match b with
    | ⟨0, _⟩ => apply Fin.ext; show (x 0).val = (y 0).val / 16; omega
    | ⟨1, _⟩ => apply Fin.ext; show 896 + (x 1).val = 128 * ((y 0).val % 16) + (y 1).val; omega
  · intro x hx
    refine (h6 x).trans (congrArg V ?_)
    have e0 : 6 + 16 * (x 0).val = (y 0).val := congrArg (fun z : S8192x128.Idx => (z 0).val) hx
    have e1 : 0 + 1 * (x 1).val = (y 1).val := congrArg (fun z : S8192x128.Idx => (z 1).val) hx
    funext b
    match b with
    | ⟨0, _⟩ => apply Fin.ext; show (x 0).val = (y 0).val / 16; omega
    | ⟨1, _⟩ => apply Fin.ext; show 768 + (x 1).val = 128 * ((y 0).val % 16) + (y 1).val; omega
  · intro x hx
    refine (h5 x).trans (congrArg V ?_)
    have e0 : 5 + 16 * (x 0).val = (y 0).val := congrArg (fun z : S8192x128.Idx => (z 0).val) hx
    have e1 : 0 + 1 * (x 1).val = (y 1).val := congrArg (fun z : S8192x128.Idx => (z 1).val) hx
    funext b
    match b with
    | ⟨0, _⟩ => apply Fin.ext; show (x 0).val = (y 0).val / 16; omega
    | ⟨1, _⟩ => apply Fin.ext; show 640 + (x 1).val = 128 * ((y 0).val % 16) + (y 1).val; omega
  · intro x hx
    refine (h4 x).trans (congrArg V ?_)
    have e0 : 4 + 16 * (x 0).val = (y 0).val := congrArg (fun z : S8192x128.Idx => (z 0).val) hx
    have e1 : 0 + 1 * (x 1).val = (y 1).val := congrArg (fun z : S8192x128.Idx => (z 1).val) hx
    funext b
    match b with
    | ⟨0, _⟩ => apply Fin.ext; show (x 0).val = (y 0).val / 16; omega
    | ⟨1, _⟩ => apply Fin.ext; show 512 + (x 1).val = 128 * ((y 0).val % 16) + (y 1).val; omega
  · intro x hx
    refine (h3 x).trans (congrArg V ?_)
    have e0 : 3 + 16 * (x 0).val = (y 0).val := congrArg (fun z : S8192x128.Idx => (z 0).val) hx
    have e1 : 0 + 1 * (x 1).val = (y 1).val := congrArg (fun z : S8192x128.Idx => (z 1).val) hx
    funext b
    match b with
    | ⟨0, _⟩ => apply Fin.ext; show (x 0).val = (y 0).val / 16; omega
    | ⟨1, _⟩ => apply Fin.ext; show 384 + (x 1).val = 128 * ((y 0).val % 16) + (y 1).val; omega
  · intro x hx
    refine (h2 x).trans (congrArg V ?_)
    have e0 : 2 + 16 * (x 0).val = (y 0).val := congrArg (fun z : S8192x128.Idx => (z 0).val) hx
    have e1 : 0 + 1 * (x 1).val = (y 1).val := congrArg (fun z : S8192x128.Idx => (z 1).val) hx
    funext b
    match b with
    | ⟨0, _⟩ => apply Fin.ext; show (x 0).val = (y 0).val / 16; omega
    | ⟨1, _⟩ => apply Fin.ext; show 256 + (x 1).val = 128 * ((y 0).val % 16) + (y 1).val; omega
  · intro x hx
    refine (h1 x).trans (congrArg V ?_)
    have e0 : 1 + 16 * (x 0).val = (y 0).val := congrArg (fun z : S8192x128.Idx => (z 0).val) hx
    have e1 : 0 + 1 * (x 1).val = (y 1).val := congrArg (fun z : S8192x128.Idx => (z 1).val) hx
    funext b
    match b with
    | ⟨0, _⟩ => apply Fin.ext; show (x 0).val = (y 0).val / 16; omega
    | ⟨1, _⟩ => apply Fin.ext; show 128 + (x 1).val = 128 * ((y 0).val % 16) + (y 1).val; omega
  · intro x hx
    refine (h0 x).trans (congrArg V ?_)
    have e0 : 0 + 16 * (x 0).val = (y 0).val := congrArg (fun z : S8192x128.Idx => (z 0).val) hx
    have e1 : 0 + 1 * (x 1).val = (y 1).val := congrArg (fun z : S8192x128.Idx => (z 1).val) hx
    funext b
    match b with
    | ⟨0, _⟩ => apply Fin.ext; show (x 0).val = (y 0).val / 16; omega
    | ⟨1, _⟩ => apply Fin.ext; show 0 + (x 1).val = 128 * ((y 0).val % 16) + (y 1).val; omega

end Cert.LastIdeal.Tab
-- ==== Proof.LastIdealMix.lean ====
/- What one visit leaves, read at an index: the four kinds of visit. -/
module

public import proofs.«01_k».proof.Proof.LastIdealPay
public import proofs.«01_k».proof.Proof.LastIdealCanon
public import Idealize.ShloMosaic.Lib.Pipeline.ValueKit
public import Idealize.ShloMosaic.Lib.Pipeline.ReadBack
public import Idealize.ShloMosaic.Lib.Pointwise

@[expose] public section

set_option maxRecDepth 16384
set_option Elab.async false

noncomputable section

namespace Cert.LastIdeal.Tab

open Cert.LastIdeal Cert.LastIdeal.Gen
open Idealize.ShloMosaic
open Idealize.ShloMosaic.TcCoe Idealize.ShloMosaic.Tactic

/-- The mask spread along the features. -/
theorem bm (M : IVec S512x1 1) (h1 : S512x1.ShapeCasts S512x1) (h2 : S512x1.Broadcasts S512x2048) (r : Fin 512) (e : Fin 2048) :
    broadcastTo S512x2048 (shapeCast S512x1 M h1) h2 (ix2 r e) = M (ix2 r (0 : Fin 1)) := by
  pointwise

/-- The rows in range take the new value, the others keep what `O` holds. -/
theorem mix (lo hi : BitVec 32) (x : S8192x128.Idx → EReal) (X : FVec Ideal S512x2048 .f32) (g u : FVec Ideal S2048x512 .bf16) (d : FVec Ideal S512x2048 .bf16)
    (hX : ∀ j : S512x2048.Idx, X j = x (cix (⟨(j 0).val, (j 0).isLt⟩ : Fin 512) (⟨(j 1).val, (j 1).isLt⟩ : Fin 2048)))
    (O : FVec Ideal S512x2048 .f32) (old : S8192x128.Idx → EReal)
    (hO : ∀ j : S512x2048.Idx, O j = old (cix (⟨(j 0).val, (j 0).isLt⟩ : Fin 512) (⟨(j 1).val, (j 1).isLt⟩ : Fin 2048)))
    (h1 : S512x1.ShapeCasts S512x1) (h2 : S512x1.Broadcasts S512x2048) (y : S8192x128.Idx) [Decidable (mine lo hi (rowOf y))] :
    select (broadcastTo S512x2048 (shapeCast S512x1 (k0_pay2 (F := Ideal) lo hi) h1) h2) (k0_pay1 (F := Ideal) X g u d) O (ix2 (rowOf y) (colOf y))
      = if mine lo hi (rowOf y) then ffn x g u d (rowOf y) (colOf y) else old y := by
  have hm := pay2_eq lo hi (rowOf y)
  have hf := pay1_eq x X g u d hX (rowOf y) (colOf y)
  have ho := hO (ix2 (rowOf y) (colOf y))
  have hc : old (cix (rowOf y) (colOf y)) = old y := congrArg old (cix_of y)
  show Scalar.select (broadcastTo S512x2048 (shapeCast S512x1 (k0_pay2 (F := Ideal) lo hi) h1) h2 (ix2 (rowOf y) (colOf y))) (k0_pay1 (F := Ideal) X g u d (ix2 (rowOf y) (colOf y))) (O (ix2 (rowOf y) (colOf y))) = _
  rw [bm, hf, ho]
  unfold Scalar.select
  by_cases hmm : mine lo hi (rowOf y)
  · rw [if_pos hmm]; exact if_pos (hm.mpr hmm)
  · rw [if_neg hmm]; exact (if_neg (fun h => hmm (hm.mp h))).trans hc

/-- A chunk loaded from a buffer, at an index. -/
theorem rd_rep (v : View sig .tc .vmem S8192x128 .f32) (X : S8192x128.Idx → EReal) (k : ℕ) (hk : k < 16) (inb) (i : S512x128.Idx) :
    View.readAt (Elt Ideal) v (⟨![k, 0], ![512, 128], ![16, 1], inb⟩ : LoadRect S8192x128) (v.rep X) i
      = X (ix2 (⟨16 * (i 0).val + k, by have : (i 0).val < 512 := (i 0).isLt; omega⟩ : Fin 8192) (⟨(i 1).val, (i 1).isLt⟩ : Fin 128)) := by
  rw [View.readAt_apply, View.read_rep]
  refine congrArg X (funext fun b => ?_)
  match b with
  | ⟨0, _⟩ => apply Fin.ext; show k + 16 * (i 0).val = 16 * (i 0).val + k; omega
  | ⟨1, _⟩ => apply Fin.ext; show 0 + 1 * (i 1).val = (i 1).val; omega
theorem rd_unread (M : Memref sig .tc .vmem S8192x128 .f32) (hM : M.IsWhole) (X : S8192x128.Idx → EReal) (k : ℕ) (hk : k < 16) (inb) (h : S512x128.ShapeCasts S512x128) (i : S512x128.Idx) :
    shapeCast S512x128 (View.readAt (Elt Ideal) M.view (⟨![k, 0], ![512, 128], ![16, 1], inb⟩ : LoadRect S8192x128) (hM.unread X)) h i
      = X (ix2 (⟨16 * (i 0).val + k, by have : (i 0).val < 512 := (i 0).isLt; omega⟩ : Fin 8192) (⟨(i 1).val, (i 1).isLt⟩ : Fin 128)) := by
  refine (congrFun (shapeCast_self _ h) i).trans ?_
  rw [View.readAt_apply, hM.read_unread]
  refine congrArg X (funext fun b => ?_)
  match b with
  | ⟨0, _⟩ => apply Fin.ext; show k + 16 * (i 0).val = 16 * (i 0).val + k; omega
  | ⟨1, _⟩ => apply Fin.ext; show 0 + 1 * (i 1).val = (i 1).val; omega

/-- One expert's weight block as a matrix. -/
def mat {n k : ℕ} (W : (⟨4, ![1, 1, n, k]⟩ : Shape).Idx → EReal) : (⟨2, ![n, k]⟩ : Shape).Idx → EReal :=
  fun j => W (ix4 (0 : Fin 1) (0 : Fin 1) (⟨(j 0).val, (j 0).isLt⟩ : Fin n) (⟨(j 1).val, (j 1).isLt⟩ : Fin k))
theorem pay52_eq (W : FVec Ideal S1x1x2048x512 .f32) : k0_pay52 (F := Ideal) W = mat W := by
  funext j; unfold k0_pay52 mat; pointwise
theorem pay53_eq (W : FVec Ideal S1x1x2048x512 .f32) : k0_pay53 (F := Ideal) W = mat W := by
  funext j; unfold k0_pay53 mat; pointwise
theorem pay54_eq (W : FVec Ideal S1x1x512x2048 .f32) : k0_pay54 (F := Ideal) W = mat W := by
  funext j; unfold k0_pay54 mat; pointwise

/-- A chunk cut out of the features, at an index. -/
theorem cut (B : FVec Ideal S512x2048 .f32) (o : ℕ) (ho : o + 128 ≤ 2048) (h : S512x2048.Slices ![0, o] S512x128) (i : S512x128.Idx) :
    extractStridedSlice S512x128 ![0, o] B h i = B (ix2 (⟨(i 0).val, (i 0).isLt⟩ : Fin 512) (⟨o + (i 1).val, by have : (i 1).val < 128 := (i 1).isLt; omega⟩ : Fin 2048)) := by
  refine congrArg B (funext fun b => ?_)
  match b with
  | ⟨0, _⟩ => apply Fin.ext; show 0 + (i 0).val = (i 0).val; omega
  | ⟨1, _⟩ => apply Fin.ext; rfl

/-- The zero a first visit puts in the rows outside its range. -/
theorem zero_at (j : S512x2048.Idx) : (broadcast S512x2048 (Scalar.ofBits .f32 0x00000000#32 : Ideal .f32) : FVec Ideal S512x2048 .f32) j = 0 := by
  pointwise

variable (a : (pcfg0 (F := Ideal)).Adm) (m : (ℓ : Loc nD τ sig) → Buf (Elt Ideal) ℓ) (ρ : Dev nD → PrngReg)

theorem t_lt (t : Fin (cfgA a).N) : t.val < 51 := t.isLt
/-- The visit's entry of a table. -/
abbrev vt (t : Fin (cfgA a).N) : Fin 51 := ⟨t.val, t.isLt⟩
theorem cur (T : S51.Idx → BitVec 32) (t : Fin (cfgA a).N) (inb : ∀ b, k0_off4 (crd a t) b + S1.size b ≤ S51.size b) (z : S1.Idx) :
    T ((Rect.unit (s := S51) (k0_off4 (crd a t)) S1.size inb).idx z) = T (tix (vt a t)) :=
  (at_eq T _ inb _ (coord_lt (crd a t)) (off4_eq (crd a t)) z).trans (congrArg (fun v => T (tix v)) (Fin.ext (crd_val t)))

end Cert.LastIdeal.Tab
-- ==== Proof.LastIdealOutA.lean ====
/- What one visit leaves, read at an index: the four kinds of visit. -/
module

public import proofs.«01_k».proof.Proof.LastIdealMix
public import proofs.«01_k».proof.Proof.LastIdealCanon
public import Idealize.ShloMosaic.Lib.Pipeline.ValueKit
public import Idealize.ShloMosaic.Lib.Pipeline.ReadBack
public import Idealize.ShloMosaic.Lib.Pointwise

@[expose] public section

set_option maxRecDepth 16384
set_option Elab.async false

noncomputable section

namespace Cert.LastIdeal.Tab

open Cert.LastIdeal Cert.LastIdeal.Gen
open Idealize.ShloMosaic
open Idealize.ShloMosaic.TcCoe Idealize.ShloMosaic.Tactic

variable (a : (pcfg0 (F := Ideal)).Adm) (m : (ℓ : Loc nD τ sig) → Buf (Elt Ideal) ℓ) (ρ : Dev nD → PrngReg)

open Classical in
/-- The tile's buffer after a visit of kind A. -/
theorem outA (c : Dev nD) (t : Fin (cfgA a).N) (q1 : Q1 a t) (ql : QL a t) (q3 : Q3 a t) (y : S8192x128.Idx) :
    (oA a m ρ c t q1 ql q3).1 y = if mine (T2 a (tix (vt a t))) (T3 a (tix (vt a t))) (rowOf y) then ffn (iblk a m ρ c 0 t) (mat (iblk a m ρ c 1 t)) (mat (iblk a m ρ c 2 t)) (mat (iblk a m ρ c 3 t)) (rowOf y) (colOf y) else 0 := by
  unfold oA
  dsimp only
  unfold rA runA
  dsimp only
  frame_out
  have e2 : ∀ (inb : ∀ b, k0_off4 (crd a t) b + S1.size b ≤ S51.size b) (z : S1.Idx), View.ld (View.read (Elt Ideal) (View.whole main_arg2) (T2 a)) (Rect.unit (k0_off4 (crd a t)) ![1] inb) z = T2 a (tix (vt a t)) := fun inb z => cur a (T2 a) t inb z
  have e3 : ∀ (inb : ∀ b, k0_off4 (crd a t) b + S1.size b ≤ S51.size b) (z : S1.Idx), View.ld (View.read (Elt Ideal) (View.whole main_arg3) (T3 a)) (Rect.unit (k0_off4 (crd a t)) ![1] inb) z = T3 a (tix (vt a t)) := fun inb z => cur a (T3 a) t inb z
  simp only [e2, e3, View.read_rep, pay52_eq, pay53_eq, pay54_eq]
  simp only [k0_pay3, k0_pay4, k0_pay5, k0_pay6, k0_pay7, k0_pay14, k0_pay15, k0_pay16, k0_pay17, k0_pay18, k0_pay19, k0_pay20, k0_pay21, k0_pay22, k0_pay23, k0_pay24]
  generalize hB : k0_pay13 (F := Ideal) _ _ = B
  refine (canon16 B _ _ _ _ _ _ _ _ _ _ _ _ _ _ _ _ (fun i => cut B 0 (by decide) _ i) (fun i => cut B 128 (by decide) _ i) (fun i => cut B 256 (by decide) _ i) (fun i => cut B 384 (by decide) _ i) (fun i => cut B 512 (by decide) _ i) (fun i => cut B 640 (by decide) _ i) (fun i => cut B 768 (by decide) _ i) (fun i => cut B 896 (by decide) _ i) (fun i => cut B 1024 (by decide) _ i) (fun i => cut B 1152 (by decide) _ i) (fun i => cut B 1280 (by decide) _ i) (fun i => cut B 1408 (by decide) _ i) (fun i => cut B 1536 (by decide) _ i) (fun i => cut B 1664 (by decide) _ i) (fun i => cut B 1792 (by decide) _ i) (fun i => cut B 1920 (by decide) _ i) y).trans ?_
  rw [← hB]
  unfold k0_pay13
  exact mix _ _ (iblk a m ρ c 0 t) _ _ _ _ (fun j => cat16 (iblk a m ρ c 0 t) _ _ _ _ _ _ _ _ _ _ _ _ _ _ _ _ (fun i => rd_rep _ _ 0 (by decide) _ i) (fun i => rd_rep _ _ 1 (by decide) _ i) (fun i => rd_rep _ _ 2 (by decide) _ i) (fun i => rd_rep _ _ 3 (by decide) _ i) (fun i => rd_rep _ _ 4 (by decide) _ i) (fun i => rd_rep _ _ 5 (by decide) _ i) (fun i => rd_rep _ _ 6 (by decide) _ i) (fun i => rd_rep _ _ 7 (by decide) _ i) (fun i => rd_rep _ _ 8 (by decide) _ i) (fun i => rd_rep _ _ 9 (by decide) _ i) (fun i => rd_rep _ _ 10 (by decide) _ i) (fun i => rd_rep _ _ 11 (by decide) _ i) (fun i => rd_rep _ _ 12 (by decide) _ i) (fun i => rd_rep _ _ 13 (by decide) _ i) (fun i => rd_rep _ _ 14 (by decide) _ i) (fun i => rd_rep _ _ 15 (by decide) _ i) _ j) _ (fun _ => 0) (fun j => zero_at j) _ _ y

end Cert.LastIdeal.Tab
-- ==== Proof.LastIdealOutB.lean ====
/- What one visit leaves, read at an index: the four kinds of visit. -/
module

public import proofs.«01_k».proof.Proof.LastIdealMix
public import proofs.«01_k».proof.Proof.LastIdealCanon
public import Idealize.ShloMosaic.Lib.Pipeline.ValueKit
public import Idealize.ShloMosaic.Lib.Pipeline.ReadBack
public import Idealize.ShloMosaic.Lib.Pointwise

@[expose] public section

set_option maxRecDepth 16384
set_option Elab.async false

noncomputable section

namespace Cert.LastIdeal.Tab

open Cert.LastIdeal Cert.LastIdeal.Gen
open Idealize.ShloMosaic
open Idealize.ShloMosaic.TcCoe Idealize.ShloMosaic.Tactic

variable (a : (pcfg0 (F := Ideal)).Adm) (m : (ℓ : Loc nD τ sig) → Buf (Elt Ideal) ℓ) (ρ : Dev nD → PrngReg)

open Classical in
/-- The tile's buffer after a visit of kind B. -/
theorem outB (c : Dev nD) (t : Fin (cfgA a).N) (p : St (F := Ideal) c) (q1 : Q1 a t) (ql : ¬ QL a t) (q3 : ¬ Q3 a t) (y : S8192x128.Idx) :
    (oB a m ρ c t p q1 ql q3).1 y = if mine (T2 a (tix (vt a t))) (T3 a (tix (vt a t))) (rowOf y) then ffn (iblk a m ρ c 0 t) p.2.1 p.2.2.1 p.2.2.2 (rowOf y) (colOf y) else p.1 y := by
  unfold oB
  dsimp only
  unfold rB runB
  dsimp only
  frame_out
  have e2 : ∀ (inb : ∀ b, k0_off4 (crd a t) b + S1.size b ≤ S51.size b) (z : S1.Idx), View.ld (View.read (Elt Ideal) (View.whole main_arg2) (T2 a)) (Rect.unit (k0_off4 (crd a t)) ![1] inb) z = T2 a (tix (vt a t)) := fun inb z => cur a (T2 a) t inb z
  have e3 : ∀ (inb : ∀ b, k0_off4 (crd a t) b + S1.size b ≤ S51.size b) (z : S1.Idx), View.ld (View.read (Elt Ideal) (View.whole main_arg3) (T3 a)) (Rect.unit (k0_off4 (crd a t)) ![1] inb) z = T3 a (tix (vt a t)) := fun inb z => cur a (T3 a) t inb z
  simp only [e2, e3, View.read_rep, pay52_eq, pay53_eq, pay54_eq]
  simp only [k0_pay8, k0_pay9, k0_pay10, k0_pay11, k0_pay12]
  generalize hB : select (broadcastTo S512x2048 _ _) _ _ = B
  refine (canon16 B _ _ _ _ _ _ _ _ _ _ _ _ _ _ _ _ (fun i => cut B 0 (by decide) _ i) (fun i => cut B 128 (by decide) _ i) (fun i => cut B 256 (by decide) _ i) (fun i => cut B 384 (by decide) _ i) (fun i => cut B 512 (by decide) _ i) (fun i => cut B 640 (by decide) _ i) (fun i => cut B 768 (by decide) _ i) (fun i => cut B 896 (by decide) _ i) (fun i => cut B 1024 (by decide) _ i) (fun i => cut B 1152 (by decide) _ i) (fun i => cut B 1280 (by decide) _ i) (fun i => cut B 1408 (by decide) _ i) (fun i => cut B 1536 (by decide) _ i) (fun i => cut B 1664 (by decide) _ i) (fun i => cut B 1792 (by decide) _ i) (fun i => cut B 1920 (by decide) _ i) y).trans ?_
  rw [← hB]
  exact mix _ _ (iblk a m ρ c 0 t) _ _ _ _ (fun j => cat16 (iblk a m ρ c 0 t) _ _ _ _ _ _ _ _ _ _ _ _ _ _ _ _ (fun i => rd_rep _ _ 0 (by decide) _ i) (fun i => rd_rep _ _ 1 (by decide) _ i) (fun i => rd_rep _ _ 2 (by decide) _ i) (fun i => rd_rep _ _ 3 (by decide) _ i) (fun i => rd_rep _ _ 4 (by decide) _ i) (fun i => rd_rep _ _ 5 (by decide) _ i) (fun i => rd_rep _ _ 6 (by decide) _ i) (fun i => rd_rep _ _ 7 (by decide) _ i) (fun i => rd_rep _ _ 8 (by decide) _ i) (fun i => rd_rep _ _ 9 (by decide) _ i) (fun i => rd_rep _ _ 10 (by decide) _ i) (fun i => rd_rep _ _ 11 (by decide) _ i) (fun i => rd_rep _ _ 12 (by decide) _ i) (fun i => rd_rep _ _ 13 (by decide) _ i) (fun i => rd_rep _ _ 14 (by decide) _ i) (fun i => rd_rep _ _ 15 (by decide) _ i) _ j) _ p.1 (fun j => cat16 p.1 _ _ _ _ _ _ _ _ _ _ _ _ _ _ _ _ (fun i => rd_unread _ _ _ 0 (by decide) _ _ i) (fun i => rd_unread _ _ _ 1 (by decide) _ _ i) (fun i => rd_unread _ _ _ 2 (by decide) _ _ i) (fun i => rd_unread _ _ _ 3 (by decide) _ _ i) (fun i => rd_unread _ _ _ 4 (by decide) _ _ i) (fun i => rd_unread _ _ _ 5 (by decide) _ _ i) (fun i => rd_unread _ _ _ 6 (by decide) _ _ i) (fun i => rd_unread _ _ _ 7 (by decide) _ _ i) (fun i => rd_unread _ _ _ 8 (by decide) _ _ i) (fun i => rd_unread _ _ _ 9 (by decide) _ _ i) (fun i => rd_unread _ _ _ 10 (by decide) _ _ i) (fun i => rd_unread _ _ _ 11 (by decide) _ _ i) (fun i => rd_unread _ _ _ 12 (by decide) _ _ i) (fun i => rd_unread _ _ _ 13 (by decide) _ _ i) (fun i => rd_unread _ _ _ 14 (by decide) _ _ i) (fun i => rd_unread _ _ _ 15 (by decide) _ _ i) _ j) _ _ y

end Cert.LastIdeal.Tab
-- ==== Proof.LastIdealOutC.lean ====
/- What one visit leaves, read at an index: the four kinds of visit. -/
module

public import proofs.«01_k».proof.Proof.LastIdealMix
public import proofs.«01_k».proof.Proof.LastIdealCanon
public import Idealize.ShloMosaic.Lib.Pipeline.ValueKit
public import Idealize.ShloMosaic.Lib.Pipeline.ReadBack
public import Idealize.ShloMosaic.Lib.Pointwise

@[expose] public section

set_option maxRecDepth 16384
set_option Elab.async false

noncomputable section

namespace Cert.LastIdeal.Tab

open Cert.LastIdeal Cert.LastIdeal.Gen
open Idealize.ShloMosaic
open Idealize.ShloMosaic.TcCoe Idealize.ShloMosaic.Tactic

variable (a : (pcfg0 (F := Ideal)).Adm) (m : (ℓ : Loc nD τ sig) → Buf (Elt Ideal) ℓ) (ρ : Dev nD → PrngReg)

open Classical in
/-- The tile's buffer after a visit of kind C. -/
theorem outC (c : Dev nD) (t : Fin (cfgA a).N) (p : St (F := Ideal) c) (q1 : Q1 a t) (ql : ¬ QL a t) (q3 : Q3 a t) (y : S8192x128.Idx) :
    (oC a m ρ c t p q1 ql q3).1 y = if mine (T2 a (tix (vt a t))) (T3 a (tix (vt a t))) (rowOf y) then ffn (iblk a m ρ c 0 t) p.2.1 p.2.2.1 p.2.2.2 (rowOf y) (colOf y) else 0 := by
  unfold oC
  dsimp only
  unfold rC runC
  dsimp only
  frame_out
  have e2 : ∀ (inb : ∀ b, k0_off4 (crd a t) b + S1.size b ≤ S51.size b) (z : S1.Idx), View.ld (View.read (Elt Ideal) (View.whole main_arg2) (T2 a)) (Rect.unit (k0_off4 (crd a t)) ![1] inb) z = T2 a (tix (vt a t)) := fun inb z => cur a (T2 a) t inb z
  have e3 : ∀ (inb : ∀ b, k0_off4 (crd a t) b + S1.size b ≤ S51.size b) (z : S1.Idx), View.ld (View.read (Elt Ideal) (View.whole main_arg3) (T3 a)) (Rect.unit (k0_off4 (crd a t)) ![1] inb) z = T3 a (tix (vt a t)) := fun inb z => cur a (T3 a) t inb z
  simp only [e2, e3, View.read_rep, pay52_eq, pay53_eq, pay54_eq]
  simp only [k0_pay3, k0_pay4, k0_pay5, k0_pay6, k0_pay7, k0_pay14, k0_pay15, k0_pay16, k0_pay17, k0_pay18, k0_pay19, k0_pay20, k0_pay21, k0_pay22, k0_pay23, k0_pay24]
  generalize hB : k0_pay13 (F := Ideal) _ _ = B
  refine (canon16 B _ _ _ _ _ _ _ _ _ _ _ _ _ _ _ _ (fun i => cut B 0 (by decide) _ i) (fun i => cut B 128 (by decide) _ i) (fun i => cut B 256 (by decide) _ i) (fun i => cut B 384 (by decide) _ i) (fun i => cut B 512 (by decide) _ i) (fun i => cut B 640 (by decide) _ i) (fun i => cut B 768 (by decide) _ i) (fun i => cut B 896 (by decide) _ i) (fun i => cut B 1024 (by decide) _ i) (fun i => cut B 1152 (by decide) _ i) (fun i => cut B 1280 (by decide) _ i) (fun i => cut B 1408 (by decide) _ i) (fun i => cut B 1536 (by decide) _ i) (fun i => cut B 1664 (by decide) _ i) (fun i => cut B 1792 (by decide) _ i) (fun i => cut B 1920 (by decide) _ i) y).trans ?_
  rw [← hB]
  unfold k0_pay13
  exact mix _ _ (iblk a m ρ c 0 t) _ _ _ _ (fun j => cat16 (iblk a m ρ c 0 t) _ _ _ _ _ _ _ _ _ _ _ _ _ _ _ _ (fun i => rd_rep _ _ 0 (by decide) _ i) (fun i => rd_rep _ _ 1 (by decide) _ i) (fun i => rd_rep _ _ 2 (by decide) _ i) (fun i => rd_rep _ _ 3 (by decide) _ i) (fun i => rd_rep _ _ 4 (by decide) _ i) (fun i => rd_rep _ _ 5 (by decide) _ i) (fun i => rd_rep _ _ 6 (by decide) _ i) (fun i => rd_rep _ _ 7 (by decide) _ i) (fun i => rd_rep _ _ 8 (by decide) _ i) (fun i => rd_rep _ _ 9 (by decide) _ i) (fun i => rd_rep _ _ 10 (by decide) _ i) (fun i => rd_rep _ _ 11 (by decide) _ i) (fun i => rd_rep _ _ 12 (by decide) _ i) (fun i => rd_rep _ _ 13 (by decide) _ i) (fun i => rd_rep _ _ 14 (by decide) _ i) (fun i => rd_rep _ _ 15 (by decide) _ i) _ j) _ (fun _ => 0) (fun j => zero_at j) _ _ y

end Cert.LastIdeal.Tab
-- ==== Proof.LastIdealOutD.lean ====
/- What one visit leaves, read at an index: the four kinds of visit. -/
module

public import proofs.«01_k».proof.Proof.LastIdealMix
public import proofs.«01_k».proof.Proof.LastIdealCanon
public import Idealize.ShloMosaic.Lib.Pipeline.ValueKit
public import Idealize.ShloMosaic.Lib.Pipeline.ReadBack
public import Idealize.ShloMosaic.Lib.Pointwise

@[expose] public section

set_option maxRecDepth 16384
set_option Elab.async false

noncomputable section

namespace Cert.LastIdeal.Tab

open Cert.LastIdeal Cert.LastIdeal.Gen
open Idealize.ShloMosaic
open Idealize.ShloMosaic.TcCoe Idealize.ShloMosaic.Tactic

variable (a : (pcfg0 (F := Ideal)).Adm) (m : (ℓ : Loc nD τ sig) → Buf (Elt Ideal) ℓ) (ρ : Dev nD → PrngReg)

open Classical in
/-- The tile's buffer after a visit of kind D. -/
theorem outD (c : Dev nD) (t : Fin (cfgA a).N) (p : St (F := Ideal) c) (q1 : Q1 a t) (ql : QL a t) (q3 : ¬ Q3 a t) (y : S8192x128.Idx) :
    (oD a m ρ c t p q1 ql q3).1 y = if mine (T2 a (tix (vt a t))) (T3 a (tix (vt a t))) (rowOf y) then ffn (iblk a m ρ c 0 t) (mat (iblk a m ρ c 1 t)) (mat (iblk a m ρ c 2 t)) (mat (iblk a m ρ c 3 t)) (rowOf y) (colOf y) else p.1 y := by
  unfold oD
  dsimp only
  unfold rD runD
  dsimp only
  frame_out
  have e2 : ∀ (inb : ∀ b, k0_off4 (crd a t) b + S1.size b ≤ S51.size b) (z : S1.Idx), View.ld (View.read (Elt Ideal) (View.whole main_arg2) (T2 a)) (Rect.unit (k0_off4 (crd a t)) ![1] inb) z = T2 a (tix (vt a t)) := fun inb z => cur a (T2 a) t inb z
  have e3 : ∀ (inb : ∀ b, k0_off4 (crd a t) b + S1.size b ≤ S51.size b) (z : S1.Idx), View.ld (View.read (Elt Ideal) (View.whole main_arg3) (T3 a)) (Rect.unit (k0_off4 (crd a t)) ![1] inb) z = T3 a (tix (vt a t)) := fun inb z => cur a (T3 a) t inb z
  simp only [e2, e3, View.read_rep, pay52_eq, pay53_eq, pay54_eq]
  simp only [k0_pay8, k0_pay9, k0_pay10, k0_pay11, k0_pay12]
  generalize hB : select (broadcastTo S512x2048 _ _) _ _ = B
  refine (canon16 B _ _ _ _ _ _ _ _ _ _ _ _ _ _ _ _ (fun i => cut B 0 (by decide) _ i) (fun i => cut B 128 (by decide) _ i) (fun i => cut B 256 (by decide) _ i) (fun i => cut B 384 (by decide) _ i) (fun i => cut B 512 (by decide) _ i) (fun i => cut B 640 (by decide) _ i) (fun i => cut B 768 (by decide) _ i) (fun i => cut B 896 (by decide) _ i) (fun i => cut B 1024 (by decide) _ i) (fun i => cut B 1152 (by decide) _ i) (fun i => cut B 1280 (by decide) _ i) (fun i => cut B 1408 (by decide) _ i) (fun i => cut B 1536 (by decide) _ i) (fun i => cut B 1664 (by decide) _ i) (fun i => cut B 1792 (by decide) _ i) (fun i => cut B 1920 (by decide) _ i) y).trans ?_
  rw [← hB]
  exact mix _ _ (iblk a m ρ c 0 t) _ _ _ _ (fun j => cat16 (iblk a m ρ c 0 t) _ _ _ _ _ _ _ _ _ _ _ _ _ _ _ _ (fun i => rd_rep _ _ 0 (by decide) _ i) (fun i => rd_rep _ _ 1 (by decide) _ i) (fun i => rd_rep _ _ 2 (by decide) _ i) (fun i => rd_rep _ _ 3 (by decide) _ i) (fun i => rd_rep _ _ 4 (by decide) _ i) (fun i => rd_rep _ _ 5 (by decide) _ i) (fun i => rd_rep _ _ 6 (by decide) _ i) (fun i => rd_rep _ _ 7 (by decide) _ i) (fun i => rd_rep _ _ 8 (by decide) _ i) (fun i => rd_rep _ _ 9 (by decide) _ i) (fun i => rd_rep _ _ 10 (by decide) _ i) (fun i => rd_rep _ _ 11 (by decide) _ i) (fun i => rd_rep _ _ 12 (by decide) _ i) (fun i => rd_rep _ _ 13 (by decide) _ i) (fun i => rd_rep _ _ 14 (by decide) _ i) (fun i => rd_rep _ _ 15 (by decide) _ i) _ j) _ p.1 (fun j => cat16 p.1 _ _ _ _ _ _ _ _ _ _ _ _ _ _ _ _ (fun i => rd_unread _ _ _ 0 (by decide) _ _ i) (fun i => rd_unread _ _ _ 1 (by decide) _ _ i) (fun i => rd_unread _ _ _ 2 (by decide) _ _ i) (fun i => rd_unread _ _ _ 3 (by decide) _ _ i) (fun i => rd_unread _ _ _ 4 (by decide) _ _ i) (fun i => rd_unread _ _ _ 5 (by decide) _ _ i) (fun i => rd_unread _ _ _ 6 (by decide) _ _ i) (fun i => rd_unread _ _ _ 7 (by decide) _ _ i) (fun i => rd_unread _ _ _ 8 (by decide) _ _ i) (fun i => rd_unread _ _ _ 9 (by decide) _ _ i) (fun i => rd_unread _ _ _ 10 (by decide) _ _ i) (fun i => rd_unread _ _ _ 11 (by decide) _ _ i) (fun i => rd_unread _ _ _ 12 (by decide) _ _ i) (fun i => rd_unread _ _ _ 13 (by decide) _ _ i) (fun i => rd_unread _ _ _ 14 (by decide) _ _ i) (fun i => rd_unread _ _ _ 15 (by decide) _ _ i) _ j) _ _ y

end Cert.LastIdeal.Tab
-- ==== Proof.LastIdealBlk.lean ====
/- The windows' blocks and the resident weights, read at an index. -/
module

public import proofs.«01_k».proof.Proof.LastIdealOutA
public import proofs.«01_k».proof.Proof.LastIdealOutB
public import proofs.«01_k».proof.Proof.LastIdealOutC
public import proofs.«01_k».proof.Proof.LastIdealOutD
public import Idealize.ShloMosaic.Lib.Pipeline.ValueKit
public import Idealize.ShloMosaic.Lib.Pipeline.ReadBack
public import Idealize.ShloMosaic.Lib.Pointwise

@[expose] public section

set_option maxRecDepth 16384
set_option Elab.async false

noncomputable section

namespace Cert.LastIdeal.Tab

open Cert.LastIdeal Cert.LastIdeal.Gen
open Idealize.ShloMosaic
open Idealize.ShloMosaic.TcCoe Idealize.ShloMosaic.Tactic
variable (a : (pcfg0 (F := Ideal)).Adm) (m : (ℓ : Loc nD τ sig) → Buf (Elt Ideal) ℓ) (ρ : Dev nD → PrngReg)

/-- The tile a visit works on. -/
def tile (v : Fin 51) : ℕ := BitVec.toNat (T0 a (tix v))
/-- The expert a visit works for. -/
def expt (v : Fin 51) : ℕ := BitVec.toNat (T1 a (tix v))

/-- A tile of the sorted rows. -/
def XT (c : Dev nD) (q : ℕ) : S8192x128.Idx → EReal := fun y =>
  if h : q < 36 then m ((c : Thread nD τ).loc main_arg5) (ix2 (⟨q * 8192 + (y 0).val, by have : (y 0).val < 8192 := (y 0).isLt; omega⟩ : Fin 294912) (⟨(y 1).val, (y 1).isLt⟩ : Fin 128)) else 0
/-- An expert's gate weights. -/
def WG (c : Dev nD) (e : ℕ) : S2048x512.Idx → EReal := fun j =>
  if h : e < 16 then m ((c : Thread nD τ).loc main_arg6) (ix4 (1 : Fin 2) (⟨e, h⟩ : Fin 16) (⟨(j 0).val, (j 0).isLt⟩ : Fin 2048) (⟨(j 1).val, (j 1).isLt⟩ : Fin 512)) else 0
/-- An expert's up weights. -/
def WU (c : Dev nD) (e : ℕ) : S2048x512.Idx → EReal := fun j =>
  if h : e < 16 then m ((c : Thread nD τ).loc main_arg7) (ix4 (1 : Fin 2) (⟨e, h⟩ : Fin 16) (⟨(j 0).val, (j 0).isLt⟩ : Fin 2048) (⟨(j 1).val, (j 1).isLt⟩ : Fin 512)) else 0
/-- An expert's down weights. -/
def WD (c : Dev nD) (e : ℕ) : S512x2048.Idx → EReal := fun j =>
  if h : e < 16 then m ((c : Thread nD τ).loc main_arg8) (ix4 (1 : Fin 2) (⟨e, h⟩ : Fin 16) (⟨(j 0).val, (j 0).isLt⟩ : Fin 512) (⟨(j 1).val, (j 1).isLt⟩ : Fin 2048)) else 0

theorem crdt (t : Fin (cfgA a).N) : (⟨(crd a t 0).val, coord_lt (crd a t)⟩ : Fin 51) = vt a t := Fin.ext (crd_val t)
theorem ix_x (t : Fin (cfgA a).N) : ((cfgA a).win (0 : Fin 5)).index t = ![tile a (vt a t), 0] := (tr_x a.1 (crd a t)).trans (by rw [crdt]; rfl)
theorem ix_o (t : Fin (cfgA a).N) : ((cfgA a).win (4 : Fin 5)).index t = ![tile a (vt a t), 0] := (tr_rows a.1 (crd a t)).trans (by rw [crdt]; rfl)
theorem ix_g (t : Fin (cfgA a).N) : ((cfgA a).win (1 : Fin 5)).index t = ![1, expt a (vt a t), 0, 0] := (tr_w a.1 (crd a t)).trans (by rw [crdt]; rfl)
theorem ix_u (t : Fin (cfgA a).N) : ((cfgA a).win (2 : Fin 5)).index t = ![1, expt a (vt a t), 0, 0] := (tr_w a.1 (crd a t)).trans (by rw [crdt]; rfl)
theorem ix_d (t : Fin (cfgA a).N) : ((cfgA a).win (3 : Fin 5)).index t = ![1, expt a (vt a t), 0, 0] := (tr_w a.1 (crd a t)).trans (by rw [crdt]; rfl)

theorem xblk (c : Dev nD) (t : Fin (cfgA a).N) (h : tile a (vt a t) < 36) : iblk a m ρ c 0 t = XT m c (tile a (vt a t)) := by
  funext y
  unfold XT
  rw [dif_pos h]
  have e := ix_x a t
  have e0 : (pcfg0.win a 0).index t 0 = tile a (vt a t) := congrFun e 0
  have e1 : (pcfg0.win a 0).index t 1 = 0 := congrFun e 1
  blk_ext [iblk]
  · exact congrArg (· * 8192 + _) e0
  · exact (congrArg (· * 128 + _) e1).trans (Nat.zero_add _)
theorem gblk (c : Dev nD) (t : Fin (cfgA a).N) (h : expt a (vt a t) < 16) : mat (iblk a m ρ c 1 t) = WG m c (expt a (vt a t)) := by
  funext y
  unfold WG mat
  rw [dif_pos h]
  have e := ix_g a t
  have e0 : (pcfg0.win a 1).index t 0 = 1 := congrFun e 0
  have e1 : (pcfg0.win a 1).index t 1 = expt a (vt a t) := congrFun e 1
  have e2 : (pcfg0.win a 1).index t 2 = 0 := congrFun e 2
  have e3 : (pcfg0.win a 1).index t 3 = 0 := congrFun e 3
  blk_ext [iblk]
  · exact congrArg (· + 0) e0
  · exact congrArg (· + 0) e1
  · exact (congrArg (· * 2048 + (y 0).val) e2).trans (by omega)
  · exact (congrArg (· * 512 + (y 1).val) e3).trans (by omega)
theorem ublk (c : Dev nD) (t : Fin (cfgA a).N) (h : expt a (vt a t) < 16) : mat (iblk a m ρ c 2 t) = WU m c (expt a (vt a t)) := by
  funext y
  unfold WU mat
  rw [dif_pos h]
  have e := ix_u a t
  have e0 : (pcfg0.win a 2).index t 0 = 1 := congrFun e 0
  have e1 : (pcfg0.win a 2).index t 1 = expt a (vt a t) := congrFun e 1
  have e2 : (pcfg0.win a 2).index t 2 = 0 := congrFun e 2
  have e3 : (pcfg0.win a 2).index t 3 = 0 := congrFun e 3
  blk_ext [iblk]
  · exact congrArg (· + 0) e0
  · exact congrArg (· + 0) e1
  · exact (congrArg (· * 2048 + (y 0).val) e2).trans (by omega)
  · exact (congrArg (· * 512 + (y 1).val) e3).trans (by omega)
theorem dblk (c : Dev nD) (t : Fin (cfgA a).N) (h : expt a (vt a t) < 16) : mat (iblk a m ρ c 3 t) = WD m c (expt a (vt a t)) := by
  funext y
  unfold WD mat
  rw [dif_pos h]
  have e := ix_d a t
  have e0 : (pcfg0.win a 3).index t 0 = 1 := congrFun e 0
  have e1 : (pcfg0.win a 3).index t 1 = expt a (vt a t) := congrFun e 1
  have e2 : (pcfg0.win a 3).index t 2 = 0 := congrFun e 2
  have e3 : (pcfg0.win a 3).index t 3 = 0 := congrFun e 3
  blk_ext [iblk]
  · exact congrArg (· + 0) e0
  · exact congrArg (· + 0) e1
  · exact (congrArg (· * 512 + (y 0).val) e2).trans (by omega)
  · exact (congrArg (· * 2048 + (y 1).val) e3).trans (by omega)

theorem scA0 (c : Dev nD) (t : Fin (cfgA a).N) (q1 : Q1 a t) (ql : QL a t) (q3 : Q3 a t) : (oA a m ρ c t q1 ql q3).2.1 = mat (iblk a m ρ c 1 t) := by
  have h : View.read (Elt Ideal) (View.whole cc0_scratch0) (oA a m ρ c t q1 ql q3).2.1 = mat (iblk a m ρ c 1 t) := by
    unfold oA
    dsimp only
    unfold rA runA
    dsimp only
    frame_out
    simp (disch := decide) only [View.read_rep, pay52_eq, View.canon_cons_unit_lit']
    exact View.canon_cons_unit_lit' _ _ [] (show ∀ b : Fin 2, (![0, 0] : Fin 2 → ℕ) b = 0 by decide)
  exact h

theorem scA1 (c : Dev nD) (t : Fin (cfgA a).N) (q1 : Q1 a t) (ql : QL a t) (q3 : Q3 a t) : (oA a m ρ c t q1 ql q3).2.2.1 = mat (iblk a m ρ c 2 t) := by
  have h : View.read (Elt Ideal) (View.whole cc0_scratch1) (oA a m ρ c t q1 ql q3).2.2.1 = mat (iblk a m ρ c 2 t) := by
    unfold oA
    dsimp only
    unfold rA runA
    dsimp only
    frame_out
    simp (disch := decide) only [View.read_rep, pay53_eq, View.canon_cons_unit_lit']
    exact View.canon_cons_unit_lit' _ _ [] (show ∀ b : Fin 2, (![0, 0] : Fin 2 → ℕ) b = 0 by decide)
  exact h

theorem scA2 (c : Dev nD) (t : Fin (cfgA a).N) (q1 : Q1 a t) (ql : QL a t) (q3 : Q3 a t) : (oA a m ρ c t q1 ql q3).2.2.2 = mat (iblk a m ρ c 3 t) := by
  have h : View.read (Elt Ideal) (View.whole cc0_scratch2) (oA a m ρ c t q1 ql q3).2.2.2 = mat (iblk a m ρ c 3 t) := by
    unfold oA
    dsimp only
    unfold rA runA
    dsimp only
    frame_out
    simp (disch := decide) only [View.read_rep, pay54_eq, View.canon_cons_unit_lit']
    exact View.canon_cons_unit_lit' _ _ [] (show ∀ b : Fin 2, (![0, 0] : Fin 2 → ℕ) b = 0 by decide)
  exact h

theorem scD0 (c : Dev nD) (t : Fin (cfgA a).N) (p : St (F := Ideal) c) (q1 : Q1 a t) (ql : QL a t) (q3 : ¬ Q3 a t) : (oD a m ρ c t p q1 ql q3).2.1 = mat (iblk a m ρ c 1 t) := by
  have h : View.read (Elt Ideal) (View.whole cc0_scratch0) (oD a m ρ c t p q1 ql q3).2.1 = mat (iblk a m ρ c 1 t) := by
    unfold oD
    dsimp only
    unfold rD runD
    dsimp only
    frame_out
    simp (disch := decide) only [View.read_rep, pay52_eq, View.canon_cons_unit_lit']
    exact View.canon_cons_unit_lit' _ _ [] (show ∀ b : Fin 2, (![0, 0] : Fin 2 → ℕ) b = 0 by decide)
  exact h

theorem scD1 (c : Dev nD) (t : Fin (cfgA a).N) (p : St (F := Ideal) c) (q1 : Q1 a t) (ql : QL a t) (q3 : ¬ Q3 a t) : (oD a m ρ c t p q1 ql q3).2.2.1 = mat (iblk a m ρ c 2 t) := by
  have h : View.read (Elt Ideal) (View.whole cc0_scratch1) (oD a m ρ c t p q1 ql q3).2.2.1 = mat (iblk a m ρ c 2 t) := by
    unfold oD
    dsimp only
    unfold rD runD
    dsimp only
    frame_out
    simp (disch := decide) only [View.read_rep, pay53_eq, View.canon_cons_unit_lit']
    exact View.canon_cons_unit_lit' _ _ [] (show ∀ b : Fin 2, (![0, 0] : Fin 2 → ℕ) b = 0 by decide)
  exact h

theorem scD2 (c : Dev nD) (t : Fin (cfgA a).N) (p : St (F := Ideal) c) (q1 : Q1 a t) (ql : QL a t) (q3 : ¬ Q3 a t) : (oD a m ρ c t p q1 ql q3).2.2.2 = mat (iblk a m ρ c 3 t) := by
  have h : View.read (Elt Ideal) (View.whole cc0_scratch2) (oD a m ρ c t p q1 ql q3).2.2.2 = mat (iblk a m ρ c 3 t) := by
    unfold oD
    dsimp only
    unfold rD runD
    dsimp only
    frame_out
    simp (disch := decide) only [View.read_rep, pay54_eq, View.canon_cons_unit_lit']
    exact View.canon_cons_unit_lit' _ _ [] (show ∀ b : Fin 2, (![0, 0] : Fin 2 → ℕ) b = 0 by decide)
  exact h

theorem scB0 (c : Dev nD) (t : Fin (cfgA a).N) (p : St (F := Ideal) c) (q1 : Q1 a t) (ql : ¬ QL a t) (q3 : ¬ Q3 a t) : (oB a m ρ c t p q1 ql q3).2.1 = p.2.1 := by
  unfold oB
  dsimp only
  unfold rB runB
  rfl

theorem scB1 (c : Dev nD) (t : Fin (cfgA a).N) (p : St (F := Ideal) c) (q1 : Q1 a t) (ql : ¬ QL a t) (q3 : ¬ Q3 a t) : (oB a m ρ c t p q1 ql q3).2.2.1 = p.2.2.1 := by
  unfold oB
  dsimp only
  unfold rB runB
  rfl

theorem scB2 (c : Dev nD) (t : Fin (cfgA a).N) (p : St (F := Ideal) c) (q1 : Q1 a t) (ql : ¬ QL a t) (q3 : ¬ Q3 a t) : (oB a m ρ c t p q1 ql q3).2.2.2 = p.2.2.2 := by
  unfold oB
  dsimp only
  unfold rB runB
  rfl

theorem scC0 (c : Dev nD) (t : Fin (cfgA a).N) (p : St (F := Ideal) c) (q1 : Q1 a t) (ql : ¬ QL a t) (q3 : Q3 a t) : (oC a m ρ c t p q1 ql q3).2.1 = p.2.1 := by
  unfold oC
  dsimp only
  unfold rC runC
  rfl

theorem scC1 (c : Dev nD) (t : Fin (cfgA a).N) (p : St (F := Ideal) c) (q1 : Q1 a t) (ql : ¬ QL a t) (q3 : Q3 a t) : (oC a m ρ c t p q1 ql q3).2.2.1 = p.2.2.1 := by
  unfold oC
  dsimp only
  unfold rC runC
  rfl

theorem scC2 (c : Dev nD) (t : Fin (cfgA a).N) (p : St (F := Ideal) c) (q1 : Q1 a t) (ql : ¬ QL a t) (q3 : Q3 a t) : (oC a m ρ c t p q1 ql q3).2.2.2 = p.2.2.2 := by
  unfold oC
  dsimp only
  unfold rC runC
  rfl

end Cert.LastIdeal.Tab
-- ==== Proof.LastIdealAcc.lean ====
/- The tile's buffer after every visit: each row holds the value of the visit whose range has it, or zero. -/
module

public import proofs.«01_k».proof.Proof.LastIdealBlk

@[expose] public section

set_option maxRecDepth 16384
set_option Elab.async false

noncomputable section

namespace Cert.LastIdeal.Tab

open Cert.LastIdeal Cert.LastIdeal.Gen
open Idealize.ShloMosaic
open Idealize.ShloMosaic.TcCoe Idealize.ShloMosaic.Tactic
variable (a : (pcfg0 (F := Ideal)).Adm) (m : (ℓ : Loc nD τ sig) → Buf (Elt Ideal) ℓ) (ρ : Dev nD → PrngReg)

/-- The one index of the visit count. -/
def z0 : S1.Idx := ix1 (0 : Fin 1)
theorem z_eq (z : S1.Idx) : z = z0 := by
  funext b
  match b with
  | ⟨0, _⟩ => exact Fin.ext (Nat.lt_one_iff.mp (z 0).isLt)

variable {F : FTy → Type} [FloatOps F]

/-- What the tables must satisfy: tiles and experts in range, tiles visited in order from the first to the last, no visit past the
    plan's last one changing the tile, and the visits of one tile with disjoint row ranges. -/
structure Plan (pf : pre0.Contents (Elt F)) : Prop where
  tile : ∀ v : Fin 51, BitVec.toNat (pf 0 (tix v)) < 36
  exp : ∀ v : Fin 51, BitVec.toNat (pf 1 (tix v)) < 16
  first : BitVec.toNat (pf 0 (tix 0)) = 0
  last : BitVec.toNat (pf 0 (tix 50)) = 35
  pos : 0 < BitVec.toInt (pf 4 z0)
  step : ∀ (v : Fin 51) (h : v.val + 1 < 51), BitVec.toNat (pf 0 (tix v)) ≤ BitVec.toNat (pf 0 (tix ⟨v.val + 1, h⟩))
    ∧ BitVec.toNat (pf 0 (tix ⟨v.val + 1, h⟩)) ≤ BitVec.toNat (pf 0 (tix v)) + 1
  idle : ∀ (v : Fin 51) (h : v.val + 1 < 51), ¬ ((v.val + 1 : ℕ) : ℤ) < BitVec.toInt (pf 4 z0) → pf 0 (tix ⟨v.val + 1, h⟩) = pf 0 (tix v)
  apart : ∀ u v : Fin 51, u = v ∨ BitVec.toNat (pf 0 (tix u)) ≠ BitVec.toNat (pf 0 (tix v)) ∨ BitVec.toInt (pf 3 (tix u)) ≤ BitVec.toInt (pf 2 (tix v))
    ∨ BitVec.toInt (pf 3 (tix v)) ≤ BitVec.toInt (pf 2 (tix u))

theorem slt_bit (n : ℕ) (hn : n < 51) (w : BitVec 32) : Scalar.cmpi .ne (Scalar.extui (Scalar.cmpi .slt (BitVec.ofNat 32 n) w) : BitVec 32) 0#32 = 1#1 ↔ (n : ℤ) < w.toInt := by
  have hr : (BitVec.ofNat 32 n).toInt = (n : ℤ) := by
    rw [BitVec.toInt_eq_toNat_of_lt] <;> simp only [BitVec.toNat_ofNat] <;> omega
  have h1 : ∀ b : BitVec 1, Scalar.cmpi .ne (Scalar.extui b : BitVec 32) 0#32 = 1#1 ↔ b = 1#1 := by decide
  have hb : ∀ b : Bool, BitVec.ofBool b = 1#1 ↔ b = true := by decide
  rw [h1]
  show BitVec.ofBool (BitVec.slt (BitVec.ofNat 32 n) w) = 1#1 ↔ _
  rw [hb, BitVec.slt, hr, decide_eq_true_eq]

theorem h1_iff (i : grid0.Coords) (T : S1.Idx → Elt F .i32) : H1 i T ↔ (((i 0).val : ℕ) : ℤ) < BitVec.toInt (T z0) := by
  have e : wn T = T z0 := congrArg T (z_eq _)
  show k0_cond1 i (wn T) = 1#1 ↔ _
  rw [e]
  exact slt_bit _ (coord_lt i) _
theorem h3_ne (i : grid0.Coords) (T : S51.Idx → BitVec 32) (h : H3 (F := F) i T) (h0 : (i 0).val ≠ 0) :
    T (tix ⟨(i 0).val, coord_lt i⟩) ≠ T (tix ⟨(i 0).val - 1, by have := coord_lt i; omega⟩) := by
  intro heq
  have h' : k0_cond3 i (wt (F := F) i T) (wtp (F := F) i T) = 1#1 := h
  rw [show wt (F := F) i T = _ from wt_eq (F := F) i T, show wtp (F := F) i T = _ from wtp_eq (F := F) i T, heq] at h'
  unfold k0_cond3 at h'
  have e1 : ∀ x : BitVec 32, Scalar.cmpi .ne x x = 0#1 := fun x => by
    unfold Scalar.cmpi IntOp.cmpi; simp
  have e2 : Scalar.cmpi .eq (BitVec.ofNat 32 (i 0).val) 0#32 = 0#1 := by
    have hne : BitVec.ofNat 32 (i 0).val ≠ 0#32 := by
      intro hc
      have := congrArg BitVec.toNat hc
      have hl := coord_lt i
      simp only [BitVec.toNat_ofNat] at this
      omega
    show BitVec.ofBool (BitVec.ofNat 32 (i 0).val == 0#32) = 0#1
    rw [beq_eq_false_iff_ne.mpr hne]
    rfl
  simp only [e1, e2] at h'
  exact absurd h' (by decide)
theorem same_of_not_hl (i : grid0.Coords) (T : S51.Idx → BitVec 32) (h : ¬ HL (F := F) i T) :
    T (tix ⟨(i 0).val, coord_lt i⟩) = T (tix ⟨(i 0).val - 1, by have := coord_lt i; omega⟩) := by
  refine (we_eq (F := F) i T).symm.trans (Eq.trans ?_ (wep_eq (F := F) i T))
  by_contra hne
  apply h
  show Scalar.cmpi .ne (Scalar.extui (Scalar.ori _ _)) 0#32 = 1#1
  rw [ne_bit _ _ hne]
  exact or_bit _

theorem good_of_plan (pf : pre0.Contents (Elt F)) (P : Plan pf) : Good pf where
  tile := P.tile
  exp := P.exp
  idle := fun i h1 h3 => by
    have hl := coord_lt i
    replace h1 := fun hh => h1 ((h1_iff i (pf 4)).mpr hh)
    by_cases h0 : (i 0).val = 0
    · rw [h0] at h1; exact h1 (by simpa using P.pos)
    · have hlt : (i 0).val - 1 < 51 := by omega
      have hlt' : ((⟨(i 0).val - 1, hlt⟩ : Fin 51).val) + 1 < 51 := by show (i 0).val - 1 + 1 < 51; omega
      have e : (i 0).val - 1 + 1 = (i 0).val := by omega
      refine h3_ne i (pf 0) h3 h0 (Eq.trans ?_ (P.idle ⟨(i 0).val - 1, hlt⟩ hlt' ?_))
      · exact congrArg (fun v => pf 0 (tix v)) (Fin.ext e.symm)
      · show ¬ (((i 0).val - 1 + 1 : ℕ) : ℤ) < _
        rw [e]; exact h1

/-- The visit is one of the plan's. -/
def act (v : Fin 51) : Prop := ((v.val : ℕ) : ℤ) < BitVec.toInt (T4 a z0)
/-- The visit's value at an index of its tile. -/
def val (c : Dev nD) (v : Fin 51) (y : S8192x128.Idx) : EReal :=
  ffn (XT m c (tile a v)) (WG m c (expt a v)) (WU m c (expt a v)) (WD m c (expt a v)) (rowOf y) (colOf y)
/-- The index's row is in the visit's range. -/
def inr (v : Fin 51) (y : S8192x128.Idx) : Prop := mine (T2 a (tix v)) (T3 a (tix v)) (rowOf y)

theorem q1_iff (t : Fin (cfgA a).N) : Q1 a t ↔ act a (vt a t) := by
  rw [show Q1 a t ↔ _ from h1_iff _ _]; unfold act; rw [show (crd a t 0).val = (vt a t).val from crd_val t]
/-- The visit before. -/
abbrev bef (t : Fin (cfgA a).N) : Fin 51 := ⟨t.val - 1, by have := t_lt a t; omega⟩
theorem crdp (t : Fin (cfgA a).N) (h) : (⟨(crd a t 0).val - 1, h⟩ : Fin 51) = bef a t := Fin.ext (by show (crd a t 0).val - 1 = t.val - 1; rw [show (crd a t 0).val = t.val from crd_val t])

variable (P : Plan a.1)
include P

theorem tile_le (u v : Fin 51) (h : u.val ≤ v.val) : tile a u ≤ tile a v := by
  obtain ⟨u, hu⟩ := u
  obtain ⟨v, hv⟩ := v
  replace h : u ≤ v := h
  induction v, h using Nat.le_induction with
  | base => exact le_rfl
  | succ n hn ih => exact (ih (by omega)).trans (P.step ⟨n, by omega⟩ hv).1

open Classical in
/-- A live visit: the buffer and the resident weights after it. -/
theorem live (c : Dev nD) (t : Fin (cfgA a).N) (p : St (F := Ideal) c) (q1 : Q1 a t)
    (hp : ¬ QL a t → p.2.1 = WG m c (expt a (vt a t)) ∧ p.2.2.1 = WU m c (expt a (vt a t)) ∧ p.2.2.2 = WD m c (expt a (vt a t))) :
    ((step a m ρ c t p).2.1 = WG m c (expt a (vt a t)) ∧ (step a m ρ c t p).2.2.1 = WU m c (expt a (vt a t)) ∧ (step a m ρ c t p).2.2.2 = WD m c (expt a (vt a t)))
    ∧ ∀ y, (step a m ρ c t p).1 y = if inr a (vt a t) y then val a m c (vt a t) y else if Q3 a t then 0 else p.1 y := by
  have hx := xblk a m ρ c t (P.tile _)
  have hg := gblk a m ρ c t (P.exp _)
  have hu := ublk a m ρ c t (P.exp _)
  have hd := dblk a m ρ c t (P.exp _)
  unfold inr val
  by_cases q3 : Q3 a t
  · by_cases ql : QL a t
    · rw [step_A a m ρ c t p q1 ql q3]
      refine ⟨⟨(scA0 a m ρ c t q1 ql q3).trans hg, (scA1 a m ρ c t q1 ql q3).trans hu, (scA2 a m ρ c t q1 ql q3).trans hd⟩, fun y => ?_⟩
      rw [if_pos q3]
      refine (outA a m ρ c t q1 ql q3 y).trans ?_
      rw [hx, hg, hu, hd]
    · obtain ⟨p1, p2, p3⟩ := hp ql
      rw [step_C a m ρ c t p q1 ql q3]
      refine ⟨⟨(scC0 a m ρ c t p q1 ql q3).trans p1, (scC1 a m ρ c t p q1 ql q3).trans p2, (scC2 a m ρ c t p q1 ql q3).trans p3⟩, fun y => ?_⟩
      rw [if_pos q3]
      refine (outC a m ρ c t p q1 ql q3 y).trans ?_
      rw [hx, p1, p2, p3]
  · by_cases ql : QL a t
    · rw [step_D a m ρ c t p q1 ql q3]
      refine ⟨⟨(scD0 a m ρ c t p q1 ql q3).trans hg, (scD1 a m ρ c t p q1 ql q3).trans hu, (scD2 a m ρ c t p q1 ql q3).trans hd⟩, fun y => ?_⟩
      rw [if_neg q3]
      refine (outD a m ρ c t p q1 ql q3 y).trans ?_
      rw [hx, hg, hu, hd]
    · obtain ⟨p1, p2, p3⟩ := hp ql
      rw [step_B a m ρ c t p q1 ql q3]
      refine ⟨⟨(scB0 a m ρ c t p q1 ql q3).trans p1, (scB1 a m ρ c t p q1 ql q3).trans p2, (scB2 a m ρ c t p q1 ql q3).trans p3⟩, fun y => ?_⟩
      rw [if_neg q3]
      refine (outB a m ρ c t p q1 ql q3 y).trans ?_
      rw [hx, p1, p2, p3]

omit P in
/-- The state after visit `t`: every row of the tile holds the value of the visit whose range has it, or zero; after a live visit the
    resident weights are its expert's. -/
def Inv (c : Dev nD) (t : Fin (cfgA a).N) (p : St (F := Ideal) c) : Prop :=
  (∀ y, (∀ v : Fin 51, v.val ≤ t.val → act a v → tile a v = tile a (vt a t) → inr a v y → p.1 y = val a m c v y)
    ∧ ((∀ v : Fin 51, v.val ≤ t.val → act a v → tile a v = tile a (vt a t) → ¬ inr a v y) → p.1 y = 0))
  ∧ (act a (vt a t) → p.2.1 = WG m c (expt a (vt a t)) ∧ p.2.2.1 = WU m c (expt a (vt a t)) ∧ p.2.2.2 = WD m c (expt a (vt a t)))

theorem not_both (u v : Fin 51) (y : S8192x128.Idx) (h : u ≠ v) (ht : tile a u = tile a v) (hu : inr a u y) (hv : inr a v y) : False := by
  unfold inr mine at hu hv
  rcases P.apart u v with e | e | e | e
  · exact h e
  · exact e ht
  · have e' : BitVec.toInt (T3 a (tix u)) ≤ BitVec.toInt (T2 a (tix v)) := e
    omega
  · have e' : BitVec.toInt (T3 a (tix v)) ≤ BitVec.toInt (T2 a (tix u)) := e
    omega

theorem inv_step (c : Dev nD) (t : Fin (cfgA a).N) (p : St (F := Ideal) c) (hp : ∀ h : t.val ≠ 0, Inv a m c ⟨t.val - 1, Nat.lt_of_le_of_lt (Nat.sub_le _ _) t.isLt⟩ p) :
    Inv a m c t (step a m ρ c t p) := by
  have htl := t_lt a t
  by_cases q1 : Q1 a t
  · have hact := (q1_iff a t).mp q1
    have hw : ¬ QL a t → p.2.1 = WG m c (expt a (vt a t)) ∧ p.2.2.1 = WU m c (expt a (vt a t)) ∧ p.2.2.2 = WD m c (expt a (vt a t)) := by
      intro ql
      have h0 : t.val ≠ 0 := fun h0 => ql (hl_zero _ _ ((crd_val t).trans h0))
      have he : T1 a (tix (vt a t)) = T1 a (tix (bef a t)) := by
        have := same_of_not_hl _ (T1 a) ql
        rw [crdt, crdp] at this
        exact this
      have hb : act a (bef a t) := by
        unfold act at hact ⊢
        have e : ((vt a t).val : ℤ) = (t.val : ℤ) := rfl
        have e' : (((bef a t).val : ℕ) : ℤ) = ((t.val - 1 : ℕ) : ℤ) := rfl
        omega
      have hI := (hp h0).2 hb
      have hee : expt a (vt a t) = expt a (bef a t) := congrArg BitVec.toNat he
      rw [hee]
      exact hI
    obtain ⟨hs, ho⟩ := live a m ρ P c t p q1 hw
    refine ⟨fun y => ?_, fun _ => hs⟩
    rw [ho y]
    by_cases q3 : Q3 a t
    · have only : ∀ v : Fin 51, v.val ≤ t.val → tile a v = tile a (vt a t) → v = vt a t := by
        intro v hv hvt
        by_contra hne
        have hlt : v.val < t.val := lt_of_le_of_ne hv fun h => hne (Fin.ext h)
        have h0 : t.val ≠ 0 := by omega
        have hn := h3_ne _ (T0 a) q3 (fun h => h0 ((crd_val t).symm.trans h))
        rw [crdt, crdp] at hn
        have h1 : tile a v ≤ tile a (bef a t) := tile_le a P _ _ (show v.val ≤ t.val - 1 by omega)
        have h2 : tile a (bef a t) ≤ tile a (vt a t) := tile_le a P _ _ (Nat.sub_le _ _)
        have h3 : tile a (bef a t) = tile a (vt a t) := by omega
        exact hn (BitVec.eq_of_toNat_eq h3.symm)
      refine ⟨fun v hv ha hvt hi => ?_, fun hno => ?_⟩
      · rw [only v hv hvt] at hi ⊢
        rw [if_pos hi]
      · rw [if_neg (hno (vt a t) le_rfl hact rfl), if_pos q3]
    · have h0 : t.val ≠ 0 := fun h0 => q3 (h3_zero _ _ ((crd_val t).trans h0))
      have hsame : tile a (vt a t) = tile a (bef a t) := by
        have := same_of_not_h3 _ (T0 a) q3
        rw [crdt, crdp] at this
        exact congrArg BitVec.toNat this
      have hI := (hp h0).1 y
      refine ⟨fun v hv ha hvt hi => ?_, fun hno => ?_⟩
      · by_cases hvt' : v = vt a t
        · rw [hvt'] at hi ⊢
          rw [if_pos hi]
        · rw [if_neg (fun h => not_both a P v (vt a t) y hvt' hvt hi h), if_neg q3]
          have hlt : v.val ≤ t.val - 1 := by
            have : v.val ≠ t.val := fun h => hvt' (Fin.ext h)
            omega
          exact hI.1 v hlt ha (hvt.trans hsame) hi
      · rw [if_neg (hno (vt a t) le_rfl hact rfl), if_neg q3]
        exact hI.2 fun v hv ha hvt => hno v (hv.trans (Nat.sub_le _ _)) ha (hvt.trans hsame.symm)
  · have hna : ¬ act a (vt a t) := fun h => q1 ((q1_iff a t).mpr h)
    have h0 : t.val ≠ 0 := fun h0 => hna (by unfold act; rw [show (vt a t).val = 0 from h0]; exact P.pos)
    have hsame : tile a (vt a t) = tile a (bef a t) := by
      have hlt : (bef a t).val + 1 < 51 := by show t.val - 1 + 1 < 51; omega
      have e : t.val - 1 + 1 = t.val := by omega
      have := P.idle (bef a t) hlt (by show ¬ ((t.val - 1 + 1 : ℕ) : ℤ) < _; rw [e]; exact hna)
      refine congrArg BitVec.toNat (Eq.trans ?_ this)
      exact congrArg (fun v => a.1 0 (tix v)) (Fin.ext e.symm)
    rw [step_E a m ρ c t p q1]
    refine ⟨fun y => ?_, fun h => absurd h hna⟩
    have hI := (hp h0).1 y
    refine ⟨fun v hv ha hvt hi => ?_, fun hno => ?_⟩
    · have hlt : v.val ≤ t.val - 1 := by
        have : v.val ≠ t.val := fun h => hna (by rw [show vt a t = v from Fin.ext h.symm]; exact ha)
        omega
      exact hI.1 v hlt ha (hvt.trans hsame) hi
    · exact hI.2 fun v hv ha hvt => hno v (hv.trans (Nat.sub_le _ _)) ha (hvt.trans hsame.symm)

theorem inv (c : Dev nD) : ∀ (n : ℕ) (h : n < (cfgA a).N), Inv a m c ⟨n, h⟩ (traj a m ρ c n h)
  | 0, h => inv_step a m ρ P c ⟨0, h⟩ _ (fun h0 => absurd rfl h0)
  | n + 1, h => inv_step a m ρ P c ⟨n + 1, h⟩ _ (fun _ => inv c n (Nat.lt_of_succ_lt h))

end Cert.LastIdeal.Tab
-- ==== Proof.LastIdealFin.lean ====
/- The whole result array after the last visit. -/
module

public import proofs.«01_k».proof.Proof.LastIdealAcc

@[expose] public section

set_option maxRecDepth 16384
set_option Elab.async false

noncomputable section

namespace Cert.LastIdeal.Tab

open Cert.LastIdeal Cert.LastIdeal.Gen
open Idealize.ShloMosaic
open Idealize.ShloMosaic.TcCoe Idealize.ShloMosaic.Tactic
variable (a : (pcfg0 (F := Ideal)).Adm) (m : (ℓ : Loc nD τ sig) → Buf (Elt Ideal) ℓ) (ρ : Dev nD → PrngReg)

variable (P : Plan a.1)

open Classical in
/-- The result: each row of each tile holds the value of the visit of the plan that has the tile and whose range has the row, or
    zero when there is none. -/
def out (c : Dev nD) (i : S294912x128.Idx) : EReal :=
  if h : ∃ v : Fin 51, act a v ∧ tile a v = (i 0).val / 8192 ∧ inr a v (ix2 (⟨(i 0).val % 8192, Nat.mod_lt _ (by decide)⟩ : Fin 8192) (⟨(i 1).val, (i 1).isLt⟩ : Fin 128))
  then val a m c h.choose (ix2 (⟨(i 0).val % 8192, Nat.mod_lt _ (by decide)⟩ : Fin 8192) (⟨(i 1).val, (i 1).isLt⟩ : Fin 128)) else 0

omit P
theorem n_eq : (cfgA a).N = 51 := rfl

theorem flush_iff (t : Fin (cfgA a).N) : ((cfgA a).win (4 : Fin 5)).flush t = true ↔ (t.val = 50 ∨ ∃ h : t.val + 1 < 51, tile a ⟨t.val + 1, h⟩ ≠ tile a (vt a t)) := by
  rw [Pipeline.Window.flush_eq_flushF]
  unfold Pipeline.Window.flushF
  have ho : ((cfgA a).win (4 : Fin 5)).isOut = true := rfl
  have htl := t_lt a t
  rw [ho, Bool.true_and, Bool.or_eq_true, decide_eq_true_eq, decide_eq_true_eq]
  refine or_congr (show t.val + 1 = 51 ↔ t.val = 50 by omega) ⟨?_, ?_⟩
  · rintro ⟨h, b, hb⟩
    refine ⟨h, fun he => hb ?_⟩
    have e1 := ix_o a ⟨t.val + 1, h⟩
    have e2 := ix_o a t
    rw [show vt a ⟨t.val + 1, h⟩ = ⟨t.val + 1, h⟩ from rfl, he] at e1
    exact (congrFun e1 b).trans (congrFun e2 b).symm
  · rintro ⟨h, hne⟩
    refine ⟨h, 0, fun he => hne ?_⟩
    have e1 := congrFun (ix_o a ⟨t.val + 1, h⟩) 0
    have e2 := congrFun (ix_o a t) 0
    exact e1.symm.trans (he.trans e2)

include P
/-- The last visit of a tile is the one written back: no later visit has the tile. -/
theorem last_of_flush (t : Fin (cfgA a).N) (hf : ((cfgA a).win (4 : Fin 5)).flush t = true) (v : Fin 51) (hv : tile a v = tile a (vt a t)) : v.val ≤ t.val := by
  rcases (flush_iff a t).mp hf with h | ⟨h, hne⟩
  · have := v.isLt; omega
  · by_contra hlt
    have h1 : tile a (vt a t) ≤ tile a ⟨t.val + 1, h⟩ := tile_le a P _ _ (Nat.le_succ _)
    have h2 : tile a ⟨t.val + 1, h⟩ ≤ tile a v := tile_le a P _ _ (by show t.val + 1 ≤ v.val; omega)
    omega

/-- Every tile is written back by some visit. -/
theorem covered (q : ℕ) (hq : q < 36) : ∃ t : Fin (cfgA a).N, ((cfgA a).win (4 : Fin 5)).flush t = true ∧ tile a (vt a t) = q := by
  classical
  let R : ℕ → Prop := fun n => ∃ h : n < 51, tile a ⟨n, h⟩ ≤ q
  have h0 : R 0 := ⟨by decide, by have := P.first; show tile a 0 ≤ q; unfold tile; exact this.le.trans (Nat.zero_le _)⟩
  have hs : R (Nat.findGreatest R 50) := Nat.findGreatest_spec (Nat.zero_le _) h0
  obtain ⟨hn, hle⟩ := hs
  have hlast : tile a 50 = 35 := P.last
  refine ⟨⟨Nat.findGreatest R 50, hn⟩, ?_, ?_⟩
  · rw [flush_iff]
    by_cases h50 : Nat.findGreatest R 50 = 50
    · exact Or.inl h50
    · have hlt : Nat.findGreatest R 50 + 1 < 51 := by omega
      refine Or.inr ⟨hlt, fun he => ?_⟩
      exact Nat.findGreatest_is_greatest (Nat.lt_succ_self _) (by omega) (show R (Nat.findGreatest R 50 + 1) from ⟨hlt, he.le.trans hle⟩)
  · refine le_antisymm hle ?_
    by_cases h50 : Nat.findGreatest R 50 = 50
    · have : tile a ⟨Nat.findGreatest R 50, hn⟩ = tile a 50 := congrArg (tile a) (Fin.ext h50)
      show q ≤ tile a ⟨Nat.findGreatest R 50, hn⟩
      omega
    · have hlt : Nat.findGreatest R 50 + 1 < 51 := by omega
      have hnot : ¬ R (Nat.findGreatest R 50 + 1) := Nat.findGreatest_is_greatest (Nat.lt_succ_self _) (by omega)
      have h1 : ¬ tile a ⟨Nat.findGreatest R 50 + 1, hlt⟩ ≤ q := fun h => hnot ⟨hlt, h⟩
      have h2 : tile a ⟨Nat.findGreatest R 50 + 1, hlt⟩ ≤ tile a ⟨Nat.findGreatest R 50, hn⟩ + 1 := (P.step ⟨Nat.findGreatest R 50, hn⟩ hlt).2
      show q ≤ tile a ⟨Nat.findGreatest R 50, hn⟩
      omega

open Classical in
/-- A written-back tile holds the result's tile. -/
theorem flushed_eq (c : Dev nD) (t : Fin (cfgA a).N) (hf : ((cfgA a).win (4 : Fin 5)).flush t = true) (y : S8192x128.Idx) :
    (traj a m ρ c t.val t.isLt).1 y = out a m c (ix2 (⟨tile a (vt a t) * 8192 + (y 0).val, by have := P.tile (vt a t); have h : tile a (vt a t) < 36 := this; have : (y 0).val < 8192 := (y 0).isLt; omega⟩ : Fin 294912) (⟨(y 1).val, (y 1).isLt⟩ : Fin 128)) := by
  obtain ⟨hI, -⟩ := inv a m ρ P c t.val t.isLt
  have hy : (y 0).val < 8192 := (y 0).isLt
  have hq : (tile a (vt a t) * 8192 + (y 0).val) / 8192 = tile a (vt a t) := by omega
  have hr : (ix2 (⟨(tile a (vt a t) * 8192 + (y 0).val) % 8192, Nat.mod_lt _ (by decide)⟩ : Fin 8192) (⟨(y 1).val, (y 1).isLt⟩ : Fin 128) : S8192x128.Idx) = y := by
    funext b
    match b with
    | ⟨0, _⟩ => exact Fin.ext (show (tile a (vt a t) * 8192 + (y 0).val) % 8192 = (y 0).val by omega)
    | ⟨1, _⟩ => rfl
  unfold out
  show _ = dite (∃ v : Fin 51, act a v ∧ tile a v = (tile a (vt a t) * 8192 + (y 0).val) / 8192 ∧ inr a v (ix2 (⟨(tile a (vt a t) * 8192 + (y 0).val) % 8192, Nat.mod_lt _ (by decide)⟩ : Fin 8192) (⟨(y 1).val, (y 1).isLt⟩ : Fin 128)))
    (fun h => val a m c h.choose (ix2 (⟨(tile a (vt a t) * 8192 + (y 0).val) % 8192, Nat.mod_lt _ (by decide)⟩ : Fin 8192) (⟨(y 1).val, (y 1).isLt⟩ : Fin 128))) (fun _ => 0)
  simp only [hq, hr]
  split
  · rename_i h
    obtain ⟨h1, h2, h3⟩ := h.choose_spec
    exact (hI y).1 _ (last_of_flush a P t hf _ h2) h1 h2 h3
  · rename_i h
    exact (hI y).2 fun v _ h1 h2 h3 => h ⟨v, h1, h2, h3⟩

/-- The whole result array after the run. -/
theorem final (c : Dev nD) : (dats a m ρ 0 c).arrAt (4 : Fin 5) (cfgA a).N = out a m c := by
  refine (dats a m ρ 0 c).arrAt_eq_of_emb (4 : Fin 5) (out a m c) (fun t hf y => ?_) (fun i => ?_)
  · have e := flushed_eq a m ρ P c t hf
    have e0 : (pcfg0.win a 4).index t 0 = tile a (vt a t) := congrFun (ix_o a t) 0
    have e1 : (pcfg0.win a 4).index t 1 = 0 := congrFun (ix_o a t) 1
    rw [after0_4]
    refine (cast_eq _ _).trans (Eq.trans (congrFun (congrArg Prod.fst (traj_eq a m ρ c t).symm) _) ((e _).trans ?_))
    refine congrArg (out a m c) (funext fun b => ?_)
    match b with
    | ⟨0, _⟩ =>
      refine Fin.ext ?_
      show tile a (vt a t) * 8192 + (y (0 : Fin 2)).val = (pcfg0.win a 4).index t 0 * 8192 + 1 * (y (0 : Fin 2)).val
      rw [e0, Nat.one_mul]
    | ⟨1, _⟩ =>
      refine Fin.ext ?_
      show (y (1 : Fin 2)).val = (pcfg0.win a 4).index t 1 * 128 + 1 * (y (1 : Fin 2)).val
      rw [e1, Nat.one_mul, Nat.zero_mul, Nat.zero_add]
  · obtain ⟨t, hf, ht⟩ := covered a P ((i (0 : Fin 2)).val / 8192) (by have : (i (0 : Fin 2)).val < 294912 := (i (0 : Fin 2)).isLt; omega)
    refine ⟨t, hf, ?_⟩
    have hi0 : (i (0 : Fin 2)).val < 294912 := (i (0 : Fin 2)).isLt
    have hi1 : (i (1 : Fin 2)).val < 128 := (i (1 : Fin 2)).isLt
    have e0 : (pcfg0.win a 4).index t 0 = tile a (vt a t) := congrFun (ix_o a t) 0
    have e1 : (pcfg0.win a 4).index t 1 = 0 := congrFun (ix_o a t) 1
    refine (((cfgA a).win (4 : Fin 5)).emb_mem_blk_iff t i).mpr (fun b => ?_)
    match b with
    | ⟨0, _⟩ =>
      show (pcfg0.win a 4).index t 0 * 8192 ≤ (i (0 : Fin 2)).val ∧ (i (0 : Fin 2)).val < (pcfg0.win a 4).index t 0 * 8192 + 8192
      rw [e0, ht]; omega
    | ⟨1, _⟩ =>
      show (pcfg0.win a 4).index t 1 * 128 ≤ (i (1 : Fin 2)).val ∧ (i (1 : Fin 2)).val < (pcfg0.win a 4).index t 1 * 128 + 128
      rw [e1]; omega

end Cert.LastIdeal.Tab
-- ==== Proof.LastRef.lean ====
/- The experts' reference: its result read at an index. -/
module

public import proofs.«01_k».proof.Proof.Gen.LastRefIdeal
public import Idealize.ShloMosaic.Lib.Pointwise
public import Idealize.ShloMosaic.Lib.Claim
public import Idealize.ShloMosaic.Lib.Routing.OpsOrder

@[expose] public section

set_option maxRecDepth 16384

noncomputable section

namespace Cert.LastRefTie

open Cert.LastRefIdeal Cert.LastRefIdeal.Gen
open Idealize.ShloMosaic Idealize.ShloMosaic.TcCoe Idealize.SL.Sem

/-- Which experts hit which token's choice: some visit before the count has the row's tile, the expert and the row in its range. -/
def HIT (t e lo hi : IVec S51 32) (n : IVec S1 32) : IVec S51x36x512x16 1 :=
  andi (andi (andi (andi (cmpi .slt (iotaInDim S51x36x512x16 32 0) (broadcastInDim S51x36x512x16 ![] bcast_S_S51x36x512x16 (shapeCast S_ n shapeCasts_S1_S_)))
    (cmpi .eq (broadcastInDim S51x36x512x16 ![0, 1, 2, 3] bcast_S51x1x1x1_S51x36x512x16_0_1_2_3 (broadcastInDim S51x1x1x1 ![0] bcast_S51_S51x1x1x1_0 t)) (iotaInDim S51x36x512x16 32 1)))
    (cmpi .eq (broadcastInDim S51x36x512x16 ![0, 1, 2, 3] bcast_S51x1x1x1_S51x36x512x16_0_1_2_3 (broadcastInDim S51x1x1x1 ![0] bcast_S51_S51x1x1x1_0 e)) (iotaInDim S51x36x512x16 32 3)))
    (cmpi .sle (broadcastInDim S51x36x512x16 ![0, 1, 2, 3] bcast_S51x1x1x1_S51x36x512x16_0_1_2_3 (broadcastInDim S51x1x1x1 ![0] bcast_S51_S51x1x1x1_0 lo)) (iotaInDim S51x36x512x16 32 2)))
    (cmpi .slt (iotaInDim S51x36x512x16 32 2) (broadcastInDim S51x36x512x16 ![0, 1, 2, 3] bcast_S51x1x1x1_S51x36x512x16_0_1_2_3 (broadcastInDim S51x1x1x1 ![0] bcast_S51_S51x1x1x1_0 hi)))

/-- One of the two first products, of every row with every expert's weights. -/
def LIN (x : FVec Ideal S294912x128 .f32) (w : FVec Ideal S2x16x2048x512 .f32) : FVec Ideal S18432x16x512 .f32 :=
  Host.dotGeneral dot_S18432x2048_S16x2048x512_S18432x16x512_1_1_0_02_n_n none
    (truncf .bf16 (shapeCast S18432x2048 x shapeCasts_S294912x128_S18432x2048) bitsLt_bf16_f32)
    (truncf .bf16 (shapeCast S16x2048x512 (extractStridedSlice S1x16x2048x512 ![1, 0, 0, 0] w slices_S2x16x2048x512_S1x16x2048x512_1_0_0_0) shapeCasts_S1x16x2048x512_S16x2048x512) bitsLt_bf16_f32)

/-- The hidden values: zero where the expert does not take the row. -/
def HID (t e lo hi : IVec S51 32) (n : IVec S1 32) (x : FVec Ideal S294912x128 .f32) (g u : FVec Ideal S2x16x2048x512 .f32) : FVec Ideal S18432x16x512 .f32 :=
  select (broadcastInDim S18432x16x512 ![0, 1, 2] bcast_S18432x16x1_S18432x16x512_0_1_2 (broadcastInDim S18432x16x1 ![0, 1] bcast_S18432x16_S18432x16x1_0_1
      (shapeCast S18432x16 (Host.reduce IntOp.ori (HIT t e lo hi n) (constantI S_ 1 0#1) reducesTo_S51x36x512x16_S36x512x16_d0 h_S_) shapeCasts_S36x512x16_S18432x16)))
    (mulf (mulf (LIN x g) (Host.divf (broadcastInDim S18432x16x512 ![] bcast_S_S18432x16x512 (constant S_ .f32 0x3F800000#32))
      (addf (broadcastInDim S18432x16x512 ![] bcast_S_S18432x16x512 (constant S_ .f32 0x3F800000#32)) (Host.exp (Host.negf (LIN x g)))))) (LIN x u))
    (broadcastInDim S18432x16x512 ![] bcast_S_S18432x16x512 (constant S_ .f32 0x00000000#32))

/-- The reference's result. -/
def REF (t e lo hi : IVec S51 32) (n : IVec S1 32) (x : FVec Ideal S294912x128 .f32) (g u : FVec Ideal S2x16x2048x512 .f32) (d : FVec Ideal S2x16x512x2048 .f32) :
    FVec Ideal S294912x128 .f32 :=
  shapeCast S294912x128 ((Host.dotGeneral dot_S18432x16x512_S16x512x2048_S18432x2048_12_01_0_2_n_n none (truncf .bf16 (HID t e lo hi n x g u) bitsLt_bf16_f32)
    (truncf .bf16 (shapeCast S16x512x2048 (extractStridedSlice S1x16x512x2048 ![1, 0, 0, 0] d slices_S2x16x512x2048_S1x16x512x2048_1_0_0_0) shapeCasts_S1x16x512x2048_S16x512x2048) bitsLt_bf16_f32)) : FVec Ideal S18432x2048 .f32)
    shapeCasts_S18432x2048_S294912x128

theorem at_lin (x : FVec Ideal S294912x128 .f32) (w : FVec Ideal S2x16x2048x512 .f32) (r : Fin 18432) (k : Fin 16) (f : Fin 512) :
    LIN x w (ix3 r k f) = ∑ q : Fin 2048, x (ix2 (⟨r.val * 16 + q.val / 128, by omega⟩ : Fin 294912) (⟨q.val % 128, by omega⟩ : Fin 128)) * w (ix4 (1 : Fin 2) k q f) := by
  pointwise [LIN]

theorem bit_eq (w : BitVec 32) (k : ℕ) (hk : k < 64) : IntOp.cmpi .eq w (BitVec.ofNat 32 k) = 1#1 ↔ w.toNat = k := by
  have hb : ∀ b : Bool, BitVec.ofBool b = 1#1 ↔ b = true := by decide
  show BitVec.ofBool (w == BitVec.ofNat 32 k) = 1#1 ↔ _
  rw [hb, beq_iff_eq]
  constructor
  · rintro rfl; rw [BitVec.toNat_ofNat]; omega
  · intro h; apply BitVec.eq_of_toNat_eq; rw [BitVec.toNat_ofNat, h]; omega
theorem int_nat (k : ℕ) (hk : k < 1024) : (BitVec.ofNat 32 k).toInt = (k : ℤ) := by
  rw [BitVec.toInt_eq_toNat_of_lt] <;> simp only [BitVec.toNat_ofNat] <;> omega
theorem bit_slt (a b : BitVec 32) : IntOp.cmpi .slt a b = 1#1 ↔ a.toInt < b.toInt := by
  have hb : ∀ b : Bool, BitVec.ofBool b = 1#1 ↔ b = true := by decide
  show BitVec.ofBool (BitVec.slt a b) = 1#1 ↔ _
  rw [hb, BitVec.slt, decide_eq_true_eq]
theorem bit_sle (a b : BitVec 32) : IntOp.cmpi .sle a b = 1#1 ↔ a.toInt ≤ b.toInt := by
  have hb : ∀ b : Bool, BitVec.ofBool b = 1#1 ↔ b = true := by decide
  show BitVec.ofBool (BitVec.sle a b) = 1#1 ↔ _
  rw [hb, BitVec.sle, decide_eq_true_eq]
theorem bit_and (a b : BitVec 1) : IntOp.andi a b = 1#1 ↔ a = 1#1 ∧ b = 1#1 := by revert a b; decide

/-- Visit `v` gives row `r` of the sorted rows to expert `k`. -/
def Hits (t e lo hi : IVec S51 32) (n : IVec S1 32) (r k : ℕ) (v : Fin 51) : Prop :=
  (v.val : ℤ) < (n (ix1 (0 : Fin 1))).toInt ∧ (t (ix1 v)).toNat = r / 512 ∧ (e (ix1 v)).toNat = k
    ∧ (lo (ix1 v)).toInt ≤ ((r % 512 : ℕ) : ℤ) ∧ ((r % 512 : ℕ) : ℤ) < (hi (ix1 v)).toInt

open Classical in
/-- A hidden value: the gated product where some visit gives the row to the expert, zero elsewhere. -/
theorem at_hid (t e lo hi : IVec S51 32) (n : IVec S1 32) (x : FVec Ideal S294912x128 .f32) (g u : FVec Ideal S2x16x2048x512 .f32) (r : Fin 18432) (k : Fin 16) (f : Fin 512) :
    HID t e lo hi n x g u (ix3 r k f) = if ∃ v, Hits t e lo hi n r.val k.val v then LIN x g (ix3 r k f) * Ideal.logistic (LIN x g (ix3 r k f)) * LIN x u (ix3 r k f) else 0 := by
  pointwise [HID, HIT]
  generalize hb : Finset.fold IntOp.ori (0#1) _ (Finset.univ : Finset (Fin 51)) = b
  have hiff : b = 1#1 ↔ ∃ v, Hits t e lo hi n r.val k.val v := by
    rw [← hb, Routing.fold_ori]
    refine exists_congr fun v => ?_
    rw [and_iff_right (Finset.mem_univ v), bit_and, bit_and, bit_and, bit_and, bit_slt, bit_slt, bit_sle, bit_eq _ _ (by omega), bit_eq _ _ (by omega), int_nat _ (by omega), int_nat _ (by omega)]
    unfold Hits
    exact ⟨fun ⟨⟨⟨⟨h1, h2⟩, h3⟩, h4⟩, h5⟩ => ⟨h1, h2, h3, h4, h5⟩, fun ⟨h1, h2, h3, h4, h5⟩ => ⟨⟨⟨⟨h1, h2⟩, h3⟩, h4⟩, h5⟩⟩
  rcases BitVec.eq_zero_or_eq_one b with hz | hz
  · rw [if_neg (fun h => by rw [hiff.mpr h] at hz; exact absurd hz (by decide)), hz]
    rfl
  · rw [if_pos (hiff.mp hz), hz]
    rfl

theorem at_out (H : FVec Ideal S18432x16x512 .f32) (d : FVec Ideal S2x16x512x2048 .f32) (i : S294912x128.Idx) :
    shapeCast S294912x128 ((Host.dotGeneral dot_S18432x16x512_S16x512x2048_S18432x2048_12_01_0_2_n_n none (truncf .bf16 H bitsLt_bf16_f32)
    (truncf .bf16 (shapeCast S16x512x2048 (extractStridedSlice S1x16x512x2048 ![1, 0, 0, 0] d slices_S2x16x512x2048_S1x16x512x2048_1_0_0_0) shapeCasts_S1x16x512x2048_S16x512x2048) bitsLt_bf16_f32)) : FVec Ideal S18432x2048 .f32)
    shapeCasts_S18432x2048_S294912x128 i = ∑ k : Fin 16, ∑ f : Fin 512, H (ix3 (⟨(i 0).val / 16, by have : (i 0).val < 294912 := (i 0).isLt; omega⟩ : Fin 18432) k f)
      * d (ix4 (1 : Fin 2) k f (⟨(i 0).val % 16 * 128 + (i 1).val, by have : (i 1).val < 128 := (i 1).isLt; omega⟩ : Fin 2048)) := by
  pointwise

theorem at_ref (t e lo hi : IVec S51 32) (n : IVec S1 32) (x : FVec Ideal S294912x128 .f32) (g u : FVec Ideal S2x16x2048x512 .f32) (d : FVec Ideal S2x16x512x2048 .f32) (i : S294912x128.Idx) :
    REF t e lo hi n x g u d i = ∑ k : Fin 16, ∑ f : Fin 512, HID t e lo hi n x g u (ix3 (⟨(i 0).val / 16, by have : (i 0).val < 294912 := (i 0).isLt; omega⟩ : Fin 18432) k f)
      * d (ix4 (1 : Fin 2) k f (⟨(i 0).val % 16 * 128 + (i 1).val, by have : (i 1).val < 128 := (i 1).isLt; omega⟩ : Fin 2048)) :=
  at_out (HID t e lo hi n x g u) d i

/-- The reference's run: the result, and the arguments unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v50) = REF (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  hlo_run
  simp -implicitDefEqProofs only [StableHlo.TRef.toBuf, StableHlo.TRef.ofBuf, cast_cast, cast_eq]
  unfold REF HID LIN HIT
  rfl

end Cert.LastRefTie
-- ==== Proof.LastTie.lean ====
/- The experts' call against its reference: the same array. -/
module

public import proofs.«01_k».proof.Proof.LastIdealFin
public import proofs.«01_k».proof.Proof.ExpPlan
public import proofs.«01_k».proof.Proof.LastRef

@[expose] public section

set_option maxRecDepth 16384
set_option Elab.async false

noncomputable section

namespace Cert.LastIdeal.Tab

open Cert.LastIdeal Cert.LastIdeal.Gen
open Idealize.ShloMosaic
open Idealize.ShloMosaic.TcCoe Idealize.ShloMosaic.Tactic
open Cert.LastRefTie (LIN HID REF Hits at_lin at_hid at_ref)
variable (a : (pcfg0 (F := Ideal)).Adm) (m : (ℓ : Loc nD τ sig) → Buf (Elt Ideal) ℓ) (ρ : Dev nD → PrngReg)

theorem tix_ix1 (v : Fin 51) : tix v = ix1 v := by
  funext b
  match b with
  | ⟨0, _⟩ => rfl

/-- The index within its tile. -/
def yof (i : S294912x128.Idx) : S8192x128.Idx :=
  ix2 (⟨(i 0).val % 8192, Nat.mod_lt _ (by decide)⟩ : Fin 8192) (⟨(i 1).val, (i 1).isLt⟩ : Fin 128)
/-- The row of sixteen lanes' groups an index is in. -/
def rof (i : S294912x128.Idx) : Fin 18432 := ⟨(i 0).val / 16, by have : (i 0).val < 294912 := (i 0).isLt; omega⟩

/-- The reference's word for "the visit gives the row to the expert", read with the kernel's words. -/
theorem hits_iff (i : S294912x128.Idx) (k : ℕ) (v : Fin 51) :
    Hits (a.1 0) (a.1 1) (a.1 2) (a.1 3) (a.1 4) (rof i).val k v ↔ (act a v ∧ tile a v = (i 0).val / 8192 ∧ inr a v (yof i)) ∧ expt a v = k := by
  have e1 : (rof i).val / 512 = (i 0).val / 8192 := by show (i 0).val / 16 / 512 = _; omega
  have e2 : (rof i).val % 512 = (rowOf (yof i)).val := by show (i 0).val / 16 % 512 = (i 0).val % 8192 / 16; omega
  unfold Hits act tile inr mine expt
  rw [e1, e2, tix_ix1]
  constructor
  · rintro ⟨h1, h2, h3, h4, h5⟩; exact ⟨⟨h1, h2, h4, h5⟩, h3⟩
  · rintro ⟨⟨h1, h2, h4, h5⟩, h3⟩; exact ⟨h1, h2, h3, h4, h5⟩

theorem x_at (c : Dev nD) (i : S294912x128.Idx) (q : Fin 2048) :
    XT m c ((i 0).val / 8192) (cix (rowOf (yof i)) q)
      = m ((c : Thread nD τ).loc main_arg5) (ix2 (⟨(rof i).val * 16 + q.val / 128, by have := (rof i).isLt; omega⟩ : Fin 294912) (⟨q.val % 128, by omega⟩ : Fin 128)) := by
  have hi : (i 0).val < 294912 := (i 0).isLt
  unfold XT
  rw [dif_pos (by omega)]
  refine congrArg (m ((c : Thread nD τ).loc main_arg5)) (funext fun b => ?_)
  match b with
  | ⟨0, _⟩ =>
    refine Fin.ext ?_
    show (i 0).val / 8192 * 8192 + (16 * ((i 0).val % 8192 / 16) + q.val / 128) = (i 0).val / 16 * 16 + q.val / 128
    omega
  | ⟨1, _⟩ => rfl

theorem lin_g (c : Dev nD) (i : S294912x128.Idx) (k : Fin 16) (f : Fin 512) :
    LIN (m ((c : Thread nD τ).loc main_arg5)) (m ((c : Thread nD τ).loc main_arg6)) (ix3 (rof i) k f) = lin (XT m c ((i 0).val / 8192)) (WG m c k.val) (rowOf (yof i)) f := by
  refine (at_lin _ _ _ _ _).trans (Finset.sum_congr rfl fun q _ => ?_)
  refine congrArg₂ (fun p q : EReal => p * q) (x_at m c i q).symm ?_
  unfold WG
  rw [dif_pos k.isLt]
  rfl
theorem lin_u (c : Dev nD) (i : S294912x128.Idx) (k : Fin 16) (f : Fin 512) :
    LIN (m ((c : Thread nD τ).loc main_arg5)) (m ((c : Thread nD τ).loc main_arg7)) (ix3 (rof i) k f) = lin (XT m c ((i 0).val / 8192)) (WU m c k.val) (rowOf (yof i)) f := by
  refine (at_lin _ _ _ _ _).trans (Finset.sum_congr rfl fun q _ => ?_)
  refine congrArg₂ (fun p q : EReal => p * q) (x_at m c i q).symm ?_
  unfold WU
  rw [dif_pos k.isLt]
  rfl
theorem d_at (c : Dev nD) (i : S294912x128.Idx) (k : Fin 16) (f : Fin 512) (h) :
    m ((c : Thread nD τ).loc main_arg8) (ix4 (1 : Fin 2) k f (⟨(i 0).val % 16 * 128 + (i 1).val, h⟩ : Fin 2048)) = WD m c k.val (ix2 f (colOf (yof i))) := by
  unfold WD
  rw [dif_pos k.isLt]
  refine congrArg (m ((c : Thread nD τ).loc main_arg8)) (funext fun b => ?_)
  match b with
  | ⟨0, _⟩ => rfl
  | ⟨1, _⟩ => rfl
  | ⟨2, _⟩ => rfl
  | ⟨3, _⟩ =>
    refine Fin.ext ?_
    show (i 0).val % 16 * 128 + (i 1).val = 128 * ((i 0).val % 8192 % 16) + (i 1).val
    omega

variable (P : Plan a.1)
include P

open Classical in
/-- The kernel's array is the reference's. -/
theorem tie (c : Dev nD) : out a m c = REF (a.1 0) (a.1 1) (a.1 2) (a.1 3) (a.1 4) (m ((c : Thread nD τ).loc main_arg5)) (m ((c : Thread nD τ).loc main_arg6))
    (m ((c : Thread nD τ).loc main_arg7)) (m ((c : Thread nD τ).loc main_arg8)) := by
  funext i
  refine Eq.trans ?_ (at_ref _ _ _ _ _ _ _ _ _ i).symm
  have step : ∀ (k : Fin 16) (f : Fin 512), HID (a.1 0) (a.1 1) (a.1 2) (a.1 3) (a.1 4) (m ((c : Thread nD τ).loc main_arg5)) (m ((c : Thread nD τ).loc main_arg6))
      (m ((c : Thread nD τ).loc main_arg7)) (ix3 (rof i) k f)
      = if ∃ v, (act a v ∧ tile a v = (i 0).val / 8192 ∧ inr a v (yof i)) ∧ expt a v = k.val then
          lin (XT m c ((i 0).val / 8192)) (WG m c k.val) (rowOf (yof i)) f * Ideal.logistic (lin (XT m c ((i 0).val / 8192)) (WG m c k.val) (rowOf (yof i)) f)
            * lin (XT m c ((i 0).val / 8192)) (WU m c k.val) (rowOf (yof i)) f else 0 := by
    intro k f
    refine (at_hid _ _ _ _ _ _ _ _ _ _ _).trans ?_
    simp only [hits_iff, lin_g, lin_u]
  refine Eq.trans ?_ (Finset.sum_congr rfl fun k _ => Finset.sum_congr rfl fun f _ => congrArg₂ (· * ·) (step k f).symm (d_at m c i k f _).symm)
  show (if h : ∃ v : Fin 51, act a v ∧ tile a v = (i 0).val / 8192 ∧ inr a v (yof i) then val a m c h.choose (yof i) else 0) = _
  split
  · rename_i h
    obtain ⟨h1, h2, h3⟩ := h.choose_spec
    generalize h.choose = v at h1 h2 h3
    have hk : expt a v < 16 := P.exp v
    refine Eq.trans ?_ (Finset.sum_eq_single (⟨expt a v, hk⟩ : Fin 16) (fun k _ hne => ?_) (fun hn => absurd (Finset.mem_univ _) hn)).symm
    · unfold val ffn
      rw [h2]
      refine Finset.sum_congr rfl fun f _ => ?_
      rw [if_pos ⟨v, ⟨h1, h2, h3⟩, rfl⟩]
    · refine Finset.sum_eq_zero fun f _ => ?_
      rw [if_neg, zero_mul]
      rintro ⟨u, ⟨g1, g2, g3⟩, g4⟩
      by_cases huv : u = v
      · rw [huv] at g4; exact hne (Fin.ext g4.symm)
      · exact not_both a P u v (yof i) huv (g2.trans h2.symm) g3 h3
  · rename_i h
    refine (Finset.sum_eq_zero fun k _ => Finset.sum_eq_zero fun f _ => ?_).symm
    rw [if_neg, zero_mul]
    rintro ⟨u, hu, -⟩
    exact h ⟨u, hu⟩

end Cert.LastIdeal.Tab
-- ==== Proof.LastClaims.lean ====
/- The second layer's experts' call: its five claims. -/
module

public import proofs.«01_k».proof.Proof.Gen.Last.Skeleton
public import proofs.«01_k».proof.Proof.Gen.Last.Launch
public import proofs.«01_k».proof.Proof.ExpPlan
public import Idealize.ShloMosaic.PureOps.BitExact
public import proofs.«01_k».proof.Proof.LastIdealFrame
public import proofs.«01_k».proof.Proof.LastTie
public import proofs.«01_k».proof.Defs
public import proofs.«01_k».proof.Proof.Gen.Pre_plan_tables
public import Idealize.ShloMosaic.Lib.Quiescent

@[expose] public section

set_option maxRecDepth 16384

noncomputable section

namespace Cert.LastClaims

open Idealize.ShloMosaic Idealize.SL.Sem Idealize.ShloMosaic.TcCoe

/-- With no operation replaced, the two programs have the same kernel bodies, -/
theorem defs₀_eq {F : FTy → Type} [FloatOps F] : Cert.Last.defs₀ (F := F) = Cert.LastIdeal.defs₀ (F := F) := by
  unfold Cert.Last.defs₀ Cert.LastIdeal.defs₀
  refine congrArg Defs.onTc ?_
  funext x y
  rcases x with ⟨x, hx⟩
  match x, hx with
  | 0, _ => rfl

/-- and the same definitions. -/
theorem defs_eq {F : FTy → Type} [FloatOps F] : Cert.Last.defs (F := F) = Cert.LastIdeal.defs (F := F) := by
  unfold Cert.Last.defs Cert.LastIdeal.defs
  rw [defs₀_eq]
  rfl

/-- Tables with the precondition's words make a plan. -/
theorem plan_of_words {F : FTy → Type} [FloatOps F] (pf : Cert.LastIdeal.pre0.Contents (Elt F)) (W : Cert.ExpPlan.Words (pf 0) (pf 1) (pf 2) (pf 3) (pf 4)) : Cert.LastIdeal.Tab.Plan pf := by
  refine ⟨fun v => ?_, fun v => ?_, ?_, ?_, W.pos, fun v h => ?_, fun v h => ?_, fun u v => ?_⟩ <;> simp only [Cert.LastIdeal.Tab.tix_ix1]
  · exact W.tile v
  · exact W.exp v
  · exact W.first
  · exact W.last
  · exact W.step v h
  · exact W.idle v h
  · exact W.apart u v

/-- The bit-level run under the precondition: it ends, arguments unchanged, counters at zero. -/
theorem frame_bits : Cert.quiescent_Last (hLast := Cert.Last.Gen.facts) (hPre_plan_tables := Cert.Pre_plan_tables.Gen.facts) := by
  intro m g hpre
  obtain ⟨h1, h2, h3, h4⟩ := hpre 0
  have W := Cert.ExpPlan.words _ _ _ _ _ _ _ _ _ h1 h2 h3 h4
  let pf : Cert.LastIdeal.pre0.Contents (Elt Bits) := fun j => m ((0 : Dev Cert.Last.nD).tc.loc (Cert.Last.pre0.ref j))
  have G := Cert.LastIdeal.Tab.good_of_plan pf (plan_of_words pf W)
  have h := Cert.LastIdeal.Tab.frame (F := Bits) ⟨pf, Cert.LastIdeal.Tab.ok_of_good pf G⟩ m g G fun c j => by
    obtain rfl : c = 0 := Subsingleton.elim _ _
    rfl
  rw [← defs_eq] at h
  exact h

/-- The tables of the precondition make a plan. -/
theorem plan (m : (ℓ : Loc Cert.LastIdeal.nD Cert.LastIdeal.τ Cert.LastIdeal.sig) → Buf (Elt Ideal) ℓ)
    (hpre : Cert.Pre_LastIdeal (hPre_plan_tables := Cert.Pre_plan_tables.Gen.facts) m) :
    Cert.LastIdeal.Tab.Plan (fun j => m ((0 : Dev Cert.LastIdeal.nD).tc.loc (Cert.LastIdeal.pre0.ref j))) := by
  obtain ⟨h1, h2, h3, h4⟩ := hpre 0
  exact plan_of_words _ (Cert.ExpPlan.words _ _ _ _ _ _ _ _ _ h1 h2 h3 h4)

/-- The idealized run under the precondition: it ends, arguments unchanged, counters at zero. -/
theorem frame_ideal : Cert.quiescent_LastIdeal (hLastIdeal := Cert.LastIdeal.Gen.facts) (hPre_plan_tables := Cert.Pre_plan_tables.Gen.facts) := by
  intro m g hpre
  have P := plan m hpre
  have G := Cert.LastIdeal.Tab.good_of_plan _ P
  exact Cert.LastIdeal.Tab.frame ⟨_, Cert.LastIdeal.Tab.ok_of_good _ G⟩ m g G fun c j => by
    obtain rfl : c = 0 := Subsingleton.elim _ _
    rfl

/-- The reference's run: it ends, arguments unchanged, counters at zero. -/
theorem frame_ref : Cert.quiescent_LastRefIdeal (hLastRefIdeal := Cert.LastRefIdeal.Gen.facts) (hPre_plan_tables := Cert.Pre_plan_tables.Gen.facts) := by
  intro m g _
  exact (θ_run _ _ _).mono (fun r h => ⟨fun c => (h c).2, sem_eq_zero_of_no_sems rfl _⟩) (Cert.LastRefTie.ref_run m g)

open Cert.LastRefIdeal in
/-- Equal arguments give equal results of the reference. -/
theorem ref_congr {t e lo hi t' e' lo' hi' : IVec S51 32} {n n' : IVec S1 32} {x x' : FVec Ideal S294912x128 .f32} {g u g' u' : FVec Ideal S2x16x2048x512 .f32}
    {d d' : FVec Ideal S2x16x512x2048 .f32} (h0 : t = t') (h1 : e = e') (h2 : lo = lo') (h3 : hi = hi') (h4 : n = n') (h5 : x = x') (h6 : g = g') (h7 : u = u')
    (h8 : d = d') : Cert.LastRefTie.REF t e lo hi n x g u d = Cert.LastRefTie.REF t' e' lo' hi' n' x' g' u' d' := by
  rw [h0, h1, h2, h3, h4, h5, h6, h7, h8]

/-- The two results are equal. -/
theorem value : Cert.algebraic_LastIdeal_LastRefIdeal (hLastIdeal := Cert.LastIdeal.Gen.facts) (hLastRefIdeal := Cert.LastRefIdeal.Gen.facts)
    (hPre_plan_tables := Cert.Pre_plan_tables.Gen.facts) := by
  intro m g m' g' hpre hagree
  have P := plan m hpre
  have G := Cert.LastIdeal.Tab.good_of_plan _ P
  have hp : ∀ (c : Dev Cert.LastIdeal.nD) (j : Fin 5), m (c.tc.loc (Cert.LastIdeal.pre0.ref j)) = m ((0 : Dev Cert.LastIdeal.nD).tc.loc (Cert.LastIdeal.pre0.ref j)) := fun c j => by
    obtain rfl : c = 0 := Subsingleton.elim _ _
    rfl
  let a : (Cert.LastIdeal.pcfg0 (F := Ideal)).Adm := ⟨_, Cert.LastIdeal.Tab.ok_of_good _ G⟩
  refine ⟨fun c => Cert.LastIdeal.Tab.out a m c, ?_, ?_⟩
  · refine (θ_run _ _ _).mono (fun r h c => ?_) (Cert.LastIdeal.Tab.run_main a m g G hp)
    obtain ⟨h, -⟩ := h
    exact ⟨((h c).1 (4 : Fin 5)).trans (Cert.LastIdeal.Tab.final a m g P c),
      ((h c).2 0).trans (hp c 0).symm, ((h c).2 1).trans (hp c 1).symm, ((h c).2 2).trans (hp c 2).symm, ((h c).2 3).trans (hp c 3).symm, ((h c).2 4).trans (hp c 4).symm,
      ((h c).1 (0 : Fin 5)).trans ((Cert.LastIdeal.Tab.dats a m g 0 c).arrAt_in (0 : Fin 5) rfl _), ((h c).1 (1 : Fin 5)).trans ((Cert.LastIdeal.Tab.dats a m g 0 c).arrAt_in (1 : Fin 5) rfl _),
      ((h c).1 (2 : Fin 5)).trans ((Cert.LastIdeal.Tab.dats a m g 0 c).arrAt_in (2 : Fin 5) rfl _), ((h c).1 (3 : Fin 5)).trans ((Cert.LastIdeal.Tab.dats a m g 0 c).arrAt_in (3 : Fin 5) rfl _)⟩
  · refine (θ_run _ _ _).mono (fun r h c => ?_) (Cert.LastRefTie.ref_run m' g')
    obtain ⟨h0, hr⟩ := h c
    obtain rfl : c = 0 := Subsingleton.elim _ _
    obtain ⟨e0, e1, e2, e3, e4, e5, e6, e7, e8⟩ := hagree 0
    refine ⟨h0.trans ?_, hr⟩
    refine Eq.trans ?_ (Cert.LastIdeal.Tab.tie a m P 0).symm
    exact ref_congr e0 e1 e2 e3 e4 e5 e6 e7 e8

end Cert.LastClaims
-- ==== Proof.ExpIdealRuns.lean ====
module

public import proofs.«01_k».proof.Proof.Gen.ExpIdeal.Skeleton
public import proofs.«01_k».proof.Proof.Gen.ExpIdeal.Launch
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.ExpIdeal.Tab

open Cert.ExpIdeal Cert.ExpIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The five tables and the three scratch buffers, whole. -/
abbrev tb0 : Memref sig .tc .smem S51 .i32 := Memref.whole main_arg0
abbrev tb1 : Memref sig .tc .smem S51 .i32 := Memref.whole main_arg1
abbrev tb2 : Memref sig .tc .smem S51 .i32 := Memref.whole main_arg2
abbrev tb3 : Memref sig .tc .smem S51 .i32 := Memref.whole main_arg3
abbrev tb4 : Memref sig .tc .smem S1 .i32 := Memref.whole main_arg4
abbrev sc0 : Memref sig .tc .vmem S2048x512 .bf16 := Memref.whole cc0_scratch0
abbrev sc1 : Memref sig .tc .vmem S2048x512 .bf16 := Memref.whole cc0_scratch1
abbrev sc2 : Memref sig .tc .vmem S512x2048 .bf16 := Memref.whole cc0_scratch2

/-- The words the body reads of the tables at a visit. -/
abbrev wn (T4 : S1.Idx → Elt F .i32) : Elt F .i32 := View.readAt (Elt F) tb4.view (Rect.unit (s := S1) ![0] S1.size inb_S1_S1_0).toLoadRect T4 (Shape.Idx.first (numel1_S1.symm ▸ Nat.one_pos))
abbrev we (i : grid0.Coords) (T1 : S51.Idx → Elt F .i32) : Elt F .i32 := View.readAt (Elt F) tb1.view (Rect.unit (s := S51) (k0_off2 i) S1.size (k0_off2_inb i)).toLoadRect T1 (Shape.Idx.first (numel1_S1.symm ▸ Nat.one_pos))
abbrev wep (i : grid0.Coords) (T1 : S51.Idx → Elt F .i32) : Elt F .i32 := View.readAt (Elt F) tb1.view (Rect.unit (s := S51) (k0_off3 i) S1.size (k0_off3_inb i)).toLoadRect T1 (Shape.Idx.first (numel1_S1.symm ▸ Nat.one_pos))
abbrev wt (i : grid0.Coords) (T0 : S51.Idx → Elt F .i32) : Elt F .i32 := View.readAt (Elt F) tb0.view (Rect.unit (s := S51) (k0_off4 i) S1.size (k0_off4_inb i)).toLoadRect T0 (Shape.Idx.first (numel1_S1.symm ▸ Nat.one_pos))
abbrev wtp (i : grid0.Coords) (T0 : S51.Idx → Elt F .i32) : Elt F .i32 := View.readAt (Elt F) tb0.view (Rect.unit (s := S51) (k0_off5 i) S1.size (k0_off5_inb i)).toLoadRect T0 (Shape.Idx.first (numel1_S1.symm ▸ Nat.one_pos))

/-- The visit is one of the plan's. -/
abbrev H1 (i : grid0.Coords) (T4 : S1.Idx → Elt F .i32) : Prop := k0_cond1 i (wn T4) = 1#1
/-- The visit loads the weights: it is the first, or its expert is not the last one's. -/
abbrev HL (i : grid0.Coords) (T1 : S51.Idx → Elt F .i32) : Prop :=
  Scalar.cmpi .ne (Scalar.extui (Scalar.ori (Scalar.cmpi .eq (BitVec.ofNat 32 (i 0).val) 0#32) (Scalar.cmpi .ne (we i T1) (wep i T1)))) 0#32 = 1#1
/-- The visit is the first of its tile. -/
abbrev H3 (i : grid0.Coords) (T0 : S51.Idx → Elt F .i32) : Prop := k0_cond3 i (wt i T0) (wtp i T0) = 1#1
/-- The visit is not the first of its tile. -/
abbrev H4 (i : grid0.Coords) (T0 : S51.Idx → Elt F .i32) : Prop := k0_cond4 i (wt i T0) (wtp i T0) = 1#1

set_option maxHeartbeats 8000000 in
/-- A visit past the plan's last does nothing. -/
theorem runE (c : Dev nD) (i : grid0.Coords) (arg6 : Memref sig .tc .vmem S8192x128 .f32) (harg6 : arg6.IsWhole) (arg7 : Memref sig .tc .vmem S1x1x2048x512 .f32) (harg7 : arg7.IsWhole) (arg8 : Memref sig .tc .vmem S1x1x2048x512 .f32) (harg8 : arg8.IsWhole) (arg9 : Memref sig .tc .vmem S1x1x512x2048 .f32) (harg9 : arg9.IsWhole) (arg10 : Memref sig .tc .vmem S8192x128 .f32) (harg10 : arg10.IsWhole)
    (T0 T1 T2 T3 : S51.Idx → Elt F .i32) (T4 : S1.Idx → Elt F .i32)
    (x0 : S8192x128.Idx → Elt F .f32) (x1 x2 : S1x1x2048x512.Idx → Elt F .f32) (x3 : S1x1x512x2048.Idx → Elt F .f32)
    (xa0 : Buf (Elt F) ((c : Thread nD τ).loc cc0_scratch0)) (xa1 : Buf (Elt F) ((c : Thread nD τ).loc cc0_scratch1)) (xa2 : Buf (Elt F) ((c : Thread nD τ).loc cc0_scratch2)) (h1 : ¬ H1 i T4) (K : PUnit → sProp 𝕄) :
    iprop((arg6.view.loc (c : Thread nD τ) ↦[arg6.view.set]{fullShare} arg6.view.rep x0)
          ∗ (arg7.view.loc (c : Thread nD τ) ↦[arg7.view.set]{fullShare} arg7.view.rep x1)
          ∗ (arg8.view.loc (c : Thread nD τ) ↦[arg8.view.set]{fullShare} arg8.view.rep x2)
          ∗ (arg9.view.loc (c : Thread nD τ) ↦[arg9.view.set]{fullShare} arg9.view.rep x3)
          ∗ (tb0.view.loc (c : Thread nD τ) ↦{fullShare.right} T0)
          ∗ (tb1.view.loc (c : Thread nD τ) ↦{fullShare.right} T1)
          ∗ (tb2.view.loc (c : Thread nD τ) ↦{fullShare.right} T2)
          ∗ (tb3.view.loc (c : Thread nD τ) ↦{fullShare.right} T3)
          ∗ (tb4.view.loc (c : Thread nD τ) ↦{fullShare.right} T4)
          ∗ (sc0.view.loc (c : Thread nD τ) ↦{fullShare} xa0)
          ∗ (sc1.view.loc (c : Thread nD τ) ↦{fullShare} xa1)
          ∗ (sc2.view.loc (c : Thread nD τ) ↦{fullShare} xa2)
          ∗ (iprop((arg6.view.loc (c : Thread nD τ) ↦[arg6.view.set]{fullShare} arg6.view.rep x0)
          ∗ (arg7.view.loc (c : Thread nD τ) ↦[arg7.view.set]{fullShare} arg7.view.rep x1)
          ∗ (arg8.view.loc (c : Thread nD τ) ↦[arg8.view.set]{fullShare} arg8.view.rep x2)
          ∗ (arg9.view.loc (c : Thread nD τ) ↦[arg9.view.set]{fullShare} arg9.view.rep x3)
          ∗ (tb0.view.loc (c : Thread nD τ) ↦{fullShare.right} T0)
          ∗ (tb1.view.loc (c : Thread nD τ) ↦{fullShare.right} T1)
          ∗ (tb2.view.loc (c : Thread nD τ) ↦{fullShare.right} T2)
          ∗ (tb3.view.loc (c : Thread nD τ) ↦{fullShare.right} T3)
          ∗ (tb4.view.loc (c : Thread nD τ) ↦{fullShare.right} T4)
          ∗ (sc0.view.loc (c : Thread nD τ) ↦{fullShare} xa0)
          ∗ (sc1.view.loc (c : Thread nD τ) ↦{fullShare} xa1)
          ∗ (sc2.view.loc (c : Thread nD τ) ↦{fullShare} xa2)) -∗ K ⟨⟩))
      ⊢ wp frame (wpE (defs₀ (F := F)) Variants.none c none) Set.univ (cc0_moe_experts i tb0 (Memref.isWhole_whole _) tb1 (Memref.isWhole_whole _) tb2 (Memref.isWhole_whole _) tb3 (Memref.isWhole_whole _) tb4 (Memref.isWhole_whole _) arg6 harg6 arg7 harg7 arg8 harg8 arg9 harg9 arg10 harg10 sc0 (Memref.isWhole_whole _) sc1 (Memref.isWhole_whole _) sc2 (Memref.isWhole_whole _)) K := by
    rw [cc0_moe_experts_eq_skeleton]; unfold cc0_moe_experts_skel
    iintro ⟨H0, H1, H2, H3, HT0, HT1, HT2, HT3, HT4, HS0, HS1, HS2, Hk⟩
    have hT4 : tb4.IsWhole := Memref.isWhole_whole _
    sl_exec! (disch := first | (guard_target = ¬(k0_cond1 _ _ = _); exact h1))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HT2]; · iexact HT2
    isplitl [HT3]; · iexact HT3
    isplitl [HT4]; · iexact HT4
    isplitl [HS0]; · iexact HS0
    isplitl [HS1]; · iexact HS1
    iexact HS2

set_option backward.proofsInPublic true in
set_option maxHeartbeats 40000000 in
/-- A visit of the plan, first of its tile, loading its weights: the pieces it leaves in the output's buffer and what the scratches then hold, found by
    the run, with the proof that the body runs to them. -/
def runA (c : Dev nD) (i : grid0.Coords) (arg6 : Memref sig .tc .vmem S8192x128 .f32) (harg6 : arg6.IsWhole) (arg7 : Memref sig .tc .vmem S1x1x2048x512 .f32) (harg7 : arg7.IsWhole) (arg8 : Memref sig .tc .vmem S1x1x2048x512 .f32) (harg8 : arg8.IsWhole) (arg9 : Memref sig .tc .vmem S1x1x512x2048 .f32) (harg9 : arg9.IsWhole) (arg10 : Memref sig .tc .vmem S8192x128 .f32) (harg10 : arg10.IsWhole)
    (T0 T1 T2 T3 : S51.Idx → Elt F .i32) (T4 : S1.Idx → Elt F .i32)
    (x0 : S8192x128.Idx → Elt F .f32) (x1 x2 : S1x1x2048x512.Idx → Elt F .f32) (x3 : S1x1x512x2048.Idx → Elt F .f32)
    (h1 : H1 i T4) (hl : HL i T1) (h3 : H3 i T0) (h4 : ¬ H4 i T0) :
    Σ' (out0 : List (View.Piece (Elt F) S8192x128 .f32)) (out1 : Buf (Elt F) ((c : Thread nD τ).loc cc0_scratch0)) (out2 : Buf (Elt F) ((c : Thread nD τ).loc cc0_scratch1)), { out3 : Buf (Elt F) ((c : Thread nD τ).loc cc0_scratch2) //
      ∀ (xa0 : Buf (Elt F) ((c : Thread nD τ).loc cc0_scratch0)) (xa1 : Buf (Elt F) ((c : Thread nD τ).loc cc0_scratch1)) (xa2 : Buf (Elt F) ((c : Thread nD τ).loc cc0_scratch2)) (K : PUnit → sProp 𝕄),
        iprop((arg6.view.loc (c : Thread nD τ) ↦[arg6.view.set]{fullShare} arg6.view.rep x0)
          ∗ (arg7.view.loc (c : Thread nD τ) ↦[arg7.view.set]{fullShare} arg7.view.rep x1)
          ∗ (arg8.view.loc (c : Thread nD τ) ↦[arg8.view.set]{fullShare} arg8.view.rep x2)
          ∗ (arg9.view.loc (c : Thread nD τ) ↦[arg9.view.set]{fullShare} arg9.view.rep x3)
          ∗ (tb0.view.loc (c : Thread nD τ) ↦{fullShare.right} T0)
          ∗ (tb1.view.loc (c : Thread nD τ) ↦{fullShare.right} T1)
          ∗ (tb2.view.loc (c : Thread nD τ) ↦{fullShare.right} T2)
          ∗ (tb3.view.loc (c : Thread nD τ) ↦{fullShare.right} T3)
          ∗ (tb4.view.loc (c : Thread nD τ) ↦{fullShare.right} T4)
          ∗ (∃ d, owns (c : Thread nD τ) arg10 fullShare d)
          ∗ (sc0.view.loc (c : Thread nD τ) ↦{fullShare} xa0)
          ∗ (sc1.view.loc (c : Thread nD τ) ↦{fullShare} xa1)
          ∗ (sc2.view.loc (c : Thread nD τ) ↦{fullShare} xa2)
          ∗ (iprop((arg6.view.loc (c : Thread nD τ) ↦[arg6.view.set]{fullShare} arg6.view.rep x0)
          ∗ (arg7.view.loc (c : Thread nD τ) ↦[arg7.view.set]{fullShare} arg7.view.rep x1)
          ∗ (arg8.view.loc (c : Thread nD τ) ↦[arg8.view.set]{fullShare} arg8.view.rep x2)
          ∗ (arg9.view.loc (c : Thread nD τ) ↦[arg9.view.set]{fullShare} arg9.view.rep x3)
          ∗ (tb0.view.loc (c : Thread nD τ) ↦{fullShare.right} T0)
          ∗ (tb1.view.loc (c : Thread nD τ) ↦{fullShare.right} T1)
          ∗ (tb2.view.loc (c : Thread nD τ) ↦{fullShare.right} T2)
          ∗ (tb3.view.loc (c : Thread nD τ) ↦{fullShare.right} T3)
          ∗ (tb4.view.loc (c : Thread nD τ) ↦{fullShare.right} T4)
          ∗ (∃ f, arg10.view.loc (c : Thread nD τ) ↦[arg10.view.set]{fullShare} arg10.view.writes (Elt F) f out0)
          ∗ (sc0.view.loc (c : Thread nD τ) ↦{fullShare} out1)
          ∗ (sc1.view.loc (c : Thread nD τ) ↦{fullShare} out2)
          ∗ (sc2.view.loc (c : Thread nD τ) ↦{fullShare} out3)) -∗ K ⟨⟩))
          ⊢ wp frame (wpE (defs₀ (F := F)) Variants.none c none) Set.univ (cc0_moe_experts i tb0 (Memref.isWhole_whole _) tb1 (Memref.isWhole_whole _) tb2 (Memref.isWhole_whole _) tb3 (Memref.isWhole_whole _) tb4 (Memref.isWhole_whole _) arg6 harg6 arg7 harg7 arg8 harg8 arg9 harg9 arg10 harg10 sc0 (Memref.isWhole_whole _) sc1 (Memref.isWhole_whole _) sc2 (Memref.isWhole_whole _)) K } :=
  ⟨_, _, _, _, fun (xa0 : Buf (Elt F) ((c : Thread nD τ).loc cc0_scratch0)) (xa1 : Buf (Elt F) ((c : Thread nD τ).loc cc0_scratch1)) (xa2 : Buf (Elt F) ((c : Thread nD τ).loc cc0_scratch2)) K => by
    unfold owns
    rw [cc0_moe_experts_eq_skeleton]; unfold cc0_moe_experts_skel
    iintro ⟨H0, H1, H2, H3, HT0, HT1, HT2, HT3, HT4, ⟨%d4, %f4, -, HO4⟩, HS0, HS1, HS2, Hk⟩

    have hS0 : sc0.IsWhole := Memref.isWhole_whole _
    have hS1 : sc1.IsWhole := Memref.isWhole_whole _
    have hS2 : sc2.IsWhole := Memref.isWhole_whole _
    have hT0 : tb0.IsWhole := Memref.isWhole_whole _
    have hT1 : tb1.IsWhole := Memref.isWhole_whole _
    have hT2 : tb2.IsWhole := Memref.isWhole_whole _
    have hT3 : tb3.IsWhole := Memref.isWhole_whole _
    have hT4 : tb4.IsWhole := Memref.isWhole_whole _
    sl_exec! (disch := first | (guard_target = k0_cond1 _ _ = _; exact h1) | (guard_target = Scalar.cmpi = _; exact hl) | (guard_target = k0_cond3 _ _ _ = _; exact h3) | (guard_target = ¬(k0_cond4 _ _ _ = _); exact h4))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HT2]; · iexact HT2
    isplitl [HT3]; · iexact HT3
    isplitl [HT4]; · iexact HT4
    isplitl [HO4]; · iexists _; iexact HO4
    isplitl [HS0]; · iexact HS0
    isplitl [HS1]; · iexact HS1
    iexact HS2⟩

set_option backward.proofsInPublic true in
set_option maxHeartbeats 40000000 in
/-- A visit of the plan, a later one of its tile, keeping the weights: the pieces it leaves in the output's buffer and what the scratches then hold, found by
    the run, with the proof that the body runs to them. -/
def runB (c : Dev nD) (i : grid0.Coords) (arg6 : Memref sig .tc .vmem S8192x128 .f32) (harg6 : arg6.IsWhole) (arg7 : Memref sig .tc .vmem S1x1x2048x512 .f32) (harg7 : arg7.IsWhole) (arg8 : Memref sig .tc .vmem S1x1x2048x512 .f32) (harg8 : arg8.IsWhole) (arg9 : Memref sig .tc .vmem S1x1x512x2048 .f32) (harg9 : arg9.IsWhole) (arg10 : Memref sig .tc .vmem S8192x128 .f32) (harg10 : arg10.IsWhole)
    (T0 T1 T2 T3 : S51.Idx → Elt F .i32) (T4 : S1.Idx → Elt F .i32)
    (x0 : S8192x128.Idx → Elt F .f32) (x1 x2 : S1x1x2048x512.Idx → Elt F .f32) (x3 : S1x1x512x2048.Idx → Elt F .f32)
    (xo : S8192x128.Idx → Elt F .f32)
    (xa0 : Buf (Elt F) ((c : Thread nD τ).loc cc0_scratch0)) (xa1 : Buf (Elt F) ((c : Thread nD τ).loc cc0_scratch1)) (xa2 : Buf (Elt F) ((c : Thread nD τ).loc cc0_scratch2))
    (h1 : H1 i T4) (hl : ¬ HL i T1) (h3 : ¬ H3 i T0) (h4 : H4 i T0) :
    Σ' (out0 : List (View.Piece (Elt F) S8192x128 .f32)) (out1 : Buf (Elt F) ((c : Thread nD τ).loc cc0_scratch0)) (out2 : Buf (Elt F) ((c : Thread nD τ).loc cc0_scratch1)), { out3 : Buf (Elt F) ((c : Thread nD τ).loc cc0_scratch2) //
      ∀ (K : PUnit → sProp 𝕄),
        iprop((arg6.view.loc (c : Thread nD τ) ↦[arg6.view.set]{fullShare} arg6.view.rep x0)
          ∗ (arg7.view.loc (c : Thread nD τ) ↦[arg7.view.set]{fullShare} arg7.view.rep x1)
          ∗ (arg8.view.loc (c : Thread nD τ) ↦[arg8.view.set]{fullShare} arg8.view.rep x2)
          ∗ (arg9.view.loc (c : Thread nD τ) ↦[arg9.view.set]{fullShare} arg9.view.rep x3)
          ∗ (tb0.view.loc (c : Thread nD τ) ↦{fullShare.right} T0)
          ∗ (tb1.view.loc (c : Thread nD τ) ↦{fullShare.right} T1)
          ∗ (tb2.view.loc (c : Thread nD τ) ↦{fullShare.right} T2)
          ∗ (tb3.view.loc (c : Thread nD τ) ↦{fullShare.right} T3)
          ∗ (tb4.view.loc (c : Thread nD τ) ↦{fullShare.right} T4)
          ∗ owns (c : Thread nD τ) arg10 fullShare xo
          ∗ (sc0.view.loc (c : Thread nD τ) ↦{fullShare} xa0)
          ∗ (sc1.view.loc (c : Thread nD τ) ↦{fullShare} xa1)
          ∗ (sc2.view.loc (c : Thread nD τ) ↦{fullShare} xa2)
          ∗ (iprop((arg6.view.loc (c : Thread nD τ) ↦[arg6.view.set]{fullShare} arg6.view.rep x0)
          ∗ (arg7.view.loc (c : Thread nD τ) ↦[arg7.view.set]{fullShare} arg7.view.rep x1)
          ∗ (arg8.view.loc (c : Thread nD τ) ↦[arg8.view.set]{fullShare} arg8.view.rep x2)
          ∗ (arg9.view.loc (c : Thread nD τ) ↦[arg9.view.set]{fullShare} arg9.view.rep x3)
          ∗ (tb0.view.loc (c : Thread nD τ) ↦{fullShare.right} T0)
          ∗ (tb1.view.loc (c : Thread nD τ) ↦{fullShare.right} T1)
          ∗ (tb2.view.loc (c : Thread nD τ) ↦{fullShare.right} T2)
          ∗ (tb3.view.loc (c : Thread nD τ) ↦{fullShare.right} T3)
          ∗ (tb4.view.loc (c : Thread nD τ) ↦{fullShare.right} T4)
          ∗ (∃ f, arg10.view.loc (c : Thread nD τ) ↦[arg10.view.set]{fullShare} arg10.view.writes (Elt F) f out0)
          ∗ (sc0.view.loc (c : Thread nD τ) ↦{fullShare} out1)
          ∗ (sc1.view.loc (c : Thread nD τ) ↦{fullShare} out2)
          ∗ (sc2.view.loc (c : Thread nD τ) ↦{fullShare} out3)) -∗ K ⟨⟩))
          ⊢ wp frame (wpE (defs₀ (F := F)) Variants.none c none) Set.univ (cc0_moe_experts i tb0 (Memref.isWhole_whole _) tb1 (Memref.isWhole_whole _) tb2 (Memref.isWhole_whole _) tb3 (Memref.isWhole_whole _) tb4 (Memref.isWhole_whole _) arg6 harg6 arg7 harg7 arg8 harg8 arg9 harg9 arg10 harg10 sc0 (Memref.isWhole_whole _) sc1 (Memref.isWhole_whole _) sc2 (Memref.isWhole_whole _)) K } :=
  ⟨_, _, _, _, fun K => by
    unfold owns
    rw [cc0_moe_experts_eq_skeleton]; unfold cc0_moe_experts_skel
    iintro ⟨H0, H1, H2, H3, HT0, HT1, HT2, HT3, HT4, ⟨%f4, %hf4, HO4⟩, HS0, HS1, HS2, Hk⟩
    obtain rfl := harg10.eq_unread hf4
    have hS0 : sc0.IsWhole := Memref.isWhole_whole _
    have hS1 : sc1.IsWhole := Memref.isWhole_whole _
    have hS2 : sc2.IsWhole := Memref.isWhole_whole _
    have hT0 : tb0.IsWhole := Memref.isWhole_whole _
    have hT1 : tb1.IsWhole := Memref.isWhole_whole _
    have hT2 : tb2.IsWhole := Memref.isWhole_whole _
    have hT3 : tb3.IsWhole := Memref.isWhole_whole _
    have hT4 : tb4.IsWhole := Memref.isWhole_whole _
    sl_exec! (disch := first | (guard_target = k0_cond1 _ _ = _; exact h1) | (guard_target = ¬(Scalar.cmpi = _); exact hl) | (guard_target = ¬(k0_cond3 _ _ _ = _); exact h3) | (guard_target = k0_cond4 _ _ _ = _; exact h4))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HT2]; · iexact HT2
    isplitl [HT3]; · iexact HT3
    isplitl [HT4]; · iexact HT4
    isplitl [HO4]; · iexists _; iexact HO4
    isplitl [HS0]; · iexact HS0
    isplitl [HS1]; · iexact HS1
    iexact HS2⟩

set_option backward.proofsInPublic true in
set_option maxHeartbeats 40000000 in
/-- A visit of the plan, first of its tile, keeping the weights: the pieces it leaves in the output's buffer and what the scratches then hold, found by
    the run, with the proof that the body runs to them. -/
def runC (c : Dev nD) (i : grid0.Coords) (arg6 : Memref sig .tc .vmem S8192x128 .f32) (harg6 : arg6.IsWhole) (arg7 : Memref sig .tc .vmem S1x1x2048x512 .f32) (harg7 : arg7.IsWhole) (arg8 : Memref sig .tc .vmem S1x1x2048x512 .f32) (harg8 : arg8.IsWhole) (arg9 : Memref sig .tc .vmem S1x1x512x2048 .f32) (harg9 : arg9.IsWhole) (arg10 : Memref sig .tc .vmem S8192x128 .f32) (harg10 : arg10.IsWhole)
    (T0 T1 T2 T3 : S51.Idx → Elt F .i32) (T4 : S1.Idx → Elt F .i32)
    (x0 : S8192x128.Idx → Elt F .f32) (x1 x2 : S1x1x2048x512.Idx → Elt F .f32) (x3 : S1x1x512x2048.Idx → Elt F .f32)
    (xa0 : Buf (Elt F) ((c : Thread nD τ).loc cc0_scratch0)) (xa1 : Buf (Elt F) ((c : Thread nD τ).loc cc0_scratch1)) (xa2 : Buf (Elt F) ((c : Thread nD τ).loc cc0_scratch2))
    (h1 : H1 i T4) (hl : ¬ HL i T1) (h3 : H3 i T0) (h4 : ¬ H4 i T0) :
    Σ' (out0 : List (View.Piece (Elt F) S8192x128 .f32)) (out1 : Buf (Elt F) ((c : Thread nD τ).loc cc0_scratch0)) (out2 : Buf (Elt F) ((c : Thread nD τ).loc cc0_scratch1)), { out3 : Buf (Elt F) ((c : Thread nD τ).loc cc0_scratch2) //
      ∀ (K : PUnit → sProp 𝕄),
        iprop((arg6.view.loc (c : Thread nD τ) ↦[arg6.view.set]{fullShare} arg6.view.rep x0)
          ∗ (arg7.view.loc (c : Thread nD τ) ↦[arg7.view.set]{fullShare} arg7.view.rep x1)
          ∗ (arg8.view.loc (c : Thread nD τ) ↦[arg8.view.set]{fullShare} arg8.view.rep x2)
          ∗ (arg9.view.loc (c : Thread nD τ) ↦[arg9.view.set]{fullShare} arg9.view.rep x3)
          ∗ (tb0.view.loc (c : Thread nD τ) ↦{fullShare.right} T0)
          ∗ (tb1.view.loc (c : Thread nD τ) ↦{fullShare.right} T1)
          ∗ (tb2.view.loc (c : Thread nD τ) ↦{fullShare.right} T2)
          ∗ (tb3.view.loc (c : Thread nD τ) ↦{fullShare.right} T3)
          ∗ (tb4.view.loc (c : Thread nD τ) ↦{fullShare.right} T4)
          ∗ (∃ d, owns (c : Thread nD τ) arg10 fullShare d)
          ∗ (sc0.view.loc (c : Thread nD τ) ↦{fullShare} xa0)
          ∗ (sc1.view.loc (c : Thread nD τ) ↦{fullShare} xa1)
          ∗ (sc2.view.loc (c : Thread nD τ) ↦{fullShare} xa2)
          ∗ (iprop((arg6.view.loc (c : Thread nD τ) ↦[arg6.view.set]{fullShare} arg6.view.rep x0)
          ∗ (arg7.view.loc (c : Thread nD τ) ↦[arg7.view.set]{fullShare} arg7.view.rep x1)
          ∗ (arg8.view.loc (c : Thread nD τ) ↦[arg8.view.set]{fullShare} arg8.view.rep x2)
          ∗ (arg9.view.loc (c : Thread nD τ) ↦[arg9.view.set]{fullShare} arg9.view.rep x3)
          ∗ (tb0.view.loc (c : Thread nD τ) ↦{fullShare.right} T0)
          ∗ (tb1.view.loc (c : Thread nD τ) ↦{fullShare.right} T1)
          ∗ (tb2.view.loc (c : Thread nD τ) ↦{fullShare.right} T2)
          ∗ (tb3.view.loc (c : Thread nD τ) ↦{fullShare.right} T3)
          ∗ (tb4.view.loc (c : Thread nD τ) ↦{fullShare.right} T4)
          ∗ (∃ f, arg10.view.loc (c : Thread nD τ) ↦[arg10.view.set]{fullShare} arg10.view.writes (Elt F) f out0)
          ∗ (sc0.view.loc (c : Thread nD τ) ↦{fullShare} out1)
          ∗ (sc1.view.loc (c : Thread nD τ) ↦{fullShare} out2)
          ∗ (sc2.view.loc (c : Thread nD τ) ↦{fullShare} out3)) -∗ K ⟨⟩))
          ⊢ wp frame (wpE (defs₀ (F := F)) Variants.none c none) Set.univ (cc0_moe_experts i tb0 (Memref.isWhole_whole _) tb1 (Memref.isWhole_whole _) tb2 (Memref.isWhole_whole _) tb3 (Memref.isWhole_whole _) tb4 (Memref.isWhole_whole _) arg6 harg6 arg7 harg7 arg8 harg8 arg9 harg9 arg10 harg10 sc0 (Memref.isWhole_whole _) sc1 (Memref.isWhole_whole _) sc2 (Memref.isWhole_whole _)) K } :=
  ⟨_, _, _, _, fun K => by
    unfold owns
    rw [cc0_moe_experts_eq_skeleton]; unfold cc0_moe_experts_skel
    iintro ⟨H0, H1, H2, H3, HT0, HT1, HT2, HT3, HT4, ⟨%d4, %f4, -, HO4⟩, HS0, HS1, HS2, Hk⟩

    have hS0 : sc0.IsWhole := Memref.isWhole_whole _
    have hS1 : sc1.IsWhole := Memref.isWhole_whole _
    have hS2 : sc2.IsWhole := Memref.isWhole_whole _
    have hT0 : tb0.IsWhole := Memref.isWhole_whole _
    have hT1 : tb1.IsWhole := Memref.isWhole_whole _
    have hT2 : tb2.IsWhole := Memref.isWhole_whole _
    have hT3 : tb3.IsWhole := Memref.isWhole_whole _
    have hT4 : tb4.IsWhole := Memref.isWhole_whole _
    sl_exec! (disch := first | (guard_target = k0_cond1 _ _ = _; exact h1) | (guard_target = ¬(Scalar.cmpi = _); exact hl) | (guard_target = k0_cond3 _ _ _ = _; exact h3) | (guard_target = ¬(k0_cond4 _ _ _ = _); exact h4))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HT2]; · iexact HT2
    isplitl [HT3]; · iexact HT3
    isplitl [HT4]; · iexact HT4
    isplitl [HO4]; · iexists _; iexact HO4
    isplitl [HS0]; · iexact HS0
    isplitl [HS1]; · iexact HS1
    iexact HS2⟩

set_option backward.proofsInPublic true in
set_option maxHeartbeats 40000000 in
/-- A visit of the plan, a later one of its tile, loading its weights: the pieces it leaves in the output's buffer and what the scratches then hold, found by
    the run, with the proof that the body runs to them. -/
def runD (c : Dev nD) (i : grid0.Coords) (arg6 : Memref sig .tc .vmem S8192x128 .f32) (harg6 : arg6.IsWhole) (arg7 : Memref sig .tc .vmem S1x1x2048x512 .f32) (harg7 : arg7.IsWhole) (arg8 : Memref sig .tc .vmem S1x1x2048x512 .f32) (harg8 : arg8.IsWhole) (arg9 : Memref sig .tc .vmem S1x1x512x2048 .f32) (harg9 : arg9.IsWhole) (arg10 : Memref sig .tc .vmem S8192x128 .f32) (harg10 : arg10.IsWhole)
    (T0 T1 T2 T3 : S51.Idx → Elt F .i32) (T4 : S1.Idx → Elt F .i32)
    (x0 : S8192x128.Idx → Elt F .f32) (x1 x2 : S1x1x2048x512.Idx → Elt F .f32) (x3 : S1x1x512x2048.Idx → Elt F .f32)
    (xo : S8192x128.Idx → Elt F .f32)
    (h1 : H1 i T4) (hl : HL i T1) (h3 : ¬ H3 i T0) (h4 : H4 i T0) :
    Σ' (out0 : List (View.Piece (Elt F) S8192x128 .f32)) (out1 : Buf (Elt F) ((c : Thread nD τ).loc cc0_scratch0)) (out2 : Buf (Elt F) ((c : Thread nD τ).loc cc0_scratch1)), { out3 : Buf (Elt F) ((c : Thread nD τ).loc cc0_scratch2) //
      ∀ (xa0 : Buf (Elt F) ((c : Thread nD τ).loc cc0_scratch0)) (xa1 : Buf (Elt F) ((c : Thread nD τ).loc cc0_scratch1)) (xa2 : Buf (Elt F) ((c : Thread nD τ).loc cc0_scratch2)) (K : PUnit → sProp 𝕄),
        iprop((arg6.view.loc (c : Thread nD τ) ↦[arg6.view.set]{fullShare} arg6.view.rep x0)
          ∗ (arg7.view.loc (c : Thread nD τ) ↦[arg7.view.set]{fullShare} arg7.view.rep x1)
          ∗ (arg8.view.loc (c : Thread nD τ) ↦[arg8.view.set]{fullShare} arg8.view.rep x2)
          ∗ (arg9.view.loc (c : Thread nD τ) ↦[arg9.view.set]{fullShare} arg9.view.rep x3)
          ∗ (tb0.view.loc (c : Thread nD τ) ↦{fullShare.right} T0)
          ∗ (tb1.view.loc (c : Thread nD τ) ↦{fullShare.right} T1)
          ∗ (tb2.view.loc (c : Thread nD τ) ↦{fullShare.right} T2)
          ∗ (tb3.view.loc (c : Thread nD τ) ↦{fullShare.right} T3)
          ∗ (tb4.view.loc (c : Thread nD τ) ↦{fullShare.right} T4)
          ∗ owns (c : Thread nD τ) arg10 fullShare xo
          ∗ (sc0.view.loc (c : Thread nD τ) ↦{fullShare} xa0)
          ∗ (sc1.view.loc (c : Thread nD τ) ↦{fullShare} xa1)
          ∗ (sc2.view.loc (c : Thread nD τ) ↦{fullShare} xa2)
          ∗ (iprop((arg6.view.loc (c : Thread nD τ) ↦[arg6.view.set]{fullShare} arg6.view.rep x0)
          ∗ (arg7.view.loc (c : Thread nD τ) ↦[arg7.view.set]{fullShare} arg7.view.rep x1)
          ∗ (arg8.view.loc (c : Thread nD τ) ↦[arg8.view.set]{fullShare} arg8.view.rep x2)
          ∗ (arg9.view.loc (c : Thread nD τ) ↦[arg9.view.set]{fullShare} arg9.view.rep x3)
          ∗ (tb0.view.loc (c : Thread nD τ) ↦{fullShare.right} T0)
          ∗ (tb1.view.loc (c : Thread nD τ) ↦{fullShare.right} T1)
          ∗ (tb2.view.loc (c : Thread nD τ) ↦{fullShare.right} T2)
          ∗ (tb3.view.loc (c : Thread nD τ) ↦{fullShare.right} T3)
          ∗ (tb4.view.loc (c : Thread nD τ) ↦{fullShare.right} T4)
          ∗ (∃ f, arg10.view.loc (c : Thread nD τ) ↦[arg10.view.set]{fullShare} arg10.view.writes (Elt F) f out0)
          ∗ (sc0.view.loc (c : Thread nD τ) ↦{fullShare} out1)
          ∗ (sc1.view.loc (c : Thread nD τ) ↦{fullShare} out2)
          ∗ (sc2.view.loc (c : Thread nD τ) ↦{fullShare} out3)) -∗ K ⟨⟩))
          ⊢ wp frame (wpE (defs₀ (F := F)) Variants.none c none) Set.univ (cc0_moe_experts i tb0 (Memref.isWhole_whole _) tb1 (Memref.isWhole_whole _) tb2 (Memref.isWhole_whole _) tb3 (Memref.isWhole_whole _) tb4 (Memref.isWhole_whole _) arg6 harg6 arg7 harg7 arg8 harg8 arg9 harg9 arg10 harg10 sc0 (Memref.isWhole_whole _) sc1 (Memref.isWhole_whole _) sc2 (Memref.isWhole_whole _)) K } :=
  ⟨_, _, _, _, fun (xa0 : Buf (Elt F) ((c : Thread nD τ).loc cc0_scratch0)) (xa1 : Buf (Elt F) ((c : Thread nD τ).loc cc0_scratch1)) (xa2 : Buf (Elt F) ((c : Thread nD τ).loc cc0_scratch2)) K => by
    unfold owns
    rw [cc0_moe_experts_eq_skeleton]; unfold cc0_moe_experts_skel
    iintro ⟨H0, H1, H2, H3, HT0, HT1, HT2, HT3, HT4, ⟨%f4, %hf4, HO4⟩, HS0, HS1, HS2, Hk⟩
    obtain rfl := harg10.eq_unread hf4
    have hS0 : sc0.IsWhole := Memref.isWhole_whole _
    have hS1 : sc1.IsWhole := Memref.isWhole_whole _
    have hS2 : sc2.IsWhole := Memref.isWhole_whole _
    have hT0 : tb0.IsWhole := Memref.isWhole_whole _
    have hT1 : tb1.IsWhole := Memref.isWhole_whole _
    have hT2 : tb2.IsWhole := Memref.isWhole_whole _
    have hT3 : tb3.IsWhole := Memref.isWhole_whole _
    have hT4 : tb4.IsWhole := Memref.isWhole_whole _
    sl_exec! (disch := first | (guard_target = k0_cond1 _ _ = _; exact h1) | (guard_target = Scalar.cmpi = _; exact hl) | (guard_target = ¬(k0_cond3 _ _ _ = _); exact h3) | (guard_target = k0_cond4 _ _ _ = _; exact h4))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HT2]; · iexact HT2
    isplitl [HT3]; · iexact HT3
    isplitl [HT4]; · iexact HT4
    isplitl [HO4]; · iexists _; iexact HO4
    isplitl [HS0]; · iexact HS0
    isplitl [HS1]; · iexact HS1
    iexact HS2⟩

end Cert.ExpIdeal.Tab
-- ==== Proof.ExpIdealFr.lean ====
module

public import proofs.«01_k».proof.Proof.ExpIdealRuns

@[expose] public section

set_option maxRecDepth 16384
set_option Elab.async false

noncomputable section

namespace Cert.ExpIdeal.Tab

open Cert.ExpIdeal Cert.ExpIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

attribute [local irreducible] runA runB runC runD

variable {F : FTy → Type} [FloatOps F]

local notation "𝕄" => MT nD τ sig Unit (Elt F) ℕ (UR sig nD τ) ℕ

/-! ## The pieces a visit stores cover its tile -/

/-- The rows `16 r + k` of a tile, `k` a chunk. -/
abbrev RK (k : Fin 16) : Rect S8192x128 :=
  ⟨⟨![k.val, 0], S512x128.size, ![16, 1], by
      have hk := k.isLt
      intro a
      match a with
      | ⟨0, _⟩ => exact .inr (show k.val + 16 * (512 - 1) < 8192 by omega)
      | ⟨1, _⟩ => exact .inr (show 0 + 1 * (128 - 1) < 128 by omega)⟩, spos_16_1⟩

theorem mem_RK (y : S8192x128.Idx) : y ∈ (RK ⟨(y 0).val % 16, Nat.mod_lt _ (by decide)⟩).set := by
  rw [LoadRect.mem_set]
  intro a; fin_cases a
  · refine ⟨(y 0).val / 16, ?_, ?_⟩
    · have := (y 0).isLt
      show _ < 512
      have h8 : (y 0).val < 8192 := this
      omega
    · show _ = (y 0).val % 16 + 16 * ((y 0).val / 16)
      exact (Nat.mod_add_div _ _).symm
  · refine ⟨(y 1).val, (y 1).isLt, ?_⟩
    show _ = 0 + 1 * (y 1).val
    show (y 1).val = _
    omega

/-- Pieces on all sixteen row families cover the tile. -/
theorem cover_of_rows (L : List (View.Piece (Elt F) S8192x128 .f32)) (hL : L.map Sigma.fst = (List.ofFn RK).reverse) (y : S8192x128.Idx) :
    ∃ pc ∈ L, y ∈ pc.1.set := by
  have h : RK ⟨(y 0).val % 16, Nat.mod_lt _ (by decide)⟩ ∈ L.map Sigma.fst := by
    rw [hL, List.mem_reverse, List.mem_ofFn]; exact ⟨_, rfl⟩
  obtain ⟨pc, hp, he⟩ := List.mem_map.mp h
  exact ⟨pc, hp, by rw [he]; exact mem_RK y⟩

/-! ## The tables -/

/-- The index `v` of a table. -/
abbrev tix (v : Fin 51) : S51.Idx := fun a => ⟨v.val, match a with | ⟨0, _⟩ => v.isLt⟩

theorem coord_lt (i : grid0.Coords) : (i 0).val < 51 := (i 0).isLt

theorem off1_eq (i : grid0.Coords) : k0_off1 i = ![(i 0).val] := by
  have h := coord_lt i
  unfold k0_off1; simp only [Scalar.indexCast]
  congr 1
  generalize (i 0).val = n at h ⊢
  interval_cases n <;> rfl
theorem off2_eq (i : grid0.Coords) : k0_off2 i = ![(i 0).val] := off1_eq i
theorem off4_eq (i : grid0.Coords) : k0_off4 i = ![(i 0).val] := off1_eq i
theorem off5_eq (i : grid0.Coords) : k0_off5 i = ![(i 0).val - 1] := by
  have h := coord_lt i
  unfold k0_off5; simp only [Scalar.indexCast]
  congr 1
  generalize (i 0).val = n at h ⊢
  interval_cases n <;> rfl
theorem off3_eq (i : grid0.Coords) : k0_off3 i = ![(i 0).val - 1] := off5_eq i

theorem at_eq (T : S51.Idx → BitVec 32) (off : Fin 1 → ℕ) (inb : ∀ a, off a + S1.size a ≤ S51.size a) (n : ℕ) (hn : n < 51) (h : off = ![n]) (z : S1.Idx) :
    T ((Rect.unit (s := S51) off S1.size inb).idx z) = T (tix ⟨n, hn⟩) := by
  subst h
  congr 1
  funext a
  match a with
  | ⟨0, _⟩ =>
    apply Fin.ext
    have hz : (z 0).val = 0 := by have : (z 0).val < 1 := (z 0).isLt; omega
    show n + 1 * (z 0).val = n
    omega

theorem wt_eq (i : grid0.Coords) (T : S51.Idx → BitVec 32) : wt (F := F) i T = T (tix ⟨(i 0).val, coord_lt i⟩) := at_eq T _ _ _ _ (off4_eq i) _
theorem wtp_eq (i : grid0.Coords) (T : S51.Idx → BitVec 32) : wtp (F := F) i T = T (tix ⟨(i 0).val - 1, by have := coord_lt i; omega⟩) := at_eq T _ _ _ _ (off5_eq i) _
theorem we_eq (i : grid0.Coords) (T : S51.Idx → BitVec 32) : we (F := F) i T = T (tix ⟨(i 0).val, coord_lt i⟩) := at_eq T _ _ _ _ (off2_eq i) _
theorem wep_eq (i : grid0.Coords) (T : S51.Idx → BitVec 32) : wep (F := F) i T = T (tix ⟨(i 0).val - 1, by have := coord_lt i; omega⟩) := at_eq T _ _ _ _ (off3_eq i) _

/-- What the tables must satisfy: tiles and experts in range, and no tile first visited past the plan's last visit. -/
structure Good (pf : pre0.Contents (Elt F)) : Prop where
  tile : ∀ v : Fin 51, BitVec.toNat (pf 0 (tix v)) < 36
  exp : ∀ v : Fin 51, BitVec.toNat (pf 1 (tix v)) < 16
  idle : ∀ i : grid0.Coords, ¬ H1 i (pf 4) → ¬ H3 i (pf 0)

theorem tr_rows (pf : pre0.Contents (Elt F)) (i : grid0.Coords) : cc0_transform_4 k0_off1_inb numel1_S1 pf i = ![BitVec.toNat (pf 0 (tix ⟨(i 0).val, coord_lt i⟩)), 0] := by
  have h := at_eq (pf 0) _ (k0_off1_inb i) _ (coord_lt i) (off1_eq i) (Shape.Idx.first (numel1_S1.symm ▸ Nat.one_pos))
  unfold cc0_transform_4; exact congrArg (fun x : BitVec 32 => (![x.toNat, 0] : Fin 2 → ℕ)) h
theorem tr_x (pf : pre0.Contents (Elt F)) (i : grid0.Coords) : cc0_transform_0 k0_off1_inb numel1_S1 pf i = ![BitVec.toNat (pf 0 (tix ⟨(i 0).val, coord_lt i⟩)), 0] := tr_rows pf i
theorem tr_w (pf : pre0.Contents (Elt F)) (i : grid0.Coords) : cc0_transform_1 k0_off1_inb numel1_S1 pf i = ![0, BitVec.toNat (pf 1 (tix ⟨(i 0).val, coord_lt i⟩)), 0, 0] := by
  have h := at_eq (pf 1) _ (k0_off1_inb i) _ (coord_lt i) (off1_eq i) (Shape.Idx.first (numel1_S1.symm ▸ Nat.one_pos))
  unfold cc0_transform_1; exact congrArg (fun x : BitVec 32 => (![0, x.toNat, 0, 0] : Fin 4 → ℕ)) h

theorem ok_of_good (pf : pre0.Contents (Elt F)) (h : Good pf) : ok0 (F := F) pf := by
  have hx : ∀ i : grid0.Coords, ∀ a, (cc0_transform_4 k0_off1_inb numel1_S1 pf i a + 1) * S8192x128.size a ≤ S294912x128.size a := fun i a => by
    rw [tr_rows]; have := h.tile ⟨(i 0).val, coord_lt i⟩
    match a with
    | ⟨0, _⟩ =>
      show (BitVec.toNat (pf 0 (tix ⟨(i 0).val, coord_lt i⟩)) + 1) * 8192 ≤ 294912
      omega
    | ⟨1, _⟩ => exact (by decide : (0 + 1) * 128 ≤ 128)
  have hw : ∀ i : grid0.Coords, ∀ a, (cc0_transform_1 k0_off1_inb numel1_S1 pf i a + 1) * S1x1x2048x512.size a ≤ S2x16x2048x512.size a := fun i a => by
    rw [tr_w]; have := h.exp ⟨(i 0).val, coord_lt i⟩
    match a with
    | ⟨0, _⟩ => exact (by decide : (0 + 1) * 1 ≤ 2)
    | ⟨1, _⟩ =>
      show (BitVec.toNat (pf 1 (tix ⟨(i 0).val, coord_lt i⟩)) + 1) * 1 ≤ 16
      omega
    | ⟨2, _⟩ => exact (by decide : (0 + 1) * 2048 ≤ 2048)
    | ⟨3, _⟩ => exact (by decide : (0 + 1) * 512 ≤ 512)
  have hd : ∀ i : grid0.Coords, ∀ a, (cc0_transform_1 k0_off1_inb numel1_S1 pf i a + 1) * S1x1x512x2048.size a ≤ S2x16x512x2048.size a := fun i a => by
    rw [tr_w]; have := h.exp ⟨(i 0).val, coord_lt i⟩
    match a with
    | ⟨0, _⟩ => exact (by decide : (0 + 1) * 1 ≤ 2)
    | ⟨1, _⟩ =>
      show (BitVec.toNat (pf 1 (tix ⟨(i 0).val, coord_lt i⟩)) + 1) * 1 ≤ 16
      omega
    | ⟨2, _⟩ => exact (by decide : (0 + 1) * 512 ≤ 512)
    | ⟨3, _⟩ => exact (by decide : (0 + 1) * 2048 ≤ 2048)
  exact ⟨fun i => ⟨hx i, .inl rfl⟩, fun i => ⟨hw i, .inl rfl⟩, fun i => ⟨hw i, .inl rfl⟩, fun i => ⟨hd i, .inl rfl⟩, fun i => ⟨hx i, .inl rfl⟩⟩

/-! ## The decisions -/

theorem h3_zero (i : grid0.Coords) (T : S51.Idx → Elt F .i32) (h : (i 0).val = 0) : H3 i T := by
  show k0_cond3 i _ _ = 1#1
  unfold k0_cond3; rw [h]
  generalize Scalar.cmpi .ne (wt i T) (wtp i T) = b
  revert b; decide
theorem hl_zero (i : grid0.Coords) (T : S51.Idx → Elt F .i32) (h : (i 0).val = 0) : HL i T := by
  show Scalar.cmpi .ne (Scalar.extui (Scalar.ori (Scalar.cmpi .eq (BitVec.ofNat 32 (i 0).val) 0#32) _)) 0#32 = 1#1
  rw [h]
  generalize Scalar.cmpi .ne (we i T) (wep i T) = b
  revert b; decide
theorem not_bit : ∀ b : BitVec 1, Scalar.cmpi .ne (Scalar.extui (Scalar.xori b 1#1)) 0#32 = 1#1 ↔ ¬ Scalar.cmpi .ne (Scalar.extui b) 0#32 = 1#1 := by decide
theorem or_bit : ∀ b : BitVec 1, Scalar.cmpi .ne (Scalar.extui (Scalar.ori b 1#1)) 0#32 = 1#1 := by decide
theorem ne_bit (x y : BitVec 32) (h : x ≠ y) : Scalar.cmpi .ne x y = 1#1 := by
  unfold Scalar.cmpi IntOp.cmpi; simp only [bne_iff_ne, ne_eq, h, not_false_eq_true, BitVec.ofBool_true, (bne_iff_ne).mpr h]; rfl
theorem h4_iff (i : grid0.Coords) (T : S51.Idx → Elt F .i32) : H4 i T ↔ ¬ H3 i T := by
  show k0_cond4 i _ _ = 1#1 ↔ ¬ k0_cond3 i _ _ = 1#1
  unfold k0_cond3 k0_cond4
  exact not_bit _
theorem same_of_not_h3 (i : grid0.Coords) (T : S51.Idx → BitVec 32) (h : ¬ H3 (F := F) i T) :
    T (tix ⟨(i 0).val, coord_lt i⟩) = T (tix ⟨(i 0).val - 1, by have := coord_lt i; omega⟩) := by
  refine (wt_eq (F := F) i T).symm.trans (Eq.trans ?_ (wtp_eq (F := F) i T))
  by_contra hne
  apply h
  show k0_cond3 i _ _ = 1#1
  unfold k0_cond3
  rw [ne_bit _ _ hne]
  exact or_bit _

/-! ## The pipeline at the tables -/

theorem atD_eq (pf : pre0.Contents (Elt F)) (off : Fin 1 → ℕ) (inb : ∀ a, off a + S1.size a ≤ S51.size a) (z : S1.Idx) :
    pf.atD 0 off = pf 0 ((Rect.unit (s := S51) off S1.size inb).idx z) := by
  have h : ∀ a : Fin 1, off a + 1 ≤ S51.size a := fun a => by
    have := inb a
    match a with
    | ⟨0, _⟩ => exact this
  unfold Pipeline.Prefetch.Contents.atD
  refine (dif_pos h).trans ?_
  congr 1
  funext a
  match a with
  | ⟨0, _⟩ =>
    apply Fin.ext
    have hz : (z 0).val = 0 := by have : (z 0).val < 1 := (z 0).isLt; omega
    show off 0 = off 0 + 1 * (z 0).val
    omega

theorem atD_n (pf : pre0.Contents (Elt F)) : pf.atD 4 ![0] = wn (pf 4) := by
  unfold Pipeline.Prefetch.Contents.atD
  refine (dif_pos (show ∀ a : Fin 1, (![0] : Fin 1 → ℕ) a + 1 ≤ S1.size a from fun a => match a with | ⟨0, _⟩ => (by decide : 0 + 1 ≤ 1))).trans ?_
  show pf 4 _ = pf 4 _
  congr 1
theorem atD_t (i : grid0.Coords) (pf : pre0.Contents (Elt F)) : pf.atD 0 (k0_off4 i) = wt i (pf 0) := atD_eq pf _ (k0_off4_inb i) _
theorem atD_tp (i : grid0.Coords) (pf : pre0.Contents (Elt F)) : pf.atD 0 (k0_off5 i) = wtp i (pf 0) := atD_eq pf _ (k0_off5_inb i) _

variable (a : (pcfg0 (F := F)).Adm)

abbrev cfgA : Pipeline.Cfg sig Λ₀ := cfg0 (F := F) a
abbrev pcs : Fin 1 → Pipeline.Cfg sig Λ₀ := Pipeline.pin (pcfgs (F := F)) fun _ => a
abbrev EP : Emb (UR sig nD τ) 𝕄 := emb₁

/-- The tables' contents. -/
abbrev T0 : S51.Idx → Elt F .i32 := a.1 0
abbrev T1 : S51.Idx → Elt F .i32 := a.1 1
abbrev T2 : S51.Idx → Elt F .i32 := a.1 2
abbrev T3 : S51.Idx → Elt F .i32 := a.1 3
abbrev T4 : S1.Idx → Elt F .i32 := a.1 4

/-- Point `t`'s coordinates, and each window's staging memref there. -/
abbrev crd (t : Fin (cfgA a).N) : (cfgA a).grid.Coords := (cfgA a).grid.coords t
abbrev ms0_0 (t : Fin (cfgA a).N) : Memref sig .tc .vmem S8192x128 .f32 := spec0_0.stage ((cfgA a).slots t (0 : Fin 5))
abbrev hs0_0 (t : Fin (cfgA a).N) : (ms0_0 a t).IsWhole := hstage0_0 (((cfgA a).slots t (0 : Fin 5)).cast nbuf0_0)
abbrev ms0_1 (t : Fin (cfgA a).N) : Memref sig .tc .vmem S1x1x2048x512 .f32 := spec0_1.stage ((cfgA a).slots t (1 : Fin 5))
abbrev hs0_1 (t : Fin (cfgA a).N) : (ms0_1 a t).IsWhole := hstage0_1 (((cfgA a).slots t (1 : Fin 5)).cast nbuf0_1)
abbrev ms0_2 (t : Fin (cfgA a).N) : Memref sig .tc .vmem S1x1x2048x512 .f32 := spec0_2.stage ((cfgA a).slots t (2 : Fin 5))
abbrev hs0_2 (t : Fin (cfgA a).N) : (ms0_2 a t).IsWhole := hstage0_2 (((cfgA a).slots t (2 : Fin 5)).cast nbuf0_2)
abbrev ms0_3 (t : Fin (cfgA a).N) : Memref sig .tc .vmem S1x1x512x2048 .f32 := spec0_3.stage ((cfgA a).slots t (3 : Fin 5))
abbrev hs0_3 (t : Fin (cfgA a).N) : (ms0_3 a t).IsWhole := hstage0_3 (((cfgA a).slots t (3 : Fin 5)).cast nbuf0_3)
abbrev ms0_4 (t : Fin (cfgA a).N) : Memref sig .tc .vmem S8192x128 .f32 := spec0_4.stage ((cfgA a).slots t (4 : Fin 5))
abbrev hs0_4 (t : Fin (cfgA a).N) : (ms0_4 a t).IsWhole := hstage0_4 (((cfgA a).slots t (4 : Fin 5)).cast nbuf0_4)

theorem crd_val : ∀ t : Fin grid0.N, (grid0.coords t 0).val = t.val := by decide +kernel

/-- What the decisions are at point `t`. -/
abbrev Q1 (t : Fin (cfgA a).N) : Prop := H1 (crd a t) (T4 a)
abbrev QL (t : Fin (cfgA a).N) : Prop := HL (crd a t) (T1 a)
abbrev Q3 (t : Fin (cfgA a).N) : Prop := H3 (crd a t) (T0 a)
abbrev Q4 (t : Fin (cfgA a).N) : Prop := H4 (crd a t) (T0 a)

theorem q4_of (t : Fin (cfgA a).N) (h : ¬ Q3 a t) : Q4 a t := (h4_iff _ _).mpr h
theorem nq4_of (t : Fin (cfgA a).N) (h : Q3 a t) : ¬ Q4 a t := fun h4 => (h4_iff _ _).mp h4 h

theorem idle_eq (t : Fin (cfgA a).N) : (cfgA a).idle (4 : Fin 5) ((cfgA a).grid.coords t) =
    (!(k0_cond1 (crd a t) (wn (T4 a)) == 1#1 && k0_cond3 (crd a t) (wt (crd a t) (T0 a)) (wtp (crd a t) (T0 a)) == 1#1) && !(k0_cond1 (crd a t) (wn (T4 a)) == 1#1 && k0_cond4 (crd a t) (wt (crd a t) (T0 a)) (wtp (crd a t) (T0 a)) == 1#1)) := by
  show idle0 a.1 4 (crd a t) = _
  rw [← atD_n a.1, ← atD_t _ a.1, ← atD_tp _ a.1]

theorem idle_live (t : Fin (cfgA a).N) (h : Q1 a t) : (cfgA a).idle (4 : Fin 5) ((cfgA a).grid.coords t) = false := by
  rw [idle_eq]
  have h1 : k0_cond1 (crd a t) (wn (T4 a)) = 1#1 := h
  by_cases h3 : Q3 a t
  · have h3' : k0_cond3 (crd a t) (wt (crd a t) (T0 a)) (wtp (crd a t) (T0 a)) = 1#1 := h3
    simp only [h1, h3', beq_self_eq_true, Bool.and_self, Bool.not_true, Bool.false_and]
  · have h4' : k0_cond4 (crd a t) (wt (crd a t) (T0 a)) (wtp (crd a t) (T0 a)) = 1#1 := q4_of a t h3
    simp only [h1, h4', beq_self_eq_true, Bool.and_self, Bool.not_true, Bool.and_false]

theorem idle_dead (t : Fin (cfgA a).N) (h : ¬ Q1 a t) : (cfgA a).idle (4 : Fin 5) ((cfgA a).grid.coords t) = true := by
  rw [idle_eq]
  have h1 : (k0_cond1 (crd a t) (wn (T4 a)) == 1#1) = false := beq_false_of_ne h
  simp only [h1, Bool.false_and, Bool.not_false, Bool.and_self]

theorem q3_zero (t : Fin (cfgA a).N) (h : t.val = 0) : Q3 a t := h3_zero _ _ ((crd_val t).trans h)
theorem ql_zero (t : Fin (cfgA a).N) (h : t.val = 0) : QL a t := hl_zero _ _ ((crd_val t).trans h)

theorem tix_congr {x y : Fin 51} (h : x.val = y.val) : tix x = tix y := by rw [Fin.ext h]

/-- A point that is not its tile's first comes after one that does not write the tile back. -/
theorem no_flush (n : ℕ) (h : n + 1 < (cfgA a).N) (h3 : ¬ Q3 a ⟨n + 1, h⟩) :
    ((cfgA a).win (4 : Fin 5)).flush ⟨n, Nat.lt_of_succ_lt h⟩ = false := by
  rw [Pipeline.Window.flush_eq_flushF]
  unfold Pipeline.Window.flushF
  have hN : n + 1 ≠ (cfgA a).grid.N := Nat.ne_of_lt h
  have hs : ∀ (h' : n + 1 < (cfgA a).grid.N) (b : Fin 2), ((cfgA a).win (4 : Fin 5)).index ⟨n + 1, h'⟩ b = ((cfgA a).win (4 : Fin 5)).index ⟨n, Nat.lt_of_succ_lt h⟩ b := by
    intro h' b
    show cc0_transform_4 k0_off1_inb numel1_S1 a.1 (grid0.coords ⟨n + 1, h'⟩) b = cc0_transform_4 k0_off1_inb numel1_S1 a.1 (grid0.coords ⟨n, Nat.lt_of_succ_lt h⟩) b
    rw [tr_rows, tr_rows]
    have e := same_of_not_h3 _ _ h3
    have e1 : tix ⟨((crd a ⟨n + 1, h⟩) 0).val - 1, by have := coord_lt (crd a ⟨n + 1, h⟩); omega⟩ = tix ⟨(grid0.coords ⟨n, Nat.lt_of_succ_lt h⟩ 0).val, coord_lt _⟩ :=
      tix_congr (by show (grid0.coords ⟨n + 1, h⟩ 0).val - 1 = _; rw [crd_val, crd_val]; rfl)
    rw [e1] at e
    exact congrArg (fun x : BitVec 32 => (![x.toNat, 0] : Fin 2 → ℕ) b) e
  rw [Bool.and_eq_false_iff]; right
  rw [Bool.or_eq_false_iff]
  refine ⟨decide_eq_false hN, decide_eq_false ?_⟩
  rintro ⟨h', b, hb⟩
  exact hb (hs h' b)

/-- Its buffer then holds what the tile's earlier visits left. -/
theorem not_fresh (G : Good a.1) : ∀ (n : ℕ) (h : n < (cfgA a).N), ¬ Q3 a ⟨n, h⟩ → (cfgA a).fresh (4 : Fin 5) n = false
  | 0, h, h3 => absurd (q3_zero a ⟨0, h⟩ rfl) h3
  | n + 1, h, h3 => by
    rw [Pipeline.Cfg.fresh_succ _ _ n (Nat.lt_of_succ_lt h), no_flush a n h h3, Bool.false_or]
    by_cases h1 : Q1 a ⟨n, Nat.lt_of_succ_lt h⟩
    · rw [idle_live a _ h1, Bool.false_and]
    · rw [not_fresh G n (Nat.lt_of_succ_lt h) (G.idle _ h1), Bool.and_false]

/-! ## The windows' blocks and the trajectory -/

variable (m : (ℓ : Loc nD τ sig) → Buf (Elt F) ℓ) (ρ : Dev nD → PrngReg)

/-- The state a launch starts from. -/
abbrev s₀ : MemSt nD τ sig (Elt F) := ⟨m, fun _ => 0, ρ⟩

/-- Window `w`'s block at point `t`, read off its array at launch. -/
def iblk (c : Dev nD) (w : Fin (cfgA a).W) (t : Fin (cfgA a).N) : (((cfgA a).win w).xblock (crd a t)).Idx → Elt F ((cfgA a).win w).elt :=
  (((cfgA a).win w).blk t).view.read (Elt F) ((s₀ m ρ).mem (((cfgA a).win w).arr.view.loc (c : Thread nD τ)))

/-- What the tracked buffers hold: the output's, the three scratches. -/
abbrev St (c : Dev nD) : Type := (S8192x128.Idx → Elt F .f32) × Buf (Elt F) ((c : Thread nD τ).loc cc0_scratch0) × Buf (Elt F) ((c : Thread nD τ).loc cc0_scratch1) × Buf (Elt F) ((c : Thread nD τ).loc cc0_scratch2)

/-- The four runs at point `t`. -/
abbrev rA (c : Dev nD) (t : Fin (cfgA a).N) (q1 : Q1 a t) (ql : QL a t) (q3 : Q3 a t) :=
  runA c (crd a t) (ms0_0 a t) (hs0_0 a t) (ms0_1 a t) (hs0_1 a t) (ms0_2 a t) (hs0_2 a t) (ms0_3 a t) (hs0_3 a t) (ms0_4 a t) (hs0_4 a t) (T0 a) (T1 a) (T2 a) (T3 a) (T4 a) (iblk a m ρ c (0 : Fin 5) t) (iblk a m ρ c (1 : Fin 5) t) (iblk a m ρ c (2 : Fin 5) t) (iblk a m ρ c (3 : Fin 5) t) q1 ql q3 (nq4_of a t q3)
abbrev rB (c : Dev nD) (t : Fin (cfgA a).N) (p : St (F := F) c) (q1 : Q1 a t) (ql : ¬ QL a t) (q3 : ¬ Q3 a t) :=
  runB c (crd a t) (ms0_0 a t) (hs0_0 a t) (ms0_1 a t) (hs0_1 a t) (ms0_2 a t) (hs0_2 a t) (ms0_3 a t) (hs0_3 a t) (ms0_4 a t) (hs0_4 a t) (T0 a) (T1 a) (T2 a) (T3 a) (T4 a) (iblk a m ρ c (0 : Fin 5) t) (iblk a m ρ c (1 : Fin 5) t) (iblk a m ρ c (2 : Fin 5) t) (iblk a m ρ c (3 : Fin 5) t) p.1 p.2.1 p.2.2.1 p.2.2.2 q1 ql q3 (q4_of a t q3)
abbrev rC (c : Dev nD) (t : Fin (cfgA a).N) (p : St (F := F) c) (q1 : Q1 a t) (ql : ¬ QL a t) (q3 : Q3 a t) :=
  runC c (crd a t) (ms0_0 a t) (hs0_0 a t) (ms0_1 a t) (hs0_1 a t) (ms0_2 a t) (hs0_2 a t) (ms0_3 a t) (hs0_3 a t) (ms0_4 a t) (hs0_4 a t) (T0 a) (T1 a) (T2 a) (T3 a) (T4 a) (iblk a m ρ c (0 : Fin 5) t) (iblk a m ρ c (1 : Fin 5) t) (iblk a m ρ c (2 : Fin 5) t) (iblk a m ρ c (3 : Fin 5) t) p.2.1 p.2.2.1 p.2.2.2 q1 ql q3 (nq4_of a t q3)
abbrev rD (c : Dev nD) (t : Fin (cfgA a).N) (p : St (F := F) c) (q1 : Q1 a t) (ql : QL a t) (q3 : ¬ Q3 a t) :=
  runD c (crd a t) (ms0_0 a t) (hs0_0 a t) (ms0_1 a t) (hs0_1 a t) (ms0_2 a t) (hs0_2 a t) (ms0_3 a t) (hs0_3 a t) (ms0_4 a t) (hs0_4 a t) (T0 a) (T1 a) (T2 a) (T3 a) (T4 a) (iblk a m ρ c (0 : Fin 5) t) (iblk a m ρ c (1 : Fin 5) t) (iblk a m ρ c (2 : Fin 5) t) (iblk a m ρ c (3 : Fin 5) t) p.1 q1 ql q3 (q4_of a t q3)

/-- What run A leaves. -/
def oA (c : Dev nD) (t : Fin (cfgA a).N) (q1 : Q1 a t) (ql : QL a t) (q3 : Q3 a t) : St (F := F) c :=
  (View.canon (rA a m ρ c t q1 ql q3).1, (rA a m ρ c t q1 ql q3).2.1, (rA a m ρ c t q1 ql q3).2.2.1, (rA a m ρ c t q1 ql q3).2.2.2.1)
/-- What run B leaves. -/
def oB (c : Dev nD) (t : Fin (cfgA a).N) (p : St (F := F) c) (q1 : Q1 a t) (ql : ¬ QL a t) (q3 : ¬ Q3 a t) : St (F := F) c :=
  (View.canon (rB a m ρ c t p q1 ql q3).1, (rB a m ρ c t p q1 ql q3).2.1, (rB a m ρ c t p q1 ql q3).2.2.1, (rB a m ρ c t p q1 ql q3).2.2.2.1)
/-- What run C leaves. -/
def oC (c : Dev nD) (t : Fin (cfgA a).N) (p : St (F := F) c) (q1 : Q1 a t) (ql : ¬ QL a t) (q3 : Q3 a t) : St (F := F) c :=
  (View.canon (rC a m ρ c t p q1 ql q3).1, (rC a m ρ c t p q1 ql q3).2.1, (rC a m ρ c t p q1 ql q3).2.2.1, (rC a m ρ c t p q1 ql q3).2.2.2.1)
/-- What run D leaves. -/
def oD (c : Dev nD) (t : Fin (cfgA a).N) (p : St (F := F) c) (q1 : Q1 a t) (ql : QL a t) (q3 : ¬ Q3 a t) : St (F := F) c :=
  (View.canon (rD a m ρ c t p q1 ql q3).1, (rD a m ρ c t p q1 ql q3).2.1, (rD a m ρ c t p q1 ql q3).2.2.1, (rD a m ρ c t p q1 ql q3).2.2.2.1)

theorem oA_0 (c : Dev nD) (t : Fin (cfgA a).N) (q1 : Q1 a t) (ql : QL a t) (q3 : Q3 a t) : (oA a m ρ c t q1 ql q3).1 = View.canon (rA a m ρ c t q1 ql q3).1 := rfl
theorem oA_1 (c : Dev nD) (t : Fin (cfgA a).N) (q1 : Q1 a t) (ql : QL a t) (q3 : Q3 a t) : (oA a m ρ c t q1 ql q3).2.1 = (rA a m ρ c t q1 ql q3).2.1 := rfl
theorem oA_2 (c : Dev nD) (t : Fin (cfgA a).N) (q1 : Q1 a t) (ql : QL a t) (q3 : Q3 a t) : (oA a m ρ c t q1 ql q3).2.2.1 = (rA a m ρ c t q1 ql q3).2.2.1 := rfl
theorem oA_3 (c : Dev nD) (t : Fin (cfgA a).N) (q1 : Q1 a t) (ql : QL a t) (q3 : Q3 a t) : (oA a m ρ c t q1 ql q3).2.2.2 = (rA a m ρ c t q1 ql q3).2.2.2.1 := rfl
theorem oB_0 (c : Dev nD) (t : Fin (cfgA a).N) (p : St (F := F) c) (q1 : Q1 a t) (ql : ¬ QL a t) (q3 : ¬ Q3 a t) : (oB a m ρ c t p q1 ql q3).1 = View.canon (rB a m ρ c t p q1 ql q3).1 := rfl
theorem oB_1 (c : Dev nD) (t : Fin (cfgA a).N) (p : St (F := F) c) (q1 : Q1 a t) (ql : ¬ QL a t) (q3 : ¬ Q3 a t) : (oB a m ρ c t p q1 ql q3).2.1 = (rB a m ρ c t p q1 ql q3).2.1 := rfl
theorem oB_2 (c : Dev nD) (t : Fin (cfgA a).N) (p : St (F := F) c) (q1 : Q1 a t) (ql : ¬ QL a t) (q3 : ¬ Q3 a t) : (oB a m ρ c t p q1 ql q3).2.2.1 = (rB a m ρ c t p q1 ql q3).2.2.1 := rfl
theorem oB_3 (c : Dev nD) (t : Fin (cfgA a).N) (p : St (F := F) c) (q1 : Q1 a t) (ql : ¬ QL a t) (q3 : ¬ Q3 a t) : (oB a m ρ c t p q1 ql q3).2.2.2 = (rB a m ρ c t p q1 ql q3).2.2.2.1 := rfl
theorem oC_0 (c : Dev nD) (t : Fin (cfgA a).N) (p : St (F := F) c) (q1 : Q1 a t) (ql : ¬ QL a t) (q3 : Q3 a t) : (oC a m ρ c t p q1 ql q3).1 = View.canon (rC a m ρ c t p q1 ql q3).1 := rfl
theorem oC_1 (c : Dev nD) (t : Fin (cfgA a).N) (p : St (F := F) c) (q1 : Q1 a t) (ql : ¬ QL a t) (q3 : Q3 a t) : (oC a m ρ c t p q1 ql q3).2.1 = (rC a m ρ c t p q1 ql q3).2.1 := rfl
theorem oC_2 (c : Dev nD) (t : Fin (cfgA a).N) (p : St (F := F) c) (q1 : Q1 a t) (ql : ¬ QL a t) (q3 : Q3 a t) : (oC a m ρ c t p q1 ql q3).2.2.1 = (rC a m ρ c t p q1 ql q3).2.2.1 := rfl
theorem oC_3 (c : Dev nD) (t : Fin (cfgA a).N) (p : St (F := F) c) (q1 : Q1 a t) (ql : ¬ QL a t) (q3 : Q3 a t) : (oC a m ρ c t p q1 ql q3).2.2.2 = (rC a m ρ c t p q1 ql q3).2.2.2.1 := rfl
theorem oD_0 (c : Dev nD) (t : Fin (cfgA a).N) (p : St (F := F) c) (q1 : Q1 a t) (ql : QL a t) (q3 : ¬ Q3 a t) : (oD a m ρ c t p q1 ql q3).1 = View.canon (rD a m ρ c t p q1 ql q3).1 := rfl
theorem oD_1 (c : Dev nD) (t : Fin (cfgA a).N) (p : St (F := F) c) (q1 : Q1 a t) (ql : QL a t) (q3 : ¬ Q3 a t) : (oD a m ρ c t p q1 ql q3).2.1 = (rD a m ρ c t p q1 ql q3).2.1 := rfl
theorem oD_2 (c : Dev nD) (t : Fin (cfgA a).N) (p : St (F := F) c) (q1 : Q1 a t) (ql : QL a t) (q3 : ¬ Q3 a t) : (oD a m ρ c t p q1 ql q3).2.2.1 = (rD a m ρ c t p q1 ql q3).2.2.1 := rfl
theorem oD_3 (c : Dev nD) (t : Fin (cfgA a).N) (p : St (F := F) c) (q1 : Q1 a t) (ql : QL a t) (q3 : ¬ Q3 a t) : (oD a m ρ c t p q1 ql q3).2.2.2 = (rD a m ρ c t p q1 ql q3).2.2.2.1 := rfl

open Classical in
/-- One visit: what the tracked buffers hold after it, from what they held before. -/
def step (c : Dev nD) (t : Fin (cfgA a).N) (p : St (F := F) c) : St (F := F) c :=
  if q1 : Q1 a t then
    if q3 : Q3 a t then
      if ql : QL a t then oA a m ρ c t q1 ql q3 else oC a m ρ c t p q1 ql q3
    else
      if ql : QL a t then oD a m ρ c t p q1 ql q3 else oB a m ρ c t p q1 ql q3
  else p

theorem step_A (c : Dev nD) (t : Fin (cfgA a).N) (p : St (F := F) c) (q1 : Q1 a t) (ql : QL a t) (q3 : Q3 a t) : step a m ρ c t p = oA a m ρ c t q1 ql q3 := by
  unfold step; exact (dif_pos q1).trans ((dif_pos q3).trans (dif_pos ql))
theorem step_B (c : Dev nD) (t : Fin (cfgA a).N) (p : St (F := F) c) (q1 : Q1 a t) (ql : ¬ QL a t) (q3 : ¬ Q3 a t) : step a m ρ c t p = oB a m ρ c t p q1 ql q3 := by
  unfold step; exact (dif_pos q1).trans ((dif_neg q3).trans (dif_neg ql))
theorem step_C (c : Dev nD) (t : Fin (cfgA a).N) (p : St (F := F) c) (q1 : Q1 a t) (ql : ¬ QL a t) (q3 : Q3 a t) : step a m ρ c t p = oC a m ρ c t p q1 ql q3 := by
  unfold step; exact (dif_pos q1).trans ((dif_pos q3).trans (dif_neg ql))
theorem step_D (c : Dev nD) (t : Fin (cfgA a).N) (p : St (F := F) c) (q1 : Q1 a t) (ql : QL a t) (q3 : ¬ Q3 a t) : step a m ρ c t p = oD a m ρ c t p q1 ql q3 := by
  unfold step; exact (dif_pos q1).trans ((dif_neg q3).trans (dif_pos ql))
theorem step_E (c : Dev nD) (t : Fin (cfgA a).N) (p : St (F := F) c) (q1 : ¬ Q1 a t) : step a m ρ c t p = p := by
  unfold step; exact dif_neg q1

/-- After position `n`. -/
def traj (c : Dev nD) : (n : ℕ) → n < (cfgA a).N → St (F := F) c
  | 0, h => step a m ρ c ⟨0, h⟩ (constant _ .f32 0#32, constant _ .bf16 0#16, constant _ .bf16 0#16, constant _ .bf16 0#16)
  | n + 1, h => step a m ρ c ⟨n + 1, h⟩ (traj c n (Nat.lt_of_succ_lt h))

/-- Before position `n`. -/
def prev (c : Dev nD) (n : ℕ) (h : n ≤ (cfgA a).N) : St (F := F) c :=
  if h0 : n = 0 then (constant _ .f32 0#32, constant _ .bf16 0#16, constant _ .bf16 0#16, constant _ .bf16 0#16) else traj a m ρ c (n - 1) (by omega)

theorem traj_eq (c : Dev nD) (t : Fin (cfgA a).N) : traj a m ρ c t.val t.isLt = step a m ρ c t (prev a m ρ c t.val t.isLt.le) := by
  obtain ⟨n, hn⟩ := t
  cases n with
  | zero => rfl
  | succ n => unfold prev; simp only [Nat.add_one_ne_zero, dif_neg, not_false_eq_true]; rfl

theorem prev_succ (c : Dev nD) (t : Fin (cfgA a).N) (h : t.val + 1 ≤ (cfgA a).N) : prev a m ρ c (t.val + 1) h = step a m ρ c t (prev a m ρ c t.val t.isLt.le) := by
  rw [← traj_eq]; unfold prev; simp only [Nat.add_one_ne_zero, ↓reduceDIte, Nat.add_one_sub_one]

/-! ## The pipeline's proof data -/

/-- Before point `n`: each scratch at what the trajectory says once a point has filled it, the body's halves of the tables. -/
def Phi (c : Dev nD) (n : ℕ) (h : n ≤ (cfgA a).N) : sProp 𝕄 :=
  iprop((∃ x, ⌜n ≠ 0 → x = (prev a m ρ c n h).2.1⌝ ∗ (sc0.view.loc (c : Thread nD τ) ↦{fullShare} x)) ∗ (∃ x, ⌜n ≠ 0 → x = (prev a m ρ c n h).2.2.1⌝ ∗ (sc1.view.loc (c : Thread nD τ) ↦{fullShare} x)) ∗ (∃ x, ⌜n ≠ 0 → x = (prev a m ρ c n h).2.2.2⌝ ∗ (sc2.view.loc (c : Thread nD τ) ↦{fullShare} x)) ∗ (tb0.view.loc (c : Thread nD τ) ↦{fullShare.right} T0 a) ∗ (tb1.view.loc (c : Thread nD τ) ↦{fullShare.right} T1 a) ∗ (tb2.view.loc (c : Thread nD τ) ↦{fullShare.right} T2 a) ∗ (tb3.view.loc (c : Thread nD τ) ↦{fullShare.right} T3 a) ∗ (tb4.view.loc (c : Thread nD τ) ↦{fullShare.right} T4 a))

/-- The proof data of the one pipeline on core `c`. -/
def dats (_ : Fin 1) (c : Dev nD) : Dat τ (Elt F) Unit ℕ (UR sig nD τ) ℕ (cfgA a) c where
  A w := (s₀ m ρ).mem (((cfgA a).win w).arr.view.loc (c : Thread nD τ))
  after w t := match w with
    | ⟨0, _⟩ => iblk a m ρ c (0 : Fin 5) t
    | ⟨1, _⟩ => iblk a m ρ c (1 : Fin 5) t
    | ⟨2, _⟩ => iblk a m ρ c (2 : Fin 5) t
    | ⟨3, _⟩ => iblk a m ρ c (3 : Fin 5) t
    | ⟨4, _⟩ => (step a m ρ c t (prev a m ρ c t.val t.isLt.le)).1
  Φ t := Phi a m ρ c t.val (Nat.le_of_lt_succ t.isLt)
  q _ := fullShare
  owed _ := 0

theorem after0_0 (c : Dev nD) (t : Fin (cfgA a).N) : (dats a m ρ 0 c).after (0 : Fin 5) t = iblk a m ρ c (0 : Fin 5) t := rfl
theorem after0_1 (c : Dev nD) (t : Fin (cfgA a).N) : (dats a m ρ 0 c).after (1 : Fin 5) t = iblk a m ρ c (1 : Fin 5) t := rfl
theorem after0_2 (c : Dev nD) (t : Fin (cfgA a).N) : (dats a m ρ 0 c).after (2 : Fin 5) t = iblk a m ρ c (2 : Fin 5) t := rfl
theorem after0_3 (c : Dev nD) (t : Fin (cfgA a).N) : (dats a m ρ 0 c).after (3 : Fin 5) t = iblk a m ρ c (3 : Fin 5) t := rfl
theorem after0_4 (c : Dev nD) (t : Fin (cfgA a).N) : (dats a m ρ 0 c).after (4 : Fin 5) t = (step a m ρ c t (prev a m ρ c t.val t.isLt.le)).1 := rfl

theorem before0_0 (c : Dev nD) (t : Fin (cfgA a).N) (d) : (dats a m ρ 0 c).before (0 : Fin 5) t d = iblk a m ρ c (0 : Fin 5) t :=
  ((dats a m ρ 0 c).before_in_eq_fetched (0 : Fin 5) rfl (fun _ => rfl) (fun _ _ _ => rfl) (fun t => by rw [after0_0]; unfold Dat.blockOf iblk; rfl) t d).trans
    (by unfold Dat.fetched Dat.blockOf iblk; rfl)
theorem before0_1 (c : Dev nD) (t : Fin (cfgA a).N) (d) : (dats a m ρ 0 c).before (1 : Fin 5) t d = iblk a m ρ c (1 : Fin 5) t :=
  ((dats a m ρ 0 c).before_in_eq_fetched (1 : Fin 5) rfl (fun _ => rfl) (fun _ _ _ => rfl) (fun t => by rw [after0_1]; unfold Dat.blockOf iblk; rfl) t d).trans
    (by unfold Dat.fetched Dat.blockOf iblk; rfl)
theorem before0_2 (c : Dev nD) (t : Fin (cfgA a).N) (d) : (dats a m ρ 0 c).before (2 : Fin 5) t d = iblk a m ρ c (2 : Fin 5) t :=
  ((dats a m ρ 0 c).before_in_eq_fetched (2 : Fin 5) rfl (fun _ => rfl) (fun _ _ _ => rfl) (fun t => by rw [after0_2]; unfold Dat.blockOf iblk; rfl) t d).trans
    (by unfold Dat.fetched Dat.blockOf iblk; rfl)
theorem before0_3 (c : Dev nD) (t : Fin (cfgA a).N) (d) : (dats a m ρ 0 c).before (3 : Fin 5) t d = iblk a m ρ c (3 : Fin 5) t :=
  ((dats a m ρ 0 c).before_in_eq_fetched (3 : Fin 5) rfl (fun _ => rfl) (fun _ _ _ => rfl) (fun t => by rw [after0_3]; unfold Dat.blockOf iblk; rfl) t d).trans
    (by unfold Dat.fetched Dat.blockOf iblk; rfl)

/-- An idle point's output is the point before's. -/
theorem hcarry0_4 (c : Dev nD) : ∀ (t : Fin (cfgA a).N) (ht : t.val ≠ 0), (cfgA a).idle (4 : Fin 5) ((cfgA a).grid.coords t) = true → (cfgA a).fresh (4 : Fin 5) t.val = false →
    (dats a m ρ 0 c).after (4 : Fin 5) t = (dats a m ρ 0 c).after (4 : Fin 5) ⟨t.val - 1, by omega⟩ := by
  intro t ht hi hf
  have h1 : ¬ Q1 a t := fun h => by rw [idle_live a t h] at hi; exact absurd hi (by decide)
  rw [after0_4, after0_4, step_E a m ρ c t _ h1, ← traj_eq]
  unfold prev; rw [dif_neg ht]

theorem before0_4 (c : Dev nD) (t : Fin (cfgA a).N) (d) :
    (dats a m ρ 0 c).before (4 : Fin 5) t d = if (cfgA a).fresh (4 : Fin 5) t.val then d else (prev a m ρ c t.val t.isLt.le).1 := by
  rw [(dats a m ρ 0 c).before_out_traj (4 : Fin 5) rfl (fun _ _ => rfl) (hcarry0_4 a m ρ c) t.val t rfl d]
  by_cases hf : (cfgA a).fresh (4 : Fin 5) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_4]; unfold prev; rw [dif_neg h0]
    exact congrArg Prod.fst (traj_eq a m ρ c ⟨t.val - 1, by omega⟩).symm

/-- The pieces of each run cover the tile. -/
theorem covA (c : Dev nD) (t : Fin (cfgA a).N) (q1 : Q1 a t) (ql : QL a t) (q3 : Q3 a t) (y : S8192x128.Idx) :
    ∃ pc ∈ (rA a m ρ c t q1 ql q3).1, y ∈ pc.1.set := cover_of_rows _ (by sl_kernel_rfl) y
theorem covB (c : Dev nD) (t : Fin (cfgA a).N) (p : St (F := F) c) (q1 : Q1 a t) (ql : ¬ QL a t) (q3 : ¬ Q3 a t) (y : S8192x128.Idx) :
    ∃ pc ∈ (rB a m ρ c t p q1 ql q3).1, y ∈ pc.1.set := cover_of_rows _ (by sl_kernel_rfl) y
theorem covC (c : Dev nD) (t : Fin (cfgA a).N) (p : St (F := F) c) (q1 : Q1 a t) (ql : ¬ QL a t) (q3 : Q3 a t) (y : S8192x128.Idx) :
    ∃ pc ∈ (rC a m ρ c t p q1 ql q3).1, y ∈ pc.1.set := cover_of_rows _ (by sl_kernel_rfl) y
theorem covD (c : Dev nD) (t : Fin (cfgA a).N) (p : St (F := F) c) (q1 : Q1 a t) (ql : QL a t) (q3 : ¬ Q3 a t) (y : S8192x128.Idx) :
    ∃ pc ∈ (rD a m ρ c t p q1 ql q3).1, y ∈ pc.1.set := cover_of_rows _ (by sl_kernel_rfl) y

/-- The body at point `t` on its staging memrefs, as the pipeline calls it. -/
abbrev bodyAt0 (t : Fin (cfgA a).N) : Prog (TpuEff nD τ sig (Elt F) Λ₀ .tc) PUnit :=
  cc0_moe_experts (crd a t) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (ms0_0 a t) (hs0_0 a t) (ms0_1 a t) (hs0_1 a t) (ms0_2 a t) (hs0_2 a t) (ms0_3 a t) (hs0_3 a t) (ms0_4 a t) (hs0_4 a t) (Memref.whole cc0_scratch0) (Memref.isWhole_whole _) (Memref.whole cc0_scratch1) (Memref.isWhole_whole _) (Memref.whole cc0_scratch2) (Memref.isWhole_whole _)

/-- The body's obligation at point `t`. -/
def BodyAt (c : Dev nD) (t : Fin (cfgA a).N) : Prop :=
    iprop((dats a m ρ 0 c).Φ t.castSucc ∗ (dats a m ρ 0 c).owesAt () t.castSucc
        ∗ (∃ d, owns (c : Thread nD τ) (ms0_0 a t) fullShare ((dats a m ρ 0 c).before (0 : Fin 5) t d))
        ∗ (∃ d, owns (c : Thread nD τ) (ms0_1 a t) fullShare ((dats a m ρ 0 c).before (1 : Fin 5) t d))
        ∗ (∃ d, owns (c : Thread nD τ) (ms0_2 a t) fullShare ((dats a m ρ 0 c).before (2 : Fin 5) t d))
        ∗ (∃ d, owns (c : Thread nD τ) (ms0_3 a t) fullShare ((dats a m ρ 0 c).before (3 : Fin 5) t d))
        ∗ (∃ d, owns (c : Thread nD τ) (ms0_4 a t) fullShare ((dats a m ρ 0 c).before (4 : Fin 5) t d)))
      ⊢ wp frame (wpE (defs₀ (F := F)) Variants.none c none) Set.univ (bodyAt0 a t) fun _ =>
          iprop((dats a m ρ 0 c).Φ t.succ ∗ (dats a m ρ 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats a m ρ 0 c).before w t d))
                  | true => owns (c : Thread nD τ) (((cfgA a).win w).stage ((cfgA a).slots t w)) fullShare ((dats a m ρ 0 c).after w t)
                | false => owns (c : Thread nD τ) (((cfgA a).win w).stage ((cfgA a).slots t w)) fullShare ((dats a m ρ 0 c).after w t))

end Cert.ExpIdeal.Tab
-- ==== Proof.ExpIdealBodyA.lean ====
module

public import proofs.«01_k».proof.Proof.ExpIdealFr

@[expose] public section

set_option maxRecDepth 16384
set_option Elab.async false

noncomputable section

namespace Cert.ExpIdeal.Tab

open Cert.ExpIdeal Cert.ExpIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

attribute [local irreducible] runA runB runC runD

variable {F : FTy → Type} [FloatOps F]

local notation "𝕄" => MT nD τ sig Unit (Elt F) ℕ (UR sig nD τ) ℕ

variable (a : (pcfg0 (F := F)).Adm) (m : (ℓ : Loc nD τ sig) → Buf (Elt F) ℓ) (ρ : Dev nD → PrngReg)

set_option maxHeartbeats 4000000 in
theorem bodyA (G : Good a.1) (c : Dev nD) (t : Fin (cfgA a).N) (q1 : Q1 a t) (ql : QL a t) (q3 : Q3 a t) : BodyAt a m ρ c t := by
  unfold BodyAt
  rw [bigSep_W0]
  have i4 := idle_live a t q1
  rewrite [i4]
  simp only [before0_0, before0_1, before0_2, before0_3, before0_4, after0_0, after0_1, after0_2, after0_3, after0_4]
  rewrite [show (dats a m ρ 0 c).Φ t.succ = Phi a m ρ c (t.val + 1) t.isLt from rfl, show (dats a m ρ 0 c).Φ t.castSucc = Phi a m ρ c t.val t.isLt.le from rfl,
    show (dats a m ρ 0 c).owesAt () t.succ = (dats a m ρ 0 c).owesAt () t.castSucc from rfl]
  unfold Phi
  rewrite [prev_succ a m ρ c t t.isLt, step_A a m ρ c t _ q1 ql q3]
  iintro ⟨⟨⟨%a0, %ha0, HS0⟩, ⟨%a1, %ha1, HS1⟩, ⟨%a2, %ha2, HS2⟩, HT0, HT1, HT2, HT3, HT4⟩, Ho, ⟨%d0, H0⟩, ⟨%d1, H1⟩, ⟨%d2, H2⟩, ⟨%d3, H3⟩, ⟨%d4, H4⟩⟩
  iapply ((rA a m ρ c t q1 ql q3).2.2.2.2 a0 a1 a2 _)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [HT2]; · iexact HT2
  isplitl [HT3]; · iexact HT3
  isplitl [HT4]; · iexact HT4
  isplitl [H4]; · iexists _; iexact H4
  isplitl [HS0]; · iexact HS0
  isplitl [HS1]; · iexact HS1
  isplitl [HS2]; · iexact HS2
  iintro ⟨H0, H1, H2, H3, HT0, HT1, HT2, HT3, HT4, ⟨%e4, H4⟩, HS0, HS1, HS2⟩
  isplitl [HS0 HS1 HS2 HT0 HT1 HT2 HT3 HT4]
  · isplitl [HS0]
    · iexists _; isplitr; swap
      · iexact HS0
      · ipureintro; intro hn; exact (oA_1 a m ρ c t q1 ql q3).symm
    isplitl [HS1]
    · iexists _; isplitr; swap
      · iexact HS1
      · ipureintro; intro hn; exact (oA_2 a m ρ c t q1 ql q3).symm
    isplitl [HS2]
    · iexists _; isplitr; swap
      · iexact HS2
      · ipureintro; intro hn; exact (oA_3 a m ρ c t q1 ql q3).symm
    isplitl [HT0]; · iexact HT0
    isplitl [HT1]; · iexact HT1
    isplitl [HT2]; · iexact HT2
    isplitl [HT3]; · iexact HT3
    iexact HT4
  isplitl [Ho]; · iexact Ho
  isplitl [H0]
  · iapply owns_of_rep; iexact H0
  isplitl [H1]
  · iapply owns_of_rep; iexact H1
  isplitl [H2]
  · iapply owns_of_rep; iexact H2
  isplitl [H3]
  · iapply owns_of_rep; iexact H3
  unfold owns; iexists _; isplitr; swap
  · iexact H4
  · ipureintro; exact (View.read_writes_eq_canon _ _ _ (covA a m ρ c t q1 ql q3)).trans (oA_0 a m ρ c t q1 ql q3).symm

end Cert.ExpIdeal.Tab
-- ==== Proof.ExpIdealBodyB.lean ====
module

public import proofs.«01_k».proof.Proof.ExpIdealFr

@[expose] public section

set_option maxRecDepth 16384
set_option Elab.async false

noncomputable section

namespace Cert.ExpIdeal.Tab

open Cert.ExpIdeal Cert.ExpIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

attribute [local irreducible] runA runB runC runD

variable {F : FTy → Type} [FloatOps F]

local notation "𝕄" => MT nD τ sig Unit (Elt F) ℕ (UR sig nD τ) ℕ

variable (a : (pcfg0 (F := F)).Adm) (m : (ℓ : Loc nD τ sig) → Buf (Elt F) ℓ) (ρ : Dev nD → PrngReg)

set_option maxHeartbeats 4000000 in
theorem bodyB (G : Good a.1) (c : Dev nD) (t : Fin (cfgA a).N) (q1 : Q1 a t) (ql : ¬ QL a t) (q3 : ¬ Q3 a t) : BodyAt a m ρ c t := by
  unfold BodyAt
  rw [bigSep_W0]
  have i4 := idle_live a t q1
  have t0 : t.val ≠ 0 := fun h => ql (ql_zero a t h)
  have fr4 := not_fresh a G t.val t.isLt q3
  rewrite [i4]
  simp only [before0_0, before0_1, before0_2, before0_3, before0_4, after0_0, after0_1, after0_2, after0_3, after0_4]
  simp only [fr4, Bool.false_eq_true, ↓reduceIte]
  rewrite [show (dats a m ρ 0 c).Φ t.succ = Phi a m ρ c (t.val + 1) t.isLt from rfl, show (dats a m ρ 0 c).Φ t.castSucc = Phi a m ρ c t.val t.isLt.le from rfl,
    show (dats a m ρ 0 c).owesAt () t.succ = (dats a m ρ 0 c).owesAt () t.castSucc from rfl]
  unfold Phi
  rewrite [prev_succ a m ρ c t t.isLt, step_B a m ρ c t _ q1 ql q3]
  simp only [exists_held t0]
  iintro ⟨⟨HS0, HS1, HS2, HT0, HT1, HT2, HT3, HT4⟩, Ho, ⟨%d0, H0⟩, ⟨%d1, H1⟩, ⟨%d2, H2⟩, ⟨%d3, H3⟩, ⟨%d4, H4⟩⟩
  iapply ((rB a m ρ c t (prev a m ρ c t.val t.isLt.le) q1 ql q3).2.2.2.2 _)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [HT2]; · iexact HT2
  isplitl [HT3]; · iexact HT3
  isplitl [HT4]; · iexact HT4
  isplitl [H4]; · iexact H4
  isplitl [HS0]; · iexact HS0
  isplitl [HS1]; · iexact HS1
  isplitl [HS2]; · iexact HS2
  iintro ⟨H0, H1, H2, H3, HT0, HT1, HT2, HT3, HT4, ⟨%e4, H4⟩, HS0, HS1, HS2⟩
  isplitl [HS0 HS1 HS2 HT0 HT1 HT2 HT3 HT4]
  · isplitl [HS0]
    · iexists _; isplitr; swap
      · iexact HS0
      · ipureintro; intro hn; exact (oB_1 a m ρ c t (prev a m ρ c t.val t.isLt.le) q1 ql q3).symm
    isplitl [HS1]
    · iexists _; isplitr; swap
      · iexact HS1
      · ipureintro; intro hn; exact (oB_2 a m ρ c t (prev a m ρ c t.val t.isLt.le) q1 ql q3).symm
    isplitl [HS2]
    · iexists _; isplitr; swap
      · iexact HS2
      · ipureintro; intro hn; exact (oB_3 a m ρ c t (prev a m ρ c t.val t.isLt.le) q1 ql q3).symm
    isplitl [HT0]; · iexact HT0
    isplitl [HT1]; · iexact HT1
    isplitl [HT2]; · iexact HT2
    isplitl [HT3]; · iexact HT3
    iexact HT4
  isplitl [Ho]; · iexact Ho
  isplitl [H0]
  · iapply owns_of_rep; iexact H0
  isplitl [H1]
  · iapply owns_of_rep; iexact H1
  isplitl [H2]
  · iapply owns_of_rep; iexact H2
  isplitl [H3]
  · iapply owns_of_rep; iexact H3
  unfold owns; iexists _; isplitr; swap
  · iexact H4
  · ipureintro; exact (View.read_writes_eq_canon _ _ _ (covB a m ρ c t (prev a m ρ c t.val t.isLt.le) q1 ql q3)).trans (oB_0 a m ρ c t (prev a m ρ c t.val t.isLt.le) q1 ql q3).symm

end Cert.ExpIdeal.Tab
-- ==== Proof.ExpIdealBodyC.lean ====
module

public import proofs.«01_k».proof.Proof.ExpIdealFr

@[expose] public section

set_option maxRecDepth 16384
set_option Elab.async false

noncomputable section

namespace Cert.ExpIdeal.Tab

open Cert.ExpIdeal Cert.ExpIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

attribute [local irreducible] runA runB runC runD

variable {F : FTy → Type} [FloatOps F]

local notation "𝕄" => MT nD τ sig Unit (Elt F) ℕ (UR sig nD τ) ℕ

variable (a : (pcfg0 (F := F)).Adm) (m : (ℓ : Loc nD τ sig) → Buf (Elt F) ℓ) (ρ : Dev nD → PrngReg)

set_option maxHeartbeats 4000000 in
theorem bodyC (G : Good a.1) (c : Dev nD) (t : Fin (cfgA a).N) (q1 : Q1 a t) (ql : ¬ QL a t) (q3 : Q3 a t) : BodyAt a m ρ c t := by
  unfold BodyAt
  rw [bigSep_W0]
  have i4 := idle_live a t q1
  have t0 : t.val ≠ 0 := fun h => ql (ql_zero a t h)
  rewrite [i4]
  simp only [before0_0, before0_1, before0_2, before0_3, before0_4, after0_0, after0_1, after0_2, after0_3, after0_4]
  rewrite [show (dats a m ρ 0 c).Φ t.succ = Phi a m ρ c (t.val + 1) t.isLt from rfl, show (dats a m ρ 0 c).Φ t.castSucc = Phi a m ρ c t.val t.isLt.le from rfl,
    show (dats a m ρ 0 c).owesAt () t.succ = (dats a m ρ 0 c).owesAt () t.castSucc from rfl]
  unfold Phi
  rewrite [prev_succ a m ρ c t t.isLt, step_C a m ρ c t _ q1 ql q3]
  simp only [exists_held t0]
  iintro ⟨⟨HS0, HS1, HS2, HT0, HT1, HT2, HT3, HT4⟩, Ho, ⟨%d0, H0⟩, ⟨%d1, H1⟩, ⟨%d2, H2⟩, ⟨%d3, H3⟩, ⟨%d4, H4⟩⟩
  iapply ((rC a m ρ c t (prev a m ρ c t.val t.isLt.le) q1 ql q3).2.2.2.2 _)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [HT2]; · iexact HT2
  isplitl [HT3]; · iexact HT3
  isplitl [HT4]; · iexact HT4
  isplitl [H4]; · iexists _; iexact H4
  isplitl [HS0]; · iexact HS0
  isplitl [HS1]; · iexact HS1
  isplitl [HS2]; · iexact HS2
  iintro ⟨H0, H1, H2, H3, HT0, HT1, HT2, HT3, HT4, ⟨%e4, H4⟩, HS0, HS1, HS2⟩
  isplitl [HS0 HS1 HS2 HT0 HT1 HT2 HT3 HT4]
  · isplitl [HS0]
    · iexists _; isplitr; swap
      · iexact HS0
      · ipureintro; intro hn; exact (oC_1 a m ρ c t (prev a m ρ c t.val t.isLt.le) q1 ql q3).symm
    isplitl [HS1]
    · iexists _; isplitr; swap
      · iexact HS1
      · ipureintro; intro hn; exact (oC_2 a m ρ c t (prev a m ρ c t.val t.isLt.le) q1 ql q3).symm
    isplitl [HS2]
    · iexists _; isplitr; swap
      · iexact HS2
      · ipureintro; intro hn; exact (oC_3 a m ρ c t (prev a m ρ c t.val t.isLt.le) q1 ql q3).symm
    isplitl [HT0]; · iexact HT0
    isplitl [HT1]; · iexact HT1
    isplitl [HT2]; · iexact HT2
    isplitl [HT3]; · iexact HT3
    iexact HT4
  isplitl [Ho]; · iexact Ho
  isplitl [H0]
  · iapply owns_of_rep; iexact H0
  isplitl [H1]
  · iapply owns_of_rep; iexact H1
  isplitl [H2]
  · iapply owns_of_rep; iexact H2
  isplitl [H3]
  · iapply owns_of_rep; iexact H3
  unfold owns; iexists _; isplitr; swap
  · iexact H4
  · ipureintro; exact (View.read_writes_eq_canon _ _ _ (covC a m ρ c t (prev a m ρ c t.val t.isLt.le) q1 ql q3)).trans (oC_0 a m ρ c t (prev a m ρ c t.val t.isLt.le) q1 ql q3).symm

end Cert.ExpIdeal.Tab
-- ==== Proof.ExpIdealBodyD.lean ====
module

public import proofs.«01_k».proof.Proof.ExpIdealFr

@[expose] public section

set_option maxRecDepth 16384
set_option Elab.async false

noncomputable section

namespace Cert.ExpIdeal.Tab

open Cert.ExpIdeal Cert.ExpIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

attribute [local irreducible] runA runB runC runD

variable {F : FTy → Type} [FloatOps F]

local notation "𝕄" => MT nD τ sig Unit (Elt F) ℕ (UR sig nD τ) ℕ

variable (a : (pcfg0 (F := F)).Adm) (m : (ℓ : Loc nD τ sig) → Buf (Elt F) ℓ) (ρ : Dev nD → PrngReg)

set_option maxHeartbeats 4000000 in
theorem bodyD (G : Good a.1) (c : Dev nD) (t : Fin (cfgA a).N) (q1 : Q1 a t) (ql : QL a t) (q3 : ¬ Q3 a t) : BodyAt a m ρ c t := by
  unfold BodyAt
  rw [bigSep_W0]
  have i4 := idle_live a t q1
  have fr4 := not_fresh a G t.val t.isLt q3
  rewrite [i4]
  simp only [before0_0, before0_1, before0_2, before0_3, before0_4, after0_0, after0_1, after0_2, after0_3, after0_4]
  simp only [fr4, Bool.false_eq_true, ↓reduceIte]
  rewrite [show (dats a m ρ 0 c).Φ t.succ = Phi a m ρ c (t.val + 1) t.isLt from rfl, show (dats a m ρ 0 c).Φ t.castSucc = Phi a m ρ c t.val t.isLt.le from rfl,
    show (dats a m ρ 0 c).owesAt () t.succ = (dats a m ρ 0 c).owesAt () t.castSucc from rfl]
  unfold Phi
  rewrite [prev_succ a m ρ c t t.isLt, step_D a m ρ c t _ q1 ql q3]
  iintro ⟨⟨⟨%a0, %ha0, HS0⟩, ⟨%a1, %ha1, HS1⟩, ⟨%a2, %ha2, HS2⟩, HT0, HT1, HT2, HT3, HT4⟩, Ho, ⟨%d0, H0⟩, ⟨%d1, H1⟩, ⟨%d2, H2⟩, ⟨%d3, H3⟩, ⟨%d4, H4⟩⟩
  iapply ((rD a m ρ c t (prev a m ρ c t.val t.isLt.le) q1 ql q3).2.2.2.2 a0 a1 a2 _)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [HT2]; · iexact HT2
  isplitl [HT3]; · iexact HT3
  isplitl [HT4]; · iexact HT4
  isplitl [H4]; · iexact H4
  isplitl [HS0]; · iexact HS0
  isplitl [HS1]; · iexact HS1
  isplitl [HS2]; · iexact HS2
  iintro ⟨H0, H1, H2, H3, HT0, HT1, HT2, HT3, HT4, ⟨%e4, H4⟩, HS0, HS1, HS2⟩
  isplitl [HS0 HS1 HS2 HT0 HT1 HT2 HT3 HT4]
  · isplitl [HS0]
    · iexists _; isplitr; swap
      · iexact HS0
      · ipureintro; intro hn; exact (oD_1 a m ρ c t (prev a m ρ c t.val t.isLt.le) q1 ql q3).symm
    isplitl [HS1]
    · iexists _; isplitr; swap
      · iexact HS1
      · ipureintro; intro hn; exact (oD_2 a m ρ c t (prev a m ρ c t.val t.isLt.le) q1 ql q3).symm
    isplitl [HS2]
    · iexists _; isplitr; swap
      · iexact HS2
      · ipureintro; intro hn; exact (oD_3 a m ρ c t (prev a m ρ c t.val t.isLt.le) q1 ql q3).symm
    isplitl [HT0]; · iexact HT0
    isplitl [HT1]; · iexact HT1
    isplitl [HT2]; · iexact HT2
    isplitl [HT3]; · iexact HT3
    iexact HT4
  isplitl [Ho]; · iexact Ho
  isplitl [H0]
  · iapply owns_of_rep; iexact H0
  isplitl [H1]
  · iapply owns_of_rep; iexact H1
  isplitl [H2]
  · iapply owns_of_rep; iexact H2
  isplitl [H3]
  · iapply owns_of_rep; iexact H3
  unfold owns; iexists _; isplitr; swap
  · iexact H4
  · ipureintro; exact (View.read_writes_eq_canon _ _ _ (covD a m ρ c t (prev a m ρ c t.val t.isLt.le) q1 ql q3)).trans (oD_0 a m ρ c t (prev a m ρ c t.val t.isLt.le) q1 ql q3).symm

end Cert.ExpIdeal.Tab
-- ==== Proof.ExpIdealBodyE.lean ====
module

public import proofs.«01_k».proof.Proof.ExpIdealFr

@[expose] public section

set_option maxRecDepth 16384
set_option Elab.async false

noncomputable section

namespace Cert.ExpIdeal.Tab

open Cert.ExpIdeal Cert.ExpIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

attribute [local irreducible] runA runB runC runD

variable {F : FTy → Type} [FloatOps F]

local notation "𝕄" => MT nD τ sig Unit (Elt F) ℕ (UR sig nD τ) ℕ

variable (a : (pcfg0 (F := F)).Adm) (m : (ℓ : Loc nD τ sig) → Buf (Elt F) ℓ) (ρ : Dev nD → PrngReg)

set_option maxHeartbeats 4000000 in
theorem bodyE (G : Good a.1) (c : Dev nD) (t : Fin (cfgA a).N) (q1 : ¬ Q1 a t) : BodyAt a m ρ c t := by
  unfold BodyAt
  rw [bigSep_W0]
  have i4 := idle_dead a t q1
  have q3 : ¬ Q3 a t := G.idle _ q1
  have fr4 := not_fresh a G t.val t.isLt q3
  have t0 : t.val ≠ 0 := fun h => q3 (q3_zero a t h)
  rewrite [i4]
  simp only [before0_0, before0_1, before0_2, before0_3, before0_4, after0_0, after0_1, after0_2, after0_3, after0_4]
  simp only [fr4, Bool.false_eq_true, ↓reduceIte]
  rewrite [show (dats a m ρ 0 c).Φ t.succ = Phi a m ρ c (t.val + 1) t.isLt from rfl, show (dats a m ρ 0 c).Φ t.castSucc = Phi a m ρ c t.val t.isLt.le from rfl,
    show (dats a m ρ 0 c).owesAt () t.succ = (dats a m ρ 0 c).owesAt () t.castSucc from rfl]
  unfold Phi
  rewrite [prev_succ a m ρ c t t.isLt, step_E a m ρ c t _ q1]
  simp only [exists_held t0]
  iintro ⟨⟨HS0, HS1, HS2, HT0, HT1, HT2, HT3, HT4⟩, Ho, ⟨%d0, H0⟩, ⟨%d1, H1⟩, ⟨%d2, H2⟩, ⟨%d3, H3⟩, ⟨%d4, H4⟩⟩
  iapply (runE c (crd a t) (ms0_0 a t) (hs0_0 a t) (ms0_1 a t) (hs0_1 a t) (ms0_2 a t) (hs0_2 a t) (ms0_3 a t) (hs0_3 a t) (ms0_4 a t) (hs0_4 a t) (T0 a) (T1 a) (T2 a) (T3 a) (T4 a) (iblk a m ρ c (0 : Fin 5) t) (iblk a m ρ c (1 : Fin 5) t) (iblk a m ρ c (2 : Fin 5) t) (iblk a m ρ c (3 : Fin 5) t) _ _ _ q1 _)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [HT2]; · iexact HT2
  isplitl [HT3]; · iexact HT3
  isplitl [HT4]; · iexact HT4
  isplitl [HS0]; · iexact HS0
  isplitl [HS1]; · iexact HS1
  isplitl [HS2]; · iexact HS2
  iintro ⟨H0, H1, H2, H3, HT0, HT1, HT2, HT3, HT4, HS0, HS1, HS2⟩
  isplitl [HS0 HS1 HS2 HT0 HT1 HT2 HT3 HT4]
  · isplitl [HS0]
    · iexists _; isplitr; swap
      · iexact HS0
      · ipureintro; intro hn; rfl
    isplitl [HS1]
    · iexists _; isplitr; swap
      · iexact HS1
      · ipureintro; intro hn; rfl
    isplitl [HS2]
    · iexists _; isplitr; swap
      · iexact HS2
      · ipureintro; intro hn; rfl
    isplitl [HT0]; · iexact HT0
    isplitl [HT1]; · iexact HT1
    isplitl [HT2]; · iexact HT2
    isplitl [HT3]; · iexact HT3
    iexact HT4
  isplitl [Ho]; · iexact Ho
  isplitl [H0]
  · iapply owns_of_rep; iexact H0
  isplitl [H1]
  · iapply owns_of_rep; iexact H1
  isplitl [H2]
  · iapply owns_of_rep; iexact H2
  isplitl [H3]
  · iapply owns_of_rep; iexact H3
  cases hfl : ((cfgA a).win (4 : Fin 5)).flush t
  · iexists d4; iexact H4
  · iexact H4

end Cert.ExpIdeal.Tab
-- ==== Proof.ExpIdealFrame.lean ====
module

public import proofs.«01_k».proof.Proof.ExpIdealBodyA
public import proofs.«01_k».proof.Proof.ExpIdealBodyB
public import proofs.«01_k».proof.Proof.ExpIdealBodyC
public import proofs.«01_k».proof.Proof.ExpIdealBodyD
public import proofs.«01_k».proof.Proof.ExpIdealBodyE

@[expose] public section

set_option maxRecDepth 16384
set_option Elab.async false

noncomputable section

namespace Cert.ExpIdeal.Tab

open Cert.ExpIdeal Cert.ExpIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

attribute [local irreducible] runA runB runC runD

variable {F : FTy → Type} [FloatOps F]

local notation "𝕄" => MT nD τ sig Unit (Elt F) ℕ (UR sig nD τ) ℕ

variable (a : (pcfg0 (F := F)).Adm) (m : (ℓ : Loc nD τ sig) → Buf (Elt F) ℓ) (ρ : Dev nD → PrngReg)

/-- The obligation at every point. -/
theorem sound_body (G : Good a.1) (c : Dev nD) (t : Fin (cfgA a).N) : BodyAt a m ρ c t := by
  by_cases q1 : Q1 a t
  · by_cases q3 : Q3 a t
    · by_cases ql : QL a t
      · exact bodyA a m ρ G c t q1 ql q3
      · exact bodyC a m ρ G c t q1 ql q3
    · by_cases ql : QL a t
      · exact bodyD a m ρ G c t q1 ql q3
      · exact bodyB a m ρ G c t q1 ql q3
  · exact bodyE a m ρ G c t q1

theorem body_obligation (G : Good a.1) (c : Dev nD) : BodyObligation (dats a m ρ 0 c) (defs₀ (F := F)) Variants.none () Set.univ := fun t => by
  have h := sound_body a m ρ G c t
  unfold BodyAt at h
  rw [bigSep_W0]
  exact h

/-! ## The launch -/

/-- The rounds library's launch element. -/
def u₀ : UR sig nD τ :=
  initOf (Pipeline.cells (pcs a) ((launch0 (F := F)).cellOf_inj fun _ => a))
    (Pipeline.launchToks (pcs a) ((launch0 (F := F)).cellOf_inj fun _ => a))

theorem share_eq (c : Dev nD) (w : Fin (cfgA a).W) : (dats a m ρ 0 c).share w = fullShare := by unfold Dat.share; split <;> rfl

/-- The tables as the launch hands them to the region, one by one. -/
theorem prefHeld_eq (c : Dev nD) (q : Fin 5 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1) ∗ (((c : Thread nD τ).loc main_arg2) ↦{q 2} v 2) ∗ (((c : Thread nD τ).loc main_arg3) ↦{q 3} v 3) ∗ (((c : Thread nD τ).loc main_arg4) ↦{q 4} v 4)) := by
  unfold Pipeline.prefHeld
  rw [show (Finset.univ : Finset (Fin 5)) = insert (0 : Fin 5) (insert (1 : Fin 5) (insert (2 : Fin 5) (insert (3 : Fin 5) {(4 : Fin 5)}))) from by decide,
    bigSep_insert (by decide), bigSep_insert (by decide), bigSep_insert (by decide), bigSep_insert (by decide), bigSep_singleton]
  rfl

/-- The invariant at the first point from the tables and the scratch buffers (`hin`); -/
theorem phi0_intro (c : Dev nD) :
    iprop(BI.emp ∗ Pipeline.prefHeld pre0 c (fun _ => fullShare.right) a.1 ∗ Pipeline.scopedRest spec0 c) ⊢ (dats a m ρ 0 c).Φ 0 := by
  rw [prefHeld_eq, scopedRest0_eq, show (dats a m ρ 0 c).Φ 0 = Phi a m ρ c 0 (Nat.zero_le _) from rfl]
  unfold Phi
  iintro ⟨-, ⟨HT0, HT1, HT2, HT3, HT4⟩, ⟨%a0, HS0⟩, ⟨%a1, HS1⟩, ⟨%a2, HS2⟩⟩
  isplitl [HS0]
  · iexists a0; isplitr; swap
    · iexact HS0
    · ipureintro; intro h; exact absurd rfl h
  isplitl [HS1]
  · iexists a1; isplitr; swap
    · iexact HS1
    · ipureintro; intro h; exact absurd rfl h
  isplitl [HS2]
  · iexists a2; isplitr; swap
    · iexact HS2
    · ipureintro; intro h; exact absurd rfl h
  isplitl [HT0]
  · iexact HT0
  isplitl [HT1]
  · iexact HT1
  isplitl [HT2]
  · iexact HT2
  isplitl [HT3]
  · iexact HT3
  iexact HT4

/-- at the last point it gives the scratch buffers back (`hout`), the tables let go. -/
theorem phiN_exit (c : Dev nD) : (dats a m ρ 0 c).Φ (Fin.last (cfgA a).N) ⊢ iprop(BI.emp ∗ Pipeline.scopedRest spec0 c) := by
  rw [scopedRest0_eq, show (dats a m ρ 0 c).Φ (Fin.last (cfgA a).N) = Phi a m ρ c (cfgA a).N le_rfl from rfl]
  unfold Phi
  iintro ⟨⟨%a0, -, HS0⟩, ⟨%a1, -, HS1⟩, ⟨%a2, -, HS2⟩, -, -, -, -, -⟩
  isplitr; · iempintro
  isplitl [HS0]
  · iexists a0; iexact HS0
  isplitl [HS1]
  · iexists a1; iexact HS1
  iexists a2; iexact HS2

/-- The physical post: every array at what the library computes, every table at what the pipeline ran at. -/
def QC : PUnit × MemSt nD τ sig (Elt F) → Prop := fun r =>
  ∀ c : Dev nD, (∀ w : Fin (cfgA a).W, r.2.mem (((cfgA a).win w).arr.view.loc (c : Thread nD τ)) = (dats a m ρ 0 c).arrAt w (cfgA a).N)
    ∧ ∀ j, r.2.mem ((c : Thread nD τ).loc (pre0.ref j)) = a.1 j

set_option backward.isDefEq.respectTransparency.types false in
set_option maxHeartbeats 4000000 in
/-- At the compiled mesh, from any memory with zero counters whose tables are good: every weakly
    fair execution of @main on the TensorCores terminates, and every final state has each array at the computed contents,
    and every semaphore counter at zero. -/
theorem run_main (G : Good a.1) (hp : ∀ (c : Dev nD) (j : Fin 5), m ((c : Thread nD τ).loc (pre0.ref j)) = a.1 j) : θ_run (defs (F := F)) (onTc (τ := τ) (main (F := F))) (s₀ m ρ) (fun r => QC a m ρ r ∧ r.2.sem = fun _ => 0) :=
  Pipeline.θ_run_region_noSem_pf_quiescent pcfgs (fun _ => a) (dats a m ρ) () ((launch0 (F := F)).cellOf_inj fun _ => a) (0 : Fin 1)
    (launch0 (F := F)).win.to₀ (launch0 (F := F)).pre EP defs₀ Variants.none m ρ main
    (hbody := fun c => (body_obligation a m ρ G c).loose) (hne := (launch0 (F := F)).block_pos)
    (harr := (launch0 (F := F)).arr_whole) (hstage := (launch0 (F := F)).stage_whole) (howed := fun _ _ => rfl)
    (u₀ := u₀ a) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs a) (dats a m ρ) 0 (launch0 (F := F)).win.arr_inj c (launch0 (F := F)).arr_whole
      (share_eq a m ρ c) _ _ fun _ => rfl)
    (hpf := hp)
    (X := fun _ => iprop(emp)) (Y := fun _ => iprop(emp)) (Z := fun _ => iprop(emp))
    (hX := fun c => by rw [unscopedRestP0_eq]; iintro -; isplitr <;> iempintro)
    (hin := phi0_intro a m ρ)
    (hout := phiN_exit a m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The frame: every argument array ends unchanged, every counter at zero. -/
theorem frame (G : Good a.1) (hp : ∀ (c : Dev nD) (j : Fin 5), m ((c : Thread nD τ).loc (pre0.ref j)) = a.1 j) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => ⟨((h.1 c).2 0).trans (hp c 0).symm, ((h.1 c).2 1).trans (hp c 1).symm, ((h.1 c).2 2).trans (hp c 2).symm, ((h.1 c).2 3).trans (hp c 3).symm, ((h.1 c).2 4).trans (hp c 4).symm, ((h.1 c).1 (0 : Fin 5)).trans ((dats a m ρ 0 c).arrAt_in (0 : Fin 5) rfl _), ((h.1 c).1 (1 : Fin 5)).trans ((dats a m ρ 0 c).arrAt_in (1 : Fin 5) rfl _), ((h.1 c).1 (2 : Fin 5)).trans ((dats a m ρ 0 c).arrAt_in (2 : Fin 5) rfl _), ((h.1 c).1 (3 : Fin 5)).trans ((dats a m ρ 0 c).arrAt_in (3 : Fin 5) rfl _)⟩, h.2⟩) (run_main a m ρ G hp)

end Cert.ExpIdeal.Tab
-- ==== Proof.ExpIdealChunk.lean ====
/- What one visit leaves, read at an index: the tile's rows rescaled into chunks, the feed-forward product over the
   resident weights, and the four kinds of visit. -/
module

public import proofs.«01_k».proof.Proof.ExpIdealFr
public import Idealize.ShloMosaic.Lib.Pipeline.ValueKit
public import Idealize.ShloMosaic.Lib.Pipeline.ReadBack
public import Idealize.ShloMosaic.Lib.Pointwise

@[expose] public section

set_option maxRecDepth 16384
set_option Elab.async false

noncomputable section

namespace Cert.ExpIdeal.Tab

open Cert.ExpIdeal Cert.ExpIdeal.Gen
open Idealize.ShloMosaic
open Idealize.ShloMosaic.TcCoe Idealize.ShloMosaic.Tactic

/-- The index of a tile's buffer holding row `r`'s feature `d`. -/
def cix (r : Fin 512) (d : Fin 2048) : S8192x128.Idx :=
  ix2 (⟨16 * r.val + d.val / 128, by omega⟩ : Fin 8192) (⟨d.val % 128, by omega⟩ : Fin 128)
/-- The row and the feature at an index of a tile's buffer. -/
def rowOf (y : S8192x128.Idx) : Fin 512 := ⟨(y 0).val / 16, by have : (y 0).val < 8192 := (y 0).isLt; omega⟩
/-- The feature at an index of a tile's buffer. -/
def colOf (y : S8192x128.Idx) : Fin 2048 := ⟨128 * ((y 0).val % 16) + (y 1).val, by have : (y 1).val < 128 := (y 1).isLt; omega⟩

theorem cix_of (y : S8192x128.Idx) : cix (rowOf y) (colOf y) = y := by
  have h0 : (y 0).val < 8192 := (y 0).isLt
  have h1 : (y 1).val < 128 := (y 1).isLt
  funext b
  match b with
  | ⟨0, _⟩ =>
    apply Fin.ext
    show 16 * ((y 0).val / 16) + (128 * ((y 0).val % 16) + (y 1).val) / 128 = (y 0).val
    omega
  | ⟨1, _⟩ =>
    apply Fin.ext
    show (128 * ((y 0).val % 16) + (y 1).val) % 128 = (y 1).val
    omega

/-- Sixteen chunks side by side, read at an index: each chunk's rows are a tile's rows `16 r + k`. -/
theorem catF (X : S8192x128.Idx → EReal) (P : Fin 16 → S512x128.Idx → EReal)
    (h : ∀ k (i : S512x128.Idx), P k i = X (ix2 (⟨16 * (i 0).val + k.val, by have : (i 0).val < 512 := (i 0).isLt; omega⟩ : Fin 8192) (⟨(i 1).val, (i 1).isLt⟩ : Fin 128)))
    (hc : Shape.Concatenates ((List.ofFn fun k : Fin 16 => (⟨S512x128, P k⟩ : (s : Shape) × (s.Idx → EReal))).map (·.1)) S512x2048 1) (j : S512x2048.Idx) :
    concatenate S512x2048 1 (List.ofFn fun k : Fin 16 => (⟨S512x128, P k⟩ : (s : Shape) × (s.Idx → EReal))) hc j = X (cix (⟨(j 0).val, (j 0).isLt⟩ : Fin 512) (⟨(j 1).val, (j 1).isLt⟩ : Fin 2048)) := by
  have hj0 : (j 0).val < 512 := (j 0).isLt
  have hj1 : (j 1).val < 2048 := (j 1).isLt
  refine (concatenate_ofFn_apply 1 P hc rfl 128 rfl j (⟨(j 1).val / 128, by omega⟩ : Fin 16) rfl (ix2 (⟨(j 0).val, hj0⟩ : Fin 512) (⟨(j 1).val % 128, by omega⟩ : Fin 128)) rfl ?_).trans (h _ _)
  intro b hb
  match b, hb with
  | ⟨0, _⟩, _ => rfl
  | ⟨1, _⟩, hb => exact absurd rfl hb
/-- The same of the sixteen chunks written out. -/
theorem cat16 (X : S8192x128.Idx → EReal) (P0 : S512x128.Idx → EReal) (P1 : S512x128.Idx → EReal) (P2 : S512x128.Idx → EReal) (P3 : S512x128.Idx → EReal) (P4 : S512x128.Idx → EReal) (P5 : S512x128.Idx → EReal) (P6 : S512x128.Idx → EReal) (P7 : S512x128.Idx → EReal) (P8 : S512x128.Idx → EReal) (P9 : S512x128.Idx → EReal) (P10 : S512x128.Idx → EReal) (P11 : S512x128.Idx → EReal) (P12 : S512x128.Idx → EReal) (P13 : S512x128.Idx → EReal) (P14 : S512x128.Idx → EReal) (P15 : S512x128.Idx → EReal)
    (h0 : ∀ i : S512x128.Idx, P0 i = X (ix2 (⟨16 * (i 0).val + 0, by have : (i 0).val < 512 := (i 0).isLt; omega⟩ : Fin 8192) (⟨(i 1).val, (i 1).isLt⟩ : Fin 128)))
    (h1 : ∀ i : S512x128.Idx, P1 i = X (ix2 (⟨16 * (i 0).val + 1, by have : (i 0).val < 512 := (i 0).isLt; omega⟩ : Fin 8192) (⟨(i 1).val, (i 1).isLt⟩ : Fin 128)))
    (h2 : ∀ i : S512x128.Idx, P2 i = X (ix2 (⟨16 * (i 0).val + 2, by have : (i 0).val < 512 := (i 0).isLt; omega⟩ : Fin 8192) (⟨(i 1).val, (i 1).isLt⟩ : Fin 128)))
    (h3 : ∀ i : S512x128.Idx, P3 i = X (ix2 (⟨16 * (i 0).val + 3, by have : (i 0).val < 512 := (i 0).isLt; omega⟩ : Fin 8192) (⟨(i 1).val, (i 1).isLt⟩ : Fin 128)))
    (h4 : ∀ i : S512x128.Idx, P4 i = X (ix2 (⟨16 * (i 0).val + 4, by have : (i 0).val < 512 := (i 0).isLt; omega⟩ : Fin 8192) (⟨(i 1).val, (i 1).isLt⟩ : Fin 128)))
    (h5 : ∀ i : S512x128.Idx, P5 i = X (ix2 (⟨16 * (i 0).val + 5, by have : (i 0).val < 512 := (i 0).isLt; omega⟩ : Fin 8192) (⟨(i 1).val, (i 1).isLt⟩ : Fin 128)))
    (h6 : ∀ i : S512x128.Idx, P6 i = X (ix2 (⟨16 * (i 0).val + 6, by have : (i 0).val < 512 := (i 0).isLt; omega⟩ : Fin 8192) (⟨(i 1).val, (i 1).isLt⟩ : Fin 128)))
    (h7 : ∀ i : S512x128.Idx, P7 i = X (ix2 (⟨16 * (i 0).val + 7, by have : (i 0).val < 512 := (i 0).isLt; omega⟩ : Fin 8192) (⟨(i 1).val, (i 1).isLt⟩ : Fin 128)))
    (h8 : ∀ i : S512x128.Idx, P8 i = X (ix2 (⟨16 * (i 0).val + 8, by have : (i 0).val < 512 := (i 0).isLt; omega⟩ : Fin 8192) (⟨(i 1).val, (i 1).isLt⟩ : Fin 128)))
    (h9 : ∀ i : S512x128.Idx, P9 i = X (ix2 (⟨16 * (i 0).val + 9, by have : (i 0).val < 512 := (i 0).isLt; omega⟩ : Fin 8192) (⟨(i 1).val, (i 1).isLt⟩ : Fin 128)))
    (h10 : ∀ i : S512x128.Idx, P10 i = X (ix2 (⟨16 * (i 0).val + 10, by have : (i 0).val < 512 := (i 0).isLt; omega⟩ : Fin 8192) (⟨(i 1).val, (i 1).isLt⟩ : Fin 128)))
    (h11 : ∀ i : S512x128.Idx, P11 i = X (ix2 (⟨16 * (i 0).val + 11, by have : (i 0).val < 512 := (i 0).isLt; omega⟩ : Fin 8192) (⟨(i 1).val, (i 1).isLt⟩ : Fin 128)))
    (h12 : ∀ i : S512x128.Idx, P12 i = X (ix2 (⟨16 * (i 0).val + 12, by have : (i 0).val < 512 := (i 0).isLt; omega⟩ : Fin 8192) (⟨(i 1).val, (i 1).isLt⟩ : Fin 128)))
    (h13 : ∀ i : S512x128.Idx, P13 i = X (ix2 (⟨16 * (i 0).val + 13, by have : (i 0).val < 512 := (i 0).isLt; omega⟩ : Fin 8192) (⟨(i 1).val, (i 1).isLt⟩ : Fin 128)))
    (h14 : ∀ i : S512x128.Idx, P14 i = X (ix2 (⟨16 * (i 0).val + 14, by have : (i 0).val < 512 := (i 0).isLt; omega⟩ : Fin 8192) (⟨(i 1).val, (i 1).isLt⟩ : Fin 128)))
    (h15 : ∀ i : S512x128.Idx, P15 i = X (ix2 (⟨16 * (i 0).val + 15, by have : (i 0).val < 512 := (i 0).isLt; omega⟩ : Fin 8192) (⟨(i 1).val, (i 1).isLt⟩ : Fin 128)))
    (hc : Shape.Concatenates ([(⟨S512x128, P0⟩ : (s : Shape) × (s.Idx → EReal)), (⟨S512x128, P1⟩ : (s : Shape) × (s.Idx → EReal)), (⟨S512x128, P2⟩ : (s : Shape) × (s.Idx → EReal)), (⟨S512x128, P3⟩ : (s : Shape) × (s.Idx → EReal)), (⟨S512x128, P4⟩ : (s : Shape) × (s.Idx → EReal)), (⟨S512x128, P5⟩ : (s : Shape) × (s.Idx → EReal)), (⟨S512x128, P6⟩ : (s : Shape) × (s.Idx → EReal)), (⟨S512x128, P7⟩ : (s : Shape) × (s.Idx → EReal)), (⟨S512x128, P8⟩ : (s : Shape) × (s.Idx → EReal)), (⟨S512x128, P9⟩ : (s : Shape) × (s.Idx → EReal)), (⟨S512x128, P10⟩ : (s : Shape) × (s.Idx → EReal)), (⟨S512x128, P11⟩ : (s : Shape) × (s.Idx → EReal)), (⟨S512x128, P12⟩ : (s : Shape) × (s.Idx → EReal)), (⟨S512x128, P13⟩ : (s : Shape) × (s.Idx → EReal)), (⟨S512x128, P14⟩ : (s : Shape) × (s.Idx → EReal)), (⟨S512x128, P15⟩ : (s : Shape) × (s.Idx → EReal))].map (·.1)) S512x2048 1) (j : S512x2048.Idx) :
    concatenate S512x2048 1 [⟨S512x128, P0⟩, ⟨S512x128, P1⟩, ⟨S512x128, P2⟩, ⟨S512x128, P3⟩, ⟨S512x128, P4⟩, ⟨S512x128, P5⟩, ⟨S512x128, P6⟩, ⟨S512x128, P7⟩, ⟨S512x128, P8⟩, ⟨S512x128, P9⟩, ⟨S512x128, P10⟩, ⟨S512x128, P11⟩, ⟨S512x128, P12⟩, ⟨S512x128, P13⟩, ⟨S512x128, P14⟩, ⟨S512x128, P15⟩] hc j = X (cix (⟨(j 0).val, (j 0).isLt⟩ : Fin 512) (⟨(j 1).val, (j 1).isLt⟩ : Fin 2048)) := by
  exact catF X ![P0, P1, P2, P3, P4, P5, P6, P7, P8, P9, P10, P11, P12, P13, P14, P15] (fun k => by fin_cases k; exacts [h0, h1, h2, h3, h4, h5, h6, h7, h8, h9, h10, h11, h12, h13, h14, h15]) hc j

/-- A row lies in the visit's range. -/
def mine (lo hi : BitVec 32) (r : Fin 512) : Prop := lo.toInt ≤ (r.val : ℤ) ∧ (r.val : ℤ) < hi.toInt

/-- The gate or up product of a tile's row with one expert's resident weight. -/
def lin (x : S8192x128.Idx → EReal) (w : S2048x512.Idx → EReal) (r : Fin 512) (f : Fin 512) : EReal :=
  ∑ k : Fin 2048, x (cix r k) * w (ix2 k f)
/-- The feed-forward product of a tile's row over one expert's resident weights. -/
def ffn (x : S8192x128.Idx → EReal) (g u : S2048x512.Idx → EReal) (d : S512x2048.Idx → EReal) (r : Fin 512) (e : Fin 2048) : EReal :=
  ∑ f : Fin 512, lin x g r f * Ideal.logistic (lin x g r f) * lin x u r f * d (ix2 f e)

end Cert.ExpIdeal.Tab
-- ==== Proof.ExpIdealPay.lean ====
/- What one visit leaves: the payloads read at an index. -/
module

public import proofs.«01_k».proof.Proof.ExpIdealChunk
public import Idealize.ShloMosaic.Lib.Pointwise

@[expose] public section

set_option maxRecDepth 16384
set_option Elab.async false

noncomputable section

namespace Cert.ExpIdeal.Tab

open Cert.ExpIdeal Cert.ExpIdeal.Gen
open Idealize.ShloMosaic
open Idealize.ShloMosaic.TcCoe Idealize.ShloMosaic.Tactic

/-- The feed-forward payload at a row and a feature. -/
theorem pay1_eq (x : S8192x128.Idx → EReal) (X : FVec Ideal S512x2048 .f32) (g u : FVec Ideal S2048x512 .bf16) (d : FVec Ideal S512x2048 .bf16)
    (hX : ∀ j : S512x2048.Idx, X j = x (cix (⟨(j 0).val, (j 0).isLt⟩ : Fin 512) (⟨(j 1).val, (j 1).isLt⟩ : Fin 2048)))
    (r : Fin 512) (e : Fin 2048) : k0_pay1 (F := Ideal) X g u d (ix2 r e) = ffn x g u d r e := by
  unfold k0_pay1 ffn lin
  pointwise
  simp only [hX]
  rfl

/-- The visit's mask at a row. -/
theorem pay2_eq (lo hi : BitVec 32) (r : Fin 512) : k0_pay2 (F := Ideal) lo hi (ix2 r (0 : Fin 1)) = 1#1 ↔ mine lo hi r := by
  unfold k0_pay2 mine
  have h1 : ∀ a b : BitVec 1, IntOp.andi a b = 1#1 ↔ a = 1#1 ∧ b = 1#1 := by decide
  have hr : (BitVec.ofNat 32 r.val).toInt = (r.val : ℤ) := by
    have := r.isLt
    rw [BitVec.toInt_eq_toNat_of_lt] <;> simp only [BitVec.toNat_ofNat] <;> omega
  pointwise
  rw [h1]
  simp only [IntOp.cmpi, BitVec.sle, BitVec.slt, hr]
  have hb : ∀ b : Bool, BitVec.ofBool b = 1#1 ↔ b = true := by decide
  rw [hb, hb, decide_eq_true_eq, decide_eq_true_eq]

end Cert.ExpIdeal.Tab
-- ==== Proof.ExpIdealCanon.lean ====
/- What one visit leaves, read at an index: the tile's rows rescaled into chunks, the feed-forward product over the
   resident weights, and the four kinds of visit. -/
module

public import proofs.«01_k».proof.Proof.ExpIdealChunk
public import Idealize.ShloMosaic.Lib.Pipeline.ValueKit
public import Idealize.ShloMosaic.Lib.Pipeline.ReadBack
public import Idealize.ShloMosaic.Lib.Pointwise

@[expose] public section

set_option maxRecDepth 16384
set_option Elab.async false

noncomputable section

namespace Cert.ExpIdeal.Tab

open Cert.ExpIdeal Cert.ExpIdeal.Gen
open Idealize.ShloMosaic
open Idealize.ShloMosaic.TcCoe Idealize.ShloMosaic.Tactic

/-- Sixteen stores at the row families `16 r + k` read back at an index. -/
theorem canon16 (V : S512x2048.Idx → EReal) (P0 : S512x128.Idx → EReal) (P1 : S512x128.Idx → EReal) (P2 : S512x128.Idx → EReal) (P3 : S512x128.Idx → EReal) (P4 : S512x128.Idx → EReal) (P5 : S512x128.Idx → EReal) (P6 : S512x128.Idx → EReal) (P7 : S512x128.Idx → EReal) (P8 : S512x128.Idx → EReal) (P9 : S512x128.Idx → EReal) (P10 : S512x128.Idx → EReal) (P11 : S512x128.Idx → EReal) (P12 : S512x128.Idx → EReal) (P13 : S512x128.Idx → EReal) (P14 : S512x128.Idx → EReal) (P15 : S512x128.Idx → EReal)
    (h0 : ∀ i : S512x128.Idx, P0 i = V (ix2 (⟨(i 0).val, (i 0).isLt⟩ : Fin 512) (⟨0 + (i 1).val, by have : (i 1).val < 128 := (i 1).isLt; omega⟩ : Fin 2048)))
    (h1 : ∀ i : S512x128.Idx, P1 i = V (ix2 (⟨(i 0).val, (i 0).isLt⟩ : Fin 512) (⟨128 + (i 1).val, by have : (i 1).val < 128 := (i 1).isLt; omega⟩ : Fin 2048)))
    (h2 : ∀ i : S512x128.Idx, P2 i = V (ix2 (⟨(i 0).val, (i 0).isLt⟩ : Fin 512) (⟨256 + (i 1).val, by have : (i 1).val < 128 := (i 1).isLt; omega⟩ : Fin 2048)))
    (h3 : ∀ i : S512x128.Idx, P3 i = V (ix2 (⟨(i 0).val, (i 0).isLt⟩ : Fin 512) (⟨384 + (i 1).val, by have : (i 1).val < 128 := (i 1).isLt; omega⟩ : Fin 2048)))
    (h4 : ∀ i : S512x128.Idx, P4 i = V (ix2 (⟨(i 0).val, (i 0).isLt⟩ : Fin 512) (⟨512 + (i 1).val, by have : (i 1).val < 128 := (i 1).isLt; omega⟩ : Fin 2048)))
    (h5 : ∀ i : S512x128.Idx, P5 i = V (ix2 (⟨(i 0).val, (i 0).isLt⟩ : Fin 512) (⟨640 + (i 1).val, by have : (i 1).val < 128 := (i 1).isLt; omega⟩ : Fin 2048)))
    (h6 : ∀ i : S512x128.Idx, P6 i = V (ix2 (⟨(i 0).val, (i 0).isLt⟩ : Fin 512) (⟨768 + (i 1).val, by have : (i 1).val < 128 := (i 1).isLt; omega⟩ : Fin 2048)))
    (h7 : ∀ i : S512x128.Idx, P7 i = V (ix2 (⟨(i 0).val, (i 0).isLt⟩ : Fin 512) (⟨896 + (i 1).val, by have : (i 1).val < 128 := (i 1).isLt; omega⟩ : Fin 2048)))
    (h8 : ∀ i : S512x128.Idx, P8 i = V (ix2 (⟨(i 0).val, (i 0).isLt⟩ : Fin 512) (⟨1024 + (i 1).val, by have : (i 1).val < 128 := (i 1).isLt; omega⟩ : Fin 2048)))
    (h9 : ∀ i : S512x128.Idx, P9 i = V (ix2 (⟨(i 0).val, (i 0).isLt⟩ : Fin 512) (⟨1152 + (i 1).val, by have : (i 1).val < 128 := (i 1).isLt; omega⟩ : Fin 2048)))
    (h10 : ∀ i : S512x128.Idx, P10 i = V (ix2 (⟨(i 0).val, (i 0).isLt⟩ : Fin 512) (⟨1280 + (i 1).val, by have : (i 1).val < 128 := (i 1).isLt; omega⟩ : Fin 2048)))
    (h11 : ∀ i : S512x128.Idx, P11 i = V (ix2 (⟨(i 0).val, (i 0).isLt⟩ : Fin 512) (⟨1408 + (i 1).val, by have : (i 1).val < 128 := (i 1).isLt; omega⟩ : Fin 2048)))
    (h12 : ∀ i : S512x128.Idx, P12 i = V (ix2 (⟨(i 0).val, (i 0).isLt⟩ : Fin 512) (⟨1536 + (i 1).val, by have : (i 1).val < 128 := (i 1).isLt; omega⟩ : Fin 2048)))
    (h13 : ∀ i : S512x128.Idx, P13 i = V (ix2 (⟨(i 0).val, (i 0).isLt⟩ : Fin 512) (⟨1664 + (i 1).val, by have : (i 1).val < 128 := (i 1).isLt; omega⟩ : Fin 2048)))
    (h14 : ∀ i : S512x128.Idx, P14 i = V (ix2 (⟨(i 0).val, (i 0).isLt⟩ : Fin 512) (⟨1792 + (i 1).val, by have : (i 1).val < 128 := (i 1).isLt; omega⟩ : Fin 2048)))
    (h15 : ∀ i : S512x128.Idx, P15 i = V (ix2 (⟨(i 0).val, (i 0).isLt⟩ : Fin 512) (⟨1920 + (i 1).val, by have : (i 1).val < 128 := (i 1).isLt; omega⟩ : Fin 2048)))
    (y : S8192x128.Idx) :
    View.canon (Val := Elt Ideal) (e := .f32) [(⟨RK 15, P15⟩ : View.Piece (Elt Ideal) S8192x128 .f32), (⟨RK 14, P14⟩ : View.Piece (Elt Ideal) S8192x128 .f32), (⟨RK 13, P13⟩ : View.Piece (Elt Ideal) S8192x128 .f32), (⟨RK 12, P12⟩ : View.Piece (Elt Ideal) S8192x128 .f32), (⟨RK 11, P11⟩ : View.Piece (Elt Ideal) S8192x128 .f32), (⟨RK 10, P10⟩ : View.Piece (Elt Ideal) S8192x128 .f32), (⟨RK 9, P9⟩ : View.Piece (Elt Ideal) S8192x128 .f32), (⟨RK 8, P8⟩ : View.Piece (Elt Ideal) S8192x128 .f32), (⟨RK 7, P7⟩ : View.Piece (Elt Ideal) S8192x128 .f32), (⟨RK 6, P6⟩ : View.Piece (Elt Ideal) S8192x128 .f32), (⟨RK 5, P5⟩ : View.Piece (Elt Ideal) S8192x128 .f32), (⟨RK 4, P4⟩ : View.Piece (Elt Ideal) S8192x128 .f32), (⟨RK 3, P3⟩ : View.Piece (Elt Ideal) S8192x128 .f32), (⟨RK 2, P2⟩ : View.Piece (Elt Ideal) S8192x128 .f32), (⟨RK 1, P1⟩ : View.Piece (Elt Ideal) S8192x128 .f32), (⟨RK 0, P0⟩ : View.Piece (Elt Ideal) S8192x128 .f32)] y = V (ix2 (rowOf y) (colOf y)) := by
  refine View.canon_eq_of_allAt _ y _ (cover_of_rows _ rfl y) ?_
  refine View.allAt_cons _ _ _ ?_ (View.allAt_cons _ _ _ ?_ (View.allAt_cons _ _ _ ?_ (View.allAt_cons _ _ _ ?_ (View.allAt_cons _ _ _ ?_ (View.allAt_cons _ _ _ ?_ (View.allAt_cons _ _ _ ?_ (View.allAt_cons _ _ _ ?_ (View.allAt_cons _ _ _ ?_ (View.allAt_cons _ _ _ ?_ (View.allAt_cons _ _ _ ?_ (View.allAt_cons _ _ _ ?_ (View.allAt_cons _ _ _ ?_ (View.allAt_cons _ _ _ ?_ (View.allAt_cons _ _ _ ?_ (View.allAt_cons _ _ _ ?_ (View.allAt_nil _ _))))))))))))))))
  · intro x hx
    refine (h15 x).trans (congrArg V ?_)
    have e0 : 15 + 16 * (x 0).val = (y 0).val := congrArg (fun z : S8192x128.Idx => (z 0).val) hx
    have e1 : 0 + 1 * (x 1).val = (y 1).val := congrArg (fun z : S8192x128.Idx => (z 1).val) hx
    funext b
    match b with
    | ⟨0, _⟩ => apply Fin.ext; show (x 0).val = (y 0).val / 16; omega
    | ⟨1, _⟩ => apply Fin.ext; show 1920 + (x 1).val = 128 * ((y 0).val % 16) + (y 1).val; omega
  · intro x hx
    refine (h14 x).trans (congrArg V ?_)
    have e0 : 14 + 16 * (x 0).val = (y 0).val := congrArg (fun z : S8192x128.Idx => (z 0).val) hx
    have e1 : 0 + 1 * (x 1).val = (y 1).val := congrArg (fun z : S8192x128.Idx => (z 1).val) hx
    funext b
    match b with
    | ⟨0, _⟩ => apply Fin.ext; show (x 0).val = (y 0).val / 16; omega
    | ⟨1, _⟩ => apply Fin.ext; show 1792 + (x 1).val = 128 * ((y 0).val % 16) + (y 1).val; omega
  · intro x hx
    refine (h13 x).trans (congrArg V ?_)
    have e0 : 13 + 16 * (x 0).val = (y 0).val := congrArg (fun z : S8192x128.Idx => (z 0).val) hx
    have e1 : 0 + 1 * (x 1).val = (y 1).val := congrArg (fun z : S8192x128.Idx => (z 1).val) hx
    funext b
    match b with
    | ⟨0, _⟩ => apply Fin.ext; show (x 0).val = (y 0).val / 16; omega
    | ⟨1, _⟩ => apply Fin.ext; show 1664 + (x 1).val = 128 * ((y 0).val % 16) + (y 1).val; omega
  · intro x hx
    refine (h12 x).trans (congrArg V ?_)
    have e0 : 12 + 16 * (x 0).val = (y 0).val := congrArg (fun z : S8192x128.Idx => (z 0).val) hx
    have e1 : 0 + 1 * (x 1).val = (y 1).val := congrArg (fun z : S8192x128.Idx => (z 1).val) hx
    funext b
    match b with
    | ⟨0, _⟩ => apply Fin.ext; show (x 0).val = (y 0).val / 16; omega
    | ⟨1, _⟩ => apply Fin.ext; show 1536 + (x 1).val = 128 * ((y 0).val % 16) + (y 1).val; omega
  · intro x hx
    refine (h11 x).trans (congrArg V ?_)
    have e0 : 11 + 16 * (x 0).val = (y 0).val := congrArg (fun z : S8192x128.Idx => (z 0).val) hx
    have e1 : 0 + 1 * (x 1).val = (y 1).val := congrArg (fun z : S8192x128.Idx => (z 1).val) hx
    funext b
    match b with
    | ⟨0, _⟩ => apply Fin.ext; show (x 0).val = (y 0).val / 16; omega
    | ⟨1, _⟩ => apply Fin.ext; show 1408 + (x 1).val = 128 * ((y 0).val % 16) + (y 1).val; omega
  · intro x hx
    refine (h10 x).trans (congrArg V ?_)
    have e0 : 10 + 16 * (x 0).val = (y 0).val := congrArg (fun z : S8192x128.Idx => (z 0).val) hx
    have e1 : 0 + 1 * (x 1).val = (y 1).val := congrArg (fun z : S8192x128.Idx => (z 1).val) hx
    funext b
    match b with
    | ⟨0, _⟩ => apply Fin.ext; show (x 0).val = (y 0).val / 16; omega
    | ⟨1, _⟩ => apply Fin.ext; show 1280 + (x 1).val = 128 * ((y 0).val % 16) + (y 1).val; omega
  · intro x hx
    refine (h9 x).trans (congrArg V ?_)
    have e0 : 9 + 16 * (x 0).val = (y 0).val := congrArg (fun z : S8192x128.Idx => (z 0).val) hx
    have e1 : 0 + 1 * (x 1).val = (y 1).val := congrArg (fun z : S8192x128.Idx => (z 1).val) hx
    funext b
    match b with
    | ⟨0, _⟩ => apply Fin.ext; show (x 0).val = (y 0).val / 16; omega
    | ⟨1, _⟩ => apply Fin.ext; show 1152 + (x 1).val = 128 * ((y 0).val % 16) + (y 1).val; omega
  · intro x hx
    refine (h8 x).trans (congrArg V ?_)
    have e0 : 8 + 16 * (x 0).val = (y 0).val := congrArg (fun z : S8192x128.Idx => (z 0).val) hx
    have e1 : 0 + 1 * (x 1).val = (y 1).val := congrArg (fun z : S8192x128.Idx => (z 1).val) hx
    funext b
    match b with
    | ⟨0, _⟩ => apply Fin.ext; show (x 0).val = (y 0).val / 16; omega
    | ⟨1, _⟩ => apply Fin.ext; show 1024 + (x 1).val = 128 * ((y 0).val % 16) + (y 1).val; omega
  · intro x hx
    refine (h7 x).trans (congrArg V ?_)
    have e0 : 7 + 16 * (x 0).val = (y 0).val := congrArg (fun z : S8192x128.Idx => (z 0).val) hx
    have e1 : 0 + 1 * (x 1).val = (y 1).val := congrArg (fun z : S8192x128.Idx => (z 1).val) hx
    funext b
    match b with
    | ⟨0, _⟩ => apply Fin.ext; show (x 0).val = (y 0).val / 16; omega
    | ⟨1, _⟩ => apply Fin.ext; show 896 + (x 1).val = 128 * ((y 0).val % 16) + (y 1).val; omega
  · intro x hx
    refine (h6 x).trans (congrArg V ?_)
    have e0 : 6 + 16 * (x 0).val = (y 0).val := congrArg (fun z : S8192x128.Idx => (z 0).val) hx
    have e1 : 0 + 1 * (x 1).val = (y 1).val := congrArg (fun z : S8192x128.Idx => (z 1).val) hx
    funext b
    match b with
    | ⟨0, _⟩ => apply Fin.ext; show (x 0).val = (y 0).val / 16; omega
    | ⟨1, _⟩ => apply Fin.ext; show 768 + (x 1).val = 128 * ((y 0).val % 16) + (y 1).val; omega
  · intro x hx
    refine (h5 x).trans (congrArg V ?_)
    have e0 : 5 + 16 * (x 0).val = (y 0).val := congrArg (fun z : S8192x128.Idx => (z 0).val) hx
    have e1 : 0 + 1 * (x 1).val = (y 1).val := congrArg (fun z : S8192x128.Idx => (z 1).val) hx
    funext b
    match b with
    | ⟨0, _⟩ => apply Fin.ext; show (x 0).val = (y 0).val / 16; omega
    | ⟨1, _⟩ => apply Fin.ext; show 640 + (x 1).val = 128 * ((y 0).val % 16) + (y 1).val; omega
  · intro x hx
    refine (h4 x).trans (congrArg V ?_)
    have e0 : 4 + 16 * (x 0).val = (y 0).val := congrArg (fun z : S8192x128.Idx => (z 0).val) hx
    have e1 : 0 + 1 * (x 1).val = (y 1).val := congrArg (fun z : S8192x128.Idx => (z 1).val) hx
    funext b
    match b with
    | ⟨0, _⟩ => apply Fin.ext; show (x 0).val = (y 0).val / 16; omega
    | ⟨1, _⟩ => apply Fin.ext; show 512 + (x 1).val = 128 * ((y 0).val % 16) + (y 1).val; omega
  · intro x hx
    refine (h3 x).trans (congrArg V ?_)
    have e0 : 3 + 16 * (x 0).val = (y 0).val := congrArg (fun z : S8192x128.Idx => (z 0).val) hx
    have e1 : 0 + 1 * (x 1).val = (y 1).val := congrArg (fun z : S8192x128.Idx => (z 1).val) hx
    funext b
    match b with
    | ⟨0, _⟩ => apply Fin.ext; show (x 0).val = (y 0).val / 16; omega
    | ⟨1, _⟩ => apply Fin.ext; show 384 + (x 1).val = 128 * ((y 0).val % 16) + (y 1).val; omega
  · intro x hx
    refine (h2 x).trans (congrArg V ?_)
    have e0 : 2 + 16 * (x 0).val = (y 0).val := congrArg (fun z : S8192x128.Idx => (z 0).val) hx
    have e1 : 0 + 1 * (x 1).val = (y 1).val := congrArg (fun z : S8192x128.Idx => (z 1).val) hx
    funext b
    match b with
    | ⟨0, _⟩ => apply Fin.ext; show (x 0).val = (y 0).val / 16; omega
    | ⟨1, _⟩ => apply Fin.ext; show 256 + (x 1).val = 128 * ((y 0).val % 16) + (y 1).val; omega
  · intro x hx
    refine (h1 x).trans (congrArg V ?_)
    have e0 : 1 + 16 * (x 0).val = (y 0).val := congrArg (fun z : S8192x128.Idx => (z 0).val) hx
    have e1 : 0 + 1 * (x 1).val = (y 1).val := congrArg (fun z : S8192x128.Idx => (z 1).val) hx
    funext b
    match b with
    | ⟨0, _⟩ => apply Fin.ext; show (x 0).val = (y 0).val / 16; omega
    | ⟨1, _⟩ => apply Fin.ext; show 128 + (x 1).val = 128 * ((y 0).val % 16) + (y 1).val; omega
  · intro x hx
    refine (h0 x).trans (congrArg V ?_)
    have e0 : 0 + 16 * (x 0).val = (y 0).val := congrArg (fun z : S8192x128.Idx => (z 0).val) hx
    have e1 : 0 + 1 * (x 1).val = (y 1).val := congrArg (fun z : S8192x128.Idx => (z 1).val) hx
    funext b
    match b with
    | ⟨0, _⟩ => apply Fin.ext; show (x 0).val = (y 0).val / 16; omega
    | ⟨1, _⟩ => apply Fin.ext; show 0 + (x 1).val = 128 * ((y 0).val % 16) + (y 1).val; omega

end Cert.ExpIdeal.Tab
-- ==== Proof.ExpIdealMix.lean ====
/- What one visit leaves, read at an index: the four kinds of visit. -/
module

public import proofs.«01_k».proof.Proof.ExpIdealPay
public import proofs.«01_k».proof.Proof.ExpIdealCanon
public import Idealize.ShloMosaic.Lib.Pipeline.ValueKit
public import Idealize.ShloMosaic.Lib.Pipeline.ReadBack
public import Idealize.ShloMosaic.Lib.Pointwise

@[expose] public section

set_option maxRecDepth 16384
set_option Elab.async false

noncomputable section

namespace Cert.ExpIdeal.Tab

open Cert.ExpIdeal Cert.ExpIdeal.Gen
open Idealize.ShloMosaic
open Idealize.ShloMosaic.TcCoe Idealize.ShloMosaic.Tactic

/-- The mask spread along the features. -/
theorem bm (M : IVec S512x1 1) (h1 : S512x1.ShapeCasts S512x1) (h2 : S512x1.Broadcasts S512x2048) (r : Fin 512) (e : Fin 2048) :
    broadcastTo S512x2048 (shapeCast S512x1 M h1) h2 (ix2 r e) = M (ix2 r (0 : Fin 1)) := by
  pointwise

/-- The rows in range take the new value, the others keep what `O` holds. -/
theorem mix (lo hi : BitVec 32) (x : S8192x128.Idx → EReal) (X : FVec Ideal S512x2048 .f32) (g u : FVec Ideal S2048x512 .bf16) (d : FVec Ideal S512x2048 .bf16)
    (hX : ∀ j : S512x2048.Idx, X j = x (cix (⟨(j 0).val, (j 0).isLt⟩ : Fin 512) (⟨(j 1).val, (j 1).isLt⟩ : Fin 2048)))
    (O : FVec Ideal S512x2048 .f32) (old : S8192x128.Idx → EReal)
    (hO : ∀ j : S512x2048.Idx, O j = old (cix (⟨(j 0).val, (j 0).isLt⟩ : Fin 512) (⟨(j 1).val, (j 1).isLt⟩ : Fin 2048)))
    (h1 : S512x1.ShapeCasts S512x1) (h2 : S512x1.Broadcasts S512x2048) (y : S8192x128.Idx) [Decidable (mine lo hi (rowOf y))] :
    select (broadcastTo S512x2048 (shapeCast S512x1 (k0_pay2 (F := Ideal) lo hi) h1) h2) (k0_pay1 (F := Ideal) X g u d) O (ix2 (rowOf y) (colOf y))
      = if mine lo hi (rowOf y) then ffn x g u d (rowOf y) (colOf y) else old y := by
  have hm := pay2_eq lo hi (rowOf y)
  have hf := pay1_eq x X g u d hX (rowOf y) (colOf y)
  have ho := hO (ix2 (rowOf y) (colOf y))
  have hc : old (cix (rowOf y) (colOf y)) = old y := congrArg old (cix_of y)
  show Scalar.select (broadcastTo S512x2048 (shapeCast S512x1 (k0_pay2 (F := Ideal) lo hi) h1) h2 (ix2 (rowOf y) (colOf y))) (k0_pay1 (F := Ideal) X g u d (ix2 (rowOf y) (colOf y))) (O (ix2 (rowOf y) (colOf y))) = _
  rw [bm, hf, ho]
  unfold Scalar.select
  by_cases hmm : mine lo hi (rowOf y)
  · rw [if_pos hmm]; exact if_pos (hm.mpr hmm)
  · rw [if_neg hmm]; exact (if_neg (fun h => hmm (hm.mp h))).trans hc

/-- A chunk loaded from a buffer, at an index. -/
theorem rd_rep (v : View sig .tc .vmem S8192x128 .f32) (X : S8192x128.Idx → EReal) (k : ℕ) (hk : k < 16) (inb) (i : S512x128.Idx) :
    View.readAt (Elt Ideal) v (⟨![k, 0], ![512, 128], ![16, 1], inb⟩ : LoadRect S8192x128) (v.rep X) i
      = X (ix2 (⟨16 * (i 0).val + k, by have : (i 0).val < 512 := (i 0).isLt; omega⟩ : Fin 8192) (⟨(i 1).val, (i 1).isLt⟩ : Fin 128)) := by
  rw [View.readAt_apply, View.read_rep]
  refine congrArg X (funext fun b => ?_)
  match b with
  | ⟨0, _⟩ => apply Fin.ext; show k + 16 * (i 0).val = 16 * (i 0).val + k; omega
  | ⟨1, _⟩ => apply Fin.ext; show 0 + 1 * (i 1).val = (i 1).val; omega
theorem rd_unread (M : Memref sig .tc .vmem S8192x128 .f32) (hM : M.IsWhole) (X : S8192x128.Idx → EReal) (k : ℕ) (hk : k < 16) (inb) (h : S512x128.ShapeCasts S512x128) (i : S512x128.Idx) :
    shapeCast S512x128 (View.readAt (Elt Ideal) M.view (⟨![k, 0], ![512, 128], ![16, 1], inb⟩ : LoadRect S8192x128) (hM.unread X)) h i
      = X (ix2 (⟨16 * (i 0).val + k, by have : (i 0).val < 512 := (i 0).isLt; omega⟩ : Fin 8192) (⟨(i 1).val, (i 1).isLt⟩ : Fin 128)) := by
  refine (congrFun (shapeCast_self _ h) i).trans ?_
  rw [View.readAt_apply, hM.read_unread]
  refine congrArg X (funext fun b => ?_)
  match b with
  | ⟨0, _⟩ => apply Fin.ext; show k + 16 * (i 0).val = 16 * (i 0).val + k; omega
  | ⟨1, _⟩ => apply Fin.ext; show 0 + 1 * (i 1).val = (i 1).val; omega

/-- One expert's weight block as a matrix. -/
def mat {n k : ℕ} (W : (⟨4, ![1, 1, n, k]⟩ : Shape).Idx → EReal) : (⟨2, ![n, k]⟩ : Shape).Idx → EReal :=
  fun j => W (ix4 (0 : Fin 1) (0 : Fin 1) (⟨(j 0).val, (j 0).isLt⟩ : Fin n) (⟨(j 1).val, (j 1).isLt⟩ : Fin k))
theorem pay52_eq (W : FVec Ideal S1x1x2048x512 .f32) : k0_pay52 (F := Ideal) W = mat W := by
  funext j; unfold k0_pay52 mat; pointwise
theorem pay53_eq (W : FVec Ideal S1x1x2048x512 .f32) : k0_pay53 (F := Ideal) W = mat W := by
  funext j; unfold k0_pay53 mat; pointwise
theorem pay54_eq (W : FVec Ideal S1x1x512x2048 .f32) : k0_pay54 (F := Ideal) W = mat W := by
  funext j; unfold k0_pay54 mat; pointwise

/-- A chunk cut out of the features, at an index. -/
theorem cut (B : FVec Ideal S512x2048 .f32) (o : ℕ) (ho : o + 128 ≤ 2048) (h : S512x2048.Slices ![0, o] S512x128) (i : S512x128.Idx) :
    extractStridedSlice S512x128 ![0, o] B h i = B (ix2 (⟨(i 0).val, (i 0).isLt⟩ : Fin 512) (⟨o + (i 1).val, by have : (i 1).val < 128 := (i 1).isLt; omega⟩ : Fin 2048)) := by
  refine congrArg B (funext fun b => ?_)
  match b with
  | ⟨0, _⟩ => apply Fin.ext; show 0 + (i 0).val = (i 0).val; omega
  | ⟨1, _⟩ => apply Fin.ext; rfl

/-- The zero a first visit puts in the rows outside its range. -/
theorem zero_at (j : S512x2048.Idx) : (broadcast S512x2048 (Scalar.ofBits .f32 0x00000000#32 : Ideal .f32) : FVec Ideal S512x2048 .f32) j = 0 := by
  pointwise

variable (a : (pcfg0 (F := Ideal)).Adm) (m : (ℓ : Loc nD τ sig) → Buf (Elt Ideal) ℓ) (ρ : Dev nD → PrngReg)

theorem t_lt (t : Fin (cfgA a).N) : t.val < 51 := t.isLt
/-- The visit's entry of a table. -/
abbrev vt (t : Fin (cfgA a).N) : Fin 51 := ⟨t.val, t.isLt⟩
theorem cur (T : S51.Idx → BitVec 32) (t : Fin (cfgA a).N) (inb : ∀ b, k0_off4 (crd a t) b + S1.size b ≤ S51.size b) (z : S1.Idx) :
    T ((Rect.unit (s := S51) (k0_off4 (crd a t)) S1.size inb).idx z) = T (tix (vt a t)) :=
  (at_eq T _ inb _ (coord_lt (crd a t)) (off4_eq (crd a t)) z).trans (congrArg (fun v => T (tix v)) (Fin.ext (crd_val t)))

end Cert.ExpIdeal.Tab
-- ==== Proof.ExpIdealOutA.lean ====
/- What one visit leaves, read at an index: the four kinds of visit. -/
module

public import proofs.«01_k».proof.Proof.ExpIdealMix
public import proofs.«01_k».proof.Proof.ExpIdealCanon
public import Idealize.ShloMosaic.Lib.Pipeline.ValueKit
public import Idealize.ShloMosaic.Lib.Pipeline.ReadBack
public import Idealize.ShloMosaic.Lib.Pointwise

@[expose] public section

set_option maxRecDepth 16384
set_option Elab.async false

noncomputable section

namespace Cert.ExpIdeal.Tab

open Cert.ExpIdeal Cert.ExpIdeal.Gen
open Idealize.ShloMosaic
open Idealize.ShloMosaic.TcCoe Idealize.ShloMosaic.Tactic

variable (a : (pcfg0 (F := Ideal)).Adm) (m : (ℓ : Loc nD τ sig) → Buf (Elt Ideal) ℓ) (ρ : Dev nD → PrngReg)

open Classical in
/-- The tile's buffer after a visit of kind A. -/
theorem outA (c : Dev nD) (t : Fin (cfgA a).N) (q1 : Q1 a t) (ql : QL a t) (q3 : Q3 a t) (y : S8192x128.Idx) :
    (oA a m ρ c t q1 ql q3).1 y = if mine (T2 a (tix (vt a t))) (T3 a (tix (vt a t))) (rowOf y) then ffn (iblk a m ρ c 0 t) (mat (iblk a m ρ c 1 t)) (mat (iblk a m ρ c 2 t)) (mat (iblk a m ρ c 3 t)) (rowOf y) (colOf y) else 0 := by
  unfold oA
  dsimp only
  unfold rA runA
  dsimp only
  frame_out
  have e2 : ∀ (inb : ∀ b, k0_off4 (crd a t) b + S1.size b ≤ S51.size b) (z : S1.Idx), View.ld (View.read (Elt Ideal) (View.whole main_arg2) (T2 a)) (Rect.unit (k0_off4 (crd a t)) ![1] inb) z = T2 a (tix (vt a t)) := fun inb z => cur a (T2 a) t inb z
  have e3 : ∀ (inb : ∀ b, k0_off4 (crd a t) b + S1.size b ≤ S51.size b) (z : S1.Idx), View.ld (View.read (Elt Ideal) (View.whole main_arg3) (T3 a)) (Rect.unit (k0_off4 (crd a t)) ![1] inb) z = T3 a (tix (vt a t)) := fun inb z => cur a (T3 a) t inb z
  simp only [e2, e3, View.read_rep, pay52_eq, pay53_eq, pay54_eq]
  simp only [k0_pay3, k0_pay4, k0_pay5, k0_pay6, k0_pay7, k0_pay14, k0_pay15, k0_pay16, k0_pay17, k0_pay18, k0_pay19, k0_pay20, k0_pay21, k0_pay22, k0_pay23, k0_pay24]
  generalize hB : k0_pay13 (F := Ideal) _ _ = B
  refine (canon16 B _ _ _ _ _ _ _ _ _ _ _ _ _ _ _ _ (fun i => cut B 0 (by decide) _ i) (fun i => cut B 128 (by decide) _ i) (fun i => cut B 256 (by decide) _ i) (fun i => cut B 384 (by decide) _ i) (fun i => cut B 512 (by decide) _ i) (fun i => cut B 640 (by decide) _ i) (fun i => cut B 768 (by decide) _ i) (fun i => cut B 896 (by decide) _ i) (fun i => cut B 1024 (by decide) _ i) (fun i => cut B 1152 (by decide) _ i) (fun i => cut B 1280 (by decide) _ i) (fun i => cut B 1408 (by decide) _ i) (fun i => cut B 1536 (by decide) _ i) (fun i => cut B 1664 (by decide) _ i) (fun i => cut B 1792 (by decide) _ i) (fun i => cut B 1920 (by decide) _ i) y).trans ?_
  rw [← hB]
  unfold k0_pay13
  exact mix _ _ (iblk a m ρ c 0 t) _ _ _ _ (fun j => cat16 (iblk a m ρ c 0 t) _ _ _ _ _ _ _ _ _ _ _ _ _ _ _ _ (fun i => rd_rep _ _ 0 (by decide) _ i) (fun i => rd_rep _ _ 1 (by decide) _ i) (fun i => rd_rep _ _ 2 (by decide) _ i) (fun i => rd_rep _ _ 3 (by decide) _ i) (fun i => rd_rep _ _ 4 (by decide) _ i) (fun i => rd_rep _ _ 5 (by decide) _ i) (fun i => rd_rep _ _ 6 (by decide) _ i) (fun i => rd_rep _ _ 7 (by decide) _ i) (fun i => rd_rep _ _ 8 (by decide) _ i) (fun i => rd_rep _ _ 9 (by decide) _ i) (fun i => rd_rep _ _ 10 (by decide) _ i) (fun i => rd_rep _ _ 11 (by decide) _ i) (fun i => rd_rep _ _ 12 (by decide) _ i) (fun i => rd_rep _ _ 13 (by decide) _ i) (fun i => rd_rep _ _ 14 (by decide) _ i) (fun i => rd_rep _ _ 15 (by decide) _ i) _ j) _ (fun _ => 0) (fun j => zero_at j) _ _ y

end Cert.ExpIdeal.Tab
-- ==== Proof.ExpIdealOutB.lean ====
/- What one visit leaves, read at an index: the four kinds of visit. -/
module

public import proofs.«01_k».proof.Proof.ExpIdealMix
public import proofs.«01_k».proof.Proof.ExpIdealCanon
public import Idealize.ShloMosaic.Lib.Pipeline.ValueKit
public import Idealize.ShloMosaic.Lib.Pipeline.ReadBack
public import Idealize.ShloMosaic.Lib.Pointwise

@[expose] public section

set_option maxRecDepth 16384
set_option Elab.async false

noncomputable section

namespace Cert.ExpIdeal.Tab

open Cert.ExpIdeal Cert.ExpIdeal.Gen
open Idealize.ShloMosaic
open Idealize.ShloMosaic.TcCoe Idealize.ShloMosaic.Tactic

variable (a : (pcfg0 (F := Ideal)).Adm) (m : (ℓ : Loc nD τ sig) → Buf (Elt Ideal) ℓ) (ρ : Dev nD → PrngReg)

open Classical in
/-- The tile's buffer after a visit of kind B. -/
theorem outB (c : Dev nD) (t : Fin (cfgA a).N) (p : St (F := Ideal) c) (q1 : Q1 a t) (ql : ¬ QL a t) (q3 : ¬ Q3 a t) (y : S8192x128.Idx) :
    (oB a m ρ c t p q1 ql q3).1 y = if mine (T2 a (tix (vt a t))) (T3 a (tix (vt a t))) (rowOf y) then ffn (iblk a m ρ c 0 t) p.2.1 p.2.2.1 p.2.2.2 (rowOf y) (colOf y) else p.1 y := by
  unfold oB
  dsimp only
  unfold rB runB
  dsimp only
  frame_out
  have e2 : ∀ (inb : ∀ b, k0_off4 (crd a t) b + S1.size b ≤ S51.size b) (z : S1.Idx), View.ld (View.read (Elt Ideal) (View.whole main_arg2) (T2 a)) (Rect.unit (k0_off4 (crd a t)) ![1] inb) z = T2 a (tix (vt a t)) := fun inb z => cur a (T2 a) t inb z
  have e3 : ∀ (inb : ∀ b, k0_off4 (crd a t) b + S1.size b ≤ S51.size b) (z : S1.Idx), View.ld (View.read (Elt Ideal) (View.whole main_arg3) (T3 a)) (Rect.unit (k0_off4 (crd a t)) ![1] inb) z = T3 a (tix (vt a t)) := fun inb z => cur a (T3 a) t inb z
  simp only [e2, e3, View.read_rep, pay52_eq, pay53_eq, pay54_eq]
  simp only [k0_pay8, k0_pay9, k0_pay10, k0_pay11, k0_pay12]
  generalize hB : select (broadcastTo S512x2048 _ _) _ _ = B
  refine (canon16 B _ _ _ _ _ _ _ _ _ _ _ _ _ _ _ _ (fun i => cut B 0 (by decide) _ i) (fun i => cut B 128 (by decide) _ i) (fun i => cut B 256 (by decide) _ i) (fun i => cut B 384 (by decide) _ i) (fun i => cut B 512 (by decide) _ i) (fun i => cut B 640 (by decide) _ i) (fun i => cut B 768 (by decide) _ i) (fun i => cut B 896 (by decide) _ i) (fun i => cut B 1024 (by decide) _ i) (fun i => cut B 1152 (by decide) _ i) (fun i => cut B 1280 (by decide) _ i) (fun i => cut B 1408 (by decide) _ i) (fun i => cut B 1536 (by decide) _ i) (fun i => cut B 1664 (by decide) _ i) (fun i => cut B 1792 (by decide) _ i) (fun i => cut B 1920 (by decide) _ i) y).trans ?_
  rw [← hB]
  exact mix _ _ (iblk a m ρ c 0 t) _ _ _ _ (fun j => cat16 (iblk a m ρ c 0 t) _ _ _ _ _ _ _ _ _ _ _ _ _ _ _ _ (fun i => rd_rep _ _ 0 (by decide) _ i) (fun i => rd_rep _ _ 1 (by decide) _ i) (fun i => rd_rep _ _ 2 (by decide) _ i) (fun i => rd_rep _ _ 3 (by decide) _ i) (fun i => rd_rep _ _ 4 (by decide) _ i) (fun i => rd_rep _ _ 5 (by decide) _ i) (fun i => rd_rep _ _ 6 (by decide) _ i) (fun i => rd_rep _ _ 7 (by decide) _ i) (fun i => rd_rep _ _ 8 (by decide) _ i) (fun i => rd_rep _ _ 9 (by decide) _ i) (fun i => rd_rep _ _ 10 (by decide) _ i) (fun i => rd_rep _ _ 11 (by decide) _ i) (fun i => rd_rep _ _ 12 (by decide) _ i) (fun i => rd_rep _ _ 13 (by decide) _ i) (fun i => rd_rep _ _ 14 (by decide) _ i) (fun i => rd_rep _ _ 15 (by decide) _ i) _ j) _ p.1 (fun j => cat16 p.1 _ _ _ _ _ _ _ _ _ _ _ _ _ _ _ _ (fun i => rd_unread _ _ _ 0 (by decide) _ _ i) (fun i => rd_unread _ _ _ 1 (by decide) _ _ i) (fun i => rd_unread _ _ _ 2 (by decide) _ _ i) (fun i => rd_unread _ _ _ 3 (by decide) _ _ i) (fun i => rd_unread _ _ _ 4 (by decide) _ _ i) (fun i => rd_unread _ _ _ 5 (by decide) _ _ i) (fun i => rd_unread _ _ _ 6 (by decide) _ _ i) (fun i => rd_unread _ _ _ 7 (by decide) _ _ i) (fun i => rd_unread _ _ _ 8 (by decide) _ _ i) (fun i => rd_unread _ _ _ 9 (by decide) _ _ i) (fun i => rd_unread _ _ _ 10 (by decide) _ _ i) (fun i => rd_unread _ _ _ 11 (by decide) _ _ i) (fun i => rd_unread _ _ _ 12 (by decide) _ _ i) (fun i => rd_unread _ _ _ 13 (by decide) _ _ i) (fun i => rd_unread _ _ _ 14 (by decide) _ _ i) (fun i => rd_unread _ _ _ 15 (by decide) _ _ i) _ j) _ _ y

end Cert.ExpIdeal.Tab
-- ==== Proof.ExpIdealOutC.lean ====
/- What one visit leaves, read at an index: the four kinds of visit. -/
module

public import proofs.«01_k».proof.Proof.ExpIdealMix
public import proofs.«01_k».proof.Proof.ExpIdealCanon
public import Idealize.ShloMosaic.Lib.Pipeline.ValueKit
public import Idealize.ShloMosaic.Lib.Pipeline.ReadBack
public import Idealize.ShloMosaic.Lib.Pointwise

@[expose] public section

set_option maxRecDepth 16384
set_option Elab.async false

noncomputable section

namespace Cert.ExpIdeal.Tab

open Cert.ExpIdeal Cert.ExpIdeal.Gen
open Idealize.ShloMosaic
open Idealize.ShloMosaic.TcCoe Idealize.ShloMosaic.Tactic

variable (a : (pcfg0 (F := Ideal)).Adm) (m : (ℓ : Loc nD τ sig) → Buf (Elt Ideal) ℓ) (ρ : Dev nD → PrngReg)

open Classical in
/-- The tile's buffer after a visit of kind C. -/
theorem outC (c : Dev nD) (t : Fin (cfgA a).N) (p : St (F := Ideal) c) (q1 : Q1 a t) (ql : ¬ QL a t) (q3 : Q3 a t) (y : S8192x128.Idx) :
    (oC a m ρ c t p q1 ql q3).1 y = if mine (T2 a (tix (vt a t))) (T3 a (tix (vt a t))) (rowOf y) then ffn (iblk a m ρ c 0 t) p.2.1 p.2.2.1 p.2.2.2 (rowOf y) (colOf y) else 0 := by
  unfold oC
  dsimp only
  unfold rC runC
  dsimp only
  frame_out
  have e2 : ∀ (inb : ∀ b, k0_off4 (crd a t) b + S1.size b ≤ S51.size b) (z : S1.Idx), View.ld (View.read (Elt Ideal) (View.whole main_arg2) (T2 a)) (Rect.unit (k0_off4 (crd a t)) ![1] inb) z = T2 a (tix (vt a t)) := fun inb z => cur a (T2 a) t inb z
  have e3 : ∀ (inb : ∀ b, k0_off4 (crd a t) b + S1.size b ≤ S51.size b) (z : S1.Idx), View.ld (View.read (Elt Ideal) (View.whole main_arg3) (T3 a)) (Rect.unit (k0_off4 (crd a t)) ![1] inb) z = T3 a (tix (vt a t)) := fun inb z => cur a (T3 a) t inb z
  simp only [e2, e3, View.read_rep, pay52_eq, pay53_eq, pay54_eq]
  simp only [k0_pay3, k0_pay4, k0_pay5, k0_pay6, k0_pay7, k0_pay14, k0_pay15, k0_pay16, k0_pay17, k0_pay18, k0_pay19, k0_pay20, k0_pay21, k0_pay22, k0_pay23, k0_pay24]
  generalize hB : k0_pay13 (F := Ideal) _ _ = B
  refine (canon16 B _ _ _ _ _ _ _ _ _ _ _ _ _ _ _ _ (fun i => cut B 0 (by decide) _ i) (fun i => cut B 128 (by decide) _ i) (fun i => cut B 256 (by decide) _ i) (fun i => cut B 384 (by decide) _ i) (fun i => cut B 512 (by decide) _ i) (fun i => cut B 640 (by decide) _ i) (fun i => cut B 768 (by decide) _ i) (fun i => cut B 896 (by decide) _ i) (fun i => cut B 1024 (by decide) _ i) (fun i => cut B 1152 (by decide) _ i) (fun i => cut B 1280 (by decide) _ i) (fun i => cut B 1408 (by decide) _ i) (fun i => cut B 1536 (by decide) _ i) (fun i => cut B 1664 (by decide) _ i) (fun i => cut B 1792 (by decide) _ i) (fun i => cut B 1920 (by decide) _ i) y).trans ?_
  rw [← hB]
  unfold k0_pay13
  exact mix _ _ (iblk a m ρ c 0 t) _ _ _ _ (fun j => cat16 (iblk a m ρ c 0 t) _ _ _ _ _ _ _ _ _ _ _ _ _ _ _ _ (fun i => rd_rep _ _ 0 (by decide) _ i) (fun i => rd_rep _ _ 1 (by decide) _ i) (fun i => rd_rep _ _ 2 (by decide) _ i) (fun i => rd_rep _ _ 3 (by decide) _ i) (fun i => rd_rep _ _ 4 (by decide) _ i) (fun i => rd_rep _ _ 5 (by decide) _ i) (fun i => rd_rep _ _ 6 (by decide) _ i) (fun i => rd_rep _ _ 7 (by decide) _ i) (fun i => rd_rep _ _ 8 (by decide) _ i) (fun i => rd_rep _ _ 9 (by decide) _ i) (fun i => rd_rep _ _ 10 (by decide) _ i) (fun i => rd_rep _ _ 11 (by decide) _ i) (fun i => rd_rep _ _ 12 (by decide) _ i) (fun i => rd_rep _ _ 13 (by decide) _ i) (fun i => rd_rep _ _ 14 (by decide) _ i) (fun i => rd_rep _ _ 15 (by decide) _ i) _ j) _ (fun _ => 0) (fun j => zero_at j) _ _ y

end Cert.ExpIdeal.Tab
-- ==== Proof.ExpIdealOutD.lean ====
/- What one visit leaves, read at an index: the four kinds of visit. -/
module

public import proofs.«01_k».proof.Proof.ExpIdealMix
public import proofs.«01_k».proof.Proof.ExpIdealCanon
public import Idealize.ShloMosaic.Lib.Pipeline.ValueKit
public import Idealize.ShloMosaic.Lib.Pipeline.ReadBack
public import Idealize.ShloMosaic.Lib.Pointwise

@[expose] public section

set_option maxRecDepth 16384
set_option Elab.async false

noncomputable section

namespace Cert.ExpIdeal.Tab

open Cert.ExpIdeal Cert.ExpIdeal.Gen
open Idealize.ShloMosaic
open Idealize.ShloMosaic.TcCoe Idealize.ShloMosaic.Tactic

variable (a : (pcfg0 (F := Ideal)).Adm) (m : (ℓ : Loc nD τ sig) → Buf (Elt Ideal) ℓ) (ρ : Dev nD → PrngReg)

open Classical in
/-- The tile's buffer after a visit of kind D. -/
theorem outD (c : Dev nD) (t : Fin (cfgA a).N) (p : St (F := Ideal) c) (q1 : Q1 a t) (ql : QL a t) (q3 : ¬ Q3 a t) (y : S8192x128.Idx) :
    (oD a m ρ c t p q1 ql q3).1 y = if mine (T2 a (tix (vt a t))) (T3 a (tix (vt a t))) (rowOf y) then ffn (iblk a m ρ c 0 t) (mat (iblk a m ρ c 1 t)) (mat (iblk a m ρ c 2 t)) (mat (iblk a m ρ c 3 t)) (rowOf y) (colOf y) else p.1 y := by
  unfold oD
  dsimp only
  unfold rD runD
  dsimp only
  frame_out
  have e2 : ∀ (inb : ∀ b, k0_off4 (crd a t) b + S1.size b ≤ S51.size b) (z : S1.Idx), View.ld (View.read (Elt Ideal) (View.whole main_arg2) (T2 a)) (Rect.unit (k0_off4 (crd a t)) ![1] inb) z = T2 a (tix (vt a t)) := fun inb z => cur a (T2 a) t inb z
  have e3 : ∀ (inb : ∀ b, k0_off4 (crd a t) b + S1.size b ≤ S51.size b) (z : S1.Idx), View.ld (View.read (Elt Ideal) (View.whole main_arg3) (T3 a)) (Rect.unit (k0_off4 (crd a t)) ![1] inb) z = T3 a (tix (vt a t)) := fun inb z => cur a (T3 a) t inb z
  simp only [e2, e3, View.read_rep, pay52_eq, pay53_eq, pay54_eq]
  simp only [k0_pay8, k0_pay9, k0_pay10, k0_pay11, k0_pay12]
  generalize hB : select (broadcastTo S512x2048 _ _) _ _ = B
  refine (canon16 B _ _ _ _ _ _ _ _ _ _ _ _ _ _ _ _ (fun i => cut B 0 (by decide) _ i) (fun i => cut B 128 (by decide) _ i) (fun i => cut B 256 (by decide) _ i) (fun i => cut B 384 (by decide) _ i) (fun i => cut B 512 (by decide) _ i) (fun i => cut B 640 (by decide) _ i) (fun i => cut B 768 (by decide) _ i) (fun i => cut B 896 (by decide) _ i) (fun i => cut B 1024 (by decide) _ i) (fun i => cut B 1152 (by decide) _ i) (fun i => cut B 1280 (by decide) _ i) (fun i => cut B 1408 (by decide) _ i) (fun i => cut B 1536 (by decide) _ i) (fun i => cut B 1664 (by decide) _ i) (fun i => cut B 1792 (by decide) _ i) (fun i => cut B 1920 (by decide) _ i) y).trans ?_
  rw [← hB]
  exact mix _ _ (iblk a m ρ c 0 t) _ _ _ _ (fun j => cat16 (iblk a m ρ c 0 t) _ _ _ _ _ _ _ _ _ _ _ _ _ _ _ _ (fun i => rd_rep _ _ 0 (by decide) _ i) (fun i => rd_rep _ _ 1 (by decide) _ i) (fun i => rd_rep _ _ 2 (by decide) _ i) (fun i => rd_rep _ _ 3 (by decide) _ i) (fun i => rd_rep _ _ 4 (by decide) _ i) (fun i => rd_rep _ _ 5 (by decide) _ i) (fun i => rd_rep _ _ 6 (by decide) _ i) (fun i => rd_rep _ _ 7 (by decide) _ i) (fun i => rd_rep _ _ 8 (by decide) _ i) (fun i => rd_rep _ _ 9 (by decide) _ i) (fun i => rd_rep _ _ 10 (by decide) _ i) (fun i => rd_rep _ _ 11 (by decide) _ i) (fun i => rd_rep _ _ 12 (by decide) _ i) (fun i => rd_rep _ _ 13 (by decide) _ i) (fun i => rd_rep _ _ 14 (by decide) _ i) (fun i => rd_rep _ _ 15 (by decide) _ i) _ j) _ p.1 (fun j => cat16 p.1 _ _ _ _ _ _ _ _ _ _ _ _ _ _ _ _ (fun i => rd_unread _ _ _ 0 (by decide) _ _ i) (fun i => rd_unread _ _ _ 1 (by decide) _ _ i) (fun i => rd_unread _ _ _ 2 (by decide) _ _ i) (fun i => rd_unread _ _ _ 3 (by decide) _ _ i) (fun i => rd_unread _ _ _ 4 (by decide) _ _ i) (fun i => rd_unread _ _ _ 5 (by decide) _ _ i) (fun i => rd_unread _ _ _ 6 (by decide) _ _ i) (fun i => rd_unread _ _ _ 7 (by decide) _ _ i) (fun i => rd_unread _ _ _ 8 (by decide) _ _ i) (fun i => rd_unread _ _ _ 9 (by decide) _ _ i) (fun i => rd_unread _ _ _ 10 (by decide) _ _ i) (fun i => rd_unread _ _ _ 11 (by decide) _ _ i) (fun i => rd_unread _ _ _ 12 (by decide) _ _ i) (fun i => rd_unread _ _ _ 13 (by decide) _ _ i) (fun i => rd_unread _ _ _ 14 (by decide) _ _ i) (fun i => rd_unread _ _ _ 15 (by decide) _ _ i) _ j) _ _ y

end Cert.ExpIdeal.Tab
-- ==== Proof.ExpIdealBlk.lean ====
/- The windows' blocks and the resident weights, read at an index. -/
module

public import proofs.«01_k».proof.Proof.ExpIdealOutA
public import proofs.«01_k».proof.Proof.ExpIdealOutB
public import proofs.«01_k».proof.Proof.ExpIdealOutC
public import proofs.«01_k».proof.Proof.ExpIdealOutD
public import Idealize.ShloMosaic.Lib.Pipeline.ValueKit
public import Idealize.ShloMosaic.Lib.Pipeline.ReadBack
public import Idealize.ShloMosaic.Lib.Pointwise

@[expose] public section

set_option maxRecDepth 16384
set_option Elab.async false

noncomputable section

namespace Cert.ExpIdeal.Tab

open Cert.ExpIdeal Cert.ExpIdeal.Gen
open Idealize.ShloMosaic
open Idealize.ShloMosaic.TcCoe Idealize.ShloMosaic.Tactic
variable (a : (pcfg0 (F := Ideal)).Adm) (m : (ℓ : Loc nD τ sig) → Buf (Elt Ideal) ℓ) (ρ : Dev nD → PrngReg)

/-- The tile a visit works on. -/
def tile (v : Fin 51) : ℕ := BitVec.toNat (T0 a (tix v))
/-- The expert a visit works for. -/
def expt (v : Fin 51) : ℕ := BitVec.toNat (T1 a (tix v))

/-- A tile of the sorted rows. -/
def XT (c : Dev nD) (q : ℕ) : S8192x128.Idx → EReal := fun y =>
  if h : q < 36 then m ((c : Thread nD τ).loc main_arg5) (ix2 (⟨q * 8192 + (y 0).val, by have : (y 0).val < 8192 := (y 0).isLt; omega⟩ : Fin 294912) (⟨(y 1).val, (y 1).isLt⟩ : Fin 128)) else 0
/-- An expert's gate weights. -/
def WG (c : Dev nD) (e : ℕ) : S2048x512.Idx → EReal := fun j =>
  if h : e < 16 then m ((c : Thread nD τ).loc main_arg6) (ix4 (0 : Fin 2) (⟨e, h⟩ : Fin 16) (⟨(j 0).val, (j 0).isLt⟩ : Fin 2048) (⟨(j 1).val, (j 1).isLt⟩ : Fin 512)) else 0
/-- An expert's up weights. -/
def WU (c : Dev nD) (e : ℕ) : S2048x512.Idx → EReal := fun j =>
  if h : e < 16 then m ((c : Thread nD τ).loc main_arg7) (ix4 (0 : Fin 2) (⟨e, h⟩ : Fin 16) (⟨(j 0).val, (j 0).isLt⟩ : Fin 2048) (⟨(j 1).val, (j 1).isLt⟩ : Fin 512)) else 0
/-- An expert's down weights. -/
def WD (c : Dev nD) (e : ℕ) : S512x2048.Idx → EReal := fun j =>
  if h : e < 16 then m ((c : Thread nD τ).loc main_arg8) (ix4 (0 : Fin 2) (⟨e, h⟩ : Fin 16) (⟨(j 0).val, (j 0).isLt⟩ : Fin 512) (⟨(j 1).val, (j 1).isLt⟩ : Fin 2048)) else 0

theorem crdt (t : Fin (cfgA a).N) : (⟨(crd a t 0).val, coord_lt (crd a t)⟩ : Fin 51) = vt a t := Fin.ext (crd_val t)
theorem ix_x (t : Fin (cfgA a).N) : ((cfgA a).win (0 : Fin 5)).index t = ![tile a (vt a t), 0] := (tr_x a.1 (crd a t)).trans (by rw [crdt]; rfl)
theorem ix_o (t : Fin (cfgA a).N) : ((cfgA a).win (4 : Fin 5)).index t = ![tile a (vt a t), 0] := (tr_rows a.1 (crd a t)).trans (by rw [crdt]; rfl)
theorem ix_g (t : Fin (cfgA a).N) : ((cfgA a).win (1 : Fin 5)).index t = ![0, expt a (vt a t), 0, 0] := (tr_w a.1 (crd a t)).trans (by rw [crdt]; rfl)
theorem ix_u (t : Fin (cfgA a).N) : ((cfgA a).win (2 : Fin 5)).index t = ![0, expt a (vt a t), 0, 0] := (tr_w a.1 (crd a t)).trans (by rw [crdt]; rfl)
theorem ix_d (t : Fin (cfgA a).N) : ((cfgA a).win (3 : Fin 5)).index t = ![0, expt a (vt a t), 0, 0] := (tr_w a.1 (crd a t)).trans (by rw [crdt]; rfl)

theorem xblk (c : Dev nD) (t : Fin (cfgA a).N) (h : tile a (vt a t) < 36) : iblk a m ρ c 0 t = XT m c (tile a (vt a t)) := by
  funext y
  unfold XT
  rw [dif_pos h]
  have e := ix_x a t
  have e0 : (pcfg0.win a 0).index t 0 = tile a (vt a t) := congrFun e 0
  have e1 : (pcfg0.win a 0).index t 1 = 0 := congrFun e 1
  blk_ext [iblk]
  · exact congrArg (· * 8192 + _) e0
  · exact (congrArg (· * 128 + _) e1).trans (Nat.zero_add _)
theorem gblk (c : Dev nD) (t : Fin (cfgA a).N) (h : expt a (vt a t) < 16) : mat (iblk a m ρ c 1 t) = WG m c (expt a (vt a t)) := by
  funext y
  unfold WG mat
  rw [dif_pos h]
  have e := ix_g a t
  have e0 : (pcfg0.win a 1).index t 0 = 0 := congrFun e 0
  have e1 : (pcfg0.win a 1).index t 1 = expt a (vt a t) := congrFun e 1
  have e2 : (pcfg0.win a 1).index t 2 = 0 := congrFun e 2
  have e3 : (pcfg0.win a 1).index t 3 = 0 := congrFun e 3
  blk_ext [iblk]
  · exact congrArg (· + 0) e0
  · exact congrArg (· + 0) e1
  · exact (congrArg (· * 2048 + (y 0).val) e2).trans (by omega)
  · exact (congrArg (· * 512 + (y 1).val) e3).trans (by omega)
theorem ublk (c : Dev nD) (t : Fin (cfgA a).N) (h : expt a (vt a t) < 16) : mat (iblk a m ρ c 2 t) = WU m c (expt a (vt a t)) := by
  funext y
  unfold WU mat
  rw [dif_pos h]
  have e := ix_u a t
  have e0 : (pcfg0.win a 2).index t 0 = 0 := congrFun e 0
  have e1 : (pcfg0.win a 2).index t 1 = expt a (vt a t) := congrFun e 1
  have e2 : (pcfg0.win a 2).index t 2 = 0 := congrFun e 2
  have e3 : (pcfg0.win a 2).index t 3 = 0 := congrFun e 3
  blk_ext [iblk]
  · exact congrArg (· + 0) e0
  · exact congrArg (· + 0) e1
  · exact (congrArg (· * 2048 + (y 0).val) e2).trans (by omega)
  · exact (congrArg (· * 512 + (y 1).val) e3).trans (by omega)
theorem dblk (c : Dev nD) (t : Fin (cfgA a).N) (h : expt a (vt a t) < 16) : mat (iblk a m ρ c 3 t) = WD m c (expt a (vt a t)) := by
  funext y
  unfold WD mat
  rw [dif_pos h]
  have e := ix_d a t
  have e0 : (pcfg0.win a 3).index t 0 = 0 := congrFun e 0
  have e1 : (pcfg0.win a 3).index t 1 = expt a (vt a t) := congrFun e 1
  have e2 : (pcfg0.win a 3).index t 2 = 0 := congrFun e 2
  have e3 : (pcfg0.win a 3).index t 3 = 0 := congrFun e 3
  blk_ext [iblk]
  · exact congrArg (· + 0) e0
  · exact congrArg (· + 0) e1
  · exact (congrArg (· * 512 + (y 0).val) e2).trans (by omega)
  · exact (congrArg (· * 2048 + (y 1).val) e3).trans (by omega)

theorem scA0 (c : Dev nD) (t : Fin (cfgA a).N) (q1 : Q1 a t) (ql : QL a t) (q3 : Q3 a t) : (oA a m ρ c t q1 ql q3).2.1 = mat (iblk a m ρ c 1 t) := by
  have h : View.read (Elt Ideal) (View.whole cc0_scratch0) (oA a m ρ c t q1 ql q3).2.1 = mat (iblk a m ρ c 1 t) := by
    unfold oA
    dsimp only
    unfold rA runA
    dsimp only
    frame_out
    simp (disch := decide) only [View.read_rep, pay52_eq, View.canon_cons_unit_lit']
    exact View.canon_cons_unit_lit' _ _ [] (show ∀ b : Fin 2, (![0, 0] : Fin 2 → ℕ) b = 0 by decide)
  exact h

theorem scA1 (c : Dev nD) (t : Fin (cfgA a).N) (q1 : Q1 a t) (ql : QL a t) (q3 : Q3 a t) : (oA a m ρ c t q1 ql q3).2.2.1 = mat (iblk a m ρ c 2 t) := by
  have h : View.read (Elt Ideal) (View.whole cc0_scratch1) (oA a m ρ c t q1 ql q3).2.2.1 = mat (iblk a m ρ c 2 t) := by
    unfold oA
    dsimp only
    unfold rA runA
    dsimp only
    frame_out
    simp (disch := decide) only [View.read_rep, pay53_eq, View.canon_cons_unit_lit']
    exact View.canon_cons_unit_lit' _ _ [] (show ∀ b : Fin 2, (![0, 0] : Fin 2 → ℕ) b = 0 by decide)
  exact h

theorem scA2 (c : Dev nD) (t : Fin (cfgA a).N) (q1 : Q1 a t) (ql : QL a t) (q3 : Q3 a t) : (oA a m ρ c t q1 ql q3).2.2.2 = mat (iblk a m ρ c 3 t) := by
  have h : View.read (Elt Ideal) (View.whole cc0_scratch2) (oA a m ρ c t q1 ql q3).2.2.2 = mat (iblk a m ρ c 3 t) := by
    unfold oA
    dsimp only
    unfold rA runA
    dsimp only
    frame_out
    simp (disch := decide) only [View.read_rep, pay54_eq, View.canon_cons_unit_lit']
    exact View.canon_cons_unit_lit' _ _ [] (show ∀ b : Fin 2, (![0, 0] : Fin 2 → ℕ) b = 0 by decide)
  exact h

theorem scD0 (c : Dev nD) (t : Fin (cfgA a).N) (p : St (F := Ideal) c) (q1 : Q1 a t) (ql : QL a t) (q3 : ¬ Q3 a t) : (oD a m ρ c t p q1 ql q3).2.1 = mat (iblk a m ρ c 1 t) := by
  have h : View.read (Elt Ideal) (View.whole cc0_scratch0) (oD a m ρ c t p q1 ql q3).2.1 = mat (iblk a m ρ c 1 t) := by
    unfold oD
    dsimp only
    unfold rD runD
    dsimp only
    frame_out
    simp (disch := decide) only [View.read_rep, pay52_eq, View.canon_cons_unit_lit']
    exact View.canon_cons_unit_lit' _ _ [] (show ∀ b : Fin 2, (![0, 0] : Fin 2 → ℕ) b = 0 by decide)
  exact h

theorem scD1 (c : Dev nD) (t : Fin (cfgA a).N) (p : St (F := Ideal) c) (q1 : Q1 a t) (ql : QL a t) (q3 : ¬ Q3 a t) : (oD a m ρ c t p q1 ql q3).2.2.1 = mat (iblk a m ρ c 2 t) := by
  have h : View.read (Elt Ideal) (View.whole cc0_scratch1) (oD a m ρ c t p q1 ql q3).2.2.1 = mat (iblk a m ρ c 2 t) := by
    unfold oD
    dsimp only
    unfold rD runD
    dsimp only
    frame_out
    simp (disch := decide) only [View.read_rep, pay53_eq, View.canon_cons_unit_lit']
    exact View.canon_cons_unit_lit' _ _ [] (show ∀ b : Fin 2, (![0, 0] : Fin 2 → ℕ) b = 0 by decide)
  exact h

theorem scD2 (c : Dev nD) (t : Fin (cfgA a).N) (p : St (F := Ideal) c) (q1 : Q1 a t) (ql : QL a t) (q3 : ¬ Q3 a t) : (oD a m ρ c t p q1 ql q3).2.2.2 = mat (iblk a m ρ c 3 t) := by
  have h : View.read (Elt Ideal) (View.whole cc0_scratch2) (oD a m ρ c t p q1 ql q3).2.2.2 = mat (iblk a m ρ c 3 t) := by
    unfold oD
    dsimp only
    unfold rD runD
    dsimp only
    frame_out
    simp (disch := decide) only [View.read_rep, pay54_eq, View.canon_cons_unit_lit']
    exact View.canon_cons_unit_lit' _ _ [] (show ∀ b : Fin 2, (![0, 0] : Fin 2 → ℕ) b = 0 by decide)
  exact h

theorem scB0 (c : Dev nD) (t : Fin (cfgA a).N) (p : St (F := Ideal) c) (q1 : Q1 a t) (ql : ¬ QL a t) (q3 : ¬ Q3 a t) : (oB a m ρ c t p q1 ql q3).2.1 = p.2.1 := by
  unfold oB
  dsimp only
  unfold rB runB
  rfl

theorem scB1 (c : Dev nD) (t : Fin (cfgA a).N) (p : St (F := Ideal) c) (q1 : Q1 a t) (ql : ¬ QL a t) (q3 : ¬ Q3 a t) : (oB a m ρ c t p q1 ql q3).2.2.1 = p.2.2.1 := by
  unfold oB
  dsimp only
  unfold rB runB
  rfl

theorem scB2 (c : Dev nD) (t : Fin (cfgA a).N) (p : St (F := Ideal) c) (q1 : Q1 a t) (ql : ¬ QL a t) (q3 : ¬ Q3 a t) : (oB a m ρ c t p q1 ql q3).2.2.2 = p.2.2.2 := by
  unfold oB
  dsimp only
  unfold rB runB
  rfl

theorem scC0 (c : Dev nD) (t : Fin (cfgA a).N) (p : St (F := Ideal) c) (q1 : Q1 a t) (ql : ¬ QL a t) (q3 : Q3 a t) : (oC a m ρ c t p q1 ql q3).2.1 = p.2.1 := by
  unfold oC
  dsimp only
  unfold rC runC
  rfl

theorem scC1 (c : Dev nD) (t : Fin (cfgA a).N) (p : St (F := Ideal) c) (q1 : Q1 a t) (ql : ¬ QL a t) (q3 : Q3 a t) : (oC a m ρ c t p q1 ql q3).2.2.1 = p.2.2.1 := by
  unfold oC
  dsimp only
  unfold rC runC
  rfl

theorem scC2 (c : Dev nD) (t : Fin (cfgA a).N) (p : St (F := Ideal) c) (q1 : Q1 a t) (ql : ¬ QL a t) (q3 : Q3 a t) : (oC a m ρ c t p q1 ql q3).2.2.2 = p.2.2.2 := by
  unfold oC
  dsimp only
  unfold rC runC
  rfl

end Cert.ExpIdeal.Tab
-- ==== Proof.ExpIdealAcc.lean ====
/- The tile's buffer after every visit: each row holds the value of the visit whose range has it, or zero. -/
module

public import proofs.«01_k».proof.Proof.ExpIdealBlk

@[expose] public section

set_option maxRecDepth 16384
set_option Elab.async false

noncomputable section

namespace Cert.ExpIdeal.Tab

open Cert.ExpIdeal Cert.ExpIdeal.Gen
open Idealize.ShloMosaic
open Idealize.ShloMosaic.TcCoe Idealize.ShloMosaic.Tactic
variable (a : (pcfg0 (F := Ideal)).Adm) (m : (ℓ : Loc nD τ sig) → Buf (Elt Ideal) ℓ) (ρ : Dev nD → PrngReg)

/-- The one index of the visit count. -/
def z0 : S1.Idx := ix1 (0 : Fin 1)
theorem z_eq (z : S1.Idx) : z = z0 := by
  funext b
  match b with
  | ⟨0, _⟩ => exact Fin.ext (Nat.lt_one_iff.mp (z 0).isLt)

variable {F : FTy → Type} [FloatOps F]

/-- What the tables must satisfy: tiles and experts in range, tiles visited in order from the first to the last, no visit past the
    plan's last one changing the tile, and the visits of one tile with disjoint row ranges. -/
structure Plan (pf : pre0.Contents (Elt F)) : Prop where
  tile : ∀ v : Fin 51, BitVec.toNat (pf 0 (tix v)) < 36
  exp : ∀ v : Fin 51, BitVec.toNat (pf 1 (tix v)) < 16
  first : BitVec.toNat (pf 0 (tix 0)) = 0
  last : BitVec.toNat (pf 0 (tix 50)) = 35
  pos : 0 < BitVec.toInt (pf 4 z0)
  step : ∀ (v : Fin 51) (h : v.val + 1 < 51), BitVec.toNat (pf 0 (tix v)) ≤ BitVec.toNat (pf 0 (tix ⟨v.val + 1, h⟩))
    ∧ BitVec.toNat (pf 0 (tix ⟨v.val + 1, h⟩)) ≤ BitVec.toNat (pf 0 (tix v)) + 1
  idle : ∀ (v : Fin 51) (h : v.val + 1 < 51), ¬ ((v.val + 1 : ℕ) : ℤ) < BitVec.toInt (pf 4 z0) → pf 0 (tix ⟨v.val + 1, h⟩) = pf 0 (tix v)
  apart : ∀ u v : Fin 51, u = v ∨ BitVec.toNat (pf 0 (tix u)) ≠ BitVec.toNat (pf 0 (tix v)) ∨ BitVec.toInt (pf 3 (tix u)) ≤ BitVec.toInt (pf 2 (tix v))
    ∨ BitVec.toInt (pf 3 (tix v)) ≤ BitVec.toInt (pf 2 (tix u))

theorem slt_bit (n : ℕ) (hn : n < 51) (w : BitVec 32) : Scalar.cmpi .ne (Scalar.extui (Scalar.cmpi .slt (BitVec.ofNat 32 n) w) : BitVec 32) 0#32 = 1#1 ↔ (n : ℤ) < w.toInt := by
  have hr : (BitVec.ofNat 32 n).toInt = (n : ℤ) := by
    rw [BitVec.toInt_eq_toNat_of_lt] <;> simp only [BitVec.toNat_ofNat] <;> omega
  have h1 : ∀ b : BitVec 1, Scalar.cmpi .ne (Scalar.extui b : BitVec 32) 0#32 = 1#1 ↔ b = 1#1 := by decide
  have hb : ∀ b : Bool, BitVec.ofBool b = 1#1 ↔ b = true := by decide
  rw [h1]
  show BitVec.ofBool (BitVec.slt (BitVec.ofNat 32 n) w) = 1#1 ↔ _
  rw [hb, BitVec.slt, hr, decide_eq_true_eq]

theorem h1_iff (i : grid0.Coords) (T : S1.Idx → Elt F .i32) : H1 i T ↔ (((i 0).val : ℕ) : ℤ) < BitVec.toInt (T z0) := by
  have e : wn T = T z0 := congrArg T (z_eq _)
  show k0_cond1 i (wn T) = 1#1 ↔ _
  rw [e]
  exact slt_bit _ (coord_lt i) _
theorem h3_ne (i : grid0.Coords) (T : S51.Idx → BitVec 32) (h : H3 (F := F) i T) (h0 : (i 0).val ≠ 0) :
    T (tix ⟨(i 0).val, coord_lt i⟩) ≠ T (tix ⟨(i 0).val - 1, by have := coord_lt i; omega⟩) := by
  intro heq
  have h' : k0_cond3 i (wt (F := F) i T) (wtp (F := F) i T) = 1#1 := h
  rw [show wt (F := F) i T = _ from wt_eq (F := F) i T, show wtp (F := F) i T = _ from wtp_eq (F := F) i T, heq] at h'
  unfold k0_cond3 at h'
  have e1 : ∀ x : BitVec 32, Scalar.cmpi .ne x x = 0#1 := fun x => by
    unfold Scalar.cmpi IntOp.cmpi; simp
  have e2 : Scalar.cmpi .eq (BitVec.ofNat 32 (i 0).val) 0#32 = 0#1 := by
    have hne : BitVec.ofNat 32 (i 0).val ≠ 0#32 := by
      intro hc
      have := congrArg BitVec.toNat hc
      have hl := coord_lt i
      simp only [BitVec.toNat_ofNat] at this
      omega
    show BitVec.ofBool (BitVec.ofNat 32 (i 0).val == 0#32) = 0#1
    rw [beq_eq_false_iff_ne.mpr hne]
    rfl
  simp only [e1, e2] at h'
  exact absurd h' (by decide)
theorem same_of_not_hl (i : grid0.Coords) (T : S51.Idx → BitVec 32) (h : ¬ HL (F := F) i T) :
    T (tix ⟨(i 0).val, coord_lt i⟩) = T (tix ⟨(i 0).val - 1, by have := coord_lt i; omega⟩) := by
  refine (we_eq (F := F) i T).symm.trans (Eq.trans ?_ (wep_eq (F := F) i T))
  by_contra hne
  apply h
  show Scalar.cmpi .ne (Scalar.extui (Scalar.ori _ _)) 0#32 = 1#1
  rw [ne_bit _ _ hne]
  exact or_bit _

theorem good_of_plan (pf : pre0.Contents (Elt F)) (P : Plan pf) : Good pf where
  tile := P.tile
  exp := P.exp
  idle := fun i h1 h3 => by
    have hl := coord_lt i
    replace h1 := fun hh => h1 ((h1_iff i (pf 4)).mpr hh)
    by_cases h0 : (i 0).val = 0
    · rw [h0] at h1; exact h1 (by simpa using P.pos)
    · have hlt : (i 0).val - 1 < 51 := by omega
      have hlt' : ((⟨(i 0).val - 1, hlt⟩ : Fin 51).val) + 1 < 51 := by show (i 0).val - 1 + 1 < 51; omega
      have e : (i 0).val - 1 + 1 = (i 0).val := by omega
      refine h3_ne i (pf 0) h3 h0 (Eq.trans ?_ (P.idle ⟨(i 0).val - 1, hlt⟩ hlt' ?_))
      · exact congrArg (fun v => pf 0 (tix v)) (Fin.ext e.symm)
      · show ¬ (((i 0).val - 1 + 1 : ℕ) : ℤ) < _
        rw [e]; exact h1

/-- The visit is one of the plan's. -/
def act (v : Fin 51) : Prop := ((v.val : ℕ) : ℤ) < BitVec.toInt (T4 a z0)
/-- The visit's value at an index of its tile. -/
def val (c : Dev nD) (v : Fin 51) (y : S8192x128.Idx) : EReal :=
  ffn (XT m c (tile a v)) (WG m c (expt a v)) (WU m c (expt a v)) (WD m c (expt a v)) (rowOf y) (colOf y)
/-- The index's row is in the visit's range. -/
def inr (v : Fin 51) (y : S8192x128.Idx) : Prop := mine (T2 a (tix v)) (T3 a (tix v)) (rowOf y)

theorem q1_iff (t : Fin (cfgA a).N) : Q1 a t ↔ act a (vt a t) := by
  rw [show Q1 a t ↔ _ from h1_iff _ _]; unfold act; rw [show (crd a t 0).val = (vt a t).val from crd_val t]
/-- The visit before. -/
abbrev bef (t : Fin (cfgA a).N) : Fin 51 := ⟨t.val - 1, by have := t_lt a t; omega⟩
theorem crdp (t : Fin (cfgA a).N) (h) : (⟨(crd a t 0).val - 1, h⟩ : Fin 51) = bef a t := Fin.ext (by show (crd a t 0).val - 1 = t.val - 1; rw [show (crd a t 0).val = t.val from crd_val t])

variable (P : Plan a.1)
include P

theorem tile_le (u v : Fin 51) (h : u.val ≤ v.val) : tile a u ≤ tile a v := by
  obtain ⟨u, hu⟩ := u
  obtain ⟨v, hv⟩ := v
  replace h : u ≤ v := h
  induction v, h using Nat.le_induction with
  | base => exact le_rfl
  | succ n hn ih => exact (ih (by omega)).trans (P.step ⟨n, by omega⟩ hv).1

open Classical in
/-- A live visit: the buffer and the resident weights after it. -/
theorem live (c : Dev nD) (t : Fin (cfgA a).N) (p : St (F := Ideal) c) (q1 : Q1 a t)
    (hp : ¬ QL a t → p.2.1 = WG m c (expt a (vt a t)) ∧ p.2.2.1 = WU m c (expt a (vt a t)) ∧ p.2.2.2 = WD m c (expt a (vt a t))) :
    ((step a m ρ c t p).2.1 = WG m c (expt a (vt a t)) ∧ (step a m ρ c t p).2.2.1 = WU m c (expt a (vt a t)) ∧ (step a m ρ c t p).2.2.2 = WD m c (expt a (vt a t)))
    ∧ ∀ y, (step a m ρ c t p).1 y = if inr a (vt a t) y then val a m c (vt a t) y else if Q3 a t then 0 else p.1 y := by
  have hx := xblk a m ρ c t (P.tile _)
  have hg := gblk a m ρ c t (P.exp _)
  have hu := ublk a m ρ c t (P.exp _)
  have hd := dblk a m ρ c t (P.exp _)
  unfold inr val
  by_cases q3 : Q3 a t
  · by_cases ql : QL a t
    · rw [step_A a m ρ c t p q1 ql q3]
      refine ⟨⟨(scA0 a m ρ c t q1 ql q3).trans hg, (scA1 a m ρ c t q1 ql q3).trans hu, (scA2 a m ρ c t q1 ql q3).trans hd⟩, fun y => ?_⟩
      rw [if_pos q3]
      refine (outA a m ρ c t q1 ql q3 y).trans ?_
      rw [hx, hg, hu, hd]
    · obtain ⟨p1, p2, p3⟩ := hp ql
      rw [step_C a m ρ c t p q1 ql q3]
      refine ⟨⟨(scC0 a m ρ c t p q1 ql q3).trans p1, (scC1 a m ρ c t p q1 ql q3).trans p2, (scC2 a m ρ c t p q1 ql q3).trans p3⟩, fun y => ?_⟩
      rw [if_pos q3]
      refine (outC a m ρ c t p q1 ql q3 y).trans ?_
      rw [hx, p1, p2, p3]
  · by_cases ql : QL a t
    · rw [step_D a m ρ c t p q1 ql q3]
      refine ⟨⟨(scD0 a m ρ c t p q1 ql q3).trans hg, (scD1 a m ρ c t p q1 ql q3).trans hu, (scD2 a m ρ c t p q1 ql q3).trans hd⟩, fun y => ?_⟩
      rw [if_neg q3]
      refine (outD a m ρ c t p q1 ql q3 y).trans ?_
      rw [hx, hg, hu, hd]
    · obtain ⟨p1, p2, p3⟩ := hp ql
      rw [step_B a m ρ c t p q1 ql q3]
      refine ⟨⟨(scB0 a m ρ c t p q1 ql q3).trans p1, (scB1 a m ρ c t p q1 ql q3).trans p2, (scB2 a m ρ c t p q1 ql q3).trans p3⟩, fun y => ?_⟩
      rw [if_neg q3]
      refine (outB a m ρ c t p q1 ql q3 y).trans ?_
      rw [hx, p1, p2, p3]

omit P in
/-- The state after visit `t`: every row of the tile holds the value of the visit whose range has it, or zero; after a live visit the
    resident weights are its expert's. -/
def Inv (c : Dev nD) (t : Fin (cfgA a).N) (p : St (F := Ideal) c) : Prop :=
  (∀ y, (∀ v : Fin 51, v.val ≤ t.val → act a v → tile a v = tile a (vt a t) → inr a v y → p.1 y = val a m c v y)
    ∧ ((∀ v : Fin 51, v.val ≤ t.val → act a v → tile a v = tile a (vt a t) → ¬ inr a v y) → p.1 y = 0))
  ∧ (act a (vt a t) → p.2.1 = WG m c (expt a (vt a t)) ∧ p.2.2.1 = WU m c (expt a (vt a t)) ∧ p.2.2.2 = WD m c (expt a (vt a t)))

theorem not_both (u v : Fin 51) (y : S8192x128.Idx) (h : u ≠ v) (ht : tile a u = tile a v) (hu : inr a u y) (hv : inr a v y) : False := by
  unfold inr mine at hu hv
  rcases P.apart u v with e | e | e | e
  · exact h e
  · exact e ht
  · have e' : BitVec.toInt (T3 a (tix u)) ≤ BitVec.toInt (T2 a (tix v)) := e
    omega
  · have e' : BitVec.toInt (T3 a (tix v)) ≤ BitVec.toInt (T2 a (tix u)) := e
    omega

theorem inv_step (c : Dev nD) (t : Fin (cfgA a).N) (p : St (F := Ideal) c) (hp : ∀ h : t.val ≠ 0, Inv a m c ⟨t.val - 1, Nat.lt_of_le_of_lt (Nat.sub_le _ _) t.isLt⟩ p) :
    Inv a m c t (step a m ρ c t p) := by
  have htl := t_lt a t
  by_cases q1 : Q1 a t
  · have hact := (q1_iff a t).mp q1
    have hw : ¬ QL a t → p.2.1 = WG m c (expt a (vt a t)) ∧ p.2.2.1 = WU m c (expt a (vt a t)) ∧ p.2.2.2 = WD m c (expt a (vt a t)) := by
      intro ql
      have h0 : t.val ≠ 0 := fun h0 => ql (hl_zero _ _ ((crd_val t).trans h0))
      have he : T1 a (tix (vt a t)) = T1 a (tix (bef a t)) := by
        have := same_of_not_hl _ (T1 a) ql
        rw [crdt, crdp] at this
        exact this
      have hb : act a (bef a t) := by
        unfold act at hact ⊢
        have e : ((vt a t).val : ℤ) = (t.val : ℤ) := rfl
        have e' : (((bef a t).val : ℕ) : ℤ) = ((t.val - 1 : ℕ) : ℤ) := rfl
        omega
      have hI := (hp h0).2 hb
      have hee : expt a (vt a t) = expt a (bef a t) := congrArg BitVec.toNat he
      rw [hee]
      exact hI
    obtain ⟨hs, ho⟩ := live a m ρ P c t p q1 hw
    refine ⟨fun y => ?_, fun _ => hs⟩
    rw [ho y]
    by_cases q3 : Q3 a t
    · have only : ∀ v : Fin 51, v.val ≤ t.val → tile a v = tile a (vt a t) → v = vt a t := by
        intro v hv hvt
        by_contra hne
        have hlt : v.val < t.val := lt_of_le_of_ne hv fun h => hne (Fin.ext h)
        have h0 : t.val ≠ 0 := by omega
        have hn := h3_ne _ (T0 a) q3 (fun h => h0 ((crd_val t).symm.trans h))
        rw [crdt, crdp] at hn
        have h1 : tile a v ≤ tile a (bef a t) := tile_le a P _ _ (show v.val ≤ t.val - 1 by omega)
        have h2 : tile a (bef a t) ≤ tile a (vt a t) := tile_le a P _ _ (Nat.sub_le _ _)
        have h3 : tile a (bef a t) = tile a (vt a t) := by omega
        exact hn (BitVec.eq_of_toNat_eq h3.symm)
      refine ⟨fun v hv ha hvt hi => ?_, fun hno => ?_⟩
      · rw [only v hv hvt] at hi ⊢
        rw [if_pos hi]
      · rw [if_neg (hno (vt a t) le_rfl hact rfl), if_pos q3]
    · have h0 : t.val ≠ 0 := fun h0 => q3 (h3_zero _ _ ((crd_val t).trans h0))
      have hsame : tile a (vt a t) = tile a (bef a t) := by
        have := same_of_not_h3 _ (T0 a) q3
        rw [crdt, crdp] at this
        exact congrArg BitVec.toNat this
      have hI := (hp h0).1 y
      refine ⟨fun v hv ha hvt hi => ?_, fun hno => ?_⟩
      · by_cases hvt' : v = vt a t
        · rw [hvt'] at hi ⊢
          rw [if_pos hi]
        · rw [if_neg (fun h => not_both a P v (vt a t) y hvt' hvt hi h), if_neg q3]
          have hlt : v.val ≤ t.val - 1 := by
            have : v.val ≠ t.val := fun h => hvt' (Fin.ext h)
            omega
          exact hI.1 v hlt ha (hvt.trans hsame) hi
      · rw [if_neg (hno (vt a t) le_rfl hact rfl), if_neg q3]
        exact hI.2 fun v hv ha hvt => hno v (hv.trans (Nat.sub_le _ _)) ha (hvt.trans hsame.symm)
  · have hna : ¬ act a (vt a t) := fun h => q1 ((q1_iff a t).mpr h)
    have h0 : t.val ≠ 0 := fun h0 => hna (by unfold act; rw [show (vt a t).val = 0 from h0]; exact P.pos)
    have hsame : tile a (vt a t) = tile a (bef a t) := by
      have hlt : (bef a t).val + 1 < 51 := by show t.val - 1 + 1 < 51; omega
      have e : t.val - 1 + 1 = t.val := by omega
      have := P.idle (bef a t) hlt (by show ¬ ((t.val - 1 + 1 : ℕ) : ℤ) < _; rw [e]; exact hna)
      refine congrArg BitVec.toNat (Eq.trans ?_ this)
      exact congrArg (fun v => a.1 0 (tix v)) (Fin.ext e.symm)
    rw [step_E a m ρ c t p q1]
    refine ⟨fun y => ?_, fun h => absurd h hna⟩
    have hI := (hp h0).1 y
    refine ⟨fun v hv ha hvt hi => ?_, fun hno => ?_⟩
    · have hlt : v.val ≤ t.val - 1 := by
        have : v.val ≠ t.val := fun h => hna (by rw [show vt a t = v from Fin.ext h.symm]; exact ha)
        omega
      exact hI.1 v hlt ha (hvt.trans hsame) hi
    · exact hI.2 fun v hv ha hvt => hno v (hv.trans (Nat.sub_le _ _)) ha (hvt.trans hsame.symm)

theorem inv (c : Dev nD) : ∀ (n : ℕ) (h : n < (cfgA a).N), Inv a m c ⟨n, h⟩ (traj a m ρ c n h)
  | 0, h => inv_step a m ρ P c ⟨0, h⟩ _ (fun h0 => absurd rfl h0)
  | n + 1, h => inv_step a m ρ P c ⟨n + 1, h⟩ _ (fun _ => inv c n (Nat.lt_of_succ_lt h))

end Cert.ExpIdeal.Tab
-- ==== Proof.ExpIdealFin.lean ====
/- The whole result array after the last visit. -/
module

public import proofs.«01_k».proof.Proof.ExpIdealAcc

@[expose] public section

set_option maxRecDepth 16384
set_option Elab.async false

noncomputable section

namespace Cert.ExpIdeal.Tab

open Cert.ExpIdeal Cert.ExpIdeal.Gen
open Idealize.ShloMosaic
open Idealize.ShloMosaic.TcCoe Idealize.ShloMosaic.Tactic
variable (a : (pcfg0 (F := Ideal)).Adm) (m : (ℓ : Loc nD τ sig) → Buf (Elt Ideal) ℓ) (ρ : Dev nD → PrngReg)

variable (P : Plan a.1)

open Classical in
/-- The result: each row of each tile holds the value of the visit of the plan that has the tile and whose range has the row, or
    zero when there is none. -/
def out (c : Dev nD) (i : S294912x128.Idx) : EReal :=
  if h : ∃ v : Fin 51, act a v ∧ tile a v = (i 0).val / 8192 ∧ inr a v (ix2 (⟨(i 0).val % 8192, Nat.mod_lt _ (by decide)⟩ : Fin 8192) (⟨(i 1).val, (i 1).isLt⟩ : Fin 128))
  then val a m c h.choose (ix2 (⟨(i 0).val % 8192, Nat.mod_lt _ (by decide)⟩ : Fin 8192) (⟨(i 1).val, (i 1).isLt⟩ : Fin 128)) else 0

omit P
theorem n_eq : (cfgA a).N = 51 := rfl

theorem flush_iff (t : Fin (cfgA a).N) : ((cfgA a).win (4 : Fin 5)).flush t = true ↔ (t.val = 50 ∨ ∃ h : t.val + 1 < 51, tile a ⟨t.val + 1, h⟩ ≠ tile a (vt a t)) := by
  rw [Pipeline.Window.flush_eq_flushF]
  unfold Pipeline.Window.flushF
  have ho : ((cfgA a).win (4 : Fin 5)).isOut = true := rfl
  have htl := t_lt a t
  rw [ho, Bool.true_and, Bool.or_eq_true, decide_eq_true_eq, decide_eq_true_eq]
  refine or_congr (show t.val + 1 = 51 ↔ t.val = 50 by omega) ⟨?_, ?_⟩
  · rintro ⟨h, b, hb⟩
    refine ⟨h, fun he => hb ?_⟩
    have e1 := ix_o a ⟨t.val + 1, h⟩
    have e2 := ix_o a t
    rw [show vt a ⟨t.val + 1, h⟩ = ⟨t.val + 1, h⟩ from rfl, he] at e1
    exact (congrFun e1 b).trans (congrFun e2 b).symm
  · rintro ⟨h, hne⟩
    refine ⟨h, 0, fun he => hne ?_⟩
    have e1 := congrFun (ix_o a ⟨t.val + 1, h⟩) 0
    have e2 := congrFun (ix_o a t) 0
    exact e1.symm.trans (he.trans e2)

include P
/-- The last visit of a tile is the one written back: no later visit has the tile. -/
theorem last_of_flush (t : Fin (cfgA a).N) (hf : ((cfgA a).win (4 : Fin 5)).flush t = true) (v : Fin 51) (hv : tile a v = tile a (vt a t)) : v.val ≤ t.val := by
  rcases (flush_iff a t).mp hf with h | ⟨h, hne⟩
  · have := v.isLt; omega
  · by_contra hlt
    have h1 : tile a (vt a t) ≤ tile a ⟨t.val + 1, h⟩ := tile_le a P _ _ (Nat.le_succ _)
    have h2 : tile a ⟨t.val + 1, h⟩ ≤ tile a v := tile_le a P _ _ (by show t.val + 1 ≤ v.val; omega)
    omega

/-- Every tile is written back by some visit. -/
theorem covered (q : ℕ) (hq : q < 36) : ∃ t : Fin (cfgA a).N, ((cfgA a).win (4 : Fin 5)).flush t = true ∧ tile a (vt a t) = q := by
  classical
  let R : ℕ → Prop := fun n => ∃ h : n < 51, tile a ⟨n, h⟩ ≤ q
  have h0 : R 0 := ⟨by decide, by have := P.first; show tile a 0 ≤ q; unfold tile; exact this.le.trans (Nat.zero_le _)⟩
  have hs : R (Nat.findGreatest R 50) := Nat.findGreatest_spec (Nat.zero_le _) h0
  obtain ⟨hn, hle⟩ := hs
  have hlast : tile a 50 = 35 := P.last
  refine ⟨⟨Nat.findGreatest R 50, hn⟩, ?_, ?_⟩
  · rw [flush_iff]
    by_cases h50 : Nat.findGreatest R 50 = 50
    · exact Or.inl h50
    · have hlt : Nat.findGreatest R 50 + 1 < 51 := by omega
      refine Or.inr ⟨hlt, fun he => ?_⟩
      exact Nat.findGreatest_is_greatest (Nat.lt_succ_self _) (by omega) (show R (Nat.findGreatest R 50 + 1) from ⟨hlt, he.le.trans hle⟩)
  · refine le_antisymm hle ?_
    by_cases h50 : Nat.findGreatest R 50 = 50
    · have : tile a ⟨Nat.findGreatest R 50, hn⟩ = tile a 50 := congrArg (tile a) (Fin.ext h50)
      show q ≤ tile a ⟨Nat.findGreatest R 50, hn⟩
      omega
    · have hlt : Nat.findGreatest R 50 + 1 < 51 := by omega
      have hnot : ¬ R (Nat.findGreatest R 50 + 1) := Nat.findGreatest_is_greatest (Nat.lt_succ_self _) (by omega)
      have h1 : ¬ tile a ⟨Nat.findGreatest R 50 + 1, hlt⟩ ≤ q := fun h => hnot ⟨hlt, h⟩
      have h2 : tile a ⟨Nat.findGreatest R 50 + 1, hlt⟩ ≤ tile a ⟨Nat.findGreatest R 50, hn⟩ + 1 := (P.step ⟨Nat.findGreatest R 50, hn⟩ hlt).2
      show q ≤ tile a ⟨Nat.findGreatest R 50, hn⟩
      omega

open Classical in
/-- A written-back tile holds the result's tile. -/
theorem flushed_eq (c : Dev nD) (t : Fin (cfgA a).N) (hf : ((cfgA a).win (4 : Fin 5)).flush t = true) (y : S8192x128.Idx) :
    (traj a m ρ c t.val t.isLt).1 y = out a m c (ix2 (⟨tile a (vt a t) * 8192 + (y 0).val, by have := P.tile (vt a t); have h : tile a (vt a t) < 36 := this; have : (y 0).val < 8192 := (y 0).isLt; omega⟩ : Fin 294912) (⟨(y 1).val, (y 1).isLt⟩ : Fin 128)) := by
  obtain ⟨hI, -⟩ := inv a m ρ P c t.val t.isLt
  have hy : (y 0).val < 8192 := (y 0).isLt
  have hq : (tile a (vt a t) * 8192 + (y 0).val) / 8192 = tile a (vt a t) := by omega
  have hr : (ix2 (⟨(tile a (vt a t) * 8192 + (y 0).val) % 8192, Nat.mod_lt _ (by decide)⟩ : Fin 8192) (⟨(y 1).val, (y 1).isLt⟩ : Fin 128) : S8192x128.Idx) = y := by
    funext b
    match b with
    | ⟨0, _⟩ => exact Fin.ext (show (tile a (vt a t) * 8192 + (y 0).val) % 8192 = (y 0).val by omega)
    | ⟨1, _⟩ => rfl
  unfold out
  show _ = dite (∃ v : Fin 51, act a v ∧ tile a v = (tile a (vt a t) * 8192 + (y 0).val) / 8192 ∧ inr a v (ix2 (⟨(tile a (vt a t) * 8192 + (y 0).val) % 8192, Nat.mod_lt _ (by decide)⟩ : Fin 8192) (⟨(y 1).val, (y 1).isLt⟩ : Fin 128)))
    (fun h => val a m c h.choose (ix2 (⟨(tile a (vt a t) * 8192 + (y 0).val) % 8192, Nat.mod_lt _ (by decide)⟩ : Fin 8192) (⟨(y 1).val, (y 1).isLt⟩ : Fin 128))) (fun _ => 0)
  simp only [hq, hr]
  split
  · rename_i h
    obtain ⟨h1, h2, h3⟩ := h.choose_spec
    exact (hI y).1 _ (last_of_flush a P t hf _ h2) h1 h2 h3
  · rename_i h
    exact (hI y).2 fun v _ h1 h2 h3 => h ⟨v, h1, h2, h3⟩

/-- The whole result array after the run. -/
theorem final (c : Dev nD) : (dats a m ρ 0 c).arrAt (4 : Fin 5) (cfgA a).N = out a m c := by
  refine (dats a m ρ 0 c).arrAt_eq_of_emb (4 : Fin 5) (out a m c) (fun t hf y => ?_) (fun i => ?_)
  · have e := flushed_eq a m ρ P c t hf
    have e0 : (pcfg0.win a 4).index t 0 = tile a (vt a t) := congrFun (ix_o a t) 0
    have e1 : (pcfg0.win a 4).index t 1 = 0 := congrFun (ix_o a t) 1
    rw [after0_4]
    refine (cast_eq _ _).trans (Eq.trans (congrFun (congrArg Prod.fst (traj_eq a m ρ c t).symm) _) ((e _).trans ?_))
    refine congrArg (out a m c) (funext fun b => ?_)
    match b with
    | ⟨0, _⟩ =>
      refine Fin.ext ?_
      show tile a (vt a t) * 8192 + (y (0 : Fin 2)).val = (pcfg0.win a 4).index t 0 * 8192 + 1 * (y (0 : Fin 2)).val
      rw [e0, Nat.one_mul]
    | ⟨1, _⟩ =>
      refine Fin.ext ?_
      show (y (1 : Fin 2)).val = (pcfg0.win a 4).index t 1 * 128 + 1 * (y (1 : Fin 2)).val
      rw [e1, Nat.one_mul, Nat.zero_mul, Nat.zero_add]
  · obtain ⟨t, hf, ht⟩ := covered a P ((i (0 : Fin 2)).val / 8192) (by have : (i (0 : Fin 2)).val < 294912 := (i (0 : Fin 2)).isLt; omega)
    refine ⟨t, hf, ?_⟩
    have hi0 : (i (0 : Fin 2)).val < 294912 := (i (0 : Fin 2)).isLt
    have hi1 : (i (1 : Fin 2)).val < 128 := (i (1 : Fin 2)).isLt
    have e0 : (pcfg0.win a 4).index t 0 = tile a (vt a t) := congrFun (ix_o a t) 0
    have e1 : (pcfg0.win a 4).index t 1 = 0 := congrFun (ix_o a t) 1
    refine (((cfgA a).win (4 : Fin 5)).emb_mem_blk_iff t i).mpr (fun b => ?_)
    match b with
    | ⟨0, _⟩ =>
      show (pcfg0.win a 4).index t 0 * 8192 ≤ (i (0 : Fin 2)).val ∧ (i (0 : Fin 2)).val < (pcfg0.win a 4).index t 0 * 8192 + 8192
      rw [e0, ht]; omega
    | ⟨1, _⟩ =>
      show (pcfg0.win a 4).index t 1 * 128 ≤ (i (1 : Fin 2)).val ∧ (i (1 : Fin 2)).val < (pcfg0.win a 4).index t 1 * 128 + 128
      rw [e1]; omega

end Cert.ExpIdeal.Tab
-- ==== Proof.ExpRef.lean ====
/- The experts' reference: its result read at an index. -/
module

public import proofs.«01_k».proof.Proof.Gen.ExpRefIdeal
public import Idealize.ShloMosaic.Lib.Pointwise
public import Idealize.ShloMosaic.Lib.Claim
public import Idealize.ShloMosaic.Lib.Routing.OpsOrder

@[expose] public section

set_option maxRecDepth 16384

noncomputable section

namespace Cert.ExpRefTie

open Cert.ExpRefIdeal Cert.ExpRefIdeal.Gen
open Idealize.ShloMosaic Idealize.ShloMosaic.TcCoe Idealize.SL.Sem

/-- Which experts hit which token's choice: some visit before the count has the row's tile, the expert and the row in its range. -/
def HIT (t e lo hi : IVec S51 32) (n : IVec S1 32) : IVec S51x36x512x16 1 :=
  andi (andi (andi (andi (cmpi .slt (iotaInDim S51x36x512x16 32 0) (broadcastInDim S51x36x512x16 ![] bcast_S_S51x36x512x16 (shapeCast S_ n shapeCasts_S1_S_)))
    (cmpi .eq (broadcastInDim S51x36x512x16 ![0, 1, 2, 3] bcast_S51x1x1x1_S51x36x512x16_0_1_2_3 (broadcastInDim S51x1x1x1 ![0] bcast_S51_S51x1x1x1_0 t)) (iotaInDim S51x36x512x16 32 1)))
    (cmpi .eq (broadcastInDim S51x36x512x16 ![0, 1, 2, 3] bcast_S51x1x1x1_S51x36x512x16_0_1_2_3 (broadcastInDim S51x1x1x1 ![0] bcast_S51_S51x1x1x1_0 e)) (iotaInDim S51x36x512x16 32 3)))
    (cmpi .sle (broadcastInDim S51x36x512x16 ![0, 1, 2, 3] bcast_S51x1x1x1_S51x36x512x16_0_1_2_3 (broadcastInDim S51x1x1x1 ![0] bcast_S51_S51x1x1x1_0 lo)) (iotaInDim S51x36x512x16 32 2)))
    (cmpi .slt (iotaInDim S51x36x512x16 32 2) (broadcastInDim S51x36x512x16 ![0, 1, 2, 3] bcast_S51x1x1x1_S51x36x512x16_0_1_2_3 (broadcastInDim S51x1x1x1 ![0] bcast_S51_S51x1x1x1_0 hi)))

/-- One of the two first products, of every row with every expert's weights. -/
def LIN (x : FVec Ideal S294912x128 .f32) (w : FVec Ideal S2x16x2048x512 .f32) : FVec Ideal S18432x16x512 .f32 :=
  Host.dotGeneral dot_S18432x2048_S16x2048x512_S18432x16x512_1_1_0_02_n_n none
    (truncf .bf16 (shapeCast S18432x2048 x shapeCasts_S294912x128_S18432x2048) bitsLt_bf16_f32)
    (truncf .bf16 (shapeCast S16x2048x512 (extractStridedSlice S1x16x2048x512 ![0, 0, 0, 0] w slices_S2x16x2048x512_S1x16x2048x512_0_0_0_0) shapeCasts_S1x16x2048x512_S16x2048x512) bitsLt_bf16_f32)

/-- The hidden values: zero where the expert does not take the row. -/
def HID (t e lo hi : IVec S51 32) (n : IVec S1 32) (x : FVec Ideal S294912x128 .f32) (g u : FVec Ideal S2x16x2048x512 .f32) : FVec Ideal S18432x16x512 .f32 :=
  select (broadcastInDim S18432x16x512 ![0, 1, 2] bcast_S18432x16x1_S18432x16x512_0_1_2 (broadcastInDim S18432x16x1 ![0, 1] bcast_S18432x16_S18432x16x1_0_1
      (shapeCast S18432x16 (Host.reduce IntOp.ori (HIT t e lo hi n) (constantI S_ 1 0#1) reducesTo_S51x36x512x16_S36x512x16_d0 h_S_) shapeCasts_S36x512x16_S18432x16)))
    (mulf (mulf (LIN x g) (Host.divf (broadcastInDim S18432x16x512 ![] bcast_S_S18432x16x512 (constant S_ .f32 0x3F800000#32))
      (addf (broadcastInDim S18432x16x512 ![] bcast_S_S18432x16x512 (constant S_ .f32 0x3F800000#32)) (Host.exp (Host.negf (LIN x g)))))) (LIN x u))
    (broadcastInDim S18432x16x512 ![] bcast_S_S18432x16x512 (constant S_ .f32 0x00000000#32))

/-- The reference's result. -/
def REF (t e lo hi : IVec S51 32) (n : IVec S1 32) (x : FVec Ideal S294912x128 .f32) (g u : FVec Ideal S2x16x2048x512 .f32) (d : FVec Ideal S2x16x512x2048 .f32) :
    FVec Ideal S294912x128 .f32 :=
  shapeCast S294912x128 ((Host.dotGeneral dot_S18432x16x512_S16x512x2048_S18432x2048_12_01_0_2_n_n none (truncf .bf16 (HID t e lo hi n x g u) bitsLt_bf16_f32)
    (truncf .bf16 (shapeCast S16x512x2048 (extractStridedSlice S1x16x512x2048 ![0, 0, 0, 0] d slices_S2x16x512x2048_S1x16x512x2048_0_0_0_0) shapeCasts_S1x16x512x2048_S16x512x2048) bitsLt_bf16_f32)) : FVec Ideal S18432x2048 .f32)
    shapeCasts_S18432x2048_S294912x128

theorem at_lin (x : FVec Ideal S294912x128 .f32) (w : FVec Ideal S2x16x2048x512 .f32) (r : Fin 18432) (k : Fin 16) (f : Fin 512) :
    LIN x w (ix3 r k f) = ∑ q : Fin 2048, x (ix2 (⟨r.val * 16 + q.val / 128, by omega⟩ : Fin 294912) (⟨q.val % 128, by omega⟩ : Fin 128)) * w (ix4 (0 : Fin 2) k q f) := by
  pointwise [LIN]

theorem bit_eq (w : BitVec 32) (k : ℕ) (hk : k < 64) : IntOp.cmpi .eq w (BitVec.ofNat 32 k) = 1#1 ↔ w.toNat = k := by
  have hb : ∀ b : Bool, BitVec.ofBool b = 1#1 ↔ b = true := by decide
  show BitVec.ofBool (w == BitVec.ofNat 32 k) = 1#1 ↔ _
  rw [hb, beq_iff_eq]
  constructor
  · rintro rfl; rw [BitVec.toNat_ofNat]; omega
  · intro h; apply BitVec.eq_of_toNat_eq; rw [BitVec.toNat_ofNat, h]; omega
theorem int_nat (k : ℕ) (hk : k < 1024) : (BitVec.ofNat 32 k).toInt = (k : ℤ) := by
  rw [BitVec.toInt_eq_toNat_of_lt] <;> simp only [BitVec.toNat_ofNat] <;> omega
theorem bit_slt (a b : BitVec 32) : IntOp.cmpi .slt a b = 1#1 ↔ a.toInt < b.toInt := by
  have hb : ∀ b : Bool, BitVec.ofBool b = 1#1 ↔ b = true := by decide
  show BitVec.ofBool (BitVec.slt a b) = 1#1 ↔ _
  rw [hb, BitVec.slt, decide_eq_true_eq]
theorem bit_sle (a b : BitVec 32) : IntOp.cmpi .sle a b = 1#1 ↔ a.toInt ≤ b.toInt := by
  have hb : ∀ b : Bool, BitVec.ofBool b = 1#1 ↔ b = true := by decide
  show BitVec.ofBool (BitVec.sle a b) = 1#1 ↔ _
  rw [hb, BitVec.sle, decide_eq_true_eq]
theorem bit_and (a b : BitVec 1) : IntOp.andi a b = 1#1 ↔ a = 1#1 ∧ b = 1#1 := by revert a b; decide

/-- Visit `v` gives row `r` of the sorted rows to expert `k`. -/
def Hits (t e lo hi : IVec S51 32) (n : IVec S1 32) (r k : ℕ) (v : Fin 51) : Prop :=
  (v.val : ℤ) < (n (ix1 (0 : Fin 1))).toInt ∧ (t (ix1 v)).toNat = r / 512 ∧ (e (ix1 v)).toNat = k
    ∧ (lo (ix1 v)).toInt ≤ ((r % 512 : ℕ) : ℤ) ∧ ((r % 512 : ℕ) : ℤ) < (hi (ix1 v)).toInt

open Classical in
/-- A hidden value: the gated product where some visit gives the row to the expert, zero elsewhere. -/
theorem at_hid (t e lo hi : IVec S51 32) (n : IVec S1 32) (x : FVec Ideal S294912x128 .f32) (g u : FVec Ideal S2x16x2048x512 .f32) (r : Fin 18432) (k : Fin 16) (f : Fin 512) :
    HID t e lo hi n x g u (ix3 r k f) = if ∃ v, Hits t e lo hi n r.val k.val v then LIN x g (ix3 r k f) * Ideal.logistic (LIN x g (ix3 r k f)) * LIN x u (ix3 r k f) else 0 := by
  pointwise [HID, HIT]
  generalize hb : Finset.fold IntOp.ori (0#1) _ (Finset.univ : Finset (Fin 51)) = b
  have hiff : b = 1#1 ↔ ∃ v, Hits t e lo hi n r.val k.val v := by
    rw [← hb, Routing.fold_ori]
    refine exists_congr fun v => ?_
    rw [and_iff_right (Finset.mem_univ v), bit_and, bit_and, bit_and, bit_and, bit_slt, bit_slt, bit_sle, bit_eq _ _ (by omega), bit_eq _ _ (by omega), int_nat _ (by omega), int_nat _ (by omega)]
    unfold Hits
    exact ⟨fun ⟨⟨⟨⟨h1, h2⟩, h3⟩, h4⟩, h5⟩ => ⟨h1, h2, h3, h4, h5⟩, fun ⟨h1, h2, h3, h4, h5⟩ => ⟨⟨⟨⟨h1, h2⟩, h3⟩, h4⟩, h5⟩⟩
  rcases BitVec.eq_zero_or_eq_one b with hz | hz
  · rw [if_neg (fun h => by rw [hiff.mpr h] at hz; exact absurd hz (by decide)), hz]
    rfl
  · rw [if_pos (hiff.mp hz), hz]
    rfl

theorem at_out (H : FVec Ideal S18432x16x512 .f32) (d : FVec Ideal S2x16x512x2048 .f32) (i : S294912x128.Idx) :
    shapeCast S294912x128 ((Host.dotGeneral dot_S18432x16x512_S16x512x2048_S18432x2048_12_01_0_2_n_n none (truncf .bf16 H bitsLt_bf16_f32)
    (truncf .bf16 (shapeCast S16x512x2048 (extractStridedSlice S1x16x512x2048 ![0, 0, 0, 0] d slices_S2x16x512x2048_S1x16x512x2048_0_0_0_0) shapeCasts_S1x16x512x2048_S16x512x2048) bitsLt_bf16_f32)) : FVec Ideal S18432x2048 .f32)
    shapeCasts_S18432x2048_S294912x128 i = ∑ k : Fin 16, ∑ f : Fin 512, H (ix3 (⟨(i 0).val / 16, by have : (i 0).val < 294912 := (i 0).isLt; omega⟩ : Fin 18432) k f)
      * d (ix4 (0 : Fin 2) k f (⟨(i 0).val % 16 * 128 + (i 1).val, by have : (i 1).val < 128 := (i 1).isLt; omega⟩ : Fin 2048)) := by
  pointwise

theorem at_ref (t e lo hi : IVec S51 32) (n : IVec S1 32) (x : FVec Ideal S294912x128 .f32) (g u : FVec Ideal S2x16x2048x512 .f32) (d : FVec Ideal S2x16x512x2048 .f32) (i : S294912x128.Idx) :
    REF t e lo hi n x g u d i = ∑ k : Fin 16, ∑ f : Fin 512, HID t e lo hi n x g u (ix3 (⟨(i 0).val / 16, by have : (i 0).val < 294912 := (i 0).isLt; omega⟩ : Fin 18432) k f)
      * d (ix4 (0 : Fin 2) k f (⟨(i 0).val % 16 * 128 + (i 1).val, by have : (i 1).val < 128 := (i 1).isLt; omega⟩ : Fin 2048)) :=
  at_out (HID t e lo hi n x g u) d i

/-- The reference's run: the result, and the arguments unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v50) = REF (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  hlo_run
  simp -implicitDefEqProofs only [StableHlo.TRef.toBuf, StableHlo.TRef.ofBuf, cast_cast, cast_eq]
  unfold REF HID LIN HIT
  rfl

end Cert.ExpRefTie
-- ==== Proof.ExpTie.lean ====
/- The experts' call against its reference: the same array. -/
module

public import proofs.«01_k».proof.Proof.ExpIdealFin
public import proofs.«01_k».proof.Proof.ExpPlan
public import proofs.«01_k».proof.Proof.ExpRef

@[expose] public section

set_option maxRecDepth 16384
set_option Elab.async false

noncomputable section

namespace Cert.ExpIdeal.Tab

open Cert.ExpIdeal Cert.ExpIdeal.Gen
open Idealize.ShloMosaic
open Idealize.ShloMosaic.TcCoe Idealize.ShloMosaic.Tactic
open Cert.ExpRefTie (LIN HID REF Hits at_lin at_hid at_ref)
variable (a : (pcfg0 (F := Ideal)).Adm) (m : (ℓ : Loc nD τ sig) → Buf (Elt Ideal) ℓ) (ρ : Dev nD → PrngReg)

theorem tix_ix1 (v : Fin 51) : tix v = ix1 v := by
  funext b
  match b with
  | ⟨0, _⟩ => rfl

/-- The index within its tile. -/
def yof (i : S294912x128.Idx) : S8192x128.Idx :=
  ix2 (⟨(i 0).val % 8192, Nat.mod_lt _ (by decide)⟩ : Fin 8192) (⟨(i 1).val, (i 1).isLt⟩ : Fin 128)
/-- The row of sixteen lanes' groups an index is in. -/
def rof (i : S294912x128.Idx) : Fin 18432 := ⟨(i 0).val / 16, by have : (i 0).val < 294912 := (i 0).isLt; omega⟩

/-- The reference's word for "the visit gives the row to the expert", read with the kernel's words. -/
theorem hits_iff (i : S294912x128.Idx) (k : ℕ) (v : Fin 51) :
    Hits (a.1 0) (a.1 1) (a.1 2) (a.1 3) (a.1 4) (rof i).val k v ↔ (act a v ∧ tile a v = (i 0).val / 8192 ∧ inr a v (yof i)) ∧ expt a v = k := by
  have e1 : (rof i).val / 512 = (i 0).val / 8192 := by show (i 0).val / 16 / 512 = _; omega
  have e2 : (rof i).val % 512 = (rowOf (yof i)).val := by show (i 0).val / 16 % 512 = (i 0).val % 8192 / 16; omega
  unfold Hits act tile inr mine expt
  rw [e1, e2, tix_ix1]
  constructor
  · rintro ⟨h1, h2, h3, h4, h5⟩; exact ⟨⟨h1, h2, h4, h5⟩, h3⟩
  · rintro ⟨⟨h1, h2, h4, h5⟩, h3⟩; exact ⟨h1, h2, h3, h4, h5⟩

theorem x_at (c : Dev nD) (i : S294912x128.Idx) (q : Fin 2048) :
    XT m c ((i 0).val / 8192) (cix (rowOf (yof i)) q)
      = m ((c : Thread nD τ).loc main_arg5) (ix2 (⟨(rof i).val * 16 + q.val / 128, by have := (rof i).isLt; omega⟩ : Fin 294912) (⟨q.val % 128, by omega⟩ : Fin 128)) := by
  have hi : (i 0).val < 294912 := (i 0).isLt
  unfold XT
  rw [dif_pos (by omega)]
  refine congrArg (m ((c : Thread nD τ).loc main_arg5)) (funext fun b => ?_)
  match b with
  | ⟨0, _⟩ =>
    refine Fin.ext ?_
    show (i 0).val / 8192 * 8192 + (16 * ((i 0).val % 8192 / 16) + q.val / 128) = (i 0).val / 16 * 16 + q.val / 128
    omega
  | ⟨1, _⟩ => rfl

theorem lin_g (c : Dev nD) (i : S294912x128.Idx) (k : Fin 16) (f : Fin 512) :
    LIN (m ((c : Thread nD τ).loc main_arg5)) (m ((c : Thread nD τ).loc main_arg6)) (ix3 (rof i) k f) = lin (XT m c ((i 0).val / 8192)) (WG m c k.val) (rowOf (yof i)) f := by
  refine (at_lin _ _ _ _ _).trans (Finset.sum_congr rfl fun q _ => ?_)
  refine congrArg₂ (fun p q : EReal => p * q) (x_at m c i q).symm ?_
  unfold WG
  rw [dif_pos k.isLt]
  rfl
theorem lin_u (c : Dev nD) (i : S294912x128.Idx) (k : Fin 16) (f : Fin 512) :
    LIN (m ((c : Thread nD τ).loc main_arg5)) (m ((c : Thread nD τ).loc main_arg7)) (ix3 (rof i) k f) = lin (XT m c ((i 0).val / 8192)) (WU m c k.val) (rowOf (yof i)) f := by
  refine (at_lin _ _ _ _ _).trans (Finset.sum_congr rfl fun q _ => ?_)
  refine congrArg₂ (fun p q : EReal => p * q) (x_at m c i q).symm ?_
  unfold WU
  rw [dif_pos k.isLt]
  rfl
theorem d_at (c : Dev nD) (i : S294912x128.Idx) (k : Fin 16) (f : Fin 512) (h) :
    m ((c : Thread nD τ).loc main_arg8) (ix4 (0 : Fin 2) k f (⟨(i 0).val % 16 * 128 + (i 1).val, h⟩ : Fin 2048)) = WD m c k.val (ix2 f (colOf (yof i))) := by
  unfold WD
  rw [dif_pos k.isLt]
  refine congrArg (m ((c : Thread nD τ).loc main_arg8)) (funext fun b => ?_)
  match b with
  | ⟨0, _⟩ => rfl
  | ⟨1, _⟩ => rfl
  | ⟨2, _⟩ => rfl
  | ⟨3, _⟩ =>
    refine Fin.ext ?_
    show (i 0).val % 16 * 128 + (i 1).val = 128 * ((i 0).val % 8192 % 16) + (i 1).val
    omega

variable (P : Plan a.1)
include P

open Classical in
/-- The kernel's array is the reference's. -/
theorem tie (c : Dev nD) : out a m c = REF (a.1 0) (a.1 1) (a.1 2) (a.1 3) (a.1 4) (m ((c : Thread nD τ).loc main_arg5)) (m ((c : Thread nD τ).loc main_arg6))
    (m ((c : Thread nD τ).loc main_arg7)) (m ((c : Thread nD τ).loc main_arg8)) := by
  funext i
  refine Eq.trans ?_ (at_ref _ _ _ _ _ _ _ _ _ i).symm
  have step : ∀ (k : Fin 16) (f : Fin 512), HID (a.1 0) (a.1 1) (a.1 2) (a.1 3) (a.1 4) (m ((c : Thread nD τ).loc main_arg5)) (m ((c : Thread nD τ).loc main_arg6))
      (m ((c : Thread nD τ).loc main_arg7)) (ix3 (rof i) k f)
      = if ∃ v, (act a v ∧ tile a v = (i 0).val / 8192 ∧ inr a v (yof i)) ∧ expt a v = k.val then
          lin (XT m c ((i 0).val / 8192)) (WG m c k.val) (rowOf (yof i)) f * Ideal.logistic (lin (XT m c ((i 0).val / 8192)) (WG m c k.val) (rowOf (yof i)) f)
            * lin (XT m c ((i 0).val / 8192)) (WU m c k.val) (rowOf (yof i)) f else 0 := by
    intro k f
    refine (at_hid _ _ _ _ _ _ _ _ _ _ _).trans ?_
    simp only [hits_iff, lin_g, lin_u]
  refine Eq.trans ?_ (Finset.sum_congr rfl fun k _ => Finset.sum_congr rfl fun f _ => congrArg₂ (· * ·) (step k f).symm (d_at m c i k f _).symm)
  show (if h : ∃ v : Fin 51, act a v ∧ tile a v = (i 0).val / 8192 ∧ inr a v (yof i) then val a m c h.choose (yof i) else 0) = _
  split
  · rename_i h
    obtain ⟨h1, h2, h3⟩ := h.choose_spec
    generalize h.choose = v at h1 h2 h3
    have hk : expt a v < 16 := P.exp v
    refine Eq.trans ?_ (Finset.sum_eq_single (⟨expt a v, hk⟩ : Fin 16) (fun k _ hne => ?_) (fun hn => absurd (Finset.mem_univ _) hn)).symm
    · unfold val ffn
      rw [h2]
      refine Finset.sum_congr rfl fun f _ => ?_
      rw [if_pos ⟨v, ⟨h1, h2, h3⟩, rfl⟩]
    · refine Finset.sum_eq_zero fun f _ => ?_
      rw [if_neg, zero_mul]
      rintro ⟨u, ⟨g1, g2, g3⟩, g4⟩
      by_cases huv : u = v
      · rw [huv] at g4; exact hne (Fin.ext g4.symm)
      · exact not_both a P u v (yof i) huv (g2.trans h2.symm) g3 h3
  · rename_i h
    refine (Finset.sum_eq_zero fun k _ => Finset.sum_eq_zero fun f _ => ?_).symm
    rw [if_neg, zero_mul]
    rintro ⟨u, hu, -⟩
    exact h ⟨u, hu⟩

end Cert.ExpIdeal.Tab
-- ==== Proof.ExpClaims.lean ====
/- The experts' call: its five claims. -/
module

public import proofs.«01_k».proof.Proof.Gen.Exp.Skeleton
public import proofs.«01_k».proof.Proof.Gen.Exp.Launch
public import proofs.«01_k».proof.Proof.ExpPlan
public import Idealize.ShloMosaic.PureOps.BitExact
public import proofs.«01_k».proof.Proof.ExpIdealFrame
public import proofs.«01_k».proof.Proof.ExpTie
public import proofs.«01_k».proof.Defs
public import proofs.«01_k».proof.Proof.Gen.Pre_plan_tables
public import Idealize.ShloMosaic.Lib.Quiescent

@[expose] public section

set_option maxRecDepth 16384

noncomputable section

namespace Cert.ExpClaims

open Idealize.ShloMosaic Idealize.SL.Sem Idealize.ShloMosaic.TcCoe

/-- With no operation replaced, the two programs have the same kernel bodies, -/
theorem defs₀_eq {F : FTy → Type} [FloatOps F] : Cert.Exp.defs₀ (F := F) = Cert.ExpIdeal.defs₀ (F := F) := by
  unfold Cert.Exp.defs₀ Cert.ExpIdeal.defs₀
  refine congrArg Defs.onTc ?_
  funext x y
  rcases x with ⟨x, hx⟩
  match x, hx with
  | 0, _ => rfl

/-- and the same definitions. -/
theorem defs_eq {F : FTy → Type} [FloatOps F] : Cert.Exp.defs (F := F) = Cert.ExpIdeal.defs (F := F) := by
  unfold Cert.Exp.defs Cert.ExpIdeal.defs
  rw [defs₀_eq]
  rfl

/-- Tables with the precondition's words make a plan. -/
theorem plan_of_words {F : FTy → Type} [FloatOps F] (pf : Cert.ExpIdeal.pre0.Contents (Elt F)) (W : Cert.ExpPlan.Words (pf 0) (pf 1) (pf 2) (pf 3) (pf 4)) : Cert.ExpIdeal.Tab.Plan pf := by
  refine ⟨fun v => ?_, fun v => ?_, ?_, ?_, W.pos, fun v h => ?_, fun v h => ?_, fun u v => ?_⟩ <;> simp only [Cert.ExpIdeal.Tab.tix_ix1]
  · exact W.tile v
  · exact W.exp v
  · exact W.first
  · exact W.last
  · exact W.step v h
  · exact W.idle v h
  · exact W.apart u v

/-- The bit-level run under the precondition: it ends, arguments unchanged, counters at zero. -/
theorem frame_bits : Cert.quiescent_Exp (hExp := Cert.Exp.Gen.facts) (hPre_plan_tables := Cert.Pre_plan_tables.Gen.facts) := by
  intro m g hpre
  obtain ⟨h1, h2, h3, h4⟩ := hpre 0
  have W := Cert.ExpPlan.words _ _ _ _ _ _ _ _ _ h1 h2 h3 h4
  let pf : Cert.ExpIdeal.pre0.Contents (Elt Bits) := fun j => m ((0 : Dev Cert.Exp.nD).tc.loc (Cert.Exp.pre0.ref j))
  have G := Cert.ExpIdeal.Tab.good_of_plan pf (plan_of_words pf W)
  have h := Cert.ExpIdeal.Tab.frame (F := Bits) ⟨pf, Cert.ExpIdeal.Tab.ok_of_good pf G⟩ m g G fun c j => by
    obtain rfl : c = 0 := Subsingleton.elim _ _
    rfl
  rw [← defs_eq] at h
  exact h

/-- The tables of the precondition make a plan. -/
theorem plan (m : (ℓ : Loc Cert.ExpIdeal.nD Cert.ExpIdeal.τ Cert.ExpIdeal.sig) → Buf (Elt Ideal) ℓ)
    (hpre : Cert.Pre_ExpIdeal (hPre_plan_tables := Cert.Pre_plan_tables.Gen.facts) m) :
    Cert.ExpIdeal.Tab.Plan (fun j => m ((0 : Dev Cert.ExpIdeal.nD).tc.loc (Cert.ExpIdeal.pre0.ref j))) := by
  obtain ⟨h1, h2, h3, h4⟩ := hpre 0
  exact plan_of_words _ (Cert.ExpPlan.words _ _ _ _ _ _ _ _ _ h1 h2 h3 h4)

/-- The idealized run under the precondition: it ends, arguments unchanged, counters at zero. -/
theorem frame_ideal : Cert.quiescent_ExpIdeal (hExpIdeal := Cert.ExpIdeal.Gen.facts) (hPre_plan_tables := Cert.Pre_plan_tables.Gen.facts) := by
  intro m g hpre
  have P := plan m hpre
  have G := Cert.ExpIdeal.Tab.good_of_plan _ P
  exact Cert.ExpIdeal.Tab.frame ⟨_, Cert.ExpIdeal.Tab.ok_of_good _ G⟩ m g G fun c j => by
    obtain rfl : c = 0 := Subsingleton.elim _ _
    rfl

/-- The reference's run: it ends, arguments unchanged, counters at zero. -/
theorem frame_ref : Cert.quiescent_ExpRefIdeal (hExpRefIdeal := Cert.ExpRefIdeal.Gen.facts) (hPre_plan_tables := Cert.Pre_plan_tables.Gen.facts) := by
  intro m g _
  exact (θ_run _ _ _).mono (fun r h => ⟨fun c => (h c).2, sem_eq_zero_of_no_sems rfl _⟩) (Cert.ExpRefTie.ref_run m g)

open Cert.ExpRefIdeal in
/-- Equal arguments give equal results of the reference. -/
theorem ref_congr {t e lo hi t' e' lo' hi' : IVec S51 32} {n n' : IVec S1 32} {x x' : FVec Ideal S294912x128 .f32} {g u g' u' : FVec Ideal S2x16x2048x512 .f32}
    {d d' : FVec Ideal S2x16x512x2048 .f32} (h0 : t = t') (h1 : e = e') (h2 : lo = lo') (h3 : hi = hi') (h4 : n = n') (h5 : x = x') (h6 : g = g') (h7 : u = u')
    (h8 : d = d') : Cert.ExpRefTie.REF t e lo hi n x g u d = Cert.ExpRefTie.REF t' e' lo' hi' n' x' g' u' d' := by
  rw [h0, h1, h2, h3, h4, h5, h6, h7, h8]

/-- The two results are equal. -/
theorem value : Cert.algebraic_ExpIdeal_ExpRefIdeal (hExpIdeal := Cert.ExpIdeal.Gen.facts) (hExpRefIdeal := Cert.ExpRefIdeal.Gen.facts)
    (hPre_plan_tables := Cert.Pre_plan_tables.Gen.facts) := by
  intro m g m' g' hpre hagree
  have P := plan m hpre
  have G := Cert.ExpIdeal.Tab.good_of_plan _ P
  have hp : ∀ (c : Dev Cert.ExpIdeal.nD) (j : Fin 5), m (c.tc.loc (Cert.ExpIdeal.pre0.ref j)) = m ((0 : Dev Cert.ExpIdeal.nD).tc.loc (Cert.ExpIdeal.pre0.ref j)) := fun c j => by
    obtain rfl : c = 0 := Subsingleton.elim _ _
    rfl
  let a : (Cert.ExpIdeal.pcfg0 (F := Ideal)).Adm := ⟨_, Cert.ExpIdeal.Tab.ok_of_good _ G⟩
  refine ⟨fun c => Cert.ExpIdeal.Tab.out a m c, ?_, ?_⟩
  · refine (θ_run _ _ _).mono (fun r h c => ?_) (Cert.ExpIdeal.Tab.run_main a m g G hp)
    obtain ⟨h, -⟩ := h
    exact ⟨((h c).1 (4 : Fin 5)).trans (Cert.ExpIdeal.Tab.final a m g P c),
      ((h c).2 0).trans (hp c 0).symm, ((h c).2 1).trans (hp c 1).symm, ((h c).2 2).trans (hp c 2).symm, ((h c).2 3).trans (hp c 3).symm, ((h c).2 4).trans (hp c 4).symm,
      ((h c).1 (0 : Fin 5)).trans ((Cert.ExpIdeal.Tab.dats a m g 0 c).arrAt_in (0 : Fin 5) rfl _), ((h c).1 (1 : Fin 5)).trans ((Cert.ExpIdeal.Tab.dats a m g 0 c).arrAt_in (1 : Fin 5) rfl _),
      ((h c).1 (2 : Fin 5)).trans ((Cert.ExpIdeal.Tab.dats a m g 0 c).arrAt_in (2 : Fin 5) rfl _), ((h c).1 (3 : Fin 5)).trans ((Cert.ExpIdeal.Tab.dats a m g 0 c).arrAt_in (3 : Fin 5) rfl _)⟩
  · refine (θ_run _ _ _).mono (fun r h c => ?_) (Cert.ExpRefTie.ref_run m' g')
    obtain ⟨h0, hr⟩ := h c
    obtain rfl : c = 0 := Subsingleton.elim _ _
    obtain ⟨e0, e1, e2, e3, e4, e5, e6, e7, e8⟩ := hagree 0
    refine ⟨h0.trans ?_, hr⟩
    refine Eq.trans ?_ (Cert.ExpIdeal.Tab.tie a m P 0).symm
    exact ref_congr e0 e1 e2 e3 e4 e5 e6 e7 e8

end Cert.ExpClaims
-- ==== Proof.KvTie.lean ====
/- The value of the memory projection: each of its two result arrays, as a function of the two arguments, and the
   reference's two results as the same functions. -/
module

public import proofs.«01_k».proof.Proof.Gen.KvIdeal.Value
public import proofs.«01_k».proof.Proof.Gen.KvRefIdeal.Run
public import Idealize.ShloMosaic.Lib.Pipeline.ValueKit
public import Idealize.ShloMosaic.Lib.Pointwise
public import proofs.«01_k».proof.Defs

@[expose] public section

set_option maxRecDepth 16384

noncomputable section

namespace Cert.KvTie

open Cert.KvIdeal Cert.KvIdeal.Gen
open Idealize.ShloMosaic Idealize.ShloMosaic.TcCoe Idealize.SL.Sem

variable (m : (ℓ : Loc nD τ sig) → Buf (Elt Ideal) ℓ) (ρ : Dev nD → PrngReg)

/-- The projection: entry (l, s, e) is the sum over d of memory row s at d times weight l at (d, e). -/
def G (x : FVec Ideal S1x256x2048 .f32) (w : FVec Ideal S2x2048x2048 .f32) : S2x256x2048.Idx → EReal := fun i =>
  ∑ k : Fin 2048, x (ix3 (0 : Fin 1) (⟨(i 1).val, (i 1).isLt⟩ : Fin 256) k) * w (ix3 (⟨(i 0).val, (i 0).isLt⟩ : Fin 2) k (⟨(i 2).val, (i 2).isLt⟩ : Fin 2048))

theorem idx : ∀ t : Fin cfg0.N, win0_0.index t = ![0, 0] ∧ win0_1.index t = ![(grid0.coords t 0).val, 0, (grid0.coords t 1).val]
    ∧ win0_2.index t = ![(grid0.coords t 0).val, 0, (grid0.coords t 1).val] ∧ win0_3.index t = ![(grid0.coords t 0).val, 0, (grid0.coords t 1).val] := by
  decide +kernel

/-- The first result array after the run is the projection. -/
theorem final2 (c : Dev nD) : (dats m 0 c).arrAt 2 cfg0.N = G (m ((c : Thread nD τ).loc main_arg0)) (m ((c : Thread nD τ).loc main_arg1)) := by
  refine (dats m 0 c).arrAt_eq_of_covers 2 _ (by decide +kernel) fun t hf y => ?_
  blk_simp
  rw [after0_2]
  frame_out
  unfold k0_pay2 k0_pay1 G
  pointwise
  blk_point [iblk, V, idx t]

/-- The second result array after the run is the projection too: the change of format is the identity over the reals. -/
theorem final3 (c : Dev nD) : (dats m 0 c).arrAt 3 cfg0.N = G (m ((c : Thread nD τ).loc main_arg0)) (m ((c : Thread nD τ).loc main_arg1)) := by
  refine (dats m 0 c).arrAt_eq_of_covers 3 _ (by decide +kernel) fun t hf y => ?_
  blk_simp
  rw [after0_3]
  frame_out
  unfold k0_pay3 k0_pay1 G
  pointwise
  blk_point [iblk, V, idx t]

/-- The kernel's run: both results the projection, the arguments unchanged. -/
theorem run : θ_run defs (onTc (τ := τ) (main (F := Ideal))) ⟨m, fun _ => 0, ρ⟩ fun r => ∀ c : Dev nD,
      r.2.mem ((c.tc : Thread nD τ).loc main_v1_0) = G (m ((c.tc : Thread nD τ).loc main_arg0)) (m ((c.tc : Thread nD τ).loc main_arg1))
      ∧ r.2.mem ((c.tc : Thread nD τ).loc main_v1_1) = G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (final2 m c), (h c).2.1.trans (final3 m c), (h c).2.2.1, (h c).2.2.2⟩)
    (Cert.KvIdeal.Value.run_blocks m ρ)

/-- The reference's run: both results the projection, the arguments unchanged. -/
theorem ref_run (m : (ℓ : Loc Cert.KvRefIdeal.nD Cert.KvRefIdeal.τ Cert.KvRefIdeal.sig) → Buf (Elt Ideal) ℓ) (ρ : Dev Cert.KvRefIdeal.nD → PrngReg) :
    θ_run (Cert.KvRefIdeal.defs (F := Ideal)) (onTc (τ := Cert.KvRefIdeal.τ) (Cert.KvRefIdeal.main (F := Ideal))) ⟨m, fun _ => 0, ρ⟩ fun r => ∀ c : Dev Cert.KvRefIdeal.nD,
      r.2.mem ((c.tc : Thread Cert.KvRefIdeal.nD Cert.KvRefIdeal.τ).loc Cert.KvRefIdeal.main_v2) = G (m ((c.tc : Thread Cert.KvRefIdeal.nD Cert.KvRefIdeal.τ).loc Cert.KvRefIdeal.main_arg0)) (m ((c.tc : Thread Cert.KvRefIdeal.nD Cert.KvRefIdeal.τ).loc Cert.KvRefIdeal.main_arg1))
      ∧ r.2.mem ((c.tc : Thread Cert.KvRefIdeal.nD Cert.KvRefIdeal.τ).loc Cert.KvRefIdeal.main_v3) = G (m ((c.tc : Thread Cert.KvRefIdeal.nD Cert.KvRefIdeal.τ).loc Cert.KvRefIdeal.main_arg0)) (m ((c.tc : Thread Cert.KvRefIdeal.nD Cert.KvRefIdeal.τ).loc Cert.KvRefIdeal.main_arg1))
      ∧ r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1) := by
  refine (θ_run _ _ _).mono (fun r h c => ?_) (Cert.KvRefIdeal.Value.run (F := Ideal) m ρ)
  obtain ⟨h1, h2, h3, h4⟩ := h c
  refine ⟨h1.trans ?_, h2.trans ?_, h3, h4⟩
  all_goals
    funext i
    unfold G
    pointwise
    exact Finset.sum_congr rfl fun k _ => mul_comm _ _

end Cert.KvTie

end
-- ==== Proof.lean ====
module

public import proofs.«01_k».proof.Proof.MmClaims
public import proofs.«01_k».proof.Proof.LastClaims
public import proofs.«01_k».proof.Proof.ExpClaims
public import proofs.«01_k».proof.Proof.Gen.KvIdeal.Value
public import proofs.«01_k».proof.Proof.Gen.KvRefIdeal.Run
public import proofs.«01_k».proof.Proof.KvTie
public import proofs.«01_k».proof.Defs
public import proofs.«01_k».proof.Proof.Gen.Kv
public import proofs.«01_k».proof.Proof.Gen.Kv.Skeleton
public import proofs.«01_k».proof.Proof.Gen.Kv.Launch
public import proofs.«01_k».proof.Proof.Gen.Kv.Points
public import proofs.«01_k».proof.Proof.Gen.Kv.Frame
public import proofs.«01_k».proof.Proof.Gen.KvIdeal
public import proofs.«01_k».proof.Proof.Gen.KvIdeal.Skeleton
public import proofs.«01_k».proof.Proof.Gen.KvIdeal.Launch
public import proofs.«01_k».proof.Proof.Gen.KvIdeal.Points
public import proofs.«01_k».proof.Proof.Gen.KvIdeal.Frame
public import proofs.«01_k».proof.Proof.Gen.KvRefIdeal
public import Idealize.ShloMosaic.Adequacy
public import Idealize.ShloMosaic.Init
public import Idealize.ShloMosaic.Lib.Quiescent
public import proofs.«01_k».proof.Proof.Gen.Exp
public import proofs.«01_k».proof.Proof.Gen.Exp.Skeleton
public import proofs.«01_k».proof.Proof.Gen.Exp.Launch
public import proofs.«01_k».proof.Proof.Gen.Exp.Flash
public import proofs.«01_k».proof.Proof.Gen.ExpIdeal
public import proofs.«01_k».proof.Proof.Gen.ExpIdeal.Skeleton
public import proofs.«01_k».proof.Proof.Gen.ExpIdeal.Launch
public import proofs.«01_k».proof.Proof.Gen.ExpIdeal.Flash
public import proofs.«01_k».proof.Proof.Gen.ExpRefIdeal
public import proofs.«01_k».proof.Proof.Gen.Pre_plan_tables
public import proofs.«01_k».proof.Proof.Gen.Last
public import proofs.«01_k».proof.Proof.Gen.Last.Skeleton
public import proofs.«01_k».proof.Proof.Gen.Last.Launch
public import proofs.«01_k».proof.Proof.Gen.Last.Flash
public import proofs.«01_k».proof.Proof.Gen.LastIdeal
public import proofs.«01_k».proof.Proof.Gen.LastIdeal.Skeleton
public import proofs.«01_k».proof.Proof.Gen.LastIdeal.Launch
public import proofs.«01_k».proof.Proof.Gen.LastIdeal.Flash
public import proofs.«01_k».proof.Proof.Gen.LastRefIdeal
public import proofs.«01_k».proof.Proof.Gen.MmLn
public import proofs.«01_k».proof.Proof.Gen.MmLn.Skeleton
public import proofs.«01_k».proof.Proof.Gen.MmLn.Launch
public import proofs.«01_k».proof.Proof.Gen.MmLnIdeal
public import proofs.«01_k».proof.Proof.Gen.MmLnIdeal.Skeleton
public import proofs.«01_k».proof.Proof.Gen.MmLnIdeal.Launch
public import proofs.«01_k».proof.Proof.Gen.MmLnIdeal.Points
public import proofs.«01_k».proof.Proof.Gen.MmLnIdeal.Frame.Runs
public import proofs.«01_k».proof.Proof.Gen.MmLnRefIdeal
public import proofs.«01_k».proof.Proof.Gen.MmLnRefIdeal.Run

@[expose] public section

noncomputable section

namespace Cert.Proof

open Idealize.ShloMosaic Idealize.SL.Sem Cert.Kv

theorem claim : Cert.Claim := ⟨Cert.Kv.Gen.facts, Cert.KvIdeal.Gen.facts, Cert.KvRefIdeal.Gen.facts, Cert.Exp.Gen.facts, Cert.ExpIdeal.Gen.facts,
    Cert.ExpRefIdeal.Gen.facts, Cert.Last.Gen.facts, Cert.LastIdeal.Gen.facts, Cert.LastRefIdeal.Gen.facts, Cert.MmLn.Gen.facts, Cert.MmLnIdeal.Gen.facts,
    Cert.MmLnRefIdeal.Gen.facts, Cert.Pre_plan_tables.Gen.facts, by
  refine ⟨fun m ρ _ => Cert.Kv.Gen.frame m ρ, fun m ρ _ => Cert.KvIdeal.Gen.frame m ρ, fun m ρ _ => ?_, Cert.ExpClaims.frame_bits, Cert.ExpClaims.frame_ideal,
    Cert.ExpClaims.frame_ref, Cert.LastClaims.frame_bits, Cert.LastClaims.frame_ideal, Cert.LastClaims.frame_ref, Cert.MmClaims.frame_bits,
    Cert.MmClaims.frame_ideal, Cert.MmClaims.frame_ref, trivial, ?_, trivial,
    Cert.ExpClaims.value, trivial, Cert.LastClaims.value, trivial, Cert.MmClaims.value⟩
  · refine (θ_run _ _ _).mono (fun r h => ⟨fun c => ⟨(h c).2.2.1, (h c).2.2.2⟩, sem_eq_zero_of_no_sems rfl _⟩) (Cert.KvTie.ref_run m ρ)
  intro m g m' g' _ hagree
  refine ⟨_, _, Cert.KvTie.run m g, ?_⟩
  refine (θ_run _ _ _).mono (fun r h c => ?_) (Cert.KvTie.ref_run m' g')
  obtain ⟨h1, h2, h3, h4⟩ := h c
  obtain ⟨e0, e1⟩ := hagree c
  rw [e0, e1] at h1 h2
  exact ⟨h1, h2, h3, h4⟩⟩

end Cert.Proof

end
